-- ==== Defs.lean ====
def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresRefIdeal (m : (ℓ : Loc Cert.ScoresRefIdeal.nD Cert.ScoresRefIdeal.τ Cert.ScoresRefIdeal.sig) → Buf (Elt Ideal) ℓ) : Prop :=
  True

def Pre_Nms (m : (ℓ : Loc Cert.Nms.nD Cert.Nms.τ Cert.Nms.sig) → Buf (Elt Bits) ℓ) : Prop :=
  True

def Pre_NmsIdeal (m : (ℓ : Loc Cert.NmsIdeal.nD Cert.NmsIdeal.τ Cert.NmsIdeal.sig) → Buf (Elt Ideal) ℓ) : Prop :=
  True

def Pre_NmsIdeal_sorted_candidates [hPre_sorted_candidates : Cert.Pre_sorted_candidates.Facts] (m : (ℓ : Loc Cert.NmsIdeal.nD Cert.NmsIdeal.τ Cert.NmsIdeal.sig) → Buf (Elt Ideal) ℓ) : Prop :=
  ∀ c : Dev Cert.NmsIdeal.nD,
    (Cert.Pre_sorted_candidates.fn (F := Ideal) (m ((c.tc : Thread Cert.NmsIdeal.nD Cert.NmsIdeal.τ).loc Cert.NmsIdeal.main_arg0)) (m ((c.tc : Thread Cert.NmsIdeal.nD Cert.NmsIdeal.τ).loc Cert.NmsIdeal.main_arg1)) (m ((c.tc : Thread Cert.NmsIdeal.nD Cert.NmsIdeal.τ).loc Cert.NmsIdeal.main_arg2)) (m ((c.tc : Thread Cert.NmsIdeal.nD Cert.NmsIdeal.τ).loc Cert.NmsIdeal.main_arg3)) (m ((c.tc : Thread Cert.NmsIdeal.nD Cert.NmsIdeal.τ).loc Cert.NmsIdeal.main_arg4))) = (fun _ => 1#1)

def Pre_NmsRefIdeal (m : (ℓ : Loc Cert.NmsRefIdeal.nD Cert.NmsRefIdeal.τ Cert.NmsRefIdeal.sig) → Buf (Elt Ideal) ℓ) : Prop :=
  True

def Pre_NmsRefIdeal_sorted_candidates [hPre_sorted_candidates : Cert.Pre_sorted_candidates.Facts] (m : (ℓ : Loc Cert.NmsRefIdeal.nD Cert.NmsRefIdeal.τ Cert.NmsRefIdeal.sig) → Buf (Elt Ideal) ℓ) : Prop :=
  ∀ c : Dev Cert.NmsRefIdeal.nD,
    (Cert.Pre_sorted_candidates.fn (F := Ideal) (m ((c.tc : Thread Cert.NmsRefIdeal.nD Cert.NmsRefIdeal.τ).loc Cert.NmsRefIdeal.main_arg0)) (m ((c.tc : Thread Cert.NmsRefIdeal.nD Cert.NmsRefIdeal.τ).loc Cert.NmsRefIdeal.main_arg1)) (m ((c.tc : Thread Cert.NmsRefIdeal.nD Cert.NmsRefIdeal.τ).loc Cert.NmsRefIdeal.main_arg2)) (m ((c.tc : Thread Cert.NmsRefIdeal.nD Cert.NmsRefIdeal.τ).loc Cert.NmsRefIdeal.main_arg3)) (m ((c.tc : Thread Cert.NmsRefIdeal.nD Cert.NmsRefIdeal.τ).loc Cert.NmsRefIdeal.main_arg4))) = (fun _ => 1#1)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_ScoresRefIdeal [hScoresRefIdeal : Cert.ScoresRefIdeal.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2))
      ∧ r.2.sem = fun _ => 0)

def quiescent_Nms [hNms : Cert.Nms.Facts] : Prop :=
  ∀ (m : (ℓ : Loc Cert.Nms.nD Cert.Nms.τ Cert.Nms.sig) → Buf (Elt Bits) ℓ) (g : Dev Cert.Nms.nD → PrngReg), Pre_Nms m →
    θ_run (Cert.Nms.defs (F := Bits)) (onTc (τ := Cert.Nms.τ) (Cert.Nms.main (F := Bits))) ⟨m, fun _ => 0, g⟩ (fun r => (∀ c : Dev Cert.Nms.nD,
      r.2.mem ((c.tc : Thread Cert.Nms.nD Cert.Nms.τ).loc Cert.Nms.main_arg0) = m ((c.tc : Thread Cert.Nms.nD Cert.Nms.τ).loc Cert.Nms.main_arg0)
      ∧ r.2.mem ((c.tc : Thread Cert.Nms.nD Cert.Nms.τ).loc Cert.Nms.main_arg1) = m ((c.tc : Thread Cert.Nms.nD Cert.Nms.τ).loc Cert.Nms.main_arg1)
      ∧ r.2.mem ((c.tc : Thread Cert.Nms.nD Cert.Nms.τ).loc Cert.Nms.main_arg2) = m ((c.tc : Thread Cert.Nms.nD Cert.Nms.τ).loc Cert.Nms.main_arg2)
      ∧ r.2.mem ((c.tc : Thread Cert.Nms.nD Cert.Nms.τ).loc Cert.Nms.main_arg3) = m ((c.tc : Thread Cert.Nms.nD Cert.Nms.τ).loc Cert.Nms.main_arg3)
      ∧ r.2.mem ((c.tc : Thread Cert.Nms.nD Cert.Nms.τ).loc Cert.Nms.main_arg4) = m ((c.tc : Thread Cert.Nms.nD Cert.Nms.τ).loc Cert.Nms.main_arg4))
      ∧ r.2.sem = fun _ => 0)

def quiescent_NmsIdeal [hNmsIdeal : Cert.NmsIdeal.Facts] : Prop :=
  ∀ (m : (ℓ : Loc Cert.NmsIdeal.nD Cert.NmsIdeal.τ Cert.NmsIdeal.sig) → Buf (Elt Ideal) ℓ) (g : Dev Cert.NmsIdeal.nD → PrngReg), Pre_NmsIdeal m →
    θ_run (Cert.NmsIdeal.defs (F := Ideal)) (onTc (τ := Cert.NmsIdeal.τ) (Cert.NmsIdeal.main (F := Ideal))) ⟨m, fun _ => 0, g⟩ (fun r => (∀ c : Dev Cert.NmsIdeal.nD,
      r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
      ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1)
      ∧ r.2.mem ((c.tc : Thread Cert.NmsIdeal.nD Cert.NmsIdeal.τ).loc Cert.NmsIdeal.main_arg2) = m ((c.tc : Thread Cert.NmsIdeal.nD Cert.NmsIdeal.τ).loc Cert.NmsIdeal.main_arg2)
      ∧ r.2.mem ((c.tc : Thread Cert.NmsIdeal.nD Cert.NmsIdeal.τ).loc Cert.NmsIdeal.main_arg3) = m ((c.tc : Thread Cert.NmsIdeal.nD Cert.NmsIdeal.τ).loc Cert.NmsIdeal.main_arg3)
      ∧ r.2.mem ((c.tc : Thread Cert.NmsIdeal.nD Cert.NmsIdeal.τ).loc Cert.NmsIdeal.main_arg4) = m ((c.tc : Thread Cert.NmsIdeal.nD Cert.NmsIdeal.τ).loc Cert.NmsIdeal.main_arg4))
      ∧ r.2.sem = fun _ => 0)

def quiescent_NmsIdeal_pre_sorted_candidates [hNmsIdeal : Cert.NmsIdeal.Facts] [hPre_sorted_candidates : Cert.Pre_sorted_candidates.Facts] : Prop :=
  ∀ (m : (ℓ : Loc Cert.NmsIdeal.nD Cert.NmsIdeal.τ Cert.NmsIdeal.sig) → Buf (Elt Ideal) ℓ) (g : Dev Cert.NmsIdeal.nD → PrngReg), Pre_NmsIdeal_sorted_candidates m →
    θ_run (Cert.NmsIdeal.defs (F := Ideal)) (onTc (τ := Cert.NmsIdeal.τ) (Cert.NmsIdeal.main (F := Ideal))) ⟨m, fun _ => 0, g⟩ (fun r => (∀ c : Dev Cert.NmsIdeal.nD,
      r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
      ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1)
      ∧ r.2.mem ((c.tc : Thread Cert.NmsIdeal.nD Cert.NmsIdeal.τ).loc Cert.NmsIdeal.main_arg2) = m ((c.tc : Thread Cert.NmsIdeal.nD Cert.NmsIdeal.τ).loc Cert.NmsIdeal.main_arg2)
      ∧ r.2.mem ((c.tc : Thread Cert.NmsIdeal.nD Cert.NmsIdeal.τ).loc Cert.NmsIdeal.main_arg3) = m ((c.tc : Thread Cert.NmsIdeal.nD Cert.NmsIdeal.τ).loc Cert.NmsIdeal.main_arg3)
      ∧ r.2.mem ((c.tc : Thread Cert.NmsIdeal.nD Cert.NmsIdeal.τ).loc Cert.NmsIdeal.main_arg4) = m ((c.tc : Thread Cert.NmsIdeal.nD Cert.NmsIdeal.τ).loc Cert.NmsIdeal.main_arg4))
      ∧ r.2.sem = fun _ => 0)

def quiescent_NmsRefIdeal [hNmsRefIdeal : Cert.NmsRefIdeal.Facts] : Prop :=
  ∀ (m : (ℓ : Loc Cert.NmsRefIdeal.nD Cert.NmsRefIdeal.τ Cert.NmsRefIdeal.sig) → Buf (Elt Ideal) ℓ) (g : Dev Cert.NmsRefIdeal.nD → PrngReg), Pre_NmsRefIdeal m →
    θ_run (Cert.NmsRefIdeal.defs (F := Ideal)) (onTc (τ := Cert.NmsRefIdeal.τ) (Cert.NmsRefIdeal.main (F := Ideal))) ⟨m, fun _ => 0, g⟩ (fun r => (∀ c : Dev Cert.NmsRefIdeal.nD,
      r.2.mem ((c.tc : Thread Cert.NmsRefIdeal.nD Cert.NmsRefIdeal.τ).loc Cert.NmsRefIdeal.main_arg0) = m ((c.tc : Thread Cert.NmsRefIdeal.nD Cert.NmsRefIdeal.τ).loc Cert.NmsRefIdeal.main_arg0)
      ∧ r.2.mem ((c.tc : Thread Cert.NmsRefIdeal.nD Cert.NmsRefIdeal.τ).loc Cert.NmsRefIdeal.main_arg1) = m ((c.tc : Thread Cert.NmsRefIdeal.nD Cert.NmsRefIdeal.τ).loc Cert.NmsRefIdeal.main_arg1)
      ∧ r.2.mem ((c.tc : Thread Cert.NmsRefIdeal.nD Cert.NmsRefIdeal.τ).loc Cert.NmsRefIdeal.main_arg2) = m ((c.tc : Thread Cert.NmsRefIdeal.nD Cert.NmsRefIdeal.τ).loc Cert.NmsRefIdeal.main_arg2)
      ∧ r.2.mem ((c.tc : Thread Cert.NmsRefIdeal.nD Cert.NmsRefIdeal.τ).loc Cert.NmsRefIdeal.main_arg3) = m ((c.tc : Thread Cert.NmsRefIdeal.nD Cert.NmsRefIdeal.τ).loc Cert.NmsRefIdeal.main_arg3)
      ∧ r.2.mem ((c.tc : Thread Cert.NmsRefIdeal.nD Cert.NmsRefIdeal.τ).loc Cert.NmsRefIdeal.main_arg4) = m ((c.tc : Thread Cert.NmsRefIdeal.nD Cert.NmsRefIdeal.τ).loc Cert.NmsRefIdeal.main_arg4))
      ∧ r.2.sem = fun _ => 0)

def quiescent_NmsRefIdeal_pre_sorted_candidates [hNmsRefIdeal : Cert.NmsRefIdeal.Facts] [hPre_sorted_candidates : Cert.Pre_sorted_candidates.Facts] : Prop :=
  ∀ (m : (ℓ : Loc Cert.NmsRefIdeal.nD Cert.NmsRefIdeal.τ Cert.NmsRefIdeal.sig) → Buf (Elt Ideal) ℓ) (g : Dev Cert.NmsRefIdeal.nD → PrngReg), Pre_NmsRefIdeal_sorted_candidates m →
    θ_run (Cert.NmsRefIdeal.defs (F := Ideal)) (onTc (τ := Cert.NmsRefIdeal.τ) (Cert.NmsRefIdeal.main (F := Ideal))) ⟨m, fun _ => 0, g⟩ (fun r => (∀ c : Dev Cert.NmsRefIdeal.nD,
      r.2.mem ((c.tc : Thread Cert.NmsRefIdeal.nD Cert.NmsRefIdeal.τ).loc Cert.NmsRefIdeal.main_arg0) = m ((c.tc : Thread Cert.NmsRefIdeal.nD Cert.NmsRefIdeal.τ).loc Cert.NmsRefIdeal.main_arg0)
      ∧ r.2.mem ((c.tc : Thread Cert.NmsRefIdeal.nD Cert.NmsRefIdeal.τ).loc Cert.NmsRefIdeal.main_arg1) = m ((c.tc : Thread Cert.NmsRefIdeal.nD Cert.NmsRefIdeal.τ).loc Cert.NmsRefIdeal.main_arg1)
      ∧ r.2.mem ((c.tc : Thread Cert.NmsRefIdeal.nD Cert.NmsRefIdeal.τ).loc Cert.NmsRefIdeal.main_arg2) = m ((c.tc : Thread Cert.NmsRefIdeal.nD Cert.NmsRefIdeal.τ).loc Cert.NmsRefIdeal.main_arg2)
      ∧ r.2.mem ((c.tc : Thread Cert.NmsRefIdeal.nD Cert.NmsRefIdeal.τ).loc Cert.NmsRefIdeal.main_arg3) = m ((c.tc : Thread Cert.NmsRefIdeal.nD Cert.NmsRefIdeal.τ).loc Cert.NmsRefIdeal.main_arg3)
      ∧ r.2.mem ((c.tc : Thread Cert.NmsRefIdeal.nD Cert.NmsRefIdeal.τ).loc Cert.NmsRefIdeal.main_arg4) = m ((c.tc : Thread Cert.NmsRefIdeal.nD Cert.NmsRefIdeal.τ).loc Cert.NmsRefIdeal.main_arg4))
      ∧ r.2.sem = fun _ => 0)

def preserves_Scores_ScoresIdeal : Prop :=
  True

def algebraic_ScoresIdeal_ScoresRefIdeal [hScoresIdeal : Cert.ScoresIdeal.Facts] [hScoresRefIdeal : Cert.ScoresRefIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)) →
    ∃ (v0 : (c : Dev Cert.ScoresIdeal.nD) → Buf (Elt Ideal) ((c.tc : Thread Cert.ScoresIdeal.nD Cert.ScoresIdeal.τ).loc Cert.ScoresIdeal.main_v2_0)) (v1 : (c : Dev Cert.ScoresIdeal.nD) → Buf (Elt Ideal) ((c.tc : Thread Cert.ScoresIdeal.nD Cert.ScoresIdeal.τ).loc Cert.ScoresIdeal.main_v2_1)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v2_0) = v0 c
          ∧ r.2.mem ((c.tc : Thread Cert.ScoresIdeal.nD Cert.ScoresIdeal.τ).loc Cert.ScoresIdeal.main_v2_1) = v1 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v100) = v0 c
          ∧ r.2.mem ((c.tc : Thread Cert.ScoresRefIdeal.nD Cert.ScoresRefIdeal.τ).loc Cert.ScoresRefIdeal.main_v102) = v1 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2))

def preserves_Nms_NmsIdeal : Prop :=
  True

def algebraic_NmsIdeal_NmsRefIdeal_pre_sorted_candidates [hNmsIdeal : Cert.NmsIdeal.Facts] [hNmsRefIdeal : Cert.NmsRefIdeal.Facts] [hPre_sorted_candidates : Cert.Pre_sorted_candidates.Facts] : Prop :=
  ∀ (m : (ℓ : Loc Cert.NmsIdeal.nD Cert.NmsIdeal.τ Cert.NmsIdeal.sig) → Buf (Elt Ideal) ℓ) (g : Dev Cert.NmsIdeal.nD → PrngReg)
    (m' : (ℓ : Loc Cert.NmsRefIdeal.nD Cert.NmsRefIdeal.τ Cert.NmsRefIdeal.sig) → Buf (Elt Ideal) ℓ) (g' : Dev Cert.NmsRefIdeal.nD → PrngReg), Pre_NmsIdeal_sorted_candidates m →
    (∀ c : Dev Cert.NmsIdeal.nD,
      m' ((c.tc : Thread Cert.NmsRefIdeal.nD Cert.NmsRefIdeal.τ).loc Cert.NmsRefIdeal.main_arg0) = m ((c.tc : Thread Cert.NmsIdeal.nD Cert.NmsIdeal.τ).loc Cert.NmsIdeal.main_arg0)
      ∧ m' ((c.tc : Thread Cert.NmsRefIdeal.nD Cert.NmsRefIdeal.τ).loc Cert.NmsRefIdeal.main_arg1) = m ((c.tc : Thread Cert.NmsIdeal.nD Cert.NmsIdeal.τ).loc Cert.NmsIdeal.main_arg1)
      ∧ m' ((c.tc : Thread Cert.NmsRefIdeal.nD Cert.NmsRefIdeal.τ).loc Cert.NmsRefIdeal.main_arg2) = m ((c.tc : Thread Cert.NmsIdeal.nD Cert.NmsIdeal.τ).loc Cert.NmsIdeal.main_arg2)
      ∧ m' ((c.tc : Thread Cert.NmsRefIdeal.nD Cert.NmsRefIdeal.τ).loc Cert.NmsRefIdeal.main_arg3) = m ((c.tc : Thread Cert.NmsIdeal.nD Cert.NmsIdeal.τ).loc Cert.NmsIdeal.main_arg3)
      ∧ m' ((c.tc : Thread Cert.NmsRefIdeal.nD Cert.NmsRefIdeal.τ).loc Cert.NmsRefIdeal.main_arg4) = m ((c.tc : Thread Cert.NmsIdeal.nD Cert.NmsIdeal.τ).loc Cert.NmsIdeal.main_arg4)) →
    ∃ (v0 : (c : Dev Cert.NmsIdeal.nD) → Buf (Elt Ideal) ((c.tc : Thread Cert.NmsIdeal.nD Cert.NmsIdeal.τ).loc Cert.NmsIdeal.main_v5)) (v1 : (c : Dev Cert.NmsIdeal.nD) → Buf (Elt Ideal) ((c.tc : Thread Cert.NmsIdeal.nD Cert.NmsIdeal.τ).loc Cert.NmsIdeal.main_v7)) (v2 : (c : Dev Cert.NmsIdeal.nD) → Buf (Elt Ideal) ((c.tc : Thread Cert.NmsIdeal.nD Cert.NmsIdeal.τ).loc Cert.NmsIdeal.main_v9)),
      θ_run (Cert.NmsIdeal.defs (F := Ideal)) (onTc (τ := Cert.NmsIdeal.τ) (Cert.NmsIdeal.main (F := Ideal))) ⟨m, fun _ => 0, g⟩ (fun r => ∀ c : Dev Cert.NmsIdeal.nD,
          r.2.mem ((c.tc : Thread Cert.NmsIdeal.nD Cert.NmsIdeal.τ).loc Cert.NmsIdeal.main_v5) = v0 c
          ∧ r.2.mem ((c.tc : Thread Cert.NmsIdeal.nD Cert.NmsIdeal.τ).loc Cert.NmsIdeal.main_v7) = v1 c
          ∧ r.2.mem ((c.tc : Thread Cert.NmsIdeal.nD Cert.NmsIdeal.τ).loc Cert.NmsIdeal.main_v9) = v2 c
          ∧ r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
          ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1)
          ∧ r.2.mem ((c.tc : Thread Cert.NmsIdeal.nD Cert.NmsIdeal.τ).loc Cert.NmsIdeal.main_arg2) = m ((c.tc : Thread Cert.NmsIdeal.nD Cert.NmsIdeal.τ).loc Cert.NmsIdeal.main_arg2)
          ∧ r.2.mem ((c.tc : Thread Cert.NmsIdeal.nD Cert.NmsIdeal.τ).loc Cert.NmsIdeal.main_arg3) = m ((c.tc : Thread Cert.NmsIdeal.nD Cert.NmsIdeal.τ).loc Cert.NmsIdeal.main_arg3)
          ∧ r.2.mem ((c.tc : Thread Cert.NmsIdeal.nD Cert.NmsIdeal.τ).loc Cert.NmsIdeal.main_arg4) = m ((c.tc : Thread Cert.NmsIdeal.nD Cert.NmsIdeal.τ).loc Cert.NmsIdeal.main_arg4))
      ∧ θ_run (Cert.NmsRefIdeal.defs (F := Ideal)) (onTc (τ := Cert.NmsRefIdeal.τ) (Cert.NmsRefIdeal.main (F := Ideal))) ⟨m', fun _ => 0, g'⟩ (fun r => ∀ c : Dev Cert.NmsRefIdeal.nD,
          r.2.mem ((c.tc : Thread Cert.NmsRefIdeal.nD Cert.NmsRefIdeal.τ).loc Cert.NmsRefIdeal.main_v119) = v0 c
          ∧ r.2.mem ((c.tc : Thread Cert.NmsRefIdeal.nD Cert.NmsRefIdeal.τ).loc Cert.NmsRefIdeal.main_values) = v1 c
          ∧ r.2.mem ((c.tc : Thread Cert.NmsRefIdeal.nD Cert.NmsRefIdeal.τ).loc Cert.NmsRefIdeal.main_v126) = v2 c
          ∧ r.2.mem ((c.tc : Thread Cert.NmsRefIdeal.nD Cert.NmsRefIdeal.τ).loc Cert.NmsRefIdeal.main_arg0) = m' ((c.tc : Thread Cert.NmsRefIdeal.nD Cert.NmsRefIdeal.τ).loc Cert.NmsRefIdeal.main_arg0)
          ∧ r.2.mem ((c.tc : Thread Cert.NmsRefIdeal.nD Cert.NmsRefIdeal.τ).loc Cert.NmsRefIdeal.main_arg1) = m' ((c.tc : Thread Cert.NmsRefIdeal.nD Cert.NmsRefIdeal.τ).loc Cert.NmsRefIdeal.main_arg1)
          ∧ r.2.mem ((c.tc : Thread Cert.NmsRefIdeal.nD Cert.NmsRefIdeal.τ).loc Cert.NmsRefIdeal.main_arg2) = m' ((c.tc : Thread Cert.NmsRefIdeal.nD Cert.NmsRefIdeal.τ).loc Cert.NmsRefIdeal.main_arg2)
          ∧ r.2.mem ((c.tc : Thread Cert.NmsRefIdeal.nD Cert.NmsRefIdeal.τ).loc Cert.NmsRefIdeal.main_arg3) = m' ((c.tc : Thread Cert.NmsRefIdeal.nD Cert.NmsRefIdeal.τ).loc Cert.NmsRefIdeal.main_arg3)
          ∧ r.2.mem ((c.tc : Thread Cert.NmsRefIdeal.nD Cert.NmsRefIdeal.τ).loc Cert.NmsRefIdeal.main_arg4) = m' ((c.tc : Thread Cert.NmsRefIdeal.nD Cert.NmsRefIdeal.τ).loc Cert.NmsRefIdeal.main_arg4))

def Claim : Prop :=
  ∃ (hScores : Cert.Scores.Facts) (hScoresIdeal : Cert.ScoresIdeal.Facts) (hScoresRefIdeal : Cert.ScoresRefIdeal.Facts) (hNms : Cert.Nms.Facts) (hNmsIdeal : Cert.NmsIdeal.Facts) (hNmsRefIdeal : Cert.NmsRefIdeal.Facts) (hPre_sorted_candidates : Cert.Pre_sorted_candidates.Facts),
    quiescent_Scores (hScores := hScores)
    ∧ quiescent_ScoresIdeal (hScoresIdeal := hScoresIdeal)
    ∧ quiescent_ScoresRefIdeal (hScoresRefIdeal := hScoresRefIdeal)
    ∧ quiescent_Nms (hNms := hNms)
    ∧ quiescent_NmsIdeal (hNmsIdeal := hNmsIdeal)
    ∧ quiescent_NmsIdeal_pre_sorted_candidates (hNmsIdeal := hNmsIdeal) (hPre_sorted_candidates := hPre_sorted_candidates)
    ∧ quiescent_NmsRefIdeal (hNmsRefIdeal := hNmsRefIdeal)
    ∧ quiescent_NmsRefIdeal_pre_sorted_candidates (hNmsRefIdeal := hNmsRefIdeal) (hPre_sorted_candidates := hPre_sorted_candidates)
    ∧ preserves_Scores_ScoresIdeal
    ∧ algebraic_ScoresIdeal_ScoresRefIdeal (hScoresIdeal := hScoresIdeal) (hScoresRefIdeal := hScoresRefIdeal)
    ∧ preserves_Nms_NmsIdeal
    ∧ algebraic_NmsIdeal_NmsRefIdeal_pre_sorted_candidates (hNmsIdeal := hNmsIdeal) (hNmsRefIdeal := hNmsRefIdeal) (hPre_sorted_candidates := hPre_sorted_candidates)
-- ==== Pre_sorted_candidates.lean ====
abbrev S2x1024 : Shape := ⟨2, ![2, 1024]⟩
abbrev S2x1024x364 : Shape := ⟨3, ![2, 1024, 364]⟩
abbrev S2x1024x4 : Shape := ⟨3, ![2, 1024, 4]⟩
abbrev S2x1023 : Shape := ⟨2, ![2, 1023]⟩
abbrev S_ : Shape := ⟨0, ![]⟩
abbrev S2x1000 : Shape := ⟨2, ![2, 1000]⟩

class Facts : Prop where
  slices_S2x1024_S2x1023_0_0 : S2x1024.Slices ![0, 0] S2x1023
  slices_S2x1024_S2x1023_0_1 : S2x1024.Slices ![0, 1] S2x1023
  reducesTo_S2x1023_S_d0_1 : S2x1023.ReducesTo [0, 1] S_
  h_S_ : 0 < S_.numel
  slices_S2x1024_S2x1000_0_0 : S2x1024.Slices ![0, 0] S2x1000
  bcast_S_S2x1000 : S_.BroadcastsInDim S2x1000 (![] : Fin 0 → Fin S2x1000.rank)
  reducesTo_S2x1000_S_d0_1 : S2x1000.ReducesTo [0, 1] S_

variable [Facts]

def fn_part1 {F : FTy → Type} [FloatOps F] (main_v16 : IVec S_ 1) (main_v19 : IVec S2x1000 1) : IVec S_ 1 :=
  let main_c_3 : IVec S_ 1 := constantI S_ 1 1#1
  let main_v20 : IVec S_ 1 := (fun x v => Host.reduce IntOp.andi x v reducesTo_S2x1000_S_d0_1 h_S_) main_v19 main_c_3
  let main_v21 : IVec S_ 1 := andi main_v16 main_v20
  main_v21

def fn {F : FTy → Type} [FloatOps F] (main_arg0 : FVec F S2x1024 .f32) (main_arg1 : IVec S2x1024 32) (main_arg2 : IVec S2x1024 32) (main_arg3 : FVec F S2x1024x364 .f32) (main_arg4 : FVec F S2x1024x4 .f32) : IVec S_ 1 :=
  let main_v0 : FVec F S2x1023 .f32 := (extractStridedSlice S2x1023 ![0, 0] · slices_S2x1024_S2x1023_0_0) main_arg0
  let main_v1 : FVec F S2x1023 .f32 := (extractStridedSlice S2x1023 ![0, 1] · slices_S2x1024_S2x1023_0_1) main_arg0
  let main_v2 : IVec S2x1023 1 := cmpf .ogt main_v0 main_v1
  let main_v3 : FVec F S2x1023 .f32 := (extractStridedSlice S2x1023 ![0, 0] · slices_S2x1024_S2x1023_0_0) main_arg0
  let main_v4 : FVec F S2x1023 .f32 := (extractStridedSlice S2x1023 ![0, 1] · slices_S2x1024_S2x1023_0_1) main_arg0
  let main_v5 : IVec S2x1023 1 := cmpf .oeq main_v3 main_v4
  let main_v6 : IVec S2x1023 32 := (extractStridedSlice S2x1023 ![0, 0] · slices_S2x1024_S2x1023_0_0) main_arg1
  let main_v7 : IVec S2x1023 32 := (extractStridedSlice S2x1023 ![0, 1] · slices_S2x1024_S2x1023_0_1) main_arg1
  let main_v8 : IVec S2x1023 1 := cmpi .slt main_v6 main_v7
  let main_v9 : IVec S2x1023 1 := andi main_v5 main_v8
  let main_v10 : IVec S2x1023 1 := ori main_v2 main_v9
  let main_c : IVec S_ 1 := constantI S_ 1 1#1
  let main_v11 : IVec S_ 1 := (fun x v => Host.reduce IntOp.andi x v reducesTo_S2x1023_S_d0_1 h_S_) main_v10 main_c
  let main_v12 : IVec S2x1000 32 := (extractStridedSlice S2x1000 ![0, 0] · slices_S2x1024_S2x1000_0_0) main_arg2
  let main_c_0 : IVec S_ 32 := constantI S_ 32 0#32
  let main_v13 : IVec S2x1000 32 := broadcastInDim S2x1000 ![] bcast_S_S2x1000 main_c_0
  let main_v14 : IVec S2x1000 1 := cmpi .sge main_v12 main_v13
  let main_c_1 : IVec S_ 1 := constantI S_ 1 1#1
  let main_v15 : IVec S_ 1 := (fun x v => Host.reduce IntOp.andi x v reducesTo_S2x1000_S_d0_1 h_S_) main_v14 main_c_1
  let main_v16 : IVec S_ 1 := andi main_v11 main_v15
  let main_v17 : IVec S2x1000 32 := (extractStridedSlice S2x1000 ![0, 0] · slices_S2x1024_S2x1000_0_0) main_arg2
  let main_c_2 : IVec S_ 32 := constantI S_ 32 1024#32
  let main_v18 : IVec S2x1000 32 := broadcastInDim S2x1000 ![] bcast_S_S2x1000 main_c_2
  let main_v19 : IVec S2x1000 1 := cmpi .slt main_v17 main_v18
  fn_part1 (F := F) main_v16 main_v19
-- ==== Scores.lean ====
abbrev S40000x91 : Shape := ⟨2, ![40000, 91]⟩
abbrev S40000x364 : Shape := ⟨2, ![40000, 364]⟩
abbrev S2x20000x4 : Shape := ⟨3, ![2, 20000, 4]⟩
abbrev S2x20000x91 : Shape := ⟨3, ![2, 20000, 91]⟩
abbrev S2x20000x364 : Shape := ⟨3, ![2, 20000, 364]⟩
abbrev S2x20000x90 : Shape := ⟨3, ![2, 20000, 90]⟩
abbrev S40x1x1000 : Shape := ⟨3, ![40, 1, 1000]⟩
abbrev S1x1000x91 : Shape := ⟨3, ![1, 1000, 91]⟩
abbrev S1x1000x364 : Shape := ⟨3, ![1, 1000, 364]⟩
abbrev S1x1000x4 : Shape := ⟨3, ![1, 1000, 4]⟩
abbrev S1x1000x90 : Shape := ⟨3, ![1, 1000, 90]⟩
abbrev S1x1x1000 : Shape := ⟨3, ![1, 1, 1000]⟩
abbrev S1000x91 : Shape := ⟨2, ![1000, 91]⟩
abbrev S1000 : Shape := ⟨1, ![1000]⟩
abbrev S1000x1 : Shape := ⟨2, ![1000, 1]⟩
abbrev S1000x90 : Shape := ⟨2, ![1000, 90]⟩
abbrev S1000x364 : Shape := ⟨2, ![1000, 364]⟩
abbrev S364x91 : Shape := ⟨2, ![364, 91]⟩
abbrev S1000x4 : Shape := ⟨2, ![1000, 4]⟩

abbrev nBuf : Space → Nat
  | .hbm => 7
  | .vmem => 10
  | .smem => 0
  | _ => 0

abbrev bufTy : (tb : Table) → Fin (tcTables nBuf tb) → BufTy
  | .hbm, ⟨0, _⟩ => ⟨S40000x91, .f32⟩
  | .hbm, ⟨1, _⟩ => ⟨S40000x364, .f32⟩
  | .hbm, ⟨2, _⟩ => ⟨S2x20000x4, .f32⟩
  | .hbm, ⟨3, _⟩ => ⟨S2x20000x91, .f32⟩
  | .hbm, ⟨4, _⟩ => ⟨S2x20000x364, .f32⟩
  | .hbm, ⟨5, _⟩ => ⟨S2x20000x90, .f32⟩
  | .hbm, ⟨6, _⟩ => ⟨S40x1x1000, .f32⟩
  | .local _ .vmem, ⟨0, _⟩ => ⟨S1x1000x91, .f32⟩
  | .local _ .vmem, ⟨1, _⟩ => ⟨S1x1000x91, .f32⟩
  | .local _ .vmem, ⟨2, _⟩ => ⟨S1x1000x364, .f32⟩
  | .local _ .vmem, ⟨3, _⟩ => ⟨S1x1000x364, .f32⟩
  | .local _ .vmem, ⟨4, _⟩ => ⟨S1x1000x4, .f32⟩
  | .local _ .vmem, ⟨5, _⟩ => ⟨S1x1000x4, .f32⟩
  | .local _ .vmem, ⟨6, _⟩ => ⟨S1x1000x90, .f32⟩
  | .local _ .vmem, ⟨7, _⟩ => ⟨S1x1000x90, .f32⟩
  | .local _ .vmem, ⟨8, _⟩ => ⟨S1x1x1000, .f32⟩
  | .local _ .vmem, ⟨9, _⟩ => ⟨S1x1x1000, .f32⟩
  | _, _ => ⟨S40000x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1000x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1000x364 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1000x90 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ScoresRefIdeal.lean ====
abbrev S40000x91 : Shape := ⟨2, ![40000, 91]⟩
abbrev S40000x364 : Shape := ⟨2, ![40000, 364]⟩
abbrev S2x20000x4 : Shape := ⟨3, ![2, 20000, 4]⟩
abbrev S2x20000x91 : Shape := ⟨3, ![2, 20000, 91]⟩
abbrev S2x20000x364 : Shape := ⟨3, ![2, 20000, 364]⟩
abbrev S2x20000x1 : Shape := ⟨3, ![2, 20000, 1]⟩
abbrev S2x20000 : Shape := ⟨2, ![2, 20000]⟩
abbrev S_ : Shape := ⟨0, ![]⟩
abbrev S2x20000x90 : Shape := ⟨3, ![2, 20000, 90]⟩
abbrev S40x1x1000 : Shape := ⟨3, ![40, 1, 1000]⟩

abbrev nBuf : Space → Nat
  | .hbm => 156
  | .vmem => 0
  | .smem => 0
  | _ => 0

abbrev hbmTy0_0 (i : Nat) : BufTy := match i % 128 with
  | 0 => ⟨S40000x91, .f32⟩
  | 1 => ⟨S40000x364, .f32⟩
  | 2 => ⟨S2x20000x4, .f32⟩
  | 3 => ⟨S2x20000x91, .f32⟩
  | 4 => ⟨S2x20000x364, .f32⟩
  | 5 => ⟨S2x20000x1, .f32⟩
  | 6 => ⟨S2x20000, .f32⟩
  | 7 => ⟨S2x20000x1, .f32⟩
  | 8 => ⟨S2x20000, .f32⟩
  | 9 => ⟨S2x20000, .f32⟩
  | 10 => ⟨S2x20000x1, .f32⟩
  | 11 => ⟨S2x20000, .f32⟩
  | 12 => ⟨S2x20000x1, .f32⟩
  | 13 => ⟨S2x20000, .f32⟩
  | 14 => ⟨S2x20000, .f32⟩
  | 15 => ⟨S2x20000x1, .f32⟩
  | 16 => ⟨S2x20000, .f32⟩
  | 17 => ⟨S_, .f32⟩
  | 18 => ⟨S2x20000, .f32⟩
  | 19 => ⟨S2x20000, .f32⟩
  | 20 => ⟨S2x20000, .f32⟩
  | 21 => ⟨S2x20000x1, .f32⟩
  | 22 => ⟨S2x20000, .f32⟩
  | 23 => ⟨S_, .f32⟩
  | 24 => ⟨S2x20000, .f32⟩
  | 25 => ⟨S2x20000, .f32⟩
  | 26 => ⟨S2x20000, .f32⟩
  | 27 => ⟨S2x20000x91, .f32⟩
  | 28 => ⟨S_, .f32⟩
  | 29 => ⟨S2x20000x91, .f32⟩
  | 30 => ⟨S2x20000x91, .f32⟩
  | 31 => ⟨S2x20000x91, .f32⟩
  | 32 => ⟨S_, .f32⟩
  | 33 => ⟨S2x20000x91, .f32⟩
  | 34 => ⟨S2x20000x91, .f32⟩
  | 35 => ⟨S2x20000x91, .f32⟩
  | 36 => ⟨S_, .f32⟩
  | 37 => ⟨S2x20000x91, .f32⟩
  | 38 => ⟨S2x20000x91, .f32⟩
  | 39 => ⟨S_, .f32⟩
  | 40 => ⟨S2x20000x91, .f32⟩
  | 41 => ⟨S2x20000x91, .f32⟩
  | 42 => ⟨S2x20000x91, .f32⟩
  | 43 => ⟨S_, .f32⟩
  | 44 => ⟨S2x20000x91, .f32⟩
  | 45 => ⟨S2x20000x91, .f32⟩
  | 46 => ⟨S_, .f32⟩
  | 47 => ⟨S2x20000x91, .f32⟩
  | 48 => ⟨S2x20000x91, .f32⟩
  | 49 => ⟨S2x20000x1, .f32⟩
  | 50 => ⟨S2x20000x91, .f32⟩
  | 51 => ⟨S2x20000x91, .f32⟩
  | 52 => ⟨S2x20000x1, .f32⟩
  | 53 => ⟨S2x20000x91, .f32⟩
  | 54 => ⟨S2x20000x91, .f32⟩
  | 55 => ⟨S2x20000x1, .f32⟩
  | 56 => ⟨S2x20000x91, .f32⟩
  | 57 => ⟨S2x20000x91, .f32⟩
  | 58 => ⟨S2x20000x1, .f32⟩
  | 59 => ⟨S2x20000x91, .f32⟩
  | 60 => ⟨S2x20000x91, .f32⟩
  | 61 => ⟨S2x20000x91, .f32⟩
  | 62 => ⟨S2x20000x1, .f32⟩
  | 63 => ⟨S2x20000x91, .f32⟩
  | 64 => ⟨S2x20000x91, .f32⟩
  | 65 => ⟨S2x20000x91, .f32⟩
  | 66 => ⟨S2x20000x1, .f32⟩
  | 67 => ⟨S2x20000x91, .f32⟩
  | 68 => ⟨S2x20000x91, .f32⟩
  | 69 => ⟨S_, .f32⟩
  | 70 => ⟨S2x20000x91, .f32⟩
  | 71 => ⟨S2x20000x91, .f32⟩
  | 72 => ⟨S2x20000x91, .f32⟩
  | 73 => ⟨S2x20000x90, .f32⟩
  | 74 => ⟨S_, .f32⟩
  | 75 => ⟨S_, .f32⟩
  | 76 => ⟨S_, .f32⟩
  | 77 => ⟨S2x20000x90, .f32⟩
  | 78 => ⟨S2x20000x90, .f32⟩
  | 79 => ⟨S_, .f32⟩
  | 80 => ⟨S2x20000x90, .f32⟩
  | 81 => ⟨S2x20000x90, .f32⟩
  | 82 => ⟨S_, .f32⟩
  | 83 => ⟨S2x20000x91, .f32⟩
  | 84 => ⟨S2x20000x91, .f32⟩
  | 85 => ⟨S2x20000x91, .f32⟩
  | 86 => ⟨S2x20000x90, .f32⟩
  | 87 => ⟨S_, .f32⟩
  | 88 => ⟨S_, .f32⟩
  | 89 => ⟨S_, .f32⟩
  | 90 => ⟨S2x20000x90, .f32⟩
  | 91 => ⟨S2x20000x90, .f32⟩
  | 92 => ⟨S_, .f32⟩
  | 93 => ⟨S2x20000x90, .f32⟩
  | 94 => ⟨S2x20000x90, .f32⟩
  | 95 => ⟨S_, .f32⟩
  | 96 => ⟨S2x20000x91, .f32⟩
  | 97 => ⟨S2x20000x91, .f32⟩
  | 98 => ⟨S2x20000x91, .f32⟩
  | 99 => ⟨S2x20000x90, .f32⟩
  | 100 => ⟨S_, .f32⟩
  | 101 => ⟨S_, .f32⟩
  | 102 => ⟨S_, .f32⟩
  | 103 => ⟨S2x20000x90, .f32⟩
  | 104 => ⟨S2x20000x90, .f32⟩
  | 105 => ⟨S_, .f32⟩
  | 106 => ⟨S2x20000x90, .f32⟩
  | 107 => ⟨S2x20000x90, .f32⟩
  | 108 => ⟨S_, .f32⟩
  | 109 => ⟨S2x20000x91, .f32⟩
  | 110 => ⟨S2x20000x91, .f32⟩
  | 111 => ⟨S2x20000x91, .f32⟩
  | 112 => ⟨S2x20000x90, .f32⟩
  | 113 => ⟨S_, .f32⟩
  | 114 => ⟨S_, .f32⟩
  | 115 => ⟨S_, .f32⟩
  | 116 => ⟨S2x20000x90, .f32⟩
  | 117 => ⟨S2x20000x90, .f32⟩
  | 118 => ⟨S_, .f32⟩
  | 119 => ⟨S2x20000x90, .f32⟩
  | 120 => ⟨S2x20000x90, .f32⟩
  | 121 => ⟨S_, .f32⟩
  | 122 => ⟨S2x20000, .f32⟩
  | 123 => ⟨S_, .f32⟩
  | 124 => ⟨S2x20000, .f32⟩
  | 125 => ⟨S2x20000, .f32⟩
  | 126 => ⟨S2x20000x1, .f32⟩
  | 127 => ⟨S2x20000x91, .f32⟩
  | _ => ⟨S40000x91, .f32⟩

abbrev hbmTy0_1 (i : Nat) : BufTy := match i % 128 with
  | 0 => ⟨S2x20000x91, .f32⟩
  | 1 => ⟨S2x20000x91, .f32⟩
  | 2 => ⟨S_, .f32⟩
  | 3 => ⟨S2x20000, .f32⟩
  | 4 => ⟨S2x20000x1, .f32⟩
  | 5 => ⟨S2x20000x91, .f32⟩
  | 6 => ⟨S2x20000x91, .f32⟩
  | 7 => ⟨S2x20000x90, .f32⟩
  | 8 => ⟨S_, .f32⟩
  | 9 => ⟨S2x20000x90, .f32⟩
  | 10 => ⟨S2x20000x90, .i1⟩
  | 11 => ⟨S2x20000x90, .f32⟩
  | 12 => ⟨S_, .f32⟩
  | 13 => ⟨S2x20000x90, .f32⟩
  | 14 => ⟨S2x20000x90, .i1⟩
  | 15 => ⟨S2x20000x90, .i1⟩
  | 16 => ⟨S2x20000x90, .f32⟩
  | 17 => ⟨S_, .f32⟩
  | 18 => ⟨S2x20000x90, .f32⟩
  | 19 => ⟨S2x20000x90, .i1⟩
  | 20 => ⟨S2x20000x90, .i1⟩
  | 21 => ⟨S_, .f32⟩
  | 22 => ⟨S_, .f32⟩
  | 23 => ⟨S2x20000x90, .f32⟩
  | 24 => ⟨S2x20000x90, .f32⟩
  | 25 => ⟨S_, .f32⟩
  | 26 => ⟨S2x20000, .f32⟩
  | 27 => ⟨S40x1x1000, .f32⟩
  | _ => ⟨S40000x91, .f32⟩

abbrev hbmTy (i : Nat) : BufTy := match i / 128 with
  | 0 => hbmTy0_0 i
  | 1 => hbmTy0_1 i
  | _ => ⟨S40000x91, .f32⟩

abbrev bufTy : (tb : Table) → Fin (tcTables nBuf tb) → BufTy
  | .hbm, ⟨i, _⟩ => hbmTy i
  | _, _ => ⟨S40000x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_7 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_8 : Ref sig .tc := ⟨.hbm, 74, rfl⟩
abbrev main_cst_9 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_cst_12 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_cst_15 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_v72 : Ref sig .tc := ⟨.hbm, 107, rfl⟩
abbrev main_cst_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_17 : Ref sig .tc := ⟨.hbm, 113, rfl⟩
abbrev main_cst_18 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_v77 : Ref sig .tc := ⟨.hbm, 120, rfl⟩
abbrev main_cst_19 : Ref sig .tc := ⟨.hbm, 121, rfl⟩
abbrev main_v78 : Ref sig .tc := ⟨.hbm, 122, rfl⟩
abbrev main_cst_20 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_21 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_22 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_23 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_24 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_25 : Ref sig .tc := ⟨.hbm, 149, rfl⟩
abbrev main_call4_v0 : Ref sig .tc := ⟨.hbm, 150, rfl⟩
abbrev main_call4_v1 : Ref sig .tc := ⟨.hbm, 151, rfl⟩
abbrev main_v100 : Ref sig .tc := ⟨.hbm, 152, rfl⟩
abbrev main_cst_26 : Ref sig .tc := ⟨.hbm, 153, rfl⟩
abbrev main_v101 : Ref sig .tc := ⟨.hbm, 154, rfl⟩
abbrev main_v102 : Ref sig .tc := ⟨.hbm, 155, rfl⟩

abbrev nD : Nat := 1
abbrev τ : Topo := Topo.v7x

variable {F : FTy → Type} [FloatOps F]
-- ==== Nms.lean ====
abbrev S2x1024 : Shape := ⟨2, ![2, 1024]⟩
abbrev S2x1024x364 : Shape := ⟨3, ![2, 1024, 364]⟩
abbrev S2x1024x4 : Shape := ⟨3, ![2, 1024, 4]⟩
abbrev S2x1x1024 : Shape := ⟨3, ![2, 1, 1024]⟩
abbrev S2x4x128 : Shape := ⟨3, ![2, 4, 128]⟩
abbrev S2x1x128 : Shape := ⟨3, ![2, 1, 128]⟩
abbrev S1x1x1024 : Shape := ⟨3, ![1, 1, 1024]⟩
abbrev S1x1024x364 : Shape := ⟨3, ![1, 1024, 364]⟩
abbrev S1x1024x4 : Shape := ⟨3, ![1, 1024, 4]⟩
abbrev S1x4x128 : Shape := ⟨3, ![1, 4, 128]⟩
abbrev S1x1x128 : Shape := ⟨3, ![1, 1, 128]⟩
abbrev S1024x1024 : Shape := ⟨2, ![1024, 1024]⟩
abbrev S1024 : Shape := ⟨1, ![1024]⟩
abbrev S1024x1 : Shape := ⟨2, ![1024, 1]⟩
abbrev S1024x364 : Shape := ⟨2, ![1024, 364]⟩
abbrev S1024x4 : Shape := ⟨2, ![1024, 4]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩
abbrev S364x91 : Shape := ⟨2, ![364, 91]⟩
abbrev S1024x91 : Shape := ⟨2, ![1024, 91]⟩
abbrev S1 : Shape := ⟨1, ![1]⟩
abbrev S1x1 : Shape := ⟨2, ![1, 1]⟩
abbrev S1x128 : Shape := ⟨2, ![1, 128]⟩
abbrev S4x128 : Shape := ⟨2, ![4, 128]⟩
abbrev S2x128x4 : Shape := ⟨3, ![2, 128, 4]⟩
abbrev S2x100x4 : Shape := ⟨3, ![2, 100, 4]⟩
abbrev S2x1x100 : Shape := ⟨3, ![2, 1, 100]⟩
abbrev S2x100 : Shape := ⟨2, ![2, 100]⟩

abbrev nBuf : Space → Nat
  | .hbm => 17
  | .vmem => 17
  | .smem => 0
  | _ => 0

abbrev bufTy : (tb : Table) → Fin (tcTables nBuf tb) → BufTy
  | .hbm, ⟨0, _⟩ => ⟨S2x1024, .f32⟩
  | .hbm, ⟨1, _⟩ => ⟨S2x1024, .i32⟩
  | .hbm, ⟨2, _⟩ => ⟨S2x1024, .i32⟩
  | .hbm, ⟨3, _⟩ => ⟨S2x1024x364, .f32⟩
  | .hbm, ⟨4, _⟩ => ⟨S2x1024x4, .f32⟩
  | .hbm, ⟨5, _⟩ => ⟨S2x1x1024, .f32⟩
  | .hbm, ⟨6, _⟩ => ⟨S2x1x1024, .i32⟩
  | .hbm, ⟨7, _⟩ => ⟨S2x1x1024, .i32⟩
  | .hbm, ⟨8, _⟩ => ⟨S2x4x128, .f32⟩
  | .hbm, ⟨9, _⟩ => ⟨S2x1x128, .f32⟩
  | .hbm, ⟨10, _⟩ => ⟨S2x1x128, .i32⟩
  | .hbm, ⟨11, _⟩ => ⟨S2x128x4, .f32⟩
  | .hbm, ⟨12, _⟩ => ⟨S2x100x4, .f32⟩
  | .hbm, ⟨13, _⟩ => ⟨S2x1x100, .f32⟩
  | .hbm, ⟨14, _⟩ => ⟨S2x100, .f32⟩
  | .hbm, ⟨15, _⟩ => ⟨S2x1x100, .i32⟩
  | .hbm, ⟨16, _⟩ => ⟨S2x100, .i32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .i32⟩
  | .local _ .vmem, ⟨3, _⟩ => ⟨S1x1x1024, .i32⟩
  | .local _ .vmem, ⟨4, _⟩ => ⟨S1x1x1024, .i32⟩
  | .local _ .vmem, ⟨5, _⟩ => ⟨S1x1x1024, .i32⟩
  | .local _ .vmem, ⟨6, _⟩ => ⟨S1x1024x364, .f32⟩
  | .local _ .vmem, ⟨7, _⟩ => ⟨S1x1024x364, .f32⟩
  | .local _ .vmem, ⟨8, _⟩ => ⟨S1x1024x4, .f32⟩
  | .local _ .vmem, ⟨9, _⟩ => ⟨S1x1024x4, .f32⟩
  | .local _ .vmem, ⟨10, _⟩ => ⟨S1x4x128, .f32⟩
  | .local _ .vmem, ⟨11, _⟩ => ⟨S1x4x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .i32⟩
  | .local _ .vmem, ⟨15, _⟩ => ⟨S1x1x128, .i32⟩
  | .local _ .vmem, ⟨16, _⟩ => ⟨S1024x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x364 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NmsRefIdeal.lean ====
abbrev S2x1024 : Shape := ⟨2, ![2, 1024]⟩
abbrev S2x1024x364 : Shape := ⟨3, ![2, 1024, 364]⟩
abbrev S2x1024x4 : Shape := ⟨3, ![2, 1024, 4]⟩
abbrev S2x1024x2 : Shape := ⟨3, ![2, 1024, 2]⟩
abbrev S_ : Shape := ⟨0, ![]⟩
abbrev S2x1024x91x4 : Shape := ⟨4, ![2, 1024, 91, 4]⟩
abbrev S2x1024x91x2 : Shape := ⟨4, ![2, 1024, 91, 2]⟩
abbrev S2x1024x1x2 : Shape := ⟨4, ![2, 1024, 1, 2]⟩
abbrev S2x1024x90x4 : Shape := ⟨4, ![2, 1024, 90, 4]⟩
abbrev S2x92160x4 : Shape := ⟨3, ![2, 92160, 4]⟩
abbrev S2x1000 : Shape := ⟨2, ![2, 1000]⟩
abbrev S2x1000x1 : Shape := ⟨3, ![2, 1000, 1]⟩
abbrev S2x1000x4 : Shape := ⟨3, ![2, 1000, 4]⟩
abbrev S2x1000x2 : Shape := ⟨3, ![2, 1000, 2]⟩
abbrev S2x1000x1x2 : Shape := ⟨4, ![2, 1000, 1, 2]⟩
abbrev S2x1x1000x2 : Shape := ⟨4, ![2, 1, 1000, 2]⟩
abbrev S2x1000x1000x2 : Shape := ⟨4, ![2, 1000, 1000, 2]⟩
abbrev S2x1000x1000x1 : Shape := ⟨4, ![2, 1000, 1000, 1]⟩
abbrev S2x1000x1000 : Shape := ⟨3, ![2, 1000, 1000]⟩
abbrev S2x1x1000 : Shape := ⟨3, ![2, 1, 1000]⟩
abbrev S1000 : Shape := ⟨1, ![1000]⟩
abbrev S2x1 : Shape := ⟨2, ![2, 1]⟩
abbrev S1x1000 : Shape := ⟨2, ![1, 1000]⟩
abbrev S2x100 : Shape := ⟨2, ![2, 100]⟩
abbrev S2x100x1 : Shape := ⟨3, ![2, 100, 1]⟩
abbrev S2x100x4 : Shape := ⟨3, ![2, 100, 4]⟩

abbrev nBuf : Space → Nat
  | .hbm => 221
  | .vmem => 0
  | .smem => 0
  | _ => 0

abbrev hbmTy0_0 (i : Nat) : BufTy := match i % 128 with
  | 0 => ⟨S2x1024, .f32⟩
  | 1 => ⟨S2x1024, .i32⟩
  | 2 => ⟨S2x1024, .i32⟩
  | 3 => ⟨S2x1024x364, .f32⟩
  | 4 => ⟨S2x1024x4, .f32⟩
  | 5 => ⟨S2x1024x2, .f32⟩
  | 6 => ⟨S2x1024x2, .f32⟩
  | 7 => ⟨S2x1024x2, .f32⟩
  | 8 => ⟨S2x1024x2, .f32⟩
  | 9 => ⟨S_, .f32⟩
  | 10 => ⟨S2x1024x2, .f32⟩
  | 11 => ⟨S2x1024x2, .f32⟩
  | 12 => ⟨S2x1024x2, .f32⟩
  | 13 => ⟨S2x1024x91x4, .f32⟩
  | 14 => ⟨S2x1024x91x2, .f32⟩
  | 15 => ⟨S_, .f32⟩
  | 16 => ⟨S2x1024x91x2, .f32⟩
  | 17 => ⟨S2x1024x91x2, .f32⟩
  | 18 => ⟨S2x1024x1x2, .f32⟩
  | 19 => ⟨S2x1024x91x2, .f32⟩
  | 20 => ⟨S2x1024x91x2, .f32⟩
  | 21 => ⟨S2x1024x1x2, .f32⟩
  | 22 => ⟨S2x1024x91x2, .f32⟩
  | 23 => ⟨S2x1024x91x2, .f32⟩
  | 24 => ⟨S2x1024x91x2, .f32⟩
  | 25 => ⟨S_, .f32⟩
  | 26 => ⟨S2x1024x91x2, .f32⟩
  | 27 => ⟨S2x1024x91x2, .f32⟩
  | 28 => ⟨S_, .f32⟩
  | 29 => ⟨S2x1024x91x2, .f32⟩
  | 30 => ⟨S2x1024x91x2, .f32⟩
  | 31 => ⟨S2x1024x91x2, .f32⟩
  | 32 => ⟨S2x1024x1x2, .f32⟩
  | 33 => ⟨S2x1024x91x2, .f32⟩
  | 34 => ⟨S2x1024x91x2, .f32⟩
  | 35 => ⟨S_, .f32⟩
  | 36 => ⟨S2x1024x91x2, .f32⟩
  | 37 => ⟨S2x1024x91x2, .f32⟩
  | 38 => ⟨S2x1024x91x2, .f32⟩
  | 39 => ⟨S_, .f32⟩
  | 40 => ⟨S2x1024x91x2, .f32⟩
  | 41 => ⟨S2x1024x91x2, .f32⟩
  | 42 => ⟨S2x1024x91x2, .f32⟩
  | 43 => ⟨S2x1024x91x4, .f32⟩
  | 44 => ⟨S2x1024x90x4, .f32⟩
  | 45 => ⟨S2x92160x4, .f32⟩
  | 46 => ⟨S_, .f32⟩
  | 47 => ⟨S2x92160x4, .f32⟩
  | 48 => ⟨S2x92160x4, .f32⟩
  | 49 => ⟨S_, .f32⟩
  | 50 => ⟨S2x92160x4, .f32⟩
  | 51 => ⟨S2x92160x4, .f32⟩
  | 52 => ⟨S2x1000, .f32⟩
  | 53 => ⟨S2x1000, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S2x1000, .i32⟩
  | 61 => ⟨S2x1000, .i32⟩
  | 62 => ⟨S_, .i32⟩
  | 63 => ⟨S2x1000, .i32⟩
  | 64 => ⟨S2x1000, .i1⟩
  | 65 => ⟨S_, .i32⟩
  | 66 => ⟨S2x1000, .i32⟩
  | 67 => ⟨S2x1000, .i1⟩
  | 68 => ⟨S_, .i32⟩
  | 69 => ⟨S_, .i1⟩
  | 70 => ⟨S2x1000, .i1⟩
  | 71 => ⟨S2x1000, .i1⟩
  | 72 => ⟨S2x1000, .i1⟩
  | 73 => ⟨S2x1000, .i32⟩
  | 74 => ⟨S2x1000, .i32⟩
  | 75 => ⟨S2x1000, .i32⟩
  | 76 => ⟨S_, .i32⟩
  | 77 => ⟨S2x1000, .i32⟩
  | 78 => ⟨S2x1000, .i32⟩
  | 79 => ⟨S2x1000, .i32⟩
  | 80 => ⟨S_, .i32⟩
  | 81 => ⟨S2x1000, .i32⟩
  | 82 => ⟨S2x1000, .i32⟩
  | 83 => ⟨S2x1000, .i32⟩
  | 84 => ⟨S_, .i32⟩
  | 85 => ⟨S2x1000, .i32⟩
  | 86 => ⟨S2x1000, .i32⟩
  | 87 => ⟨S_, .i32⟩
  | 88 => ⟨S2x1000, .i32⟩
  | 89 => ⟨S2x1000, .i1⟩
  | 90 => ⟨S_, .i32⟩
  | 91 => ⟨S2x1000, .i32⟩
  | 92 => ⟨S2x1000, .i32⟩
  | 93 => ⟨S2x1000, .i32⟩
  | 94 => ⟨S2x1000x1, .i32⟩
  | 95 => ⟨S2x1000x4, .f32⟩
  | 96 => ⟨S2x1000, .f32⟩
  | 97 => ⟨S2x1000x1, .f32⟩
  | 98 => ⟨S_, .f32⟩
  | 99 => ⟨S2x1000x1, .f32⟩
  | 100 => ⟨S2x1000x1, .f32⟩
  | 101 => ⟨S2x1000x4, .f32⟩
  | 102 => ⟨S2x1000x4, .f32⟩
  | 103 => ⟨S2x1000x1, .f32⟩
  | 104 => ⟨S2x1000, .f32⟩
  | 105 => ⟨S2x1000x1, .f32⟩
  | 106 => ⟨S2x1000, .f32⟩
  | 107 => ⟨S2x1000, .f32⟩
  | 108 => ⟨S2x1000x1, .f32⟩
  | 109 => ⟨S2x1000, .f32⟩
  | 110 => ⟨S2x1000x1, .f32⟩
  | 111 => ⟨S2x1000, .f32⟩
  | 112 => ⟨S2x1000, .f32⟩
  | 113 => ⟨S2x1000, .f32⟩
  | 114 => ⟨S2x1000x2, .f32⟩
  | 115 => ⟨S2x1000x1x2, .f32⟩
  | 116 => ⟨S2x1000x2, .f32⟩
  | 117 => ⟨S2x1x1000x2, .f32⟩
  | 118 => ⟨S2x1000x1000x2, .f32⟩
  | 119 => ⟨S2x1000x1000x2, .f32⟩
  | 120 => ⟨S2x1000x1000x2, .f32⟩
  | 121 => ⟨S2x1000x2, .f32⟩
  | 122 => ⟨S2x1000x1x2, .f32⟩
  | 123 => ⟨S2x1000x2, .f32⟩
  | 124 => ⟨S2x1x1000x2, .f32⟩
  | 125 => ⟨S2x1000x1000x2, .f32⟩
  | 126 => ⟨S2x1000x1000x2, .f32⟩
  | 127 => ⟨S2x1000x1000x2, .f32⟩
  | _ => ⟨S2x1024, .f32⟩

abbrev hbmTy0_1 (i : Nat) : BufTy := match i % 128 with
  | 0 => ⟨S2x1000x1000x2, .f32⟩
  | 1 => ⟨S_, .f32⟩
  | 2 => ⟨S2x1000x1000x2, .f32⟩
  | 3 => ⟨S2x1000x1000x2, .f32⟩
  | 4 => ⟨S2x1000x1000x1, .f32⟩
  | 5 => ⟨S2x1000x1000, .f32⟩
  | 6 => ⟨S2x1000x1000x1, .f32⟩
  | 7 => ⟨S2x1000x1000, .f32⟩
  | 8 => ⟨S2x1000x1000, .f32⟩
  | 9 => ⟨S2x1000x1, .f32⟩
  | 10 => ⟨S2x1x1000, .f32⟩
  | 11 => ⟨S2x1000x1000, .f32⟩
  | 12 => ⟨S2x1000x1000, .f32⟩
  | 13 => ⟨S2x1000x1000, .f32⟩
  | 14 => ⟨S2x1000x1000, .f32⟩
  | 15 => ⟨S_, .f32⟩
  | 16 => ⟨S2x1000x1000, .f32⟩
  | 17 => ⟨S2x1000x1000, .f32⟩
  | 18 => ⟨S2x1000x1000, .f32⟩
  | 19 => ⟨S1000, .i32⟩
  | 20 => ⟨S_, .i1⟩
  | 21 => ⟨S2x1000, .i1⟩
  | 22 => ⟨S_, .i32⟩
  | 23 => ⟨S_, .i32⟩
  | 24 => ⟨S2x1000x1000, .f32⟩
  | 25 => ⟨S1000, .i32⟩
  | 26 => ⟨S_, .i32⟩
  | 27 => ⟨S_, .i32⟩
  | 28 => ⟨S2x1000, .i1⟩
  | 29 => ⟨S_, .i32⟩
  | 30 => ⟨S_, .i1⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S2x1x1000, .f32⟩
  | 42 => ⟨S2x1000, .f32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S2x1, .i1⟩
  | 51 => ⟨S_, .f32⟩
  | 52 => ⟨S2x1000, .f32⟩
  | 53 => ⟨S2x1000, .i1⟩
  | 54 => ⟨S1x1000, .i32⟩
  | 55 => ⟨S_, .i32⟩
  | 56 => ⟨S1x1000, .i32⟩
  | 57 => ⟨S1x1000, .i1⟩
  | 58 => ⟨S2x1000, .i1⟩
  | 59 => ⟨S2x1000, .i1⟩
  | 60 => ⟨S2x1000, .i1⟩
  | 61 => ⟨S2x1000, .i1⟩
  | 62 => ⟨S2x1000, .i1⟩
  | 63 => ⟨S2x1000, .i1⟩
  | 64 => ⟨S_, .i32⟩
  | 65 => ⟨S_, .i32⟩
  | 66 => ⟨S_, .f32⟩
  | 67 => ⟨S2x1000, .f32⟩
  | 68 => ⟨S2x1000, .i1⟩
  | 69 => ⟨S2x1000, .i1⟩
  | 70 => ⟨S_, .f32⟩
  | 71 => ⟨S2x1000, .f32⟩
  | 72 => ⟨S2x1000, .f32⟩
  | 73 => ⟨S2x100, .f32⟩
  | 74 => ⟨S2x100, .i32⟩
  | 75 => ⟨S_, .i32⟩
  | 76 => ⟨S2x100, .i32⟩
  | 77 => ⟨S2x100, .i1⟩
  | 78 => ⟨S_, .i32⟩
  | 79 => ⟨S2x100, .i32⟩
  | 80 => ⟨S2x100, .i32⟩
  | 81 => ⟨S2x100, .i32⟩
  | 82 => ⟨S2x100x1, .i32⟩
  | 83 => ⟨S2x100x4, .f32⟩
  | 84 => ⟨S_, .i32⟩
  | 85 => ⟨S2x100, .i32⟩
  | 86 => ⟨S2x100, .i1⟩
  | 87 => ⟨S_, .i32⟩
  | 88 => ⟨S2x100, .i32⟩
  | 89 => ⟨S2x100, .i32⟩
  | 90 => ⟨S2x100, .i32⟩
  | 91 => ⟨S2x100x1, .i32⟩
  | 92 => ⟨S2x100, .i32⟩
  | _ => ⟨S2x1024, .f32⟩

abbrev hbmTy (i : Nat) : BufTy := match i / 128 with
  | 0 => hbmTy0_0 i
  | 1 => hbmTy0_1 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_c_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_c_1 : Ref sig .tc := ⟨.hbm, 62, rfl⟩
abbrev main_call0_v5 : Ref sig .tc := ⟨.hbm, 63, rfl⟩
abbrev main_call0_v6 : Ref sig .tc := ⟨.hbm, 64, rfl⟩
abbrev main_call0_c_2 : Ref sig .tc := ⟨.hbm, 65, rfl⟩
abbrev main_call0_v7 : Ref sig .tc := ⟨.hbm, 66, rfl⟩
abbrev main_call0_v8 : Ref sig .tc := ⟨.hbm, 67, rfl⟩
abbrev main_call0_c_3 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_v12 : Ref sig .tc := ⟨.hbm, 72, rfl⟩
abbrev main_call0_v13 : Ref sig .tc := ⟨.hbm, 73, rfl⟩
abbrev main_call0_v14 : Ref sig .tc := ⟨.hbm, 74, rfl⟩
abbrev main_v41 : Ref sig .tc := ⟨.hbm, 75, rfl⟩
abbrev main_c_7 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c_8 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_9 : Ref sig .tc := ⟨.hbm, 84, rfl⟩
abbrev main_v48 : Ref sig .tc := ⟨.hbm, 85, rfl⟩
abbrev main_v49 : Ref sig .tc := ⟨.hbm, 86, rfl⟩
abbrev main_c_10 : Ref sig .tc := ⟨.hbm, 87, rfl⟩
abbrev main_v50 : Ref sig .tc := ⟨.hbm, 88, rfl⟩
abbrev main_v51 : Ref sig .tc := ⟨.hbm, 89, rfl⟩
abbrev main_c_11 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_12 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_13 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_14 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_c_15 : Ref sig .tc := ⟨.hbm, 148, rfl⟩
abbrev main_v106 : Ref sig .tc := ⟨.hbm, 149, rfl⟩
abbrev main_c_16 : Ref sig .tc := ⟨.hbm, 150, rfl⟩
abbrev main_c_17 : Ref sig .tc := ⟨.hbm, 151, rfl⟩
abbrev main_v107_0 : Ref sig .tc := ⟨.hbm, 152, rfl⟩
abbrev main_v107_1 : Ref sig .tc := ⟨.hbm, 153, rfl⟩
abbrev main_v107_2 : Ref sig .tc := ⟨.hbm, 154, rfl⟩
abbrev main_v107_3 : Ref sig .tc := ⟨.hbm, 155, rfl⟩
abbrev main_v107_4 : Ref sig .tc := ⟨.hbm, 156, rfl⟩
abbrev main_while0c_c_28 : Ref sig .tc := ⟨.hbm, 157, rfl⟩
abbrev main_while0c_v127 : Ref sig .tc := ⟨.hbm, 158, rfl⟩
abbrev main_while0b_c_28 : Ref sig .tc := ⟨.hbm, 159, rfl⟩
abbrev main_while0b_v127 : Ref sig .tc := ⟨.hbm, 160, rfl⟩
abbrev main_while0b_call1_c : Ref sig .tc := ⟨.hbm, 161, rfl⟩
abbrev main_while0b_call1_v0 : Ref sig .tc := ⟨.hbm, 162, rfl⟩
abbrev main_while0b_call1_v1 : Ref sig .tc := ⟨.hbm, 163, rfl⟩
abbrev main_while0b_call1_c_0 : Ref sig .tc := ⟨.hbm, 164, rfl⟩
abbrev main_while0b_call1_v2 : Ref sig .tc := ⟨.hbm, 165, rfl⟩
abbrev main_while0b_call1_v3 : Ref sig .tc := ⟨.hbm, 166, rfl⟩
abbrev main_while0b_call1_c_1 : Ref sig .tc := ⟨.hbm, 167, rfl⟩
abbrev main_while0b_call1_c_2 : Ref sig .tc := ⟨.hbm, 168, rfl⟩
abbrev main_while0b_call1_v4 : Ref sig .tc := ⟨.hbm, 169, rfl⟩
abbrev main_while0b_v128 : Ref sig .tc := ⟨.hbm, 170, rfl⟩
abbrev main_while0b_call2_c : Ref sig .tc := ⟨.hbm, 171, rfl⟩
abbrev main_while0b_call2_v0 : Ref sig .tc := ⟨.hbm, 172, rfl⟩
abbrev main_while0b_call2_v1 : Ref sig .tc := ⟨.hbm, 173, rfl⟩
abbrev main_while0b_call2_c_0 : Ref sig .tc := ⟨.hbm, 174, rfl⟩
abbrev main_while0b_call2_v2 : Ref sig .tc := ⟨.hbm, 175, rfl⟩
abbrev main_while0b_call2_v3 : Ref sig .tc := ⟨.hbm, 176, rfl⟩
abbrev main_while0b_call2_c_1 : Ref sig .tc := ⟨.hbm, 177, rfl⟩
abbrev main_while0b_v129 : Ref sig .tc := ⟨.hbm, 178, rfl⟩
abbrev main_while0b_cst_29 : Ref sig .tc := ⟨.hbm, 179, rfl⟩
abbrev main_while0b_v130 : Ref sig .tc := ⟨.hbm, 180, rfl⟩
abbrev main_while0b_v131 : Ref sig .tc := ⟨.hbm, 181, rfl⟩
abbrev main_while0b_v132 : Ref sig .tc := ⟨.hbm, 182, rfl⟩
abbrev main_while0b_v133 : Ref sig .tc := ⟨.hbm, 183, rfl⟩
abbrev main_while0b_v134 : Ref sig .tc := ⟨.hbm, 184, rfl⟩
abbrev main_while0b_v135 : Ref sig .tc := ⟨.hbm, 185, rfl⟩
abbrev main_while0b_v136 : Ref sig .tc := ⟨.hbm, 186, rfl⟩
abbrev main_while0b_v137 : Ref sig .tc := ⟨.hbm, 187, rfl⟩
abbrev main_while0b_v138 : Ref sig .tc := ⟨.hbm, 188, rfl⟩
abbrev main_while0b_v139 : Ref sig .tc := ⟨.hbm, 189, rfl⟩
abbrev main_while0b_v140 : Ref sig .tc := ⟨.hbm, 190, rfl⟩
abbrev main_while0b_v141 : Ref sig .tc := ⟨.hbm, 191, rfl⟩
abbrev main_while0b_c_30 : Ref sig .tc := ⟨.hbm, 192, rfl⟩
abbrev main_while0b_v142 : Ref sig .tc := ⟨.hbm, 193, rfl⟩
abbrev main_cst_18 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_cst_19 : Ref sig .tc := ⟨.hbm, 198, rfl⟩
abbrev main_v111 : Ref sig .tc := ⟨.hbm, 199, rfl⟩
abbrev main_v112 : Ref sig .tc := ⟨.hbm, 200, rfl⟩
abbrev main_values : Ref sig .tc := ⟨.hbm, 201, rfl⟩
abbrev main_indices : Ref sig .tc := ⟨.hbm, 202, rfl⟩
abbrev main_c_20 : Ref sig .tc := ⟨.hbm, 203, rfl⟩
abbrev main_v113 : Ref sig .tc := ⟨.hbm, 204, rfl⟩
abbrev main_v114 : Ref sig .tc := ⟨.hbm, 205, rfl⟩
abbrev main_c_21 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_c_22 : Ref sig .tc := ⟨.hbm, 212, rfl⟩
abbrev main_v120 : Ref sig .tc := ⟨.hbm, 213, rfl⟩
abbrev main_v121 : Ref sig .tc := ⟨.hbm, 214, rfl⟩
abbrev main_c_23 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩

abbrev nD : Nat := 1
abbrev τ : Topo := Topo.v7x

variable {F : FTy → Type} [FloatOps F]

abbrev main_while0_count : Scf.Loop 32 := ⟨0#32, 1000#32, 1#32⟩
-- ==== Proof.Cell.lean ====
/-
  One candidate of the detection head: the score of a class of one proposal, the box decoded for it, and the score the
  candidate goes into the selection with (its own if the box and the score pass the two tests, −10⁹ otherwise).
  Everything here is about rows of extended reals; no program is named.
-/
module

public import Idealize.ShloMosaic.Lib.Pointwise

@[expose] public section
set_option maxRecDepth 16384
noncomputable section
namespace Cert.Proof
open Idealize.ShloMosaic

/-- The extended real that a binary32 word stands for. -/
abbrev lit (b : BitVec 32) : EReal := Ideal.ofBits .f32 b

/-- The largest logit of a row. -/
def rowTop (l : Fin 91 → EReal) : EReal := Finset.fold max (lit 0xFF800000#32) (fun x => l x) Finset.univ

/-- The softmax of a row of logits at class `k`. -/
def score (l : Fin 91 → EReal) (k : Fin 91) : EReal :=
  Ideal.div (Ideal.exp (l k - rowTop l)) (∑ x, Ideal.exp (l x - rowTop l))

/-- A coordinate kept between 0 and 800. -/
def clip (x : EReal) : EReal := min (lit 0x44480000#32) (max 0 x)

/-- The centre of a decoded box along one axis: offset `d`, the proposal from `a` to `b`. -/
def mid (d a b : EReal) : EReal :=
  Ideal.div d (lit 0x41200000#32) * (b - a) + (a + lit 0x3F000000#32 * (b - a))

/-- Half the extent of a decoded box along one axis: log-scale `e`, the proposal from `a` to `b`. -/
def half (e a b : EReal) : EReal :=
  lit 0x3F000000#32 * (Ideal.exp (min (Ideal.div e (lit 0x40A00000#32)) (lit 0x40845349#32)) * (b - a))

/-- The lower edge of a decoded and clipped box along one axis. -/
def lower (d e a b : EReal) : EReal := clip (mid d a b - half e a b)

/-- The upper edge of a decoded and clipped box along one axis. -/
def upper (d e a b : EReal) : EReal := clip (mid d a b + half e a b)

/-- Whether a candidate is kept: its score above 0.05, both sides of its box at least 0.01. -/
def passes (s x1 y1 x2 y2 : EReal) : BitVec 1 :=
  IntOp.andi (IntOp.andi (BitVec.ofBool (decide (lit 0x3D4CCCCD#32 < s)))
    (BitVec.ofBool (decide (lit 0x3C23D70A#32 ≤ x2 - x1)))) (BitVec.ofBool (decide (lit 0x3C23D70A#32 ≤ y2 - y1)))

/-- Regression `c` of class `k` in a row of four regressions per class. -/
def regr (d : Fin 364 → EReal) (k : Fin 91) (c : Fin 4) : EReal := d ⟨4 * k.val + c.val, by omega⟩

/-- The masked score of class `k` of a proposal. -/
def maskedScore (l : Fin 91 → EReal) (d : Fin 364 → EReal) (p : Fin 4 → EReal) (k : Fin 91) : EReal :=
  Scalar.select
    (passes (score l k) (lower (regr d k 0) (regr d k 2) (p 0) (p 2)) (lower (regr d k 1) (regr d k 3) (p 1) (p 3))
      (upper (regr d k 0) (regr d k 2) (p 0) (p 2)) (upper (regr d k 1) (regr d k 3) (p 1) (p 3)))
    (score l k) (lit 0xCE6E6B28#32)

/-- A row's largest logit is at least the value the fold starts from. -/
theorem rowTop_ge (l : Fin 91 → EReal) : max (lit 0xFF800000#32) (rowTop l) = rowTop l := by
  apply max_eq_right
  unfold rowTop
  generalize lit 0xFF800000#32 = z
  exact (Finset.le_fold_max z).2 (Or.inl le_rfl)

/-- The 0/1 word of a comparison as a real: 1 where it holds. -/
theorem ofBit_real (P : Bool) :
    (FloatOps.sitofp (F := Ideal) .f32 (BitVec.setWidth 32 (BitVec.ofBool P)) : EReal) = if P then 1 else 0 := by
  cases P
  · show (((BitVec.setWidth 32 (BitVec.ofBool false)).toInt : ℝ) : EReal) = _; simp
  · show (((BitVec.setWidth 32 (BitVec.ofBool true)).toInt : ℝ) : EReal) = _; simp

/-- A row contracted against the indicator of one index is the row's element there. -/
theorem sum_pick {n : Nat} (f : Fin n → EReal) (g : Fin n → Bool) (j : Fin n) (hg : ∀ x, g x = true ↔ x = j) :
    ∑ x, f x * (FloatOps.sitofp (F := Ideal) .f32 (BitVec.setWidth 32 (BitVec.ofBool (g x))) : EReal) = f j := by
  rw [Finset.sum_eq_single j]
  · rw [ofBit_real, if_pos ((hg j).2 rfl), mul_one]
  · intro x _ hx; rw [ofBit_real, if_neg (fun h => hx ((hg x).1 h)), mul_zero]
  · intro h; exact absurd (Finset.mem_univ _) h

/-- The equality bit of two words. -/
theorem cmpi_eq_ofBool {w : Nat} (a b : BitVec w) : IntOp.cmpi .eq a b = BitVec.ofBool (decide (a = b)) := by
  rfl

/-- The strided column picked by the printed indicator `row = 4·column + c`. -/
theorem sum_strided (f : Fin 364 → EReal) (k : Fin 91) (c : Fin 4) :
    ∑ x : Fin 364, f x * (FloatOps.sitofp (F := Ideal) .f32 (BitVec.setWidth 32 (IntOp.cmpi .eq (BitVec.ofNat 32 x.val)
      (IntOp.addi (IntOp.muli 4#32 (BitVec.ofNat 32 k.val)) (BitVec.ofNat 32 c.val)))) : EReal) = regr f k c := by
  simp only [cmpi_eq_ofBool]
  refine sum_pick f _ ⟨4 * k.val + c.val, by omega⟩ fun x => ?_
  have hx := x.isLt; have hk := k.isLt; have hc := c.isLt
  rw [decide_eq_true_iff, Fin.ext_iff]
  show BitVec.ofNat 32 x.val = 4#32 * BitVec.ofNat 32 k.val + BitVec.ofNat 32 c.val ↔ x.val = 4 * k.val + c.val
  rw [← BitVec.toNat_inj, BitVec.toNat_add, BitVec.toNat_mul]
  simp only [BitVec.toNat_ofNat]
  omega

end Cert.Proof
-- ==== Proof.RefScores.lean ====
/-
  What the reference computes for one candidate: its masked score is `maskedScore` of the proposal's logits, regressions
  and corners, and its best score is the largest of the proposal's ninety.
-/
module

public import proofs.«01_k».proof.Proof.Gen.ScoresRefIdeal.Read
public import proofs.«01_k».proof.Proof.Cell
public import Idealize.ShloMosaic.Lib.Pipeline.ValueKit
public import Idealize.ShloMosaic.Lib.Pointwise

@[expose] public section
set_option maxRecDepth 16384
noncomputable section
namespace Cert.Proof
open Cert.ScoresRefIdeal Cert.ScoresRefIdeal.Read Cert.ScoresRefIdeal.Gen Idealize.ShloMosaic

/-- The row of logits of proposal `r` of image `b`. -/
abbrev logitRow (x0 : FVec Ideal S40000x91 .f32) (b : Fin 2) (r : Fin 20000) : Fin 91 → EReal :=
  fun k => x0 (ix2 ⟨b.val * 20000 + r.val, by omega⟩ k)
/-- The row of regressions of proposal `r` of image `b`. -/
abbrev regrRow (x1 : FVec Ideal S40000x364 .f32) (b : Fin 2) (r : Fin 20000) : Fin 364 → EReal :=
  fun k => x1 (ix2 ⟨b.val * 20000 + r.val, by omega⟩ k)
/-- The corners of proposal `r` of image `b`. -/
abbrev propRow (x2 : FVec Ideal S2x20000x4 .f32) (b : Fin 2) (r : Fin 20000) : Fin 4 → EReal :=
  fun k => x2 (ix3 b r k)
/-- The class of column `k` of the ninety that are kept: class 0 is dropped. -/
abbrev classOf (k : Fin 90) : Fin 91 := ⟨1 + k.val, by omega⟩

theorem ref_top_start (i) : val_main_v79 (F := Ideal) i = lit 0xFF800000#32 := by
  rw [val_main_v79_apply, val_main_cst_20_apply]; rfl

theorem ref_logit (x0 : FVec Ideal S40000x91 .f32) (b : Fin 2) (r : Fin 20000) (k : Fin 91) :
    val_main_v0 (F := Ideal) x0 (ix3 b r k) = logitRow x0 b r k := by
  pointwise [val_main_v0]

theorem ref_fold (x0 : FVec Ideal S40000x91 .f32) (b : Fin 2) (r : Fin 20000) :
    val_main_v78 (F := Ideal) x0 (ix2 b r) = rowTop (fun k => val_main_v0 (F := Ideal) x0 (ix3 b r k)) := by
  unfold val_main_v78
  generalize val_main_v0 (F := Ideal) x0 = y
  pointwise [val_main_cst_19]
  rfl

theorem ref_top (x0 : FVec Ideal S40000x91 .f32) (b : Fin 2) (r : Fin 20000) :
    val_main_v80 (F := Ideal) x0 (ix2 b r) = rowTop (logitRow x0 b r) := by
  have h : val_main_v78 (F := Ideal) x0 (ix2 b r) = rowTop (logitRow x0 b r) := by
    rw [ref_fold]; exact congrArg rowTop (funext fun k => ref_logit x0 b r k)
  rw [val_main_v80_apply, h, ref_top_start]
  exact (Ideal.maximumf_def _ _).trans (rowTop_ge _)

/-- The reference's softmax at a class of a proposal. -/
theorem ref_softmax (x0 : FVec Ideal S40000x91 .f32) (b : Fin 2) (r : Fin 20000) (k : Fin 91) :
    val_main_v88 (F := Ideal) x0 (ix3 b r k) = score (logitRow x0 b r) k := by
  have h := ref_top x0 b r
  have h0 := ref_logit x0 b r
  unfold val_main_v88 val_main_v87 val_main_v86 val_main_v85 val_main_v84 val_main_v83 val_main_v82 val_main_v81
  generalize val_main_v80 (F := Ideal) x0 = y at h
  generalize val_main_v0 (F := Ideal) x0 = z at h0
  pointwise [val_main_cst_21]
  rw [h]; simp only [h0]; rfl

/-- A regression of a class of a proposal, at the column the reference reads it from. -/
theorem ref_regr (x1 : FVec Ideal S40000x364 .f32) (b : Fin 2) (r : Fin 20000) (k : Fin 90) (c : Fin 4) (n : ℕ) (h : n < 364)
    (hn : n = 4 * (classOf k).val + c.val) :
    x1 (ix2 ⟨b.val * 20000 + r.val, by omega⟩ ⟨n, h⟩) = regr (regrRow x1 b r) (classOf k) c := by
  subst hn; rfl

/-- The reference's lower horizontal edge of the box of a class of a proposal. -/
theorem ref_lowx (x1 : FVec Ideal S40000x364 .f32) (x2 : FVec Ideal S2x20000x4 .f32) (b : Fin 2) (r : Fin 20000) (k : Fin 90) :
    val_main_v62 (F := Ideal) x1 x2 (ix3 b r k) = lower (regr (regrRow x1 b r) (classOf k) 0) (regr (regrRow x1 b r) (classOf k) 2) (propRow x2 b r 0) (propRow x2 b r 2) := by
  pointwise [val_main_v1, val_main_v2, val_main_v3, val_main_v4, val_main_v5, val_main_v6, val_main_v12, val_main_v13, val_main_cst, val_main_v14, val_main_v15, val_main_v16, val_main_v22, val_main_cst_1, val_main_v23, val_main_v24, val_main_v28, val_main_cst_3, val_main_v29, val_main_v30, val_main_cst_4, val_main_v31, val_main_v32, val_main_v38, val_main_v39, val_main_v40, val_main_v41, val_main_v42, val_main_v43, val_main_v50, val_main_v51, val_main_v52, val_main_v53, val_main_cst_7, val_main_v58, val_main_v59, val_main_v60, val_main_v61, val_main_cst_8, val_main_cst_9, val_main_call0_v0, val_main_call0_v1, val_main_call0_v2, val_main_call0_v3, val_main_call0_v4, val_main_v62, id_eq]
  rw [ref_regr x1 b r k 0 (4 * (1 + k.val)) _ (by show _ = 4 * (1 + k.val) + 0; omega), ref_regr x1 b r k 2 (2 + 4 * (1 + k.val)) _ (by show _ = 4 * (1 + k.val) + 2; omega)]
  rfl

/-- The reference's lower vertical edge of the box of a class of a proposal. -/
theorem ref_lowy (x1 : FVec Ideal S40000x364 .f32) (x2 : FVec Ideal S2x20000x4 .f32) (b : Fin 2) (r : Fin 20000) (k : Fin 90) :
    val_main_v67 (F := Ideal) x1 x2 (ix3 b r k) = lower (regr (regrRow x1 b r) (classOf k) 1) (regr (regrRow x1 b r) (classOf k) 3) (propRow x2 b r 1) (propRow x2 b r 3) := by
  pointwise [val_main_v1, val_main_v7, val_main_v8, val_main_v9, val_main_v10, val_main_v11, val_main_v17, val_main_v18, val_main_cst_0, val_main_v19, val_main_v20, val_main_v21, val_main_v25, val_main_cst_2, val_main_v26, val_main_v27, val_main_v33, val_main_cst_5, val_main_v34, val_main_v35, val_main_cst_6, val_main_v36, val_main_v37, val_main_v44, val_main_v45, val_main_v46, val_main_v47, val_main_v48, val_main_v49, val_main_v54, val_main_v55, val_main_v56, val_main_v57, val_main_cst_10, val_main_v63, val_main_v64, val_main_v65, val_main_v66, val_main_cst_11, val_main_cst_12, val_main_call1_v0, val_main_call1_v1, val_main_call1_v2, val_main_call1_v3, val_main_call1_v4, val_main_v67, id_eq]
  rw [ref_regr x1 b r k 1 (1 + 4 * (1 + k.val)) _ (by show _ = 4 * (1 + k.val) + 1; omega), ref_regr x1 b r k 3 (3 + 4 * (1 + k.val)) _ (by show _ = 4 * (1 + k.val) + 3; omega)]
  rfl

/-- The reference's upper horizontal edge of the box of a class of a proposal. -/
theorem ref_upx (x1 : FVec Ideal S40000x364 .f32) (x2 : FVec Ideal S2x20000x4 .f32) (b : Fin 2) (r : Fin 20000) (k : Fin 90) :
    val_main_v72 (F := Ideal) x1 x2 (ix3 b r k) = upper (regr (regrRow x1 b r) (classOf k) 0) (regr (regrRow x1 b r) (classOf k) 2) (propRow x2 b r 0) (propRow x2 b r 2) := by
  pointwise [val_main_v1, val_main_v2, val_main_v3, val_main_v4, val_main_v5, val_main_v6, val_main_v12, val_main_v13, val_main_cst, val_main_v14, val_main_v15, val_main_v16, val_main_v22, val_main_cst_1, val_main_v23, val_main_v24, val_main_v28, val_main_cst_3, val_main_v29, val_main_v30, val_main_cst_4, val_main_v31, val_main_v32, val_main_v38, val_main_v39, val_main_v40, val_main_v41, val_main_v42, val_main_v43, val_main_v50, val_main_v51, val_main_v52, val_main_v53, val_main_cst_13, val_main_v68, val_main_v69, val_main_v70, val_main_v71, val_main_cst_14, val_main_cst_15, val_main_call2_v0, val_main_call2_v1, val_main_call2_v2, val_main_call2_v3, val_main_call2_v4, val_main_v72, id_eq]
  rw [ref_regr x1 b r k 0 (4 * (1 + k.val)) _ (by show _ = 4 * (1 + k.val) + 0; omega), ref_regr x1 b r k 2 (2 + 4 * (1 + k.val)) _ (by show _ = 4 * (1 + k.val) + 2; omega)]
  rfl

/-- The reference's upper vertical edge of the box of a class of a proposal. -/
theorem ref_upy (x1 : FVec Ideal S40000x364 .f32) (x2 : FVec Ideal S2x20000x4 .f32) (b : Fin 2) (r : Fin 20000) (k : Fin 90) :
    val_main_v77 (F := Ideal) x1 x2 (ix3 b r k) = upper (regr (regrRow x1 b r) (classOf k) 1) (regr (regrRow x1 b r) (classOf k) 3) (propRow x2 b r 1) (propRow x2 b r 3) := by
  pointwise [val_main_v1, val_main_v7, val_main_v8, val_main_v9, val_main_v10, val_main_v11, val_main_v17, val_main_v18, val_main_cst_0, val_main_v19, val_main_v20, val_main_v21, val_main_v25, val_main_cst_2, val_main_v26, val_main_v27, val_main_v33, val_main_cst_5, val_main_v34, val_main_v35, val_main_cst_6, val_main_v36, val_main_v37, val_main_v44, val_main_v45, val_main_v46, val_main_v47, val_main_v48, val_main_v49, val_main_v54, val_main_v55, val_main_v56, val_main_v57, val_main_cst_16, val_main_v73, val_main_v74, val_main_v75, val_main_v76, val_main_cst_17, val_main_cst_18, val_main_call3_v0, val_main_call3_v1, val_main_call3_v2, val_main_call3_v3, val_main_call3_v4, val_main_v77, id_eq]
  rw [ref_regr x1 b r k 1 (1 + 4 * (1 + k.val)) _ (by show _ = 4 * (1 + k.val) + 1; omega), ref_regr x1 b r k 3 (3 + 4 * (1 + k.val)) _ (by show _ = 4 * (1 + k.val) + 3; omega)]
  rfl

/-- The reference's masked score of a candidate. -/
theorem ref_masked (x0 : FVec Ideal S40000x91 .f32) (x1 : FVec Ideal S40000x364 .f32) (x2 : FVec Ideal S2x20000x4 .f32)
    (b : Fin 2) (r : Fin 20000) (k : Fin 90) :
    val_main_v100 (F := Ideal) x0 x1 x2 (ix3 b r k)
      = maskedScore (logitRow x0 b r) (regrRow x1 b r) (propRow x2 b r) (classOf k) := by
  have h0 := ref_softmax x0 b r (classOf k)
  have h1 := ref_lowx x1 x2 b r k
  have h2 := ref_lowy x1 x2 b r k
  have h3 := ref_upx x1 x2 b r k
  have h4 := ref_upy x1 x2 b r k
  unfold val_main_v100 val_main_v99 val_main_v98 val_main_v95 val_main_v94 val_main_v91 val_main_v92 val_main_v96 val_main_v89
  generalize val_main_v88 (F := Ideal) x0 = y0 at h0
  generalize val_main_v62 (F := Ideal) x1 x2 = y1 at h1
  generalize val_main_v67 (F := Ideal) x1 x2 = y2 at h2
  generalize val_main_v72 (F := Ideal) x1 x2 = y3 at h3
  generalize val_main_v77 (F := Ideal) x1 x2 = y4 at h4
  pointwise [val_main_cst_22, val_main_v90, val_main_cst_23, val_main_v93, val_main_cst_24, val_main_v97, val_main_cst_25,
    val_main_call4_v0, val_main_call4_v1, id_eq]
  rw [h0, h1, h2, h3, h4]; rfl

/-- The largest masked score of a proposal. -/
def bestOf (f : Fin 90 → EReal) : EReal := Finset.fold max (lit 0xFF800000#32) (fun k => f k) Finset.univ

/-- The reference's best score of a proposal. -/
theorem ref_best (x0 : FVec Ideal S40000x91 .f32) (x1 : FVec Ideal S40000x364 .f32) (x2 : FVec Ideal S2x20000x4 .f32)
    (b : Fin 2) (r : Fin 20000) :
    val_main_v101 (F := Ideal) x0 x1 x2 (ix2 b r)
      = bestOf (fun k => maskedScore (logitRow x0 b r) (regrRow x1 b r) (propRow x2 b r) (classOf k)) := by
  have h := fun k => ref_masked x0 x1 x2 b r k
  unfold val_main_v101
  generalize val_main_v100 (F := Ideal) x0 x1 x2 = y at h
  pointwise [val_main_cst_26]
  simp only [h]; rfl

end Cert.Proof
-- ==== Proof.KernelScores.lean ====
/-
  What the kernel's call computes for one candidate: block by block the masked score and the best score of the proposals
  of the block, as the same functions of the proposal's row that the reference's operations are.
-/
module

public import proofs.«01_k».proof.Proof.Gen.ScoresIdeal.Value
public import proofs.«01_k».proof.Proof.RefScores
public import Idealize.ShloMosaic.Lib.Pipeline.ValueKit
public import Idealize.ShloMosaic.Lib.Pointwise

@[expose] public section
set_option maxRecDepth 16384
noncomputable section
namespace Cert.Proof
open Cert.ScoresIdeal Cert.ScoresIdeal.Gen Idealize.ShloMosaic Idealize.ShloMosaic.TcCoe Idealize.SL.Sem

/-- The kernel's softmax at a kept class of a row. -/
theorem ker_softmax (x0 : Vec Ideal S1x1000x91 .f32) (r : Fin 1000) (k : Fin 90) :
    k0_pay4 x0 (ix2 r k) = score (fun j => x0 (ix3 0 r j)) (classOf k) := by
  pointwise [k0_pay4]
  rfl

/-- The kernel's first offset: column 0 of each class over ten. -/
theorem ker_dx (x1 : Vec Ideal S1x1000x364 .f32) (r : Fin 1000) (k : Fin 90) :
    k0_pay6 x1 (ix2 r k) = Ideal.div (regr (fun j => x1 (ix3 0 r j)) (classOf k) 0) (lit 0x41200000#32) := by
  pointwise [k0_pay6, k0_pay5]
  exact congrArg (fun z => Ideal.div z _) (sum_strided (fun j => x1 (ix3 0 r j)) (classOf k) 0)

/-- The kernel's second offset: column 1 of each class over ten. -/
theorem ker_dy (x1 : Vec Ideal S1x1000x364 .f32) (r : Fin 1000) (k : Fin 90) :
    k0_pay7 x1 (ix2 r k) = Ideal.div (regr (fun j => x1 (ix3 0 r j)) (classOf k) 1) (lit 0x41200000#32) := by
  pointwise [k0_pay7, k0_pay5]
  exact congrArg (fun z => Ideal.div z _) (sum_strided (fun j => x1 (ix3 0 r j)) (classOf k) 1)

/-- The kernel's vertical log-scale: column 3 of each class over five, bounded above. -/
theorem ker_dh (x1 : Vec Ideal S1x1000x364 .f32) (r : Fin 1000) (k : Fin 90) :
    k0_pay9 (k0_pay5 x1) (iota .tc S364x91 32 [0] iota_S364x91_d0_w32) (iota .tc S364x91 32 [1] iota_S364x91_d1_w32) (ix2 r k)
      = min (Ideal.div (regr (fun j => x1 (ix3 0 r j)) (classOf k) 3) (lit 0x40A00000#32)) (lit 0x40845349#32) := by
  pointwise [k0_pay9, k0_pay5]
  exact congrArg (fun z => min (Ideal.div z _) _) (sum_strided (fun j => x1 (ix3 0 r j)) (classOf k) 3)

/-- The kernel's horizontal scale: the exponential of column 2 of each class over five, bounded above. -/
theorem ker_dw (x1 : Vec Ideal S1x1000x364 .f32) (r : Fin 1000) (k : Fin 90) :
    k0_pay17 (k0_pay5 x1) (iota .tc S364x91 32 [0] iota_S364x91_d0_w32) k0_pay8 2#32 (ix2 r k)
      = Ideal.exp (min (Ideal.div (regr (fun j => x1 (ix3 0 r j)) (classOf k) 2) (lit 0x40A00000#32)) (lit 0x40845349#32)) := by
  pointwise [k0_pay17, k0_pay5, k0_pay8]
  exact congrArg (fun z => Ideal.exp (min (Ideal.div z _) _)) (sum_strided (fun j => x1 (ix3 0 r j)) (classOf k) 2)

/-- The test of a candidate, from the kernel's three intermediate arrays. -/
theorem ker_passes (x0 : Vec Ideal S1x1000x91 .f32) (x1 : Vec Ideal S1x1000x364 .f32) (x2 : Vec Ideal S1x1000x4 .f32)
    (r : Fin 1000) (k : Fin 90) :
    k0_pay1 (k0_pay4 x0) (k0_pay18 (k0_pay4 x0)
        (k0_pay9 (k0_pay5 x1) (iota .tc S364x91 32 [0] iota_S364x91_d0_w32) (iota .tc S364x91 32 [1] iota_S364x91_d1_w32))
        (k0_pay13 x2) (k0_pay14 x2) (k0_pay15 (k0_pay6 x1) x2) (k0_pay16 (k0_pay7 x1) x2)
        (k0_pay17 (k0_pay5 x1) (iota .tc S364x91 32 [0] iota_S364x91_d0_w32) k0_pay8 2#32)) k0_pay19 (ix2 r k)
      = maskedScore (fun j => x0 (ix3 0 r j)) (fun j => x1 (ix3 0 r j)) (fun j => x2 (ix3 0 r j)) (classOf k) := by
  have h0 := ker_softmax x0 r k
  have h1 := ker_dx x1 r k
  have h2 := ker_dy x1 r k
  have h3 := ker_dh x1 r k
  have h4 := ker_dw x1 r k
  generalize k0_pay4 x0 = y0 at *
  generalize k0_pay6 x1 = y1 at *
  generalize k0_pay7 x1 = y2 at *
  generalize k0_pay9 (k0_pay5 x1) (iota .tc S364x91 32 [0] iota_S364x91_d0_w32) (iota .tc S364x91 32 [1] iota_S364x91_d1_w32) = y3 at *
  generalize k0_pay17 (k0_pay5 x1) (iota .tc S364x91 32 [0] iota_S364x91_d0_w32) k0_pay8 2#32 = y4 at *
  pointwise [k0_pay1, k0_pay18, k0_pay19, k0_pay13, k0_pay14, k0_pay15, k0_pay16, k0_pay10, k0_pay11, k0_pay12]
  rw [h0, h1, h2, h3, h4]; rfl

/-- The masked scores of every proposal, as an array. -/
def maskedArr (x0 : FVec Ideal S40000x91 .f32) (x1 : FVec Ideal S40000x364 .f32) (x2 : FVec Ideal S2x20000x4 .f32) :
    FVec Ideal S2x20000x90 .f32 :=
  fun i => maskedScore (logitRow x0 (i 0) (i 1)) (regrRow x1 (i 0) (i 1)) (propRow x2 (i 0) (i 1)) (classOf (i 2))

/-- The best score of every proposal, thousand by thousand. -/
def bestArr (x0 : FVec Ideal S40000x91 .f32) (x1 : FVec Ideal S40000x364 .f32) (x2 : FVec Ideal S2x20000x4 .f32) :
    FVec Ideal S40x1x1000 .f32 :=
  fun i => bestOf fun k => maskedArr x0 x1 x2
    (ix3 ⟨(i 0).val / 20, by have h : (i 0).val < 40 := (i 0).isLt; omega⟩
      ⟨(i 0).val % 20 * 1000 + (i 2).val, by have h : (i 2).val < 1000 := (i 2).isLt; omega⟩ k)

variable (m : (ℓ : Loc nD τ sig) → Buf (Elt Ideal) ℓ)

/-- The windows' index maps at every grid point. -/
theorem win_idx : ∀ t : Fin cfg0.N, win0_0.index t = ![t.val / 20, t.val % 20, 0] ∧ win0_1.index t = ![t.val / 20, t.val % 20, 0]
    ∧ win0_2.index t = ![t.val / 20, t.val % 20, 0] ∧ win0_3.index t = ![t.val / 20, t.val % 20, 0] ∧ win0_4.index t = ![t.val, 0, 0]
    ∧ t.val < 40 :=
  (by decide +kernel : ∀ t : Fin grid0.N, _)

/-- A block of the masked scores, element by element. -/
theorem blk_masked (x0 : Vec Ideal S1x1000x91 .f32) (x1 : Vec Ideal S1x1000x364 .f32) (x2 : Vec Ideal S1x1000x4 .f32)
    (r : Fin 1000) (k : Fin 90) :
    k0_pay1 (k0_pay21 x0 x1 x2) (k0_pay23 x0 x1 x2) (k0_pay24 x0 x1 x2) (ix2 r k)
      = maskedScore (fun j => x0 (ix3 0 r j)) (fun j => x1 (ix3 0 r j)) (fun j => x2 (ix3 0 r j)) (classOf k) := by
  have e0 : View.ld x0 r0_0 = x0 := View.ld_unit_lit _ x0 (by decide)
  have e1 : View.ld x1 r0_1 = x1 := View.ld_unit_lit _ x1 (by decide)
  have e2 : View.ld x2 r0_2 = x2 := View.ld_unit_lit _ x2 (by decide)
  unfold k0_pay21 k0_pay23 k0_pay24 k0_pay22 k0_pay21 k0_pay20
  rw [e0, e1, e2]
  exact ker_passes x0 x1 x2 r k

/-- The first block's rows: the logits of the block's proposals. -/
theorem iblk_logit (c : Dev nD) (t : Fin cfg0.N) (r : Fin 1000) (h0 : t.val / 20 < 2) (h1 : t.val % 20 * 1000 + r.val < 20000) :
    (fun j => (iblk m c 0 t : Vec Ideal S1x1000x91 .f32) (ix3 0 r j))
      = logitRow (m ((c : Thread nD τ).loc main_arg0)) ⟨t.val / 20, h0⟩ ⟨t.val % 20 * 1000 + r.val, h1⟩ := by
  funext j
  blk_point [iblk, V, win_idx t]

/-- The second block's rows: the regressions of the block's proposals. -/
theorem iblk_regr (c : Dev nD) (t : Fin cfg0.N) (r : Fin 1000) (h0 : t.val / 20 < 2) (h1 : t.val % 20 * 1000 + r.val < 20000) :
    (fun j => (iblk m c 1 t : Vec Ideal S1x1000x364 .f32) (ix3 0 r j))
      = regrRow (m ((c : Thread nD τ).loc main_arg1)) ⟨t.val / 20, h0⟩ ⟨t.val % 20 * 1000 + r.val, h1⟩ := by
  funext j
  blk_point [iblk, V, win_idx t]

/-- The third block's rows: the corners of the block's proposals. -/
theorem iblk_prop (c : Dev nD) (t : Fin cfg0.N) (r : Fin 1000) (h0 : t.val / 20 < 2) (h1 : t.val % 20 * 1000 + r.val < 20000) :
    (fun j => (iblk m c 2 t : Vec Ideal S1x1000x4 .f32) (ix3 0 r j))
      = propRow (m ((c : Thread nD τ).loc main_arg2)) ⟨t.val / 20, h0⟩ ⟨t.val % 20 * 1000 + r.val, h1⟩ := by
  funext j
  blk_point [iblk, V, win_idx t]

/-- What the block of a grid point holds for a candidate, in terms of the argument arrays. -/
theorem blk_masked_at (c : Dev nD) (t : Fin cfg0.N) (r : Fin 1000) (k : Fin 90) (h0 : t.val / 20 < 2)
    (h1 : t.val % 20 * 1000 + r.val < 20000) :
    k0_pay1 (k0_pay21 (iblk m c 0 t) (iblk m c 1 t) (iblk m c 2 t)) (k0_pay23 (iblk m c 0 t) (iblk m c 1 t) (iblk m c 2 t))
        (k0_pay24 (iblk m c 0 t) (iblk m c 1 t) (iblk m c 2 t)) (ix2 r k)
      = maskedArr (m ((c : Thread nD τ).loc main_arg0)) (m ((c : Thread nD τ).loc main_arg1)) (m ((c : Thread nD τ).loc main_arg2))
          (ix3 ⟨t.val / 20, h0⟩ ⟨t.val % 20 * 1000 + r.val, h1⟩ k) := by
  refine (blk_masked _ _ _ r k).trans ?_
  rw [iblk_logit m c t r h0 h1, iblk_regr m c t r h0 h1, iblk_prop m c t r h0 h1]
  rfl

/-- The masked-score array after the run. -/
theorem ker_masked_final (c : Dev nD) : (dats m 0 c).arrAt 3 (cfgs 0).N
    = maskedArr (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  have ht := (win_idx t).2.2.2.2.2
  obtain ⟨u, r, k, rfl⟩ : ∃ (u : Fin 1) (r : Fin 1000) (k : Fin 90), y = ix3 u r k := ⟨y 0, y 1, y 2, eq_ix3 y⟩
  have e : (((View.whole main_v2_0).slice (win0_3.rect t)).emb (ix3 u r k) : S2x20000x90.Idx)
      = ix3 ⟨t.val / 20, by omega⟩ ⟨t.val % 20 * 1000 + r.val, by omega⟩ k := by blk_ext [win_idx t]
  refine Eq.trans ?_ ((blk_masked_at m c t r k (by omega) (by omega)).trans (congrArg _ e.symm))
  generalize k0_pay21 (iblk m c 0 t) (iblk m c 1 t) (iblk m c 2 t) = a
  generalize k0_pay23 (iblk m c 0 t) (iblk m c 1 t) (iblk m c 2 t) = b
  generalize k0_pay24 (iblk m c 0 t) (iblk m c 1 t) (iblk m c 2 t) = d
  pointwise [k0_pay2]
/-- The best-score array after the run. -/
theorem ker_best_final (c : Dev nD) : (dats m 0 c).arrAt 4 (cfgs 0).N
    = bestArr (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  have ht := (win_idx t).2.2.2.2.2
  obtain ⟨u, v, r, rfl⟩ : ∃ (u : Fin 1) (v : Fin 1) (r : Fin 1000), y = ix3 u v r := ⟨y 0, y 1, y 2, eq_ix3 y⟩
  have e : (((View.whole main_v2_1).slice (win0_4.rect t)).emb (ix3 u v r) : S40x1x1000.Idx)
      = ix3 ⟨t.val, by omega⟩ 0 r := by blk_ext [win_idx t]
  have h := fun k => blk_masked_at m c t r k (by omega) (by omega)
  refine Eq.trans ?_ (congrArg _ e.symm)
  refine Eq.trans ?_ (congrArg bestOf (funext fun k => h k))
  generalize k0_pay21 (iblk m c 0 t) (iblk m c 1 t) (iblk m c 2 t) = a
  generalize k0_pay23 (iblk m c 0 t) (iblk m c 1 t) (iblk m c 2 t) = b
  generalize k0_pay24 (iblk m c 0 t) (iblk m c 1 t) (iblk m c 2 t) = d
  unfold k0_pay3
  generalize k0_pay1 a b d = z
  pointwise []
  rfl

end Cert.Proof
-- ==== Proof.NmsIdealLoop.lean ====
module

public import proofs.«01_k».proof.Proof.Gen.NmsIdeal.Skeleton
public import proofs.«01_k».proof.Proof.Gen.NmsIdeal.Launch
public import proofs.«01_k».proof.Proof.Gen.NmsIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.NmsIdeal.Hand

open Cert.NmsIdeal Cert.NmsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The eight bands of the overlap matrix, one per 128 rows. -/
structure Bands (F : FTy → Type) where
  b0 : Vec F S128x1024 .f32
  b1 : Vec F S128x1024 .f32
  b2 : Vec F S128x1024 .f32
  b3 : Vec F S128x1024 .f32
  b4 : Vec F S128x1024 .f32
  b5 : Vec F S128x1024 .f32
  b6 : Vec F S128x1024 .f32
  b7 : Vec F S128x1024 .f32

/-- One trip's new survivors. -/
def nextKeep (B : Bands F) (v323 keep : FVec F S1024 .f32) : FVec F S1024 .f32 :=
  k0_pay2 v323 keep (k0_pay109 keep B.b0 B.b1 B.b2 B.b3 B.b4) (k0_pay110 keep B.b5) B.b6 B.b7

/-- One trip's change flag. -/
def nextFlag (B : Bands F) (v323 keep : FVec F S1024 .f32) : BitVec 32 :=
  Scalar.fptosi 32 (k0_pay3 v323 keep (k0_pay109 keep B.b0 B.b1 B.b2 B.b3 B.b4) (k0_pay110 keep B.b5) B.b6 B.b7)

/-- The loop's test. -/
def goes (flag it : BitVec 32) : BitVec 1 :=
  Scalar.andi (Scalar.cmpi .sgt flag 0#32) (Scalar.cmpi .slt it 1025#32)

/-- The loop's result with at most `n` trips to run. -/
def loopOut (B : Bands F) (v323 : FVec F S1024 .f32) :
    ℕ → FVec F S1024 .f32 → BitVec 32 → BitVec 32 → FVec F S1024 .f32 × BitVec 32 × BitVec 32
  | 0, keep, flag, it => (keep, flag, it)
  | n + 1, keep, flag, it =>
    if goes flag it = 1#1 then loopOut B v323 n (nextKeep B v323 keep) (nextFlag B v323 keep) (Scalar.addi it 1#32)
    else (keep, flag, it)

section Label

variable (c : Dev nD) (i : grid0.Coords) (arg9 : Memref sig .tc .vmem S1024x1024 .f32) (harg9 : arg9.IsWhole)

/-- The bands as read from the scratch buffer's contents. -/
def bandsOf (g : Buf (Elt F) (arg9.view.loc (c : Thread nD τ))) : Bands F where
  b0 := arg9.view.readAt (Elt F) (Rect.unit (s := S1024x1024) ![0, 0] S128x1024.size inb_S1024x1024_S128x1024_0_0).toLoadRect g
  b1 := arg9.view.readAt (Elt F) (Rect.unit (s := S1024x1024) ![128, 0] S128x1024.size inb_S1024x1024_S128x1024_128_0).toLoadRect g
  b2 := arg9.view.readAt (Elt F) (Rect.unit (s := S1024x1024) ![256, 0] S128x1024.size inb_S1024x1024_S128x1024_256_0).toLoadRect g
  b3 := arg9.view.readAt (Elt F) (Rect.unit (s := S1024x1024) ![384, 0] S128x1024.size inb_S1024x1024_S128x1024_384_0).toLoadRect g
  b4 := arg9.view.readAt (Elt F) (Rect.unit (s := S1024x1024) ![512, 0] S128x1024.size inb_S1024x1024_S128x1024_512_0).toLoadRect g
  b5 := arg9.view.readAt (Elt F) (Rect.unit (s := S1024x1024) ![640, 0] S128x1024.size inb_S1024x1024_S128x1024_640_0).toLoadRect g
  b6 := arg9.view.readAt (Elt F) (Rect.unit (s := S1024x1024) ![768, 0] S128x1024.size inb_S1024x1024_S128x1024_768_0).toLoadRect g
  b7 := arg9.view.readAt (Elt F) (Rect.unit (s := S1024x1024) ![896, 0] S128x1024.size inb_S1024x1024_S128x1024_896_0).toLoadRect g

/-- The loop's specification with at most `n` trips to run: it keeps the scratch buffer as it is and returns the loop's result. -/
def spec (g : Buf (Elt F) (arg9.view.loc (c : Thread nD τ))) (v323 : FVec F S1024 .f32) (n : ℕ) (keep : FVec F S1024 .f32) (flag it : BitVec 32) :
    sWPT (MT nD τ sig Unit (Elt F) ℕ (UR sig nD τ) ℕ) (FVec F S1024 .f32 × BitVec 32 × BitVec 32) := do
  sWPT.consume (arg9.view.loc (c : Thread nD τ) ↦[arg9.view.set]{fullShare} g)
  sWPT.produce (arg9.view.loc (c : Thread nD τ) ↦[arg9.view.set]{fullShare} g)
  pure (loopOut (bandsOf c arg9 g) v323 n keep flag it)

theorem spec_apply (g : Buf (Elt F) (arg9.view.loc (c : Thread nD τ))) (v323 : FVec F S1024 .f32) (n : ℕ) (keep : FVec F S1024 .f32) (flag it : BitVec 32)
    (K : FVec F S1024 .f32 × BitVec 32 × BitVec 32 → sProp (MT nD τ sig Unit (Elt F) ℕ (UR sig nD τ) ℕ)) :
    spec c arg9 g v323 n keep flag it K
      = iprop((arg9.view.loc (c : Thread nD τ) ↦[arg9.view.set]{fullShare} g)
          ∗ ((arg9.view.loc (c : Thread nD τ) ↦[arg9.view.set]{fullShare} g) -∗ K (loopOut (bandsOf c arg9 g) v323 n keep flag it))) := rfl

/-- The loop's body meets the specification, by induction on the trips left. -/
theorem spec_le (g : Buf (Elt F) (arg9.view.loc (c : Thread nD τ))) (v323 : FVec F S1024 .f32) (E : Set ℕ) :
    ∀ n j : ℕ, j + n = 1025 → ∀ (keep : FVec F S1024 .f32) (flag : BitVec 32) (K : FVec F S1024 .f32 × BitVec 32 × BitVec 32 → sProp (MT nD τ sig Unit (Elt F) ℕ (UR sig nD τ) ℕ)),
      spec c arg9 g v323 n keep flag (BitVec.ofNat 32 j) K
      ⊢ wp frame (wpE (defs₀ (F := F)) Variants.nat (c : Thread nD τ) (some n)) E
          (defs₀ (F := F) .tc 1 ⟨i, arg9, harg9, v323, keep, flag, BitVec.ofNat 32 j⟩) K := by
  intro n
  induction n with
  | zero =>
    intro j hj keep flag K
    rw [spec_apply]
    show _ ⊢ wp frame (wpE (defs₀ (F := F)) Variants.nat (c : Thread nD τ) (some 0)) E
      (cc0_while1 i arg9 harg9 v323 keep flag (BitVec.ofNat 32 j)) K
    rw [cc0_while1_eq_skeleton]; unfold cc0_while1_skel
    have hj' : j = 1025 := by omega
    have htest : ¬ (Scalar.andi (Scalar.cmpi .sgt flag 0#32) (Scalar.cmpi .slt (BitVec.ofNat 32 j) 1025#32) = 1#1) := by
      rw [hj']
      have : Scalar.cmpi .slt (BitVec.ofNat 32 1025) 1025#32 = 0#1 := by decide
      rw [this]
      show ¬ ((Scalar.cmpi .sgt flag 0#32) &&& 0#1 = 1#1)
      rw [BitVec.and_zero]; decide
    simp only [htest, ↓reduceIte, Prog.pure_eq_ret]
    rw [loopOut]
    iintro ⟨H, Hk⟩
    rw [wp_ret]; imodintro
    iapply Hk
    iexact H
  | succ n ih =>
    intro j hj keep flag K
    rw [spec_apply]
    show _ ⊢ wp frame (wpE (defs₀ (F := F)) Variants.nat (c : Thread nD τ) (some (n + 1))) E
      (cc0_while1 i arg9 harg9 v323 keep flag (BitVec.ofNat 32 j)) K
    rw [cc0_while1_eq_skeleton]; unfold cc0_while1_skel
    by_cases htest : Scalar.andi (Scalar.cmpi .sgt flag 0#32) (Scalar.cmpi .slt (BitVec.ofNat 32 j) 1025#32) = 1#1
    · simp only [htest, ↓reduceIte]
      simp only [k0_part21_eq_skeleton]; unfold k0_part21_skel
      simp only [Prog.lift, Prog.bind_op, Prog.bind_ret, Prog.pure_eq_ret]
      rw [loopOut, if_pos (show goes flag (BitVec.ofNat 32 j) = 1#1 from htest)]
      have hjs : Scalar.addi (BitVec.ofNat 32 j) 1#32 = BitVec.ofNat 32 (j + 1) := by
        show BitVec.ofNat 32 j + 1#32 = _
        rw [BitVec.ofNat_add]
      rw [hjs]
      iintro ⟨H, Hk⟩
      iapply (wp_load Variants.nat (c : Thread nD τ) (some (n + 1)) E (m := arg9) (arg9.view.setOn_subset_set _)) $$ H; iintro H
      iapply (wp_load Variants.nat (c : Thread nD τ) (some (n + 1)) E (m := arg9) (arg9.view.setOn_subset_set _)) $$ H; iintro H
      iapply (wp_load Variants.nat (c : Thread nD τ) (some (n + 1)) E (m := arg9) (arg9.view.setOn_subset_set _)) $$ H; iintro H
      iapply (wp_load Variants.nat (c : Thread nD τ) (some (n + 1)) E (m := arg9) (arg9.view.setOn_subset_set _)) $$ H; iintro H
      iapply (wp_load Variants.nat (c : Thread nD τ) (some (n + 1)) E (m := arg9) (arg9.view.setOn_subset_set _)) $$ H; iintro H
      iapply (wp_load Variants.nat (c : Thread nD τ) (some (n + 1)) E (m := arg9) (arg9.view.setOn_subset_set _)) $$ H; iintro H
      iapply (wp_load Variants.nat (c : Thread nD τ) (some (n + 1)) E (m := arg9) (arg9.view.setOn_subset_set _)) $$ H; iintro H
      iapply (wp_load Variants.nat (c : Thread nD τ) (some (n + 1)) E (m := arg9) (arg9.view.setOn_subset_set _)) $$ H; iintro H
      iapply (wp_call_spec Variants.nat (c : Thread nD τ) (some (n + 1)) E
        (spec c arg9 g v323 n (nextKeep (bandsOf c arg9 g) v323 keep) (nextFlag (bandsOf c arg9 g) v323 keep) (BitVec.ofNat 32 (j + 1))) n
        (fun u hu => by cases hu; exact Nat.lt_succ_self n)
        (ih (j + 1) (by omega) _ _))
      rw [spec_apply]
      isplitl [H]
      · iexact H
      iintro H
      rw [wp_ret]; imodintro
      iapply Hk
      iexact H
    · simp only [htest, ↓reduceIte, Prog.pure_eq_ret]
      rw [loopOut, if_neg (show ¬ goes flag (BitVec.ofNat 32 j) = 1#1 from htest)]
      iintro ⟨H, Hk⟩
      rw [wp_ret]; imodintro
      iapply Hk
      iexact H

/-- A load past a store that does not meet it. -/
theorem readAt_skip (f : arg9.view.ty.Contents (Elt F)) (p : View.Piece (Elt F) S1024x1024 .f32) (L : List (View.Piece (Elt F) S1024x1024 .f32))
    (B : LoadRect S1024x1024) (h : LoadRect.disj p.1 B = true) :
    arg9.view.readAt (Elt F) B (arg9.view.writes (Elt F) f (p :: L)) = arg9.view.readAt (Elt F) B (arg9.view.writes (Elt F) f L) := by
  funext x
  rw [View.readAt_apply, View.readAt_apply]
  exact View.read_writes_cons_miss arg9.view f p L _ (LoadRect.idx_not_mem_of_disj h x)

/-- A load of what the newest store wrote. -/
theorem readAt_hit (f : arg9.view.ty.Contents (Elt F)) (r : Rect S1024x1024) (w : r.shape.Idx → Elt F .f32) (L : List (View.Piece (Elt F) S1024x1024 .f32)) :
    arg9.view.readAt (Elt F) r.toLoadRect (arg9.view.writes (Elt F) f (⟨r, w⟩ :: L)) = w := by
  funext x
  exact View.read_writes_cons_emb arg9.view f r w L x

/-- The eight stores that fill the scratch buffer, the last first. -/
def fills (w0 w1 w2 w3 w4 w5 w6 w7 : Vec F S128x1024 .f32) : List (View.Piece (Elt F) S1024x1024 .f32) :=
  [⟨Rect.unit (s := S1024x1024) ![896, 0] S128x1024.size inb_S1024x1024_S128x1024_896_0, w7⟩,
      ⟨Rect.unit (s := S1024x1024) ![768, 0] S128x1024.size inb_S1024x1024_S128x1024_768_0, w6⟩,
      ⟨Rect.unit (s := S1024x1024) ![640, 0] S128x1024.size inb_S1024x1024_S128x1024_640_0, w5⟩,
      ⟨Rect.unit (s := S1024x1024) ![512, 0] S128x1024.size inb_S1024x1024_S128x1024_512_0, w4⟩,
      ⟨Rect.unit (s := S1024x1024) ![384, 0] S128x1024.size inb_S1024x1024_S128x1024_384_0, w3⟩,
      ⟨Rect.unit (s := S1024x1024) ![256, 0] S128x1024.size inb_S1024x1024_S128x1024_256_0, w2⟩,
      ⟨Rect.unit (s := S1024x1024) ![128, 0] S128x1024.size inb_S1024x1024_S128x1024_128_0, w1⟩,
      ⟨Rect.unit (s := S1024x1024) ![0, 0] S128x1024.size inb_S1024x1024_S128x1024_0_0, w0⟩]

/-- Band 0 read back is the value stored there. -/
theorem band0_writes (f : arg9.view.ty.Contents (Elt F)) (w0 w1 w2 w3 w4 w5 w6 w7 : Vec F S128x1024 .f32) :
    arg9.view.readAt (Elt F) (Rect.unit (s := S1024x1024) ![0, 0] S128x1024.size inb_S1024x1024_S128x1024_0_0).toLoadRect (arg9.view.writes (Elt F) f (fills w0 w1 w2 w3 w4 w5 w6 w7)) = w0 := by
  unfold fills
  refine (readAt_skip arg9 f ⟨Rect.unit (s := S1024x1024) ![896, 0] S128x1024.size inb_S1024x1024_S128x1024_896_0, w7⟩ _ (Rect.unit (s := S1024x1024) ![0, 0] S128x1024.size inb_S1024x1024_S128x1024_0_0).toLoadRect (show LoadRect.disj (Rect.unit (s := S1024x1024) ![896, 0] S128x1024.size inb_S1024x1024_S128x1024_896_0) (Rect.unit (s := S1024x1024) ![0, 0] S128x1024.size inb_S1024x1024_S128x1024_0_0).toLoadRect = true by decide +kernel)).trans ?_
  refine (readAt_skip arg9 f ⟨Rect.unit (s := S1024x1024) ![768, 0] S128x1024.size inb_S1024x1024_S128x1024_768_0, w6⟩ _ (Rect.unit (s := S1024x1024) ![0, 0] S128x1024.size inb_S1024x1024_S128x1024_0_0).toLoadRect (show LoadRect.disj (Rect.unit (s := S1024x1024) ![768, 0] S128x1024.size inb_S1024x1024_S128x1024_768_0) (Rect.unit (s := S1024x1024) ![0, 0] S128x1024.size inb_S1024x1024_S128x1024_0_0).toLoadRect = true by decide +kernel)).trans ?_
  refine (readAt_skip arg9 f ⟨Rect.unit (s := S1024x1024) ![640, 0] S128x1024.size inb_S1024x1024_S128x1024_640_0, w5⟩ _ (Rect.unit (s := S1024x1024) ![0, 0] S128x1024.size inb_S1024x1024_S128x1024_0_0).toLoadRect (show LoadRect.disj (Rect.unit (s := S1024x1024) ![640, 0] S128x1024.size inb_S1024x1024_S128x1024_640_0) (Rect.unit (s := S1024x1024) ![0, 0] S128x1024.size inb_S1024x1024_S128x1024_0_0).toLoadRect = true by decide +kernel)).trans ?_
  refine (readAt_skip arg9 f ⟨Rect.unit (s := S1024x1024) ![512, 0] S128x1024.size inb_S1024x1024_S128x1024_512_0, w4⟩ _ (Rect.unit (s := S1024x1024) ![0, 0] S128x1024.size inb_S1024x1024_S128x1024_0_0).toLoadRect (show LoadRect.disj (Rect.unit (s := S1024x1024) ![512, 0] S128x1024.size inb_S1024x1024_S128x1024_512_0) (Rect.unit (s := S1024x1024) ![0, 0] S128x1024.size inb_S1024x1024_S128x1024_0_0).toLoadRect = true by decide +kernel)).trans ?_
  refine (readAt_skip arg9 f ⟨Rect.unit (s := S1024x1024) ![384, 0] S128x1024.size inb_S1024x1024_S128x1024_384_0, w3⟩ _ (Rect.unit (s := S1024x1024) ![0, 0] S128x1024.size inb_S1024x1024_S128x1024_0_0).toLoadRect (show LoadRect.disj (Rect.unit (s := S1024x1024) ![384, 0] S128x1024.size inb_S1024x1024_S128x1024_384_0) (Rect.unit (s := S1024x1024) ![0, 0] S128x1024.size inb_S1024x1024_S128x1024_0_0).toLoadRect = true by decide +kernel)).trans ?_
  refine (readAt_skip arg9 f ⟨Rect.unit (s := S1024x1024) ![256, 0] S128x1024.size inb_S1024x1024_S128x1024_256_0, w2⟩ _ (Rect.unit (s := S1024x1024) ![0, 0] S128x1024.size inb_S1024x1024_S128x1024_0_0).toLoadRect (show LoadRect.disj (Rect.unit (s := S1024x1024) ![256, 0] S128x1024.size inb_S1024x1024_S128x1024_256_0) (Rect.unit (s := S1024x1024) ![0, 0] S128x1024.size inb_S1024x1024_S128x1024_0_0).toLoadRect = true by decide +kernel)).trans ?_
  refine (readAt_skip arg9 f ⟨Rect.unit (s := S1024x1024) ![128, 0] S128x1024.size inb_S1024x1024_S128x1024_128_0, w1⟩ _ (Rect.unit (s := S1024x1024) ![0, 0] S128x1024.size inb_S1024x1024_S128x1024_0_0).toLoadRect (show LoadRect.disj (Rect.unit (s := S1024x1024) ![128, 0] S128x1024.size inb_S1024x1024_S128x1024_128_0) (Rect.unit (s := S1024x1024) ![0, 0] S128x1024.size inb_S1024x1024_S128x1024_0_0).toLoadRect = true by decide +kernel)).trans ?_
  exact readAt_hit arg9 f (Rect.unit (s := S1024x1024) ![0, 0] S128x1024.size inb_S1024x1024_S128x1024_0_0) w0 _

/-- Band 1 read back is the value stored there. -/
theorem band1_writes (f : arg9.view.ty.Contents (Elt F)) (w0 w1 w2 w3 w4 w5 w6 w7 : Vec F S128x1024 .f32) :
    arg9.view.readAt (Elt F) (Rect.unit (s := S1024x1024) ![128, 0] S128x1024.size inb_S1024x1024_S128x1024_128_0).toLoadRect (arg9.view.writes (Elt F) f (fills w0 w1 w2 w3 w4 w5 w6 w7)) = w1 := by
  unfold fills
  refine (readAt_skip arg9 f ⟨Rect.unit (s := S1024x1024) ![896, 0] S128x1024.size inb_S1024x1024_S128x1024_896_0, w7⟩ _ (Rect.unit (s := S1024x1024) ![128, 0] S128x1024.size inb_S1024x1024_S128x1024_128_0).toLoadRect (show LoadRect.disj (Rect.unit (s := S1024x1024) ![896, 0] S128x1024.size inb_S1024x1024_S128x1024_896_0) (Rect.unit (s := S1024x1024) ![128, 0] S128x1024.size inb_S1024x1024_S128x1024_128_0).toLoadRect = true by decide +kernel)).trans ?_
  refine (readAt_skip arg9 f ⟨Rect.unit (s := S1024x1024) ![768, 0] S128x1024.size inb_S1024x1024_S128x1024_768_0, w6⟩ _ (Rect.unit (s := S1024x1024) ![128, 0] S128x1024.size inb_S1024x1024_S128x1024_128_0).toLoadRect (show LoadRect.disj (Rect.unit (s := S1024x1024) ![768, 0] S128x1024.size inb_S1024x1024_S128x1024_768_0) (Rect.unit (s := S1024x1024) ![128, 0] S128x1024.size inb_S1024x1024_S128x1024_128_0).toLoadRect = true by decide +kernel)).trans ?_
  refine (readAt_skip arg9 f ⟨Rect.unit (s := S1024x1024) ![640, 0] S128x1024.size inb_S1024x1024_S128x1024_640_0, w5⟩ _ (Rect.unit (s := S1024x1024) ![128, 0] S128x1024.size inb_S1024x1024_S128x1024_128_0).toLoadRect (show LoadRect.disj (Rect.unit (s := S1024x1024) ![640, 0] S128x1024.size inb_S1024x1024_S128x1024_640_0) (Rect.unit (s := S1024x1024) ![128, 0] S128x1024.size inb_S1024x1024_S128x1024_128_0).toLoadRect = true by decide +kernel)).trans ?_
  refine (readAt_skip arg9 f ⟨Rect.unit (s := S1024x1024) ![512, 0] S128x1024.size inb_S1024x1024_S128x1024_512_0, w4⟩ _ (Rect.unit (s := S1024x1024) ![128, 0] S128x1024.size inb_S1024x1024_S128x1024_128_0).toLoadRect (show LoadRect.disj (Rect.unit (s := S1024x1024) ![512, 0] S128x1024.size inb_S1024x1024_S128x1024_512_0) (Rect.unit (s := S1024x1024) ![128, 0] S128x1024.size inb_S1024x1024_S128x1024_128_0).toLoadRect = true by decide +kernel)).trans ?_
  refine (readAt_skip arg9 f ⟨Rect.unit (s := S1024x1024) ![384, 0] S128x1024.size inb_S1024x1024_S128x1024_384_0, w3⟩ _ (Rect.unit (s := S1024x1024) ![128, 0] S128x1024.size inb_S1024x1024_S128x1024_128_0).toLoadRect (show LoadRect.disj (Rect.unit (s := S1024x1024) ![384, 0] S128x1024.size inb_S1024x1024_S128x1024_384_0) (Rect.unit (s := S1024x1024) ![128, 0] S128x1024.size inb_S1024x1024_S128x1024_128_0).toLoadRect = true by decide +kernel)).trans ?_
  refine (readAt_skip arg9 f ⟨Rect.unit (s := S1024x1024) ![256, 0] S128x1024.size inb_S1024x1024_S128x1024_256_0, w2⟩ _ (Rect.unit (s := S1024x1024) ![128, 0] S128x1024.size inb_S1024x1024_S128x1024_128_0).toLoadRect (show LoadRect.disj (Rect.unit (s := S1024x1024) ![256, 0] S128x1024.size inb_S1024x1024_S128x1024_256_0) (Rect.unit (s := S1024x1024) ![128, 0] S128x1024.size inb_S1024x1024_S128x1024_128_0).toLoadRect = true by decide +kernel)).trans ?_
  exact readAt_hit arg9 f (Rect.unit (s := S1024x1024) ![128, 0] S128x1024.size inb_S1024x1024_S128x1024_128_0) w1 _

/-- Band 2 read back is the value stored there. -/
theorem band2_writes (f : arg9.view.ty.Contents (Elt F)) (w0 w1 w2 w3 w4 w5 w6 w7 : Vec F S128x1024 .f32) :
    arg9.view.readAt (Elt F) (Rect.unit (s := S1024x1024) ![256, 0] S128x1024.size inb_S1024x1024_S128x1024_256_0).toLoadRect (arg9.view.writes (Elt F) f (fills w0 w1 w2 w3 w4 w5 w6 w7)) = w2 := by
  unfold fills
  refine (readAt_skip arg9 f ⟨Rect.unit (s := S1024x1024) ![896, 0] S128x1024.size inb_S1024x1024_S128x1024_896_0, w7⟩ _ (Rect.unit (s := S1024x1024) ![256, 0] S128x1024.size inb_S1024x1024_S128x1024_256_0).toLoadRect (show LoadRect.disj (Rect.unit (s := S1024x1024) ![896, 0] S128x1024.size inb_S1024x1024_S128x1024_896_0) (Rect.unit (s := S1024x1024) ![256, 0] S128x1024.size inb_S1024x1024_S128x1024_256_0).toLoadRect = true by decide +kernel)).trans ?_
  refine (readAt_skip arg9 f ⟨Rect.unit (s := S1024x1024) ![768, 0] S128x1024.size inb_S1024x1024_S128x1024_768_0, w6⟩ _ (Rect.unit (s := S1024x1024) ![256, 0] S128x1024.size inb_S1024x1024_S128x1024_256_0).toLoadRect (show LoadRect.disj (Rect.unit (s := S1024x1024) ![768, 0] S128x1024.size inb_S1024x1024_S128x1024_768_0) (Rect.unit (s := S1024x1024) ![256, 0] S128x1024.size inb_S1024x1024_S128x1024_256_0).toLoadRect = true by decide +kernel)).trans ?_
  refine (readAt_skip arg9 f ⟨Rect.unit (s := S1024x1024) ![640, 0] S128x1024.size inb_S1024x1024_S128x1024_640_0, w5⟩ _ (Rect.unit (s := S1024x1024) ![256, 0] S128x1024.size inb_S1024x1024_S128x1024_256_0).toLoadRect (show LoadRect.disj (Rect.unit (s := S1024x1024) ![640, 0] S128x1024.size inb_S1024x1024_S128x1024_640_0) (Rect.unit (s := S1024x1024) ![256, 0] S128x1024.size inb_S1024x1024_S128x1024_256_0).toLoadRect = true by decide +kernel)).trans ?_
  refine (readAt_skip arg9 f ⟨Rect.unit (s := S1024x1024) ![512, 0] S128x1024.size inb_S1024x1024_S128x1024_512_0, w4⟩ _ (Rect.unit (s := S1024x1024) ![256, 0] S128x1024.size inb_S1024x1024_S128x1024_256_0).toLoadRect (show LoadRect.disj (Rect.unit (s := S1024x1024) ![512, 0] S128x1024.size inb_S1024x1024_S128x1024_512_0) (Rect.unit (s := S1024x1024) ![256, 0] S128x1024.size inb_S1024x1024_S128x1024_256_0).toLoadRect = true by decide +kernel)).trans ?_
  refine (readAt_skip arg9 f ⟨Rect.unit (s := S1024x1024) ![384, 0] S128x1024.size inb_S1024x1024_S128x1024_384_0, w3⟩ _ (Rect.unit (s := S1024x1024) ![256, 0] S128x1024.size inb_S1024x1024_S128x1024_256_0).toLoadRect (show LoadRect.disj (Rect.unit (s := S1024x1024) ![384, 0] S128x1024.size inb_S1024x1024_S128x1024_384_0) (Rect.unit (s := S1024x1024) ![256, 0] S128x1024.size inb_S1024x1024_S128x1024_256_0).toLoadRect = true by decide +kernel)).trans ?_
  exact readAt_hit arg9 f (Rect.unit (s := S1024x1024) ![256, 0] S128x1024.size inb_S1024x1024_S128x1024_256_0) w2 _

/-- Band 3 read back is the value stored there. -/
theorem band3_writes (f : arg9.view.ty.Contents (Elt F)) (w0 w1 w2 w3 w4 w5 w6 w7 : Vec F S128x1024 .f32) :
    arg9.view.readAt (Elt F) (Rect.unit (s := S1024x1024) ![384, 0] S128x1024.size inb_S1024x1024_S128x1024_384_0).toLoadRect (arg9.view.writes (Elt F) f (fills w0 w1 w2 w3 w4 w5 w6 w7)) = w3 := by
  unfold fills
  refine (readAt_skip arg9 f ⟨Rect.unit (s := S1024x1024) ![896, 0] S128x1024.size inb_S1024x1024_S128x1024_896_0, w7⟩ _ (Rect.unit (s := S1024x1024) ![384, 0] S128x1024.size inb_S1024x1024_S128x1024_384_0).toLoadRect (show LoadRect.disj (Rect.unit (s := S1024x1024) ![896, 0] S128x1024.size inb_S1024x1024_S128x1024_896_0) (Rect.unit (s := S1024x1024) ![384, 0] S128x1024.size inb_S1024x1024_S128x1024_384_0).toLoadRect = true by decide +kernel)).trans ?_
  refine (readAt_skip arg9 f ⟨Rect.unit (s := S1024x1024) ![768, 0] S128x1024.size inb_S1024x1024_S128x1024_768_0, w6⟩ _ (Rect.unit (s := S1024x1024) ![384, 0] S128x1024.size inb_S1024x1024_S128x1024_384_0).toLoadRect (show LoadRect.disj (Rect.unit (s := S1024x1024) ![768, 0] S128x1024.size inb_S1024x1024_S128x1024_768_0) (Rect.unit (s := S1024x1024) ![384, 0] S128x1024.size inb_S1024x1024_S128x1024_384_0).toLoadRect = true by decide +kernel)).trans ?_
  refine (readAt_skip arg9 f ⟨Rect.unit (s := S1024x1024) ![640, 0] S128x1024.size inb_S1024x1024_S128x1024_640_0, w5⟩ _ (Rect.unit (s := S1024x1024) ![384, 0] S128x1024.size inb_S1024x1024_S128x1024_384_0).toLoadRect (show LoadRect.disj (Rect.unit (s := S1024x1024) ![640, 0] S128x1024.size inb_S1024x1024_S128x1024_640_0) (Rect.unit (s := S1024x1024) ![384, 0] S128x1024.size inb_S1024x1024_S128x1024_384_0).toLoadRect = true by decide +kernel)).trans ?_
  refine (readAt_skip arg9 f ⟨Rect.unit (s := S1024x1024) ![512, 0] S128x1024.size inb_S1024x1024_S128x1024_512_0, w4⟩ _ (Rect.unit (s := S1024x1024) ![384, 0] S128x1024.size inb_S1024x1024_S128x1024_384_0).toLoadRect (show LoadRect.disj (Rect.unit (s := S1024x1024) ![512, 0] S128x1024.size inb_S1024x1024_S128x1024_512_0) (Rect.unit (s := S1024x1024) ![384, 0] S128x1024.size inb_S1024x1024_S128x1024_384_0).toLoadRect = true by decide +kernel)).trans ?_
  exact readAt_hit arg9 f (Rect.unit (s := S1024x1024) ![384, 0] S128x1024.size inb_S1024x1024_S128x1024_384_0) w3 _

/-- Band 4 read back is the value stored there. -/
theorem band4_writes (f : arg9.view.ty.Contents (Elt F)) (w0 w1 w2 w3 w4 w5 w6 w7 : Vec F S128x1024 .f32) :
    arg9.view.readAt (Elt F) (Rect.unit (s := S1024x1024) ![512, 0] S128x1024.size inb_S1024x1024_S128x1024_512_0).toLoadRect (arg9.view.writes (Elt F) f (fills w0 w1 w2 w3 w4 w5 w6 w7)) = w4 := by
  unfold fills
  refine (readAt_skip arg9 f ⟨Rect.unit (s := S1024x1024) ![896, 0] S128x1024.size inb_S1024x1024_S128x1024_896_0, w7⟩ _ (Rect.unit (s := S1024x1024) ![512, 0] S128x1024.size inb_S1024x1024_S128x1024_512_0).toLoadRect (show LoadRect.disj (Rect.unit (s := S1024x1024) ![896, 0] S128x1024.size inb_S1024x1024_S128x1024_896_0) (Rect.unit (s := S1024x1024) ![512, 0] S128x1024.size inb_S1024x1024_S128x1024_512_0).toLoadRect = true by decide +kernel)).trans ?_
  refine (readAt_skip arg9 f ⟨Rect.unit (s := S1024x1024) ![768, 0] S128x1024.size inb_S1024x1024_S128x1024_768_0, w6⟩ _ (Rect.unit (s := S1024x1024) ![512, 0] S128x1024.size inb_S1024x1024_S128x1024_512_0).toLoadRect (show LoadRect.disj (Rect.unit (s := S1024x1024) ![768, 0] S128x1024.size inb_S1024x1024_S128x1024_768_0) (Rect.unit (s := S1024x1024) ![512, 0] S128x1024.size inb_S1024x1024_S128x1024_512_0).toLoadRect = true by decide +kernel)).trans ?_
  refine (readAt_skip arg9 f ⟨Rect.unit (s := S1024x1024) ![640, 0] S128x1024.size inb_S1024x1024_S128x1024_640_0, w5⟩ _ (Rect.unit (s := S1024x1024) ![512, 0] S128x1024.size inb_S1024x1024_S128x1024_512_0).toLoadRect (show LoadRect.disj (Rect.unit (s := S1024x1024) ![640, 0] S128x1024.size inb_S1024x1024_S128x1024_640_0) (Rect.unit (s := S1024x1024) ![512, 0] S128x1024.size inb_S1024x1024_S128x1024_512_0).toLoadRect = true by decide +kernel)).trans ?_
  exact readAt_hit arg9 f (Rect.unit (s := S1024x1024) ![512, 0] S128x1024.size inb_S1024x1024_S128x1024_512_0) w4 _

/-- Band 5 read back is the value stored there. -/
theorem band5_writes (f : arg9.view.ty.Contents (Elt F)) (w0 w1 w2 w3 w4 w5 w6 w7 : Vec F S128x1024 .f32) :
    arg9.view.readAt (Elt F) (Rect.unit (s := S1024x1024) ![640, 0] S128x1024.size inb_S1024x1024_S128x1024_640_0).toLoadRect (arg9.view.writes (Elt F) f (fills w0 w1 w2 w3 w4 w5 w6 w7)) = w5 := by
  unfold fills
  refine (readAt_skip arg9 f ⟨Rect.unit (s := S1024x1024) ![896, 0] S128x1024.size inb_S1024x1024_S128x1024_896_0, w7⟩ _ (Rect.unit (s := S1024x1024) ![640, 0] S128x1024.size inb_S1024x1024_S128x1024_640_0).toLoadRect (show LoadRect.disj (Rect.unit (s := S1024x1024) ![896, 0] S128x1024.size inb_S1024x1024_S128x1024_896_0) (Rect.unit (s := S1024x1024) ![640, 0] S128x1024.size inb_S1024x1024_S128x1024_640_0).toLoadRect = true by decide +kernel)).trans ?_
  refine (readAt_skip arg9 f ⟨Rect.unit (s := S1024x1024) ![768, 0] S128x1024.size inb_S1024x1024_S128x1024_768_0, w6⟩ _ (Rect.unit (s := S1024x1024) ![640, 0] S128x1024.size inb_S1024x1024_S128x1024_640_0).toLoadRect (show LoadRect.disj (Rect.unit (s := S1024x1024) ![768, 0] S128x1024.size inb_S1024x1024_S128x1024_768_0) (Rect.unit (s := S1024x1024) ![640, 0] S128x1024.size inb_S1024x1024_S128x1024_640_0).toLoadRect = true by decide +kernel)).trans ?_
  exact readAt_hit arg9 f (Rect.unit (s := S1024x1024) ![640, 0] S128x1024.size inb_S1024x1024_S128x1024_640_0) w5 _

/-- Band 6 read back is the value stored there. -/
theorem band6_writes (f : arg9.view.ty.Contents (Elt F)) (w0 w1 w2 w3 w4 w5 w6 w7 : Vec F S128x1024 .f32) :
    arg9.view.readAt (Elt F) (Rect.unit (s := S1024x1024) ![768, 0] S128x1024.size inb_S1024x1024_S128x1024_768_0).toLoadRect (arg9.view.writes (Elt F) f (fills w0 w1 w2 w3 w4 w5 w6 w7)) = w6 := by
  unfold fills
  refine (readAt_skip arg9 f ⟨Rect.unit (s := S1024x1024) ![896, 0] S128x1024.size inb_S1024x1024_S128x1024_896_0, w7⟩ _ (Rect.unit (s := S1024x1024) ![768, 0] S128x1024.size inb_S1024x1024_S128x1024_768_0).toLoadRect (show LoadRect.disj (Rect.unit (s := S1024x1024) ![896, 0] S128x1024.size inb_S1024x1024_S128x1024_896_0) (Rect.unit (s := S1024x1024) ![768, 0] S128x1024.size inb_S1024x1024_S128x1024_768_0).toLoadRect = true by decide +kernel)).trans ?_
  exact readAt_hit arg9 f (Rect.unit (s := S1024x1024) ![768, 0] S128x1024.size inb_S1024x1024_S128x1024_768_0) w6 _

/-- Band 7 read back is the value stored there. -/
theorem band7_writes (f : arg9.view.ty.Contents (Elt F)) (w0 w1 w2 w3 w4 w5 w6 w7 : Vec F S128x1024 .f32) :
    arg9.view.readAt (Elt F) (Rect.unit (s := S1024x1024) ![896, 0] S128x1024.size inb_S1024x1024_S128x1024_896_0).toLoadRect (arg9.view.writes (Elt F) f (fills w0 w1 w2 w3 w4 w5 w6 w7)) = w7 := by
  unfold fills
  exact readAt_hit arg9 f (Rect.unit (s := S1024x1024) ![896, 0] S128x1024.size inb_S1024x1024_S128x1024_896_0) w7 _

/-- The bands read back from the eight stores that filled the scratch buffer are the stored values. -/
theorem bandsOf_writes (f : Buf (Elt F) (arg9.view.loc (c : Thread nD τ))) (w0 w1 w2 w3 w4 w5 w6 w7 : Vec F S128x1024 .f32) :
    bandsOf c arg9 (arg9.view.writes (Elt F) f (fills w0 w1 w2 w3 w4 w5 w6 w7)) = ⟨w0, w1, w2, w3, w4, w5, w6, w7⟩ := by
  unfold bandsOf
  rw [band0_writes, band1_writes, band2_writes, band3_writes, band4_writes, band5_writes, band6_writes, band7_writes]

/-- `bandsOf_writes`, the eight stores spelt out. -/
theorem bandsOf_list (f : Buf (Elt F) (arg9.view.loc (c : Thread nD τ))) (w0 w1 w2 w3 w4 w5 w6 w7 : Vec F S128x1024 .f32) :
    bandsOf c arg9 (arg9.view.writes (Elt F) f [⟨Rect.unit (s := S1024x1024) ![896, 0] S128x1024.size inb_S1024x1024_S128x1024_896_0, w7⟩,
      ⟨Rect.unit (s := S1024x1024) ![768, 0] S128x1024.size inb_S1024x1024_S128x1024_768_0, w6⟩,
      ⟨Rect.unit (s := S1024x1024) ![640, 0] S128x1024.size inb_S1024x1024_S128x1024_640_0, w5⟩,
      ⟨Rect.unit (s := S1024x1024) ![512, 0] S128x1024.size inb_S1024x1024_S128x1024_512_0, w4⟩,
      ⟨Rect.unit (s := S1024x1024) ![384, 0] S128x1024.size inb_S1024x1024_S128x1024_384_0, w3⟩,
      ⟨Rect.unit (s := S1024x1024) ![256, 0] S128x1024.size inb_S1024x1024_S128x1024_256_0, w2⟩,
      ⟨Rect.unit (s := S1024x1024) ![128, 0] S128x1024.size inb_S1024x1024_S128x1024_128_0, w1⟩,
      ⟨Rect.unit (s := S1024x1024) ![0, 0] S128x1024.size inb_S1024x1024_S128x1024_0_0, w0⟩]) = ⟨w0, w1, w2, w3, w4, w5, w6, w7⟩ :=
  bandsOf_writes c arg9 f w0 w1 w2 w3 w4 w5 w6 w7

end Label

end Cert.NmsIdeal.Hand

end
-- ==== Proof.NmsIdealBody.lean ====
module

public import proofs.«01_k».proof.Proof.NmsIdealLoop

@[expose] public section

set_option maxRecDepth 16384

noncomputable section

namespace Cert.NmsIdeal.Hand

open Cert.NmsIdeal Cert.NmsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- What the body leaves in each output and in the scratch buffer, as pieces, with the proof that it runs so. -/
noncomputable def kernelRun (c : Dev nD) (i : grid0.Coords) (arg1 : Memref sig .tc .vmem S1x1x1024 .f32) (harg1 : arg1.IsWhole) (arg2 : Memref sig .tc .vmem S1x1x1024 .i32) (harg2 : arg2.IsWhole) (arg3 : Memref sig .tc .vmem S1x1x1024 .i32) (harg3 : arg3.IsWhole) (arg4 : Memref sig .tc .vmem S1x1024x364 .f32) (harg4 : arg4.IsWhole) (arg5 : Memref sig .tc .vmem S1x1024x4 .f32) (harg5 : arg5.IsWhole) (arg6 : Memref sig .tc .vmem S1x4x128 .f32) (harg6 : arg6.IsWhole) (arg7 : Memref sig .tc .vmem S1x1x128 .f32) (harg7 : arg7.IsWhole) (arg8 : Memref sig .tc .vmem S1x1x128 .i32) (harg8 : arg8.IsWhole) (arg9 : Memref sig .tc .vmem S1024x1024 .f32) (harg9 : arg9.IsWhole)
    (x0 : Vec F S1x1x1024 .f32) (x1 : Vec F S1x1x1024 .i32) (x2 : Vec F S1x1x1024 .i32) (x3 : Vec F S1x1024x364 .f32) (x4 : Vec F S1x1024x4 .f32) :
    Σ' (L5 : List (View.Piece (Elt F) S1x4x128 .f32)), Σ' (L6 : List (View.Piece (Elt F) S1x1x128 .f32)), Σ' (L7 : List (View.Piece (Elt F) S1x1x128 .i32)), { LT0 : List (View.Piece (Elt F) S1024x1024 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0)) -∗ K ⟨⟩))
          ⊢ wp frame (wpE (defs₀ (F := F)) Variants.nat c none) E (cc0__k3_body i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__k3_body_eq_skeleton]; unfold cc0__k3_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    iapply (wp_call_spec Variants.nat (c : Thread nD τ) none E (spec c arg9 _ _ 1025 _ 1#32 0#32) 1025
      (fun u hu => nomatch hu) (fun K' => spec_le c i arg9 harg9 _ _ E 1025 0 rfl _ _ K'))
    rw [spec_apply]
    isplitl [HS0]
    · iexact HS0
    iintro HS0
    rw [bandsOf_list c arg9]
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact HS0

end Cert.NmsIdeal.Hand

end
-- ==== Proof.NmsIdealLaunch.lean ====
module

public import proofs.«01_k».proof.Proof.NmsIdealBody
public import Idealize.ShloMosaic.Lib.Claim

@[expose] public section

set_option maxRecDepth 16384

noncomputable section

namespace Cert.NmsIdeal.Hand

open Cert.NmsIdeal Cert.NmsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The buffers' contents when the region is entered: the launch memory after the host operations before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- These host operations allocate nothing. -/
theorem hostOps0_fresh : (hostOps0 : List (HloOp τ sig (Elt F))).Forall fun op => op.fresh = ∅ := by
  simp only [List.Forall]; repeat' constructor
/-- These host operations allocate nothing. -/
theorem hostOps1_fresh : (hostOps1 : List (HloOp τ sig (Elt F))).Forall fun op => op.fresh = ∅ := by
  simp only [List.Forall]; repeat' constructor

set_option maxHeartbeats 800000 in
/-- The entry function is the host operations, the region, and the host operations after it. -/
theorem hmain (𝒱₀ : Variants) : Pipeline.HMainK (Ix := Unit) (Name := ℕ) (U := UR sig nD τ) (Lvl := ℕ) (cfgs (F := F)) 0 defs₀ 𝒱₀ m (main (F := F)) (V m)
      (fun _ => Pipeline.chain ([hostOps1].map StableHlo.seq)) :=
  Pipeline.hmain_around (cfgs (F := F)) 0 defs₀ 𝒱₀ m main [hostOps0] [hostOps1] (by simp only [List.Forall]; exact hostOps0_sub)
    (by simp only [List.Forall]; exact hostOps0_fresh) main_chain

/-- The host operations after the region touch only the region's arrays and the buffers it leaves alone. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- They write none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- Argument 0 is as launched when the region is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 1 is as launched when the region is entered. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 2 is as launched when the region is entered. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 3 is as launched when the region is entered. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 4 is as launched when the region is entered. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 0 is as launched at the end. -/
theorem W_main_arg0 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Argument 1 is as launched at the end. -/
theorem W_main_arg1 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Argument 2 is as launched at the end. -/
theorem W_main_arg2 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- A window's block at a grid point, read off its array. -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- Input window 0's staging buffer holds its block before the body, for any proof data that leaves it there. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block before the body, for any proof data that leaves it there. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block before the body, for any proof data that leaves it there. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block before the body, for any proof data that leaves it there. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block before the body, for any proof data that leaves it there. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The frame follows from a run to the pipeline's final state. -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (Pipeline.afterTail₀ (cfgs (F := F)) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (Pipeline.mem_restRefs_of main_arg0 (by decide) (show ∀ w : Fin 8, (spec0 w).arr.view.ref ≠ main_arg0 by decide))).trans (W_main_arg0 m dats c)),
      (((h c).2 main_arg1 (Pipeline.mem_restRefs_of main_arg1 (by decide) (show ∀ w : Fin 8, (spec0 w).arr.view.ref ≠ main_arg1 by decide))).trans (W_main_arg1 m dats c)),
      (((h c).2 main_arg2 (Pipeline.mem_restRefs_of main_arg2 (by decide) (show ∀ w : Fin 8, (spec0 w).arr.view.ref ≠ main_arg2 by decide))).trans (W_main_arg2 m dats c)),
      ((h c).1 3).trans (((dats 0 c).arrAt_in 3 rfl _).trans ((hA c 3).trans (V_main_arg3 m c))),
      ((h c).1 4).trans (((dats 0 c).arrAt_in 4 rfl _).trans ((hA c 4).trans (V_main_arg4 m c)))⟩) h

/-- Output 5's staging buffer as a view. -/
abbrev VO0_5 : View sig .tc .vmem S1x4x128 .f32 := (Memref.whole cc0_stg5_0 : Memref sig .tc .vmem S1x4x128 .f32).view
/-- Output 6's staging buffer as a view. -/
abbrev VO0_6 : View sig .tc .vmem S1x1x128 .f32 := (Memref.whole cc0_stg6_0 : Memref sig .tc .vmem S1x1x128 .f32).view
/-- Output 7's staging buffer as a view. -/
abbrev VO0_7 : View sig .tc .vmem S1x1x128 .i32 := (Memref.whole cc0_stg7_0 : Memref sig .tc .vmem S1x1x128 .i32).view
/-- Window 0's staging memref at a grid point. -/
abbrev ms0_0 (t : Fin (cfg0 (F := F)).N) : Memref sig .tc .vmem S1x1x1024 .f32 := win0_0.stage (cfg0.slots t 0)
/-- It is a whole buffer. -/
abbrev hs0_0 (t : Fin (cfg0 (F := F)).N) : (ms0_0 t).IsWhole := hstage0_0 ((cfg0.slots t 0).cast nbuf0_0)
/-- Window 1's staging memref at a grid point. -/
abbrev ms0_1 (t : Fin (cfg0 (F := F)).N) : Memref sig .tc .vmem S1x1x1024 .i32 := win0_1.stage (cfg0.slots t 1)
/-- It is a whole buffer. -/
abbrev hs0_1 (t : Fin (cfg0 (F := F)).N) : (ms0_1 t).IsWhole := hstage0_1 ((cfg0.slots t 1).cast nbuf0_1)
/-- Window 2's staging memref at a grid point. -/
abbrev ms0_2 (t : Fin (cfg0 (F := F)).N) : Memref sig .tc .vmem S1x1x1024 .i32 := win0_2.stage (cfg0.slots t 2)
/-- It is a whole buffer. -/
abbrev hs0_2 (t : Fin (cfg0 (F := F)).N) : (ms0_2 t).IsWhole := hstage0_2 ((cfg0.slots t 2).cast nbuf0_2)
/-- Window 3's staging memref at a grid point. -/
abbrev ms0_3 (t : Fin (cfg0 (F := F)).N) : Memref sig .tc .vmem S1x1024x364 .f32 := win0_3.stage (cfg0.slots t 3)
/-- It is a whole buffer. -/
abbrev hs0_3 (t : Fin (cfg0 (F := F)).N) : (ms0_3 t).IsWhole := hstage0_3 ((cfg0.slots t 3).cast nbuf0_3)
/-- Window 4's staging memref at a grid point. -/
abbrev ms0_4 (t : Fin (cfg0 (F := F)).N) : Memref sig .tc .vmem S1x1024x4 .f32 := win0_4.stage (cfg0.slots t 4)
/-- It is a whole buffer. -/
abbrev hs0_4 (t : Fin (cfg0 (F := F)).N) : (ms0_4 t).IsWhole := hstage0_4 ((cfg0.slots t 4).cast nbuf0_4)
/-- Window 5's staging memref at a grid point. -/
abbrev ms0_5 (t : Fin (cfg0 (F := F)).N) : Memref sig .tc .vmem S1x4x128 .f32 := win0_5.stage (cfg0.slots t 5)
/-- It is a whole buffer. -/
abbrev hs0_5 (t : Fin (cfg0 (F := F)).N) : (ms0_5 t).IsWhole := hstage0_5 ((cfg0.slots t 5).cast nbuf0_5)
/-- Window 6's staging memref at a grid point. -/
abbrev ms0_6 (t : Fin (cfg0 (F := F)).N) : Memref sig .tc .vmem S1x1x128 .f32 := win0_6.stage (cfg0.slots t 6)
/-- It is a whole buffer. -/
abbrev hs0_6 (t : Fin (cfg0 (F := F)).N) : (ms0_6 t).IsWhole := hstage0_6 ((cfg0.slots t 6).cast nbuf0_6)
/-- Window 7's staging memref at a grid point. -/
abbrev ms0_7 (t : Fin (cfg0 (F := F)).N) : Memref sig .tc .vmem S1x1x128 .i32 := win0_7.stage (cfg0.slots t 7)
/-- It is a whole buffer. -/
abbrev hs0_7 (t : Fin (cfg0 (F := F)).N) : (ms0_7 t).IsWhole := hstage0_7 ((cfg0.slots t 7).cast nbuf0_7)
/-- The scratch memref. -/
abbrev scM0_0 : Memref sig .tc .vmem S1024x1024 .f32 := Memref.whole cc0_scratch0

/-- The invariant spelt out: the scratch buffer at some contents and the generator register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-- The stores into output 5 cover its block. -/
theorem cover5 (c : Dev nD) (i : grid0.Coords) (arg1 : Memref sig .tc .vmem S1x1x1024 .f32) (harg1 : arg1.IsWhole) (arg2 : Memref sig .tc .vmem S1x1x1024 .i32) (harg2 : arg2.IsWhole) (arg3 : Memref sig .tc .vmem S1x1x1024 .i32) (harg3 : arg3.IsWhole) (arg4 : Memref sig .tc .vmem S1x1024x364 .f32) (harg4 : arg4.IsWhole) (arg5 : Memref sig .tc .vmem S1x1024x4 .f32) (harg5 : arg5.IsWhole) (arg6 : Memref sig .tc .vmem S1x4x128 .f32) (harg6 : arg6.IsWhole) (arg7 : Memref sig .tc .vmem S1x1x128 .f32) (harg7 : arg7.IsWhole) (arg8 : Memref sig .tc .vmem S1x1x128 .i32) (harg8 : arg8.IsWhole) (arg9 : Memref sig .tc .vmem S1024x1024 .f32) (harg9 : arg9.IsWhole)
    (x0 : Vec F S1x1x1024 .f32) (x1 : Vec F S1x1x1024 .i32) (x2 : Vec F S1x1x1024 .i32) (x3 : Vec F S1x1024x364 .f32) (x4 : Vec F S1x1024x4 .f32) (y : S1x4x128.Idx) :
    ∃ pc ∈ (kernelRun c i arg1 harg1 arg2 harg2 arg3 harg3 arg4 harg4 arg5 harg5 arg6 harg6 arg7 harg7 arg8 harg8 arg9 harg9 x0 x1 x2 x3 x4).1, y ∈ pc.1.set :=
  View.cover_of_tiledL (kernelRun c i arg1 harg1 arg2 harg2 arg3 harg3 arg4 harg4 arg5 harg5 arg6 harg6 arg7 harg7 arg8 harg8 arg9 harg9 x0 x1 x2 x3 x4).1 S1x4x128.size (by sl_kernel_rfl) y

/-- What the body leaves in output 5's staging buffer. -/
def out5 (c : Dev nD) (i : grid0.Coords) (arg1 : Memref sig .tc .vmem S1x1x1024 .f32) (harg1 : arg1.IsWhole) (arg2 : Memref sig .tc .vmem S1x1x1024 .i32) (harg2 : arg2.IsWhole) (arg3 : Memref sig .tc .vmem S1x1x1024 .i32) (harg3 : arg3.IsWhole) (arg4 : Memref sig .tc .vmem S1x1024x364 .f32) (harg4 : arg4.IsWhole) (arg5 : Memref sig .tc .vmem S1x1024x4 .f32) (harg5 : arg5.IsWhole) (arg6 : Memref sig .tc .vmem S1x4x128 .f32) (harg6 : arg6.IsWhole) (arg7 : Memref sig .tc .vmem S1x1x128 .f32) (harg7 : arg7.IsWhole) (arg8 : Memref sig .tc .vmem S1x1x128 .i32) (harg8 : arg8.IsWhole) (arg9 : Memref sig .tc .vmem S1024x1024 .f32) (harg9 : arg9.IsWhole)
    (x0 : Vec F S1x1x1024 .f32) (x1 : Vec F S1x1x1024 .i32) (x2 : Vec F S1x1x1024 .i32) (x3 : Vec F S1x1024x364 .f32) (x4 : Vec F S1x1024x4 .f32) : Vec F S1x4x128 .f32 :=
  VO0_5.read (Elt F) (VO0_5.writes (Elt F) VO0_5.junk (kernelRun c i arg1 harg1 arg2 harg2 arg3 harg3 arg4 harg4 arg5 harg5 arg6 harg6 arg7 harg7 arg8 harg8 arg9 harg9 x0 x1 x2 x3 x4).1)

/-- The stores into output 6 cover its block. -/
theorem cover6 (c : Dev nD) (i : grid0.Coords) (arg1 : Memref sig .tc .vmem S1x1x1024 .f32) (harg1 : arg1.IsWhole) (arg2 : Memref sig .tc .vmem S1x1x1024 .i32) (harg2 : arg2.IsWhole) (arg3 : Memref sig .tc .vmem S1x1x1024 .i32) (harg3 : arg3.IsWhole) (arg4 : Memref sig .tc .vmem S1x1024x364 .f32) (harg4 : arg4.IsWhole) (arg5 : Memref sig .tc .vmem S1x1024x4 .f32) (harg5 : arg5.IsWhole) (arg6 : Memref sig .tc .vmem S1x4x128 .f32) (harg6 : arg6.IsWhole) (arg7 : Memref sig .tc .vmem S1x1x128 .f32) (harg7 : arg7.IsWhole) (arg8 : Memref sig .tc .vmem S1x1x128 .i32) (harg8 : arg8.IsWhole) (arg9 : Memref sig .tc .vmem S1024x1024 .f32) (harg9 : arg9.IsWhole)
    (x0 : Vec F S1x1x1024 .f32) (x1 : Vec F S1x1x1024 .i32) (x2 : Vec F S1x1x1024 .i32) (x3 : Vec F S1x1024x364 .f32) (x4 : Vec F S1x1024x4 .f32) (y : S1x1x128.Idx) :
    ∃ pc ∈ (kernelRun c i arg1 harg1 arg2 harg2 arg3 harg3 arg4 harg4 arg5 harg5 arg6 harg6 arg7 harg7 arg8 harg8 arg9 harg9 x0 x1 x2 x3 x4).2.1, y ∈ pc.1.set :=
  View.cover_of_tiledL (kernelRun c i arg1 harg1 arg2 harg2 arg3 harg3 arg4 harg4 arg5 harg5 arg6 harg6 arg7 harg7 arg8 harg8 arg9 harg9 x0 x1 x2 x3 x4).2.1 S1x1x128.size (by sl_kernel_rfl) y

/-- What the body leaves in output 6's staging buffer. -/
def out6 (c : Dev nD) (i : grid0.Coords) (arg1 : Memref sig .tc .vmem S1x1x1024 .f32) (harg1 : arg1.IsWhole) (arg2 : Memref sig .tc .vmem S1x1x1024 .i32) (harg2 : arg2.IsWhole) (arg3 : Memref sig .tc .vmem S1x1x1024 .i32) (harg3 : arg3.IsWhole) (arg4 : Memref sig .tc .vmem S1x1024x364 .f32) (harg4 : arg4.IsWhole) (arg5 : Memref sig .tc .vmem S1x1024x4 .f32) (harg5 : arg5.IsWhole) (arg6 : Memref sig .tc .vmem S1x4x128 .f32) (harg6 : arg6.IsWhole) (arg7 : Memref sig .tc .vmem S1x1x128 .f32) (harg7 : arg7.IsWhole) (arg8 : Memref sig .tc .vmem S1x1x128 .i32) (harg8 : arg8.IsWhole) (arg9 : Memref sig .tc .vmem S1024x1024 .f32) (harg9 : arg9.IsWhole)
    (x0 : Vec F S1x1x1024 .f32) (x1 : Vec F S1x1x1024 .i32) (x2 : Vec F S1x1x1024 .i32) (x3 : Vec F S1x1024x364 .f32) (x4 : Vec F S1x1024x4 .f32) : Vec F S1x1x128 .f32 :=
  VO0_6.read (Elt F) (VO0_6.writes (Elt F) VO0_6.junk (kernelRun c i arg1 harg1 arg2 harg2 arg3 harg3 arg4 harg4 arg5 harg5 arg6 harg6 arg7 harg7 arg8 harg8 arg9 harg9 x0 x1 x2 x3 x4).2.1)

/-- The stores into output 7 cover its block. -/
theorem cover7 (c : Dev nD) (i : grid0.Coords) (arg1 : Memref sig .tc .vmem S1x1x1024 .f32) (harg1 : arg1.IsWhole) (arg2 : Memref sig .tc .vmem S1x1x1024 .i32) (harg2 : arg2.IsWhole) (arg3 : Memref sig .tc .vmem S1x1x1024 .i32) (harg3 : arg3.IsWhole) (arg4 : Memref sig .tc .vmem S1x1024x364 .f32) (harg4 : arg4.IsWhole) (arg5 : Memref sig .tc .vmem S1x1024x4 .f32) (harg5 : arg5.IsWhole) (arg6 : Memref sig .tc .vmem S1x4x128 .f32) (harg6 : arg6.IsWhole) (arg7 : Memref sig .tc .vmem S1x1x128 .f32) (harg7 : arg7.IsWhole) (arg8 : Memref sig .tc .vmem S1x1x128 .i32) (harg8 : arg8.IsWhole) (arg9 : Memref sig .tc .vmem S1024x1024 .f32) (harg9 : arg9.IsWhole)
    (x0 : Vec F S1x1x1024 .f32) (x1 : Vec F S1x1x1024 .i32) (x2 : Vec F S1x1x1024 .i32) (x3 : Vec F S1x1024x364 .f32) (x4 : Vec F S1x1024x4 .f32) (y : S1x1x128.Idx) :
    ∃ pc ∈ (kernelRun c i arg1 harg1 arg2 harg2 arg3 harg3 arg4 harg4 arg5 harg5 arg6 harg6 arg7 harg7 arg8 harg8 arg9 harg9 x0 x1 x2 x3 x4).2.2.1, y ∈ pc.1.set :=
  View.cover_of_tiledL (kernelRun c i arg1 harg1 arg2 harg2 arg3 harg3 arg4 harg4 arg5 harg5 arg6 harg6 arg7 harg7 arg8 harg8 arg9 harg9 x0 x1 x2 x3 x4).2.2.1 S1x1x128.size (by sl_kernel_rfl) y

/-- What the body leaves in output 7's staging buffer. -/
def out7 (c : Dev nD) (i : grid0.Coords) (arg1 : Memref sig .tc .vmem S1x1x1024 .f32) (harg1 : arg1.IsWhole) (arg2 : Memref sig .tc .vmem S1x1x1024 .i32) (harg2 : arg2.IsWhole) (arg3 : Memref sig .tc .vmem S1x1x1024 .i32) (harg3 : arg3.IsWhole) (arg4 : Memref sig .tc .vmem S1x1024x364 .f32) (harg4 : arg4.IsWhole) (arg5 : Memref sig .tc .vmem S1x1024x4 .f32) (harg5 : arg5.IsWhole) (arg6 : Memref sig .tc .vmem S1x4x128 .f32) (harg6 : arg6.IsWhole) (arg7 : Memref sig .tc .vmem S1x1x128 .f32) (harg7 : arg7.IsWhole) (arg8 : Memref sig .tc .vmem S1x1x128 .i32) (harg8 : arg8.IsWhole) (arg9 : Memref sig .tc .vmem S1024x1024 .f32) (harg9 : arg9.IsWhole)
    (x0 : Vec F S1x1x1024 .f32) (x1 : Vec F S1x1x1024 .i32) (x2 : Vec F S1x1x1024 .i32) (x3 : Vec F S1x1024x364 .f32) (x4 : Vec F S1x1024x4 .f32) : Vec F S1x1x128 .i32 :=
  VO0_7.read (Elt F) (VO0_7.writes (Elt F) VO0_7.junk (kernelRun c i arg1 harg1 arg2 harg2 arg3 harg3 arg4 harg4 arg5 harg5 arg6 harg6 arg7 harg7 arg8 harg8 arg9 harg9 x0 x1 x2 x3 x4).2.2.1)

/-- What the body leaves in the three outputs at a grid point. -/
def outsAt0 (c : Dev nD) (t : Fin (cfg0 (F := F)).N) : Vec F S1x4x128 .f32 × Vec F S1x1x128 .f32 × Vec F S1x1x128 .i32 :=
  (out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t), out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t), out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t))

/-- The proof data: arrays as entered, inputs left at their blocks, outputs at what the body leaves. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2.1
    | ⟨7, _⟩ => (outsAt0 m c t).2.2
  Φ _ := Pipeline.ΦA spec0 c
  q _ := fullShare
  owed _ := 0

/-- The proof data's arrays are the contents at entry. -/
theorem A_eq (c : Dev nD) (w : Fin (cfg0 (F := F)).W) : (dats m 0 c).A w = V m c (Pipeline.arrRef spec0 w) := by
  dsimp only [dats]

/-- What the body leaves in window 0. -/
theorem after0_0 (c : Dev nD) (t : Fin (cfg0 (F := F)).N) : (dats m 0 c).after 0 t = iblk m c 0 t := by dsimp only [dats]; generalize outsAt0 m c t = o; rfl
/-- What the body leaves in window 1. -/
theorem after0_1 (c : Dev nD) (t : Fin (cfg0 (F := F)).N) : (dats m 0 c).after 1 t = iblk m c 1 t := by dsimp only [dats]; generalize outsAt0 m c t = o; rfl
/-- What the body leaves in window 2. -/
theorem after0_2 (c : Dev nD) (t : Fin (cfg0 (F := F)).N) : (dats m 0 c).after 2 t = iblk m c 2 t := by dsimp only [dats]; generalize outsAt0 m c t = o; rfl
/-- What the body leaves in window 3. -/
theorem after0_3 (c : Dev nD) (t : Fin (cfg0 (F := F)).N) : (dats m 0 c).after 3 t = iblk m c 3 t := by dsimp only [dats]; generalize outsAt0 m c t = o; rfl
/-- What the body leaves in window 4. -/
theorem after0_4 (c : Dev nD) (t : Fin (cfg0 (F := F)).N) : (dats m 0 c).after 4 t = iblk m c 4 t := by dsimp only [dats]; generalize outsAt0 m c t = o; rfl
/-- What the body leaves in window 5. -/
theorem after0_5 (c : Dev nD) (t : Fin (cfg0 (F := F)).N) : (dats m 0 c).after 5 t = (outsAt0 m c t).1 := by dsimp only [dats]; generalize outsAt0 m c t = o; rfl
/-- What the body leaves in window 6. -/
theorem after0_6 (c : Dev nD) (t : Fin (cfg0 (F := F)).N) : (dats m 0 c).after 6 t = (outsAt0 m c t).2.1 := by dsimp only [dats]; generalize outsAt0 m c t = o; rfl
/-- What the body leaves in window 7. -/
theorem after0_7 (c : Dev nD) (t : Fin (cfg0 (F := F)).N) : (dats m 0 c).after 7 t = (outsAt0 m c t).2.2 := by dsimp only [dats]; generalize outsAt0 m c t = o; rfl

/-- What the body finds in window 0. -/
theorem before0_0 (c : Dev nD) (t : Fin (cfg0 (F := F)).N) (d) : (dats m 0 c).before 0 t d = iblk m c 0 t :=
  before0_0_of m (dats m 0 c) (A_eq m c 0) (after0_0 m c) t d
/-- What the body finds in window 1. -/
theorem before0_1 (c : Dev nD) (t : Fin (cfg0 (F := F)).N) (d) : (dats m 0 c).before 1 t d = iblk m c 1 t :=
  before0_1_of m (dats m 0 c) (A_eq m c 1) (after0_1 m c) t d
/-- What the body finds in window 2. -/
theorem before0_2 (c : Dev nD) (t : Fin (cfg0 (F := F)).N) (d) : (dats m 0 c).before 2 t d = iblk m c 2 t :=
  before0_2_of m (dats m 0 c) (A_eq m c 2) (after0_2 m c) t d
/-- What the body finds in window 3. -/
theorem before0_3 (c : Dev nD) (t : Fin (cfg0 (F := F)).N) (d) : (dats m 0 c).before 3 t d = iblk m c 3 t :=
  before0_3_of m (dats m 0 c) (A_eq m c 3) (after0_3 m c) t d
/-- What the body finds in window 4. -/
theorem before0_4 (c : Dev nD) (t : Fin (cfg0 (F := F)).N) (d) : (dats m 0 c).before 4 t d = iblk m c 4 t :=
  before0_4_of m (dats m 0 c) (A_eq m c 4) (after0_4 m c) t d

/-- What the body is called with. -/
def bodyPre (c : Dev nD) (t : Fin (cfg0 (F := F)).N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns. -/
def bodyPost (c : Dev nD) (t : Fin (cfg0 (F := F)).N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any grid point meets its specification. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out5 out6 out7; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ _ _ (iblk m c 0 t) (iblk m c 1 t) (iblk m c 2 t) (iblk m c 3 t) (iblk m c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, ⟨%e5, H5⟩, ⟨%e6, H6⟩, ⟨%e7, H7⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover5 c _ _ _ _ _ _ _ _ _ _ _ _ _ _ _ _ _ _ _ _ _ _ _ _)
  isplitl [H6]
  · unfold owns; iexists _; isplitr
    swap; · iexact H6
    ipureintro; exact View.read_writes_of_cover _ _ _ _ _ (cover6 c _ _ _ _ _ _ _ _ _ _ _ _ _ _ _ _ _ _ _ _ _ _ _ _)
  unfold owns; iexists _; isplitr
  swap; · iexact H7
  ipureintro; exact View.read_writes_of_cover _ _ _ _ _ (cover7 c _ _ _ _ _ _ _ _ _ _ _ _ _ _ _ _ _ _ _ _ _ _ _ _)

/-- The table's entry at a grid point is the body there. -/
theorem defs₀_row (t : Fin (cfg0 (F := F)).N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
set_option maxHeartbeats 800000 in
/-- Every execution ends at the pipeline's final state with all counters at zero. -/
theorem run_main_quiescent : θ_run defs (onTc (τ := τ) (main (F := F))) (s₀ m ρ) (fun r => (Pipeline.FramePost (cfgs (F := F)) (dats m) 0 (Pipeline.afterTail₀ (cfgs (F := F)) (dats m) 0 (V0 m) [hostOps1])) r ∧ r.2.sem = fun _ => 0) :=
  Pipeline.θ_run_frame_around (Q' := _) (cfgs (F := F)) (dats m) (0 : Fin 1) (launch0 (F := F)) defs₀ Variants.nat m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.nat) (hA := A_eq m) (hΦ := fun _ _ => rfl)

/-- Every execution ends at the pipeline's final state. -/
theorem run_main : θ_run defs (onTc (τ := τ) (main (F := F))) (s₀ m ρ) (Pipeline.FramePost (cfgs (F := F)) (dats m) 0 (Pipeline.afterTail₀ (cfgs (F := F)) (dats m) 0 (V0 m) [hostOps1])) :=
  (θ_run defs _ _).mono (fun _ h => h.1) (run_main_quiescent m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end as launched and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.NmsIdeal.Hand

end
-- ==== Proof.NmsIdealPipe.lean ====
/-
  The body of the suppression call, value by value, as functions of the five blocks it is given: `val0` … `val80` are
  the arrays it computes in turn, `bands` the eight bands of the overlap matrix, `survivors` what the loop leaves. The
  last theorems say that what the body leaves in each output is the last of these values.
-/
module

public import proofs.«01_k».proof.Proof.NmsIdealLaunch
public import Idealize.ShloMosaic.Lib.Pipeline.ValueKit

@[expose] public section
set_option maxRecDepth 16384
noncomputable section
namespace Cert.NmsIdeal.Hand
open Cert.NmsIdeal Cert.NmsIdeal.Gen Idealize.ShloMosaic Idealize.ShloMosaic.TcCoe Idealize.SL.Sem

/-- The survivors the loop leaves, from the bands and the candidates it starts with. -/
def loopKeep {F : FTy → Type} [FloatOps F] (B : Bands F) (v : FVec F S1024 .f32) : FVec F S1024 .f32 :=
  (loopOut B v 1025 v 1#32 0#32).1

/-- The scores. -/
def val0 (x0 : Vec Ideal S1x1x1024 .f32) : FVec Ideal S1024 .f32 := k0_pay4 (F := Ideal) x0
/-- The candidates' indices. -/
def val1 (x1 : Vec Ideal S1x1x1024 .i32) : IVec S1024 32 := k0_pay5 (F := Ideal) x1
/-- The candidates' indices as numbers. -/
def val2 (x1 : Vec Ideal S1x1x1024 .i32) : FVec Ideal S1024 .f32 := k0_pay6 (F := Ideal) x1
/-- The rows of regressions picked by slot. -/
def val3 (x2 : Vec Ideal S1x1x1024 .i32) (x3 : Vec Ideal S1x1024x364 .f32) : FVec Ideal S1024x364 .f32 := k0_pay8 (F := Ideal) x2 x3
/-- The rows of corners picked by slot. -/
def val4 (x2 : Vec Ideal S1x1x1024 .i32) (x4 : Vec Ideal S1x1024x4 .f32) : FVec Ideal S1024x4 .f32 := k0_pay9 (F := Ideal) x2 x4
/-- Value 5 of the body. -/
def val5 (x0 : Vec Ideal S1x1x1024 .f32) (x1 : Vec Ideal S1x1x1024 .i32) : IVec S128 32 := k0_pay10 (F := Ideal) x0 x1
/-- Value 6 of the body. -/
def val6 (x0 : Vec Ideal S1x1x1024 .f32) : FVec Ideal S128x1 .f32 := k0_pay11 (F := Ideal) x0
/-- Value 7 of the body. -/
def val7 (x0 : Vec Ideal S1x1x1024 .f32) (x1 : Vec Ideal S1x1x1024 .i32) : IVec S128 32 := k0_pay12 (F := Ideal) (val0 x0) (val2 x1) (val6 x0)
/-- Value 8 of the body. -/
def val8 (x0 : Vec Ideal S1x1x1024 .f32) (x1 : Vec Ideal S1x1x1024 .i32) : IVec S128 32 := k0_pay13 (F := Ideal) (val0 x0) (val2 x1)
/-- Value 9 of the body. -/
def val9 (x0 : Vec Ideal S1x1x1024 .f32) (x1 : Vec Ideal S1x1x1024 .i32) : IVec S128x1024 32 := k0_pay14 (F := Ideal) (val0 x0) (val2 x1)
/-- Value 10 of the body. -/
def val10 (x0 : Vec Ideal S1x1x1024 .f32) (x1 : Vec Ideal S1x1x1024 .i32) : IVec S128 32 := k0_pay15 (val9 x0 x1)
/-- Value 11 of the body. -/
def val11 (x0 : Vec Ideal S1x1x1024 .f32) (x1 : Vec Ideal S1x1x1024 .i32) : IVec S128 32 := k0_pay16 (F := Ideal) (val0 x0) (val2 x1)
/-- Value 12 of the body. -/
def val12 (x0 : Vec Ideal S1x1x1024 .f32) (x1 : Vec Ideal S1x1x1024 .i32) : IVec S128 32 := k0_pay17 (F := Ideal) (val0 x0) (val2 x1)
/-- Value 13 of the body. -/
def val13 (x0 : Vec Ideal S1x1x1024 .f32) : IVec S128x1024 1 := k0_pay19 (F := Ideal) (val0 x0)
/-- Value 14 of the body. -/
def val14 (x0 : Vec Ideal S1x1x1024 .f32) (x1 : Vec Ideal S1x1x1024 .i32) : IVec S128x1024 1 := k0_pay20 (F := Ideal) (val0 x0) (val2 x1)
/-- The rank of every candidate. -/
def val15 (x0 : Vec Ideal S1x1x1024 .f32) (x1 : Vec Ideal S1x1x1024 .i32) : IVec S1024 32 := k0_pay21 (F := Ideal) (val0 x0) (val2 x1) (val5 x0 x1) (val7 x0 x1) (val8 x0 x1) (val10 x0 x1) (val11 x0 x1) (val12 x0 x1) (val13 x0) (val14 x0 x1)
/-- Whether a candidate's rank is below a thousand. -/
def val16 (x0 : Vec Ideal S1x1x1024 .f32) (x1 : Vec Ideal S1x1x1024 .i32) : IVec S1024 1 := k0_pay22 (F := Ideal) (val0 x0) (val2 x1) (val5 x0 x1) (val7 x0 x1) (val8 x0 x1) (val10 x0 x1) (val11 x0 x1) (val12 x0 x1) (val13 x0) (val14 x0 x1)
/-- The class of every candidate. -/
def val17 (x1 : Vec Ideal S1x1x1024 .i32) : IVec S1024 32 := k0_pay23 (val1 x1)
/-- Value 18 of the body. -/
def val18 (x1 : Vec Ideal S1x1x1024 .i32) : IVec S1024x91 1 := k0_pay24 (val1 x1)
/-- Value 19 of the body. -/
def val19 (x1 : Vec Ideal S1x1x1024 .i32) : FVec Ideal S1024x91 .f32 := k0_pay25 (F := Ideal) (val18 x1)
/-- Value 20 of the body. -/
def val20 (x2 : Vec Ideal S1x1x1024 .i32) (x4 : Vec Ideal S1x1024x4 .f32) : FVec Ideal S1024 .f32 := k0_pay28 (F := Ideal) (val4 x2 x4)
/-- Value 21 of the body. -/
def val21 (x2 : Vec Ideal S1x1x1024 .i32) (x4 : Vec Ideal S1x1024x4 .f32) : FVec Ideal S1024 .f32 := k0_pay29 (F := Ideal) (val4 x2 x4)
/-- Value 22 of the body. -/
def val22 (x2 : Vec Ideal S1x1x1024 .i32) (x4 : Vec Ideal S1x1024x4 .f32) : FVec Ideal S1024 .f32 := k0_pay30 (F := Ideal) (val4 x2 x4)
/-- Value 23 of the body. -/
def val23 (x2 : Vec Ideal S1x1x1024 .i32) (x4 : Vec Ideal S1x1024x4 .f32) : FVec Ideal S1024 .f32 := k0_pay31 (F := Ideal) (val4 x2 x4)
/-- Value 24 of the body. -/
def val24 (x1 : Vec Ideal S1x1x1024 .i32) (x2 : Vec Ideal S1x1x1024 .i32) (x3 : Vec Ideal S1x1024x364 .f32) : FVec Ideal S1024 .f32 := k0_pay32 (F := Ideal) (val3 x2 x3) (iota .tc S364x91 32 [0] iota_S364x91_d0_w32) (iota .tc S364x91 32 [1] iota_S364x91_d1_w32) (val18 x1)
/-- Value 25 of the body. -/
def val25 (x1 : Vec Ideal S1x1x1024 .i32) (x2 : Vec Ideal S1x1x1024 .i32) (x3 : Vec Ideal S1x1024x364 .f32) : FVec Ideal S1024 .f32 := k0_pay33 (F := Ideal) (val3 x2 x3) (iota .tc S364x91 32 [0] iota_S364x91_d0_w32) (iota .tc S364x91 32 [1] iota_S364x91_d1_w32) (val18 x1)
/-- Value 26 of the body. -/
def val26 (x1 : Vec Ideal S1x1x1024 .i32) (x2 : Vec Ideal S1x1x1024 .i32) (x3 : Vec Ideal S1x1024x364 .f32) (x4 : Vec Ideal S1x1024x4 .f32) : FVec Ideal S1024 .f32 := k0_pay35 (F := Ideal) (val20 x2 x4) (val22 x2 x4) (val24 x1 x2 x3)
/-- Value 27 of the body. -/
def val27 (x1 : Vec Ideal S1x1x1024 .i32) (x2 : Vec Ideal S1x1x1024 .i32) (x3 : Vec Ideal S1x1024x364 .f32) (x4 : Vec Ideal S1x1024x4 .f32) : FVec Ideal S1024 .f32 := k0_pay36 (F := Ideal) (val21 x2 x4) (val23 x2 x4) (val25 x1 x2 x3)
/-- Value 28 of the body. -/
def val28 (x1 : Vec Ideal S1x1x1024 .i32) (x2 : Vec Ideal S1x1x1024 .i32) (x3 : Vec Ideal S1x1024x364 .f32) (x4 : Vec Ideal S1x1024x4 .f32) : FVec Ideal S1024 .f32 := k0_pay37 (F := Ideal) (val3 x2 x3) (iota .tc S364x91 32 [0] iota_S364x91_d0_w32) (val19 x1) (val20 x2 x4) (k0_pay34 (iota .tc S364x91 32 [1] iota_S364x91_d1_w32))
/-- Value 29 of the body. -/
def val29 (x1 : Vec Ideal S1x1x1024 .i32) (x2 : Vec Ideal S1x1x1024 .i32) (x3 : Vec Ideal S1x1024x364 .f32) (x4 : Vec Ideal S1x1024x4 .f32) : FVec Ideal S1024 .f32 := k0_pay38 (F := Ideal) (val3 x2 x3) (iota .tc S364x91 32 [0] iota_S364x91_d0_w32) (iota .tc S364x91 32 [1] iota_S364x91_d1_w32) (val19 x1) (val21 x2 x4)
/-- The left edges. -/
def val30 (x1 : Vec Ideal S1x1x1024 .i32) (x2 : Vec Ideal S1x1x1024 .i32) (x3 : Vec Ideal S1x1024x364 .f32) (x4 : Vec Ideal S1x1024x4 .f32) : FVec Ideal S1024 .f32 := k0_pay39 (F := Ideal) (val3 x2 x3) (iota .tc S364x91 32 [0] iota_S364x91_d0_w32) (val19 x1) (val20 x2 x4) (val22 x2 x4) (val24 x1 x2 x3) (k0_pay34 (iota .tc S364x91 32 [1] iota_S364x91_d1_w32))
/-- Value 31 of the body. -/
def val31 (x1 : Vec Ideal S1x1x1024 .i32) (x2 : Vec Ideal S1x1x1024 .i32) (x3 : Vec Ideal S1x1024x364 .f32) (x4 : Vec Ideal S1x1024x4 .f32) : FVec Ideal S1024 .f32 := k0_pay40 (F := Ideal) (val3 x2 x3) (iota .tc S364x91 32 [0] iota_S364x91_d0_w32) (iota .tc S364x91 32 [1] iota_S364x91_d1_w32) (val19 x1) (val21 x2 x4) (val23 x2 x4) (val25 x1 x2 x3)
/-- The upper edges. -/
def val32 (x1 : Vec Ideal S1x1x1024 .i32) (x2 : Vec Ideal S1x1x1024 .i32) (x3 : Vec Ideal S1x1024x364 .f32) (x4 : Vec Ideal S1x1024x4 .f32) : FVec Ideal S1024 .f32 := k0_pay41 (F := Ideal) (Scalar.ofBits (F := Ideal) .f32 0x44480000#32) (val31 x1 x2 x3 x4)
/-- The right edges. -/
def val33 (x1 : Vec Ideal S1x1x1024 .i32) (x2 : Vec Ideal S1x1x1024 .i32) (x3 : Vec Ideal S1x1024x364 .f32) (x4 : Vec Ideal S1x1024x4 .f32) : FVec Ideal S1024 .f32 := k0_pay42 (F := Ideal) (val26 x1 x2 x3 x4) (val28 x1 x2 x3 x4)
/-- The lower edges. -/
def val34 (x1 : Vec Ideal S1x1x1024 .i32) (x2 : Vec Ideal S1x1x1024 .i32) (x3 : Vec Ideal S1x1024x364 .f32) (x4 : Vec Ideal S1x1024x4 .f32) : FVec Ideal S1024 .f32 := k0_pay43 (F := Ideal) (val27 x1 x2 x3 x4) (val29 x1 x2 x3 x4)
/-- Value 35 of the body. -/
def val35 (x1 : Vec Ideal S1x1x1024 .i32) (x2 : Vec Ideal S1x1x1024 .i32) (x3 : Vec Ideal S1x1024x364 .f32) (x4 : Vec Ideal S1x1024x4 .f32) : FVec Ideal S1024 .f32 := k0_pay45 (F := Ideal) (val17 x1) (val30 x1 x2 x3 x4)
/-- Value 36 of the body. -/
def val36 (x1 : Vec Ideal S1x1x1024 .i32) (x2 : Vec Ideal S1x1x1024 .i32) (x3 : Vec Ideal S1x1024x364 .f32) (x4 : Vec Ideal S1x1024x4 .f32) : FVec Ideal S1024 .f32 := k0_pay46 (F := Ideal) (val17 x1) (Scalar.ofBits (F := Ideal) .f32 0x44480000#32) (val31 x1 x2 x3 x4)
/-- Value 37 of the body. -/
def val37 (x1 : Vec Ideal S1x1x1024 .i32) (x2 : Vec Ideal S1x1x1024 .i32) (x3 : Vec Ideal S1x1024x364 .f32) (x4 : Vec Ideal S1x1024x4 .f32) : FVec Ideal S1024 .f32 := k0_pay47 (F := Ideal) (val17 x1) (val26 x1 x2 x3 x4) (val28 x1 x2 x3 x4)
/-- Value 38 of the body. -/
def val38 (x1 : Vec Ideal S1x1x1024 .i32) (x2 : Vec Ideal S1x1x1024 .i32) (x3 : Vec Ideal S1x1024x364 .f32) (x4 : Vec Ideal S1x1024x4 .f32) : FVec Ideal S1024 .f32 := k0_pay48 (F := Ideal) (val17 x1) (val27 x1 x2 x3 x4) (val29 x1 x2 x3 x4)
/-- The areas of the boxes moved apart. -/
def val39 (x1 : Vec Ideal S1x1x1024 .i32) (x2 : Vec Ideal S1x1x1024 .i32) (x3 : Vec Ideal S1x1024x364 .f32) (x4 : Vec Ideal S1x1024x4 .f32) : FVec Ideal S1024 .f32 := k0_pay49 (F := Ideal) (val17 x1) (val26 x1 x2 x3 x4) (val27 x1 x2 x3 x4) (val28 x1 x2 x3 x4) (val29 x1 x2 x3 x4) (val30 x1 x2 x3 x4) (Scalar.ofBits (F := Ideal) .f32 0x44480000#32) (val31 x1 x2 x3 x4)
/-- Whether a candidate is among the thousand, as a number. -/
def val40 (x0 : Vec Ideal S1x1x1024 .f32) (x1 : Vec Ideal S1x1x1024 .i32) : FVec Ideal S1024 .f32 := k0_pay50 (F := Ideal) (val16 x0 x1)
/-- Value 41 of the body. -/
def val41 (x1 : Vec Ideal S1x1x1024 .i32) (x2 : Vec Ideal S1x1x1024 .i32) (x3 : Vec Ideal S1x1024x364 .f32) (x4 : Vec Ideal S1x1024x4 .f32) : FVec Ideal S128x1024 .f32 := k0_pay51 (F := Ideal) (val17 x1) (Scalar.ofBits (F := Ideal) .f32 0x44480000#32) (val31 x1 x2 x3 x4)
/-- Value 42 of the body. -/
def val42 (x1 : Vec Ideal S1x1x1024 .i32) (x2 : Vec Ideal S1x1x1024 .i32) (x3 : Vec Ideal S1x1024x364 .f32) (x4 : Vec Ideal S1x1024x4 .f32) : FVec Ideal S128x1024 .f32 := k0_pay52 (F := Ideal) (val17 x1) (val27 x1 x2 x3 x4) (val29 x1 x2 x3 x4)
/-- Value 43 of the body. -/
def val43 (x1 : Vec Ideal S1x1x1024 .i32) (x2 : Vec Ideal S1x1x1024 .i32) (x3 : Vec Ideal S1x1024x364 .f32) (x4 : Vec Ideal S1x1024x4 .f32) : FVec Ideal S128x1024 .f32 := k0_pay53 (F := Ideal) (val17 x1) (val26 x1 x2 x3 x4) (val28 x1 x2 x3 x4) (val30 x1 x2 x3 x4)
/-- Value 44 of the body. -/
def val44 (x1 : Vec Ideal S1x1x1024 .i32) (x2 : Vec Ideal S1x1x1024 .i32) (x3 : Vec Ideal S1x1024x364 .f32) (x4 : Vec Ideal S1x1024x4 .f32) : FVec Ideal S128x1024 .f32 := k0_pay55 (F := Ideal) (val35 x1 x2 x3 x4)
/-- Value 45 of the body. -/
def val45 (x1 : Vec Ideal S1x1x1024 .i32) (x2 : Vec Ideal S1x1x1024 .i32) (x3 : Vec Ideal S1x1024x364 .f32) (x4 : Vec Ideal S1x1024x4 .f32) : FVec Ideal S128x1024 .f32 := k0_pay56 (F := Ideal) (val36 x1 x2 x3 x4)
/-- Value 46 of the body. -/
def val46 (x1 : Vec Ideal S1x1x1024 .i32) (x2 : Vec Ideal S1x1x1024 .i32) (x3 : Vec Ideal S1x1024x364 .f32) (x4 : Vec Ideal S1x1024x4 .f32) : FVec Ideal S1x1024 .f32 := k0_pay57 (F := Ideal) (val37 x1 x2 x3 x4)
/-- Value 47 of the body. -/
def val47 (x1 : Vec Ideal S1x1x1024 .i32) (x2 : Vec Ideal S1x1x1024 .i32) (x3 : Vec Ideal S1x1024x364 .f32) (x4 : Vec Ideal S1x1024x4 .f32) : FVec Ideal S128x1024 .f32 := k0_pay58 (F := Ideal) (val37 x1 x2 x3 x4)
/-- Value 48 of the body. -/
def val48 (x1 : Vec Ideal S1x1x1024 .i32) (x2 : Vec Ideal S1x1x1024 .i32) (x3 : Vec Ideal S1x1024x364 .f32) (x4 : Vec Ideal S1x1024x4 .f32) : FVec Ideal S128x1024 .f32 := k0_pay60 (F := Ideal) (val35 x1 x2 x3 x4)
/-- Value 49 of the body. -/
def val49 (x1 : Vec Ideal S1x1x1024 .i32) (x2 : Vec Ideal S1x1x1024 .i32) (x3 : Vec Ideal S1x1024x364 .f32) (x4 : Vec Ideal S1x1024x4 .f32) : FVec Ideal S128 .f32 := k0_pay61 (F := Ideal) (val36 x1 x2 x3 x4)
/-- Value 50 of the body. -/
def val50 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S128x1024 .f32 := k0_pay62 (F := Ideal) (val15 x0 x1) (val36 x1 x2 x3 x4) (val37 x1 x2 x3 x4) (val38 x1 x2 x3 x4) (val39 x1 x2 x3 x4) (val40 x0 x1) (val48 x1 x2 x3 x4) (val49 x1 x2 x3 x4)
/-- Value 51 of the body. -/
def val51 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S128x1024 .f32 := k0_pay64 (F := Ideal) (val15 x0 x1) (val35 x1 x2 x3 x4) (val36 x1 x2 x3 x4) (val37 x1 x2 x3 x4) (val38 x1 x2 x3 x4) (val39 x1 x2 x3 x4)
/-- Value 52 of the body. -/
def val52 (x0 : Vec Ideal S1x1x1024 .f32) (x1 : Vec Ideal S1x1x1024 .i32) : FVec Ideal S128x1 .f32 := k0_pay65 (F := Ideal) (val40 x0 x1)
/-- Value 53 of the body. -/
def val53 (x1 : Vec Ideal S1x1x1024 .i32) (x2 : Vec Ideal S1x1x1024 .i32) (x3 : Vec Ideal S1x1024x364 .f32) (x4 : Vec Ideal S1x1024x4 .f32) : IVec S128x1024 1 := k0_pay67 (F := Ideal) (val35 x1 x2 x3 x4) (val36 x1 x2 x3 x4) (val37 x1 x2 x3 x4) (val38 x1 x2 x3 x4) (val39 x1 x2 x3 x4)
/-- Value 54 of the body. -/
def val54 (x0 : Vec Ideal S1x1x1024 .f32) (x1 : Vec Ideal S1x1x1024 .i32) : IVec S128x1 32 := k0_pay68 (val15 x0 x1)
/-- Value 55 of the body. -/
def val55 (x1 : Vec Ideal S1x1x1024 .i32) (x2 : Vec Ideal S1x1x1024 .i32) (x3 : Vec Ideal S1x1024x364 .f32) (x4 : Vec Ideal S1x1024x4 .f32) : FVec Ideal S128x1024 .f32 := k0_pay70 (F := Ideal) (val35 x1 x2 x3 x4) (val36 x1 x2 x3 x4) (val37 x1 x2 x3 x4) (val38 x1 x2 x3 x4)
/-- Value 56 of the body. -/
def val56 (x1 : Vec Ideal S1x1x1024 .i32) (x2 : Vec Ideal S1x1x1024 .i32) (x3 : Vec Ideal S1x1024x364 .f32) (x4 : Vec Ideal S1x1024x4 .f32) : FVec Ideal S128x1024 .f32 := k0_pay71 (F := Ideal) (val35 x1 x2 x3 x4) (val36 x1 x2 x3 x4) (val37 x1 x2 x3 x4) (val38 x1 x2 x3 x4) (val39 x1 x2 x3 x4)
/-- Value 57 of the body. -/
def val57 (x1 : Vec Ideal S1x1x1024 .i32) (x2 : Vec Ideal S1x1x1024 .i32) (x3 : Vec Ideal S1x1024x364 .f32) (x4 : Vec Ideal S1x1024x4 .f32) : FVec Ideal S128x1024 .f32 := k0_pay73 (F := Ideal) (val35 x1 x2 x3 x4) (val37 x1 x2 x3 x4)
/-- Value 58 of the body. -/
def val58 (x1 : Vec Ideal S1x1x1024 .i32) (x2 : Vec Ideal S1x1x1024 .i32) (x3 : Vec Ideal S1x1024x364 .f32) (x4 : Vec Ideal S1x1024x4 .f32) : FVec Ideal S128x1024 .f32 := k0_pay74 (F := Ideal) (val36 x1 x2 x3 x4) (val38 x1 x2 x3 x4)
/-- Value 59 of the body. -/
def val59 (x1 : Vec Ideal S1x1x1024 .i32) (x2 : Vec Ideal S1x1x1024 .i32) (x3 : Vec Ideal S1x1024x364 .f32) (x4 : Vec Ideal S1x1024x4 .f32) : FVec Ideal S128x1024 .f32 := k0_pay77 (F := Ideal) (val35 x1 x2 x3 x4)
/-- Value 60 of the body. -/
def val60 (x1 : Vec Ideal S1x1x1024 .i32) (x2 : Vec Ideal S1x1x1024 .i32) (x3 : Vec Ideal S1x1024x364 .f32) (x4 : Vec Ideal S1x1024x4 .f32) : FVec Ideal S128x1024 .f32 := k0_pay78 (F := Ideal) (val36 x1 x2 x3 x4)
/-- Value 61 of the body. -/
def val61 (x1 : Vec Ideal S1x1x1024 .i32) (x2 : Vec Ideal S1x1x1024 .i32) (x3 : Vec Ideal S1x1024x364 .f32) (x4 : Vec Ideal S1x1024x4 .f32) : FVec Ideal S128x1024 .f32 := k0_pay79 (F := Ideal) (val37 x1 x2 x3 x4)
/-- Value 62 of the body. -/
def val62 (x1 : Vec Ideal S1x1x1024 .i32) (x2 : Vec Ideal S1x1x1024 .i32) (x3 : Vec Ideal S1x1024x364 .f32) (x4 : Vec Ideal S1x1024x4 .f32) : FVec Ideal S1x1024 .f32 := k0_pay80 (F := Ideal) (val38 x1 x2 x3 x4)
/-- Value 63 of the body. -/
def val63 (x1 : Vec Ideal S1x1x1024 .i32) (x2 : Vec Ideal S1x1x1024 .i32) (x3 : Vec Ideal S1x1024x364 .f32) (x4 : Vec Ideal S1x1024x4 .f32) : FVec Ideal S128x1024 .f32 := k0_pay81 (F := Ideal) (val38 x1 x2 x3 x4)
/-- Band 0 of the overlap matrix. -/
def band0 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S128x1024 .f32 := k0_pay54 (F := Ideal) (val15 x0 x1) (val39 x1 x2 x3 x4) (val40 x0 x1) (val41 x1 x2 x3 x4) (val42 x1 x2 x3 x4) (val43 x1 x2 x3 x4)
/-- Band 1 of the overlap matrix. -/
def band1 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S128x1024 .f32 := k0_pay59 (F := Ideal) (val15 x0 x1) (val38 x1 x2 x3 x4) (val39 x1 x2 x3 x4) (val40 x0 x1) (val44 x1 x2 x3 x4) (val45 x1 x2 x3 x4) (val46 x1 x2 x3 x4) (val47 x1 x2 x3 x4)
/-- Band 2 of the overlap matrix. -/
def band2 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S128x1024 .f32 := k0_pay63 (F := Ideal) (val50 x0 x1 x2 x3 x4)
/-- Band 3 of the overlap matrix. -/
def band3 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S128x1024 .f32 := k0_pay66 (F := Ideal) (val40 x0 x1) (val51 x0 x1 x2 x3 x4) (val52 x0 x1)
/-- Band 4 of the overlap matrix. -/
def band4 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S128x1024 .f32 := k0_pay69 (F := Ideal) (val15 x0 x1) (val40 x0 x1) (val53 x1 x2 x3 x4) (val54 x0 x1)
/-- Band 5 of the overlap matrix. -/
def band5 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S128x1024 .f32 := k0_pay72 (F := Ideal) (val15 x0 x1) (val40 x0 x1) (val55 x1 x2 x3 x4) (val56 x1 x2 x3 x4)
/-- Band 6 of the overlap matrix. -/
def band6 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S128x1024 .f32 := k0_pay76 (F := Ideal) (val15 x0 x1) (val39 x1 x2 x3 x4) (val40 x0 x1) (val57 x1 x2 x3 x4) (val58 x1 x2 x3 x4) (k0_pay75 (F := Ideal))
/-- Band 7 of the overlap matrix. -/
def band7 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S128x1024 .f32 := k0_pay82 (F := Ideal) (val15 x0 x1) (val39 x1 x2 x3 x4) (val40 x0 x1) (val59 x1 x2 x3 x4) (val60 x1 x2 x3 x4) (val61 x1 x2 x3 x4) (val62 x1 x2 x3 x4) (val63 x1 x2 x3 x4)
/-- The eight bands of the overlap matrix. -/
def bands (x0 : Vec Ideal S1x1x1024 .f32) (x1 : Vec Ideal S1x1x1024 .i32) (x2 : Vec Ideal S1x1x1024 .i32) (x3 : Vec Ideal S1x1024x364 .f32) (x4 : Vec Ideal S1x1024x4 .f32) : Bands Ideal where
  b0 := band0 x0 x1 x2 x3 x4
  b1 := band1 x0 x1 x2 x3 x4
  b2 := band2 x0 x1 x2 x3 x4
  b3 := band3 x0 x1 x2 x3 x4
  b4 := band4 x0 x1 x2 x3 x4
  b5 := band5 x0 x1 x2 x3 x4
  b6 := band6 x0 x1 x2 x3 x4
  b7 := band7 x0 x1 x2 x3 x4
/-- The survivors the loop leaves. -/
def survivors (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S1024 .f32 := loopKeep (bands x0 x1 x2 x3 x4) (val40 x0 x1)
/-- Whether a candidate is confirmed, as a number. -/
def val64 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S1024 .f32 := k0_pay83 (F := Ideal) (val0 x0) (survivors x0 x1 x2 x3 x4)
/-- Whether a candidate is confirmed. -/
def val65 (x0 : Vec Ideal S1x1x1024 .f32) (x1 : Vec Ideal S1x1x1024 .i32) (x2 : Vec Ideal S1x1x1024 .i32) (x3 : Vec Ideal S1x1024x364 .f32) (x4 : Vec Ideal S1x1024x4 .f32) : IVec S1024 1 := k0_pay84 (F := Ideal) (val0 x0) (survivors x0 x1 x2 x3 x4)
/-- Value 66 of the body. -/
def val66 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S1024 .f32 := k0_pay85 (F := Ideal) (val40 x0 x1) (val64 x0 x1 x2 x3 x4) (Scalar.ofBits (F := Ideal) .f32 0x3F800000#32)
/-- Value 67 of the body. -/
def val67 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S1024 .f32 := k0_pay88 (F := Ideal) (val15 x0 x1) (val64 x0 x1 x2 x3 x4)
/-- Value 68 of the body. -/
def val68 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S1024 .f32 := k0_pay89 (F := Ideal) (val15 x0 x1) (val40 x0 x1) (val64 x0 x1 x2 x3 x4) (Scalar.ofBits (F := Ideal) .f32 0x3F800000#32)
/-- Value 69 of the body. -/
def val69 (x0 : Vec Ideal S1x1x1024 .f32) (x1 : Vec Ideal S1x1x1024 .i32) : FVec Ideal S128x1024 .f32 := k0_pay90 (F := Ideal) (val15 x0 x1)
/-- Value 70 of the body. -/
def val70 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S128 .f32 := k0_pay91 (F := Ideal) (val64 x0 x1 x2 x3 x4)
/-- Value 71 of the body. -/
def val71 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S1024 .f32 := k0_pay94 (F := Ideal) (val15 x0 x1) (val64 x0 x1 x2 x3 x4) (val67 x0 x1 x2 x3 x4) (val69 x0 x1) (val70 x0 x1 x2 x3 x4)
/-- Value 72 of the body. -/
def val72 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S1024 .f32 := k0_pay95 (F := Ideal) (val15 x0 x1) (val66 x0 x1 x2 x3 x4) (val68 x0 x1 x2 x3 x4) (val69 x0 x1)
/-- Value 73 of the body. -/
def val73 (x0 : Vec Ideal S1x1x1024 .f32) (x1 : Vec Ideal S1x1x1024 .i32) : IVec S128x1 32 := k0_pay96 (val15 x0 x1)
/-- Value 74 of the body. -/
def val74 (x0 : Vec Ideal S1x1x1024 .f32) (x1 : Vec Ideal S1x1x1024 .i32) : IVec S1x1024 32 := k0_pay97 (val15 x0 x1)
/-- Value 75 of the body. -/
def val75 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S1024 .f32 := k0_pay100 (F := Ideal) (val15 x0 x1) (val66 x0 x1 x2 x3 x4) (val72 x0 x1 x2 x3 x4) (val73 x0 x1) (val74 x0 x1)
/-- Value 76 of the body. -/
def val76 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S1024 .f32 := k0_pay102 (F := Ideal) (val15 x0 x1) (val64 x0 x1 x2 x3 x4) (val71 x0 x1 x2 x3 x4) (val73 x0 x1) (val74 x0 x1)
/-- Value 77 of the body. -/
def val77 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S128x1024 .f32 := k0_pay103 (F := Ideal) (val15 x0 x1) (val66 x0 x1 x2 x3 x4)
/-- The indicator of the output place of every candidate. -/
def val78 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S128x1024 .f32 := k0_pay104 (F := Ideal) (val16 x0 x1) (val64 x0 x1 x2 x3 x4) (val65 x0 x1 x2 x3 x4) (val75 x0 x1 x2 x3 x4) (val76 x0 x1 x2 x3 x4) (val77 x0 x1 x2 x3 x4)
/-- Value 79 of the body. -/
def val79 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S128 .f32 := k0_pay107 (F := Ideal) (val16 x0 x1) (val30 x1 x2 x3 x4) (val64 x0 x1 x2 x3 x4) (val65 x0 x1 x2 x3 x4) (val75 x0 x1 x2 x3 x4) (val76 x0 x1 x2 x3 x4) (val77 x0 x1 x2 x3 x4)
/-- Value 80 of the body. -/
def val80 (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S128 .f32 := k0_pay108 (F := Ideal) (val16 x0 x1) (val32 x1 x2 x3 x4) (val64 x0 x1 x2 x3 x4) (val65 x0 x1 x2 x3 x4) (val75 x0 x1 x2 x3 x4) (val76 x0 x1 x2 x3 x4) (val77 x0 x1 x2 x3 x4)
/-- The boxes the body leaves. -/
def outBoxes (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S1x4x128 .f32 := k0_pay1 (F := Ideal) (val33 x1 x2 x3 x4) (val34 x1 x2 x3 x4) (val78 x0 x1 x2 x3 x4) (val79 x0 x1 x2 x3 x4) (val80 x0 x1 x2 x3 x4)
/-- The scores the body leaves. -/
def outScores (x0 : Vec Ideal S1x1x1024 .f32) (x1 : Vec Ideal S1x1x1024 .i32) (x2 : Vec Ideal S1x1x1024 .i32) (x3 : Vec Ideal S1x1024x364 .f32) (x4 : Vec Ideal S1x1024x4 .f32) : FVec Ideal S1x1x128 .f32 := k0_pay105 (F := Ideal) (val0 x0) (val16 x0 x1) (val64 x0 x1 x2 x3 x4) (val65 x0 x1 x2 x3 x4) (val75 x0 x1 x2 x3 x4) (val76 x0 x1 x2 x3 x4) (val77 x0 x1 x2 x3 x4)
/-- The labels the body leaves. -/
def outLabels (x0 : Vec Ideal S1x1x1024 .f32) (x1 : Vec Ideal S1x1x1024 .i32) (x2 : Vec Ideal S1x1x1024 .i32) (x3 : Vec Ideal S1x1024x364 .f32) (x4 : Vec Ideal S1x1024x4 .f32) : IVec S1x1x128 32 := k0_pay106 (F := Ideal) (val16 x0 x1) (val17 x1) (val64 x0 x1 x2 x3 x4) (val65 x0 x1 x2 x3 x4) (val75 x0 x1 x2 x3 x4) (val76 x0 x1 x2 x3 x4) (val77 x0 x1 x2 x3 x4)

section generic
variable {F : FTy → Type} [FloatOps F]

/-- The loop's first two trips, opened. -/
theorem loop_two (B : Bands F) (v : FVec F S1024 .f32) (d : Decidable (goes (nextFlag B v v) (Scalar.addi 0#32 1#32) = 1#1)) :
    loopOut B v 1025 v 1#32 0#32 = Decidable.rec (motive := fun _ => FVec F S1024 .f32 × BitVec 32 × BitVec 32)
      (fun _ => (nextKeep B v v, nextFlag B v v, Scalar.addi 0#32 1#32))
      (fun _ => loopOut B v 1023 (nextKeep B v (nextKeep B v v)) (nextFlag B v (nextKeep B v v)) (Scalar.addi (Scalar.addi 0#32 1#32) 1#32)) d := by
  have h1 : loopOut B v 1025 v 1#32 0#32 = loopOut B v 1024 (nextKeep B v v) (nextFlag B v v) (Scalar.addi 0#32 1#32) := by
    rw [loopOut, if_pos (by decide)]
  rw [h1, loopOut]
  cases d with
  | isTrue h => rw [if_pos h]
  | isFalse h => rw [if_neg h]

variable (c : Dev nD) (arg1 : Memref sig .tc .vmem S1x1x1024 .f32) (harg1 : arg1.IsWhole) (arg2 : Memref sig .tc .vmem S1x1x1024 .i32) (harg2 : arg2.IsWhole) (arg3 : Memref sig .tc .vmem S1x1x1024 .i32) (harg3 : arg3.IsWhole) (arg4 : Memref sig .tc .vmem S1x1024x364 .f32) (harg4 : arg4.IsWhole) (arg5 : Memref sig .tc .vmem S1x1024x4 .f32) (harg5 : arg5.IsWhole)
  (x0 : Vec F S1x1x1024 .f32) (x1 : Vec F S1x1x1024 .i32) (x2 : Vec F S1x1x1024 .i32) (x3 : Vec F S1x1024x364 .f32) (x4 : Vec F S1x1024x4 .f32)

/-- Value 64 in terms of the loop's result. -/
theorem run64_loop : kernelRun.sl.r_64 c arg1 harg1 arg2 harg2 arg3 harg3 arg4 harg4 arg5 harg5 x0 x1 x2 x3 x4 = k0_pay83 (kernelRun.sl.r c arg1 harg1 x0)
    (loopKeep ({ b0 := k0_pay54 (kernelRun.sl.r_15 c arg1 harg1 arg2 harg2 x0 x1) (kernelRun.sl.r_39 c arg2 harg2 arg3 harg3 arg4 harg4 arg5 harg5 x1 x2 x3 x4) (kernelRun.sl.r_40 c arg1 harg1 arg2 harg2 x0 x1) (kernelRun.sl.r_41 c arg2 harg2 arg3 harg3 arg4 harg4 arg5 harg5 x1 x2 x3 x4) (kernelRun.sl.r_42 c arg2 harg2 arg3 harg3 arg4 harg4 arg5 harg5 x1 x2 x3 x4) (kernelRun.sl.r_43 c arg2 harg2 arg3 harg3 arg4 harg4 arg5 harg5 x1 x2 x3 x4), b1 := k0_pay59 (kernelRun.sl.r_15 c arg1 harg1 arg2 harg2 x0 x1) (kernelRun.sl.r_38 c arg2 harg2 arg3 harg3 arg4 harg4 arg5 harg5 x1 x2 x3 x4) (kernelRun.sl.r_39 c arg2 harg2 arg3 harg3 arg4 harg4 arg5 harg5 x1 x2 x3 x4) (kernelRun.sl.r_40 c arg1 harg1 arg2 harg2 x0 x1) (kernelRun.sl.r_44 c arg2 harg2 arg3 harg3 arg4 harg4 arg5 harg5 x1 x2 x3 x4) (kernelRun.sl.r_45 c arg2 harg2 arg3 harg3 arg4 harg4 arg5 harg5 x1 x2 x3 x4) (kernelRun.sl.r_46 c arg2 harg2 arg3 harg3 arg4 harg4 arg5 harg5 x1 x2 x3 x4) (kernelRun.sl.r_47 c arg2 harg2 arg3 harg3 arg4 harg4 arg5 harg5 x1 x2 x3 x4), b2 := k0_pay63 (kernelRun.sl.r_50 c arg1 harg1 arg2 harg2 arg3 harg3 arg4 harg4 arg5 harg5 x0 x1 x2 x3 x4), b3 := k0_pay66 (kernelRun.sl.r_40 c arg1 harg1 arg2 harg2 x0 x1) (kernelRun.sl.r_51 c arg1 harg1 arg2 harg2 arg3 harg3 arg4 harg4 arg5 harg5 x0 x1 x2 x3 x4) (kernelRun.sl.r_52 c arg1 harg1 arg2 harg2 x0 x1), b4 := k0_pay69 (kernelRun.sl.r_15 c arg1 harg1 arg2 harg2 x0 x1) (kernelRun.sl.r_40 c arg1 harg1 arg2 harg2 x0 x1) (kernelRun.sl.r_53 c arg2 harg2 arg3 harg3 arg4 harg4 arg5 harg5 x1 x2 x3 x4) (kernelRun.sl.r_54 c arg1 harg1 arg2 harg2 x0 x1), b5 := k0_pay72 (kernelRun.sl.r_15 c arg1 harg1 arg2 harg2 x0 x1) (kernelRun.sl.r_40 c arg1 harg1 arg2 harg2 x0 x1) (kernelRun.sl.r_55 c arg2 harg2 arg3 harg3 arg4 harg4 arg5 harg5 x1 x2 x3 x4) (kernelRun.sl.r_56 c arg2 harg2 arg3 harg3 arg4 harg4 arg5 harg5 x1 x2 x3 x4), b6 := k0_pay76 (kernelRun.sl.r_15 c arg1 harg1 arg2 harg2 x0 x1) (kernelRun.sl.r_39 c arg2 harg2 arg3 harg3 arg4 harg4 arg5 harg5 x1 x2 x3 x4) (kernelRun.sl.r_40 c arg1 harg1 arg2 harg2 x0 x1) (kernelRun.sl.r_57 c arg2 harg2 arg3 harg3 arg4 harg4 arg5 harg5 x1 x2 x3 x4) (kernelRun.sl.r_58 c arg2 harg2 arg3 harg3 arg4 harg4 arg5 harg5 x1 x2 x3 x4) k0_pay75, b7 := k0_pay82 (kernelRun.sl.r_15 c arg1 harg1 arg2 harg2 x0 x1) (kernelRun.sl.r_39 c arg2 harg2 arg3 harg3 arg4 harg4 arg5 harg5 x1 x2 x3 x4) (kernelRun.sl.r_40 c arg1 harg1 arg2 harg2 x0 x1) (kernelRun.sl.r_59 c arg2 harg2 arg3 harg3 arg4 harg4 arg5 harg5 x1 x2 x3 x4) (kernelRun.sl.r_60 c arg2 harg2 arg3 harg3 arg4 harg4 arg5 harg5 x1 x2 x3 x4) (kernelRun.sl.r_61 c arg2 harg2 arg3 harg3 arg4 harg4 arg5 harg5 x1 x2 x3 x4) (kernelRun.sl.r_62 c arg2 harg2 arg3 harg3 arg4 harg4 arg5 harg5 x1 x2 x3 x4) (kernelRun.sl.r_63 c arg2 harg2 arg3 harg3 arg4 harg4 arg5 harg5 x1 x2 x3 x4) }) (kernelRun.sl.r_40 c arg1 harg1 arg2 harg2 x0 x1)) := by
  unfold kernelRun.sl.r_64 loopKeep
  rw [loop_two _ _ (instDecidableEqBitVec _ _)]

/-- Value 65 in terms of the loop's result. -/
theorem run65_loop : kernelRun.sl.r_65 c arg1 harg1 arg2 harg2 arg3 harg3 arg4 harg4 arg5 harg5 x0 x1 x2 x3 x4 = k0_pay84 (kernelRun.sl.r c arg1 harg1 x0)
    (loopKeep ({ b0 := k0_pay54 (kernelRun.sl.r_15 c arg1 harg1 arg2 harg2 x0 x1) (kernelRun.sl.r_39 c arg2 harg2 arg3 harg3 arg4 harg4 arg5 harg5 x1 x2 x3 x4) (kernelRun.sl.r_40 c arg1 harg1 arg2 harg2 x0 x1) (kernelRun.sl.r_41 c arg2 harg2 arg3 harg3 arg4 harg4 arg5 harg5 x1 x2 x3 x4) (kernelRun.sl.r_42 c arg2 harg2 arg3 harg3 arg4 harg4 arg5 harg5 x1 x2 x3 x4) (kernelRun.sl.r_43 c arg2 harg2 arg3 harg3 arg4 harg4 arg5 harg5 x1 x2 x3 x4), b1 := k0_pay59 (kernelRun.sl.r_15 c arg1 harg1 arg2 harg2 x0 x1) (kernelRun.sl.r_38 c arg2 harg2 arg3 harg3 arg4 harg4 arg5 harg5 x1 x2 x3 x4) (kernelRun.sl.r_39 c arg2 harg2 arg3 harg3 arg4 harg4 arg5 harg5 x1 x2 x3 x4) (kernelRun.sl.r_40 c arg1 harg1 arg2 harg2 x0 x1) (kernelRun.sl.r_44 c arg2 harg2 arg3 harg3 arg4 harg4 arg5 harg5 x1 x2 x3 x4) (kernelRun.sl.r_45 c arg2 harg2 arg3 harg3 arg4 harg4 arg5 harg5 x1 x2 x3 x4) (kernelRun.sl.r_46 c arg2 harg2 arg3 harg3 arg4 harg4 arg5 harg5 x1 x2 x3 x4) (kernelRun.sl.r_47 c arg2 harg2 arg3 harg3 arg4 harg4 arg5 harg5 x1 x2 x3 x4), b2 := k0_pay63 (kernelRun.sl.r_50 c arg1 harg1 arg2 harg2 arg3 harg3 arg4 harg4 arg5 harg5 x0 x1 x2 x3 x4), b3 := k0_pay66 (kernelRun.sl.r_40 c arg1 harg1 arg2 harg2 x0 x1) (kernelRun.sl.r_51 c arg1 harg1 arg2 harg2 arg3 harg3 arg4 harg4 arg5 harg5 x0 x1 x2 x3 x4) (kernelRun.sl.r_52 c arg1 harg1 arg2 harg2 x0 x1), b4 := k0_pay69 (kernelRun.sl.r_15 c arg1 harg1 arg2 harg2 x0 x1) (kernelRun.sl.r_40 c arg1 harg1 arg2 harg2 x0 x1) (kernelRun.sl.r_53 c arg2 harg2 arg3 harg3 arg4 harg4 arg5 harg5 x1 x2 x3 x4) (kernelRun.sl.r_54 c arg1 harg1 arg2 harg2 x0 x1), b5 := k0_pay72 (kernelRun.sl.r_15 c arg1 harg1 arg2 harg2 x0 x1) (kernelRun.sl.r_40 c arg1 harg1 arg2 harg2 x0 x1) (kernelRun.sl.r_55 c arg2 harg2 arg3 harg3 arg4 harg4 arg5 harg5 x1 x2 x3 x4) (kernelRun.sl.r_56 c arg2 harg2 arg3 harg3 arg4 harg4 arg5 harg5 x1 x2 x3 x4), b6 := k0_pay76 (kernelRun.sl.r_15 c arg1 harg1 arg2 harg2 x0 x1) (kernelRun.sl.r_39 c arg2 harg2 arg3 harg3 arg4 harg4 arg5 harg5 x1 x2 x3 x4) (kernelRun.sl.r_40 c arg1 harg1 arg2 harg2 x0 x1) (kernelRun.sl.r_57 c arg2 harg2 arg3 harg3 arg4 harg4 arg5 harg5 x1 x2 x3 x4) (kernelRun.sl.r_58 c arg2 harg2 arg3 harg3 arg4 harg4 arg5 harg5 x1 x2 x3 x4) k0_pay75, b7 := k0_pay82 (kernelRun.sl.r_15 c arg1 harg1 arg2 harg2 x0 x1) (kernelRun.sl.r_39 c arg2 harg2 arg3 harg3 arg4 harg4 arg5 harg5 x1 x2 x3 x4) (kernelRun.sl.r_40 c arg1 harg1 arg2 harg2 x0 x1) (kernelRun.sl.r_59 c arg2 harg2 arg3 harg3 arg4 harg4 arg5 harg5 x1 x2 x3 x4) (kernelRun.sl.r_60 c arg2 harg2 arg3 harg3 arg4 harg4 arg5 harg5 x1 x2 x3 x4) (kernelRun.sl.r_61 c arg2 harg2 arg3 harg3 arg4 harg4 arg5 harg5 x1 x2 x3 x4) (kernelRun.sl.r_62 c arg2 harg2 arg3 harg3 arg4 harg4 arg5 harg5 x1 x2 x3 x4) (kernelRun.sl.r_63 c arg2 harg2 arg3 harg3 arg4 harg4 arg5 harg5 x1 x2 x3 x4) }) (kernelRun.sl.r_40 c arg1 harg1 arg2 harg2 x0 x1)) := by
  unfold kernelRun.sl.r_65 loopKeep
  rw [loop_two _ _ (instDecidableEqBitVec _ _)]

end generic

variable (c : Dev nD) (arg1 : Memref sig .tc .vmem S1x1x1024 .f32) (harg1 : arg1.IsWhole) (arg2 : Memref sig .tc .vmem S1x1x1024 .i32) (harg2 : arg2.IsWhole) (arg3 : Memref sig .tc .vmem S1x1x1024 .i32) (harg3 : arg3.IsWhole) (arg4 : Memref sig .tc .vmem S1x1024x364 .f32) (harg4 : arg4.IsWhole) (arg5 : Memref sig .tc .vmem S1x1024x4 .f32) (harg5 : arg5.IsWhole) (arg6 : Memref sig .tc .vmem S1x4x128 .f32) (harg6 : arg6.IsWhole) (arg7 : Memref sig .tc .vmem S1x1x128 .f32) (harg7 : arg7.IsWhole) (arg8 : Memref sig .tc .vmem S1x1x128 .i32) (harg8 : arg8.IsWhole) (arg9 : Memref sig .tc .vmem S1024x1024 .f32) (harg9 : arg9.IsWhole)
  (x0 : Vec Ideal S1x1x1024 .f32) (x1 : Vec Ideal S1x1x1024 .i32) (x2 : Vec Ideal S1x1x1024 .i32) (x3 : Vec Ideal S1x1024x364 .f32) (x4 : Vec Ideal S1x1024x4 .f32)

theorem run0 : kernelRun.sl.r (F := Ideal) c arg1 harg1 x0 = val0 x0 := by
  unfold kernelRun.sl.r val0
  simp (disch := decide) only [View.ld_unit_lit', View.readAt_eq_ld, Memref.IsWhole.read_unread]

theorem run1 : kernelRun.sl.r_1 (F := Ideal) c arg2 harg2 x1 = val1 x1 := by
  unfold kernelRun.sl.r_1 val1
  simp (disch := decide) only [View.ld_unit_lit', View.readAt_eq_ld, Memref.IsWhole.read_unread]

theorem run2 : kernelRun.sl.r_2 (F := Ideal) c arg2 harg2 x1 = val2 x1 := by
  unfold kernelRun.sl.r_2 val2
  simp (disch := decide) only [View.ld_unit_lit', View.readAt_eq_ld, Memref.IsWhole.read_unread]

theorem run3 : kernelRun.sl.r_3 (F := Ideal) c arg3 harg3 arg4 harg4 x2 x3 = val3 x2 x3 := by
  unfold kernelRun.sl.r_3 val3
  simp (disch := decide) only [View.ld_unit_lit', View.readAt_eq_ld, Memref.IsWhole.read_unread]

theorem run4 : kernelRun.sl.r_4 (F := Ideal) c arg3 harg3 arg5 harg5 x2 x4 = val4 x2 x4 := by
  unfold kernelRun.sl.r_4 val4
  simp (disch := decide) only [View.ld_unit_lit', View.readAt_eq_ld, Memref.IsWhole.read_unread]

theorem run5 : kernelRun.sl.r_5 (F := Ideal) c arg1 harg1 arg2 harg2 x0 x1 = val5 x0 x1 := by
  unfold kernelRun.sl.r_5 val5
  simp (disch := decide) only [View.ld_unit_lit', View.readAt_eq_ld, Memref.IsWhole.read_unread]

theorem run6 : kernelRun.sl.r_6 (F := Ideal) c arg1 harg1 x0 = val6 x0 := by
  unfold kernelRun.sl.r_6 val6
  simp (disch := decide) only [View.ld_unit_lit', View.readAt_eq_ld, Memref.IsWhole.read_unread]

theorem run7 : kernelRun.sl.r_7 (F := Ideal) c arg1 harg1 arg2 harg2 x0 x1 = val7 x0 x1 := by
  unfold kernelRun.sl.r_7 val7
  rw [run2, run6, run0]

theorem run8 : kernelRun.sl.r_8 (F := Ideal) c arg1 harg1 arg2 harg2 x0 x1 = val8 x0 x1 := by
  unfold kernelRun.sl.r_8 val8
  rw [run2, run0]

theorem run9 : kernelRun.sl.r_9 (F := Ideal) c arg1 harg1 arg2 harg2 x0 x1 = val9 x0 x1 := by
  unfold kernelRun.sl.r_9 val9
  rw [run2, run0]

theorem run10 : kernelRun.sl.r_10 (F := Ideal) c arg1 harg1 arg2 harg2 x0 x1 = val10 x0 x1 := by
  unfold kernelRun.sl.r_10 val10
  rw [run9]

theorem run11 : kernelRun.sl.r_11 (F := Ideal) c arg1 harg1 arg2 harg2 x0 x1 = val11 x0 x1 := by
  unfold kernelRun.sl.r_11 val11
  rw [run2, run0]

theorem run12 : kernelRun.sl.r_12 (F := Ideal) c arg1 harg1 arg2 harg2 x0 x1 = val12 x0 x1 := by
  unfold kernelRun.sl.r_12 val12
  rw [run2, run0]

theorem run13 : kernelRun.sl.r_13 (F := Ideal) c arg1 harg1 x0 = val13 x0 := by
  unfold kernelRun.sl.r_13 val13
  rw [run0]

theorem run14 : kernelRun.sl.r_14 (F := Ideal) c arg1 harg1 arg2 harg2 x0 x1 = val14 x0 x1 := by
  unfold kernelRun.sl.r_14 val14
  rw [run2, run0]

theorem run15 : kernelRun.sl.r_15 (F := Ideal) c arg1 harg1 arg2 harg2 x0 x1 = val15 x0 x1 := by
  unfold kernelRun.sl.r_15 val15
  rw [run2, run5, run7, run8, run10, run11, run12, run13, run14, run0]

theorem run16 : kernelRun.sl.r_16 (F := Ideal) c arg1 harg1 arg2 harg2 x0 x1 = val16 x0 x1 := by
  unfold kernelRun.sl.r_16 val16
  rw [run2, run5, run7, run8, run10, run11, run12, run13, run14, run0]

theorem run17 : kernelRun.sl.r_17 (F := Ideal) c arg2 harg2 x1 = val17 x1 := by
  unfold kernelRun.sl.r_17 val17
  rw [run1]

theorem run18 : kernelRun.sl.r_18 (F := Ideal) c arg2 harg2 x1 = val18 x1 := by
  unfold kernelRun.sl.r_18 val18
  rw [run1]

theorem run19 : kernelRun.sl.r_19 (F := Ideal) c arg2 harg2 x1 = val19 x1 := by
  unfold kernelRun.sl.r_19 val19
  rw [run18]

theorem run20 : kernelRun.sl.r_20 (F := Ideal) c arg3 harg3 arg5 harg5 x2 x4 = val20 x2 x4 := by
  unfold kernelRun.sl.r_20 val20
  rw [run4]

theorem run21 : kernelRun.sl.r_21 (F := Ideal) c arg3 harg3 arg5 harg5 x2 x4 = val21 x2 x4 := by
  unfold kernelRun.sl.r_21 val21
  rw [run4]

theorem run22 : kernelRun.sl.r_22 (F := Ideal) c arg3 harg3 arg5 harg5 x2 x4 = val22 x2 x4 := by
  unfold kernelRun.sl.r_22 val22
  rw [run4]

theorem run23 : kernelRun.sl.r_23 (F := Ideal) c arg3 harg3 arg5 harg5 x2 x4 = val23 x2 x4 := by
  unfold kernelRun.sl.r_23 val23
  rw [run4]

theorem run24 : kernelRun.sl.r_24 (F := Ideal) c arg2 harg2 arg3 harg3 arg4 harg4 x1 x2 x3 = val24 x1 x2 x3 := by
  unfold kernelRun.sl.r_24 val24
  rw [run3, run18]
  rfl

theorem run25 : kernelRun.sl.r_25 (F := Ideal) c arg2 harg2 arg3 harg3 arg4 harg4 x1 x2 x3 = val25 x1 x2 x3 := by
  unfold kernelRun.sl.r_25 val25
  rw [run3, run18]
  rfl

theorem run26 : kernelRun.sl.r_26 (F := Ideal) c arg2 harg2 arg3 harg3 arg4 harg4 arg5 harg5 x1 x2 x3 x4 = val26 x1 x2 x3 x4 := by
  unfold kernelRun.sl.r_26 val26
  rw [run20, run22, run24]

theorem run27 : kernelRun.sl.r_27 (F := Ideal) c arg2 harg2 arg3 harg3 arg4 harg4 arg5 harg5 x1 x2 x3 x4 = val27 x1 x2 x3 x4 := by
  unfold kernelRun.sl.r_27 val27
  rw [run21, run23, run25]

theorem run28 : kernelRun.sl.r_28 (F := Ideal) c arg2 harg2 arg3 harg3 arg4 harg4 arg5 harg5 x1 x2 x3 x4 = val28 x1 x2 x3 x4 := by
  unfold kernelRun.sl.r_28 val28
  rw [run3, run19, run20]
  rfl

theorem run29 : kernelRun.sl.r_29 (F := Ideal) c arg2 harg2 arg3 harg3 arg4 harg4 arg5 harg5 x1 x2 x3 x4 = val29 x1 x2 x3 x4 := by
  unfold kernelRun.sl.r_29 val29
  rw [run3, run19, run21]
  rfl

theorem run30 : kernelRun.sl.r_30 (F := Ideal) c arg2 harg2 arg3 harg3 arg4 harg4 arg5 harg5 x1 x2 x3 x4 = val30 x1 x2 x3 x4 := by
  unfold kernelRun.sl.r_30 val30
  rw [run3, run19, run20, run22, run24]
  rfl

theorem run31 : kernelRun.sl.r_31 (F := Ideal) c arg2 harg2 arg3 harg3 arg4 harg4 arg5 harg5 x1 x2 x3 x4 = val31 x1 x2 x3 x4 := by
  unfold kernelRun.sl.r_31 val31
  rw [run3, run19, run21, run23, run25]
  rfl

theorem run32 : kernelRun.sl.r_32 (F := Ideal) c arg2 harg2 arg3 harg3 arg4 harg4 arg5 harg5 x1 x2 x3 x4 = val32 x1 x2 x3 x4 := by
  unfold kernelRun.sl.r_32 val32
  rw [run31]
  rfl

theorem run33 : kernelRun.sl.r_33 (F := Ideal) c arg2 harg2 arg3 harg3 arg4 harg4 arg5 harg5 x1 x2 x3 x4 = val33 x1 x2 x3 x4 := by
  unfold kernelRun.sl.r_33 val33
  rw [run26, run28]

theorem run34 : kernelRun.sl.r_34 (F := Ideal) c arg2 harg2 arg3 harg3 arg4 harg4 arg5 harg5 x1 x2 x3 x4 = val34 x1 x2 x3 x4 := by
  unfold kernelRun.sl.r_34 val34
  rw [run27, run29]

theorem run35 : kernelRun.sl.r_35 (F := Ideal) c arg2 harg2 arg3 harg3 arg4 harg4 arg5 harg5 x1 x2 x3 x4 = val35 x1 x2 x3 x4 := by
  unfold kernelRun.sl.r_35 val35
  rw [run17, run30]

theorem run36 : kernelRun.sl.r_36 (F := Ideal) c arg2 harg2 arg3 harg3 arg4 harg4 arg5 harg5 x1 x2 x3 x4 = val36 x1 x2 x3 x4 := by
  unfold kernelRun.sl.r_36 val36
  rw [run17, run31]
  rfl

theorem run37 : kernelRun.sl.r_37 (F := Ideal) c arg2 harg2 arg3 harg3 arg4 harg4 arg5 harg5 x1 x2 x3 x4 = val37 x1 x2 x3 x4 := by
  unfold kernelRun.sl.r_37 val37
  rw [run17, run26, run28]

theorem run38 : kernelRun.sl.r_38 (F := Ideal) c arg2 harg2 arg3 harg3 arg4 harg4 arg5 harg5 x1 x2 x3 x4 = val38 x1 x2 x3 x4 := by
  unfold kernelRun.sl.r_38 val38
  rw [run17, run27, run29]

theorem run39 : kernelRun.sl.r_39 (F := Ideal) c arg2 harg2 arg3 harg3 arg4 harg4 arg5 harg5 x1 x2 x3 x4 = val39 x1 x2 x3 x4 := by
  unfold kernelRun.sl.r_39 val39
  rw [run17, run26, run27, run28, run29, run30, run31]
  rfl

theorem run40 : kernelRun.sl.r_40 (F := Ideal) c arg1 harg1 arg2 harg2 x0 x1 = val40 x0 x1 := by
  unfold kernelRun.sl.r_40 val40
  rw [run16]

theorem run41 : kernelRun.sl.r_41 (F := Ideal) c arg2 harg2 arg3 harg3 arg4 harg4 arg5 harg5 x1 x2 x3 x4 = val41 x1 x2 x3 x4 := by
  unfold kernelRun.sl.r_41 val41
  rw [run17, run31]
  rfl

theorem run42 : kernelRun.sl.r_42 (F := Ideal) c arg2 harg2 arg3 harg3 arg4 harg4 arg5 harg5 x1 x2 x3 x4 = val42 x1 x2 x3 x4 := by
  unfold kernelRun.sl.r_42 val42
  rw [run17, run27, run29]

theorem run43 : kernelRun.sl.r_43 (F := Ideal) c arg2 harg2 arg3 harg3 arg4 harg4 arg5 harg5 x1 x2 x3 x4 = val43 x1 x2 x3 x4 := by
  unfold kernelRun.sl.r_43 val43
  rw [run17, run26, run28, run30]

theorem run44 : kernelRun.sl.r_44 (F := Ideal) c arg2 harg2 arg3 harg3 arg4 harg4 arg5 harg5 x1 x2 x3 x4 = val44 x1 x2 x3 x4 := by
  unfold kernelRun.sl.r_44 val44
  rw [run35]

theorem run45 : kernelRun.sl.r_45 (F := Ideal) c arg2 harg2 arg3 harg3 arg4 harg4 arg5 harg5 x1 x2 x3 x4 = val45 x1 x2 x3 x4 := by
  unfold kernelRun.sl.r_45 val45
  rw [run36]

theorem run46 : kernelRun.sl.r_46 (F := Ideal) c arg2 harg2 arg3 harg3 arg4 harg4 arg5 harg5 x1 x2 x3 x4 = val46 x1 x2 x3 x4 := by
  unfold kernelRun.sl.r_46 val46
  rw [run37]

theorem run47 : kernelRun.sl.r_47 (F := Ideal) c arg2 harg2 arg3 harg3 arg4 harg4 arg5 harg5 x1 x2 x3 x4 = val47 x1 x2 x3 x4 := by
  unfold kernelRun.sl.r_47 val47
  rw [run37]

theorem run48 : kernelRun.sl.r_48 (F := Ideal) c arg2 harg2 arg3 harg3 arg4 harg4 arg5 harg5 x1 x2 x3 x4 = val48 x1 x2 x3 x4 := by
  unfold kernelRun.sl.r_48 val48
  rw [run35]

theorem run49 : kernelRun.sl.r_49 (F := Ideal) c arg2 harg2 arg3 harg3 arg4 harg4 arg5 harg5 x1 x2 x3 x4 = val49 x1 x2 x3 x4 := by
  unfold kernelRun.sl.r_49 val49
  rw [run36]

theorem run50 : kernelRun.sl.r_50 (F := Ideal) c arg1 harg1 arg2 harg2 arg3 harg3 arg4 harg4 arg5 harg5 x0 x1 x2 x3 x4 = val50 x0 x1 x2 x3 x4 := by
  unfold kernelRun.sl.r_50 val50
  rw [run15, run36, run37, run38, run39, run40, run48, run49]

theorem run51 : kernelRun.sl.r_51 (F := Ideal) c arg1 harg1 arg2 harg2 arg3 harg3 arg4 harg4 arg5 harg5 x0 x1 x2 x3 x4 = val51 x0 x1 x2 x3 x4 := by
  unfold kernelRun.sl.r_51 val51
  rw [run15, run35, run36, run37, run38, run39]

theorem run52 : kernelRun.sl.r_52 (F := Ideal) c arg1 harg1 arg2 harg2 x0 x1 = val52 x0 x1 := by
  unfold kernelRun.sl.r_52 val52
  rw [run40]

theorem run53 : kernelRun.sl.r_53 (F := Ideal) c arg2 harg2 arg3 harg3 arg4 harg4 arg5 harg5 x1 x2 x3 x4 = val53 x1 x2 x3 x4 := by
  unfold kernelRun.sl.r_53 val53
  rw [run35, run36, run37, run38, run39]

theorem run54 : kernelRun.sl.r_54 (F := Ideal) c arg1 harg1 arg2 harg2 x0 x1 = val54 x0 x1 := by
  unfold kernelRun.sl.r_54 val54
  rw [run15]

theorem run55 : kernelRun.sl.r_55 (F := Ideal) c arg2 harg2 arg3 harg3 arg4 harg4 arg5 harg5 x1 x2 x3 x4 = val55 x1 x2 x3 x4 := by
  unfold kernelRun.sl.r_55 val55
  rw [run35, run36, run37, run38]

theorem run56 : kernelRun.sl.r_56 (F := Ideal) c arg2 harg2 arg3 harg3 arg4 harg4 arg5 harg5 x1 x2 x3 x4 = val56 x1 x2 x3 x4 := by
  unfold kernelRun.sl.r_56 val56
  rw [run35, run36, run37, run38, run39]

theorem run57 : kernelRun.sl.r_57 (F := Ideal) c arg2 harg2 arg3 harg3 arg4 harg4 arg5 harg5 x1 x2 x3 x4 = val57 x1 x2 x3 x4 := by
  unfold kernelRun.sl.r_57 val57
  rw [run35, run37]

theorem run58 : kernelRun.sl.r_58 (F := Ideal) c arg2 harg2 arg3 harg3 arg4 harg4 arg5 harg5 x1 x2 x3 x4 = val58 x1 x2 x3 x4 := by
  unfold kernelRun.sl.r_58 val58
  rw [run36, run38]

theorem run59 : kernelRun.sl.r_59 (F := Ideal) c arg2 harg2 arg3 harg3 arg4 harg4 arg5 harg5 x1 x2 x3 x4 = val59 x1 x2 x3 x4 := by
  unfold kernelRun.sl.r_59 val59
  rw [run35]

theorem run60 : kernelRun.sl.r_60 (F := Ideal) c arg2 harg2 arg3 harg3 arg4 harg4 arg5 harg5 x1 x2 x3 x4 = val60 x1 x2 x3 x4 := by
  unfold kernelRun.sl.r_60 val60
  rw [run36]

theorem run61 : kernelRun.sl.r_61 (F := Ideal) c arg2 harg2 arg3 harg3 arg4 harg4 arg5 harg5 x1 x2 x3 x4 = val61 x1 x2 x3 x4 := by
  unfold kernelRun.sl.r_61 val61
  rw [run37]

theorem run62 : kernelRun.sl.r_62 (F := Ideal) c arg2 harg2 arg3 harg3 arg4 harg4 arg5 harg5 x1 x2 x3 x4 = val62 x1 x2 x3 x4 := by
  unfold kernelRun.sl.r_62 val62
  rw [run38]

theorem run63 : kernelRun.sl.r_63 (F := Ideal) c arg2 harg2 arg3 harg3 arg4 harg4 arg5 harg5 x1 x2 x3 x4 = val63 x1 x2 x3 x4 := by
  unfold kernelRun.sl.r_63 val63
  rw [run38]

theorem run64 : kernelRun.sl.r_64 (F := Ideal) c arg1 harg1 arg2 harg2 arg3 harg3 arg4 harg4 arg5 harg5 x0 x1 x2 x3 x4 = val64 x0 x1 x2 x3 x4 := by
  rw [run64_loop]
  unfold val64 survivors bands band0 band1 band2 band3 band4 band5 band6 band7
  simp only [run15, run38, run39, run40, run41, run42, run43, run44, run45, run46, run47, run50, run51, run52, run53, run54, run55, run56, run57, run58, run59, run60, run61, run62, run63, run0]

theorem run65 : kernelRun.sl.r_65 (F := Ideal) c arg1 harg1 arg2 harg2 arg3 harg3 arg4 harg4 arg5 harg5 x0 x1 x2 x3 x4 = val65 x0 x1 x2 x3 x4 := by
  rw [run65_loop]
  unfold val65 survivors bands band0 band1 band2 band3 band4 band5 band6 band7
  simp only [run15, run38, run39, run40, run41, run42, run43, run44, run45, run46, run47, run50, run51, run52, run53, run54, run55, run56, run57, run58, run59, run60, run61, run62, run63, run0]

theorem run66 : kernelRun.sl.r_66 (F := Ideal) c arg1 harg1 arg2 harg2 arg3 harg3 arg4 harg4 arg5 harg5 x0 x1 x2 x3 x4 = val66 x0 x1 x2 x3 x4 := by
  unfold kernelRun.sl.r_66 val66
  rw [run40, run64]
  rfl

theorem run67 : kernelRun.sl.r_67 (F := Ideal) c arg1 harg1 arg2 harg2 arg3 harg3 arg4 harg4 arg5 harg5 x0 x1 x2 x3 x4 = val67 x0 x1 x2 x3 x4 := by
  unfold kernelRun.sl.r_67 val67
  rw [run15, run64]

theorem run68 : kernelRun.sl.r_68 (F := Ideal) c arg1 harg1 arg2 harg2 arg3 harg3 arg4 harg4 arg5 harg5 x0 x1 x2 x3 x4 = val68 x0 x1 x2 x3 x4 := by
  unfold kernelRun.sl.r_68 val68
  rw [run15, run40, run64]
  rfl

theorem run69 : kernelRun.sl.r_69 (F := Ideal) c arg1 harg1 arg2 harg2 x0 x1 = val69 x0 x1 := by
  unfold kernelRun.sl.r_69 val69
  rw [run15]

theorem run70 : kernelRun.sl.r_70 (F := Ideal) c arg1 harg1 arg2 harg2 arg3 harg3 arg4 harg4 arg5 harg5 x0 x1 x2 x3 x4 = val70 x0 x1 x2 x3 x4 := by
  unfold kernelRun.sl.r_70 val70
  rw [run64]

theorem run71 : kernelRun.sl.r_71 (F := Ideal) c arg1 harg1 arg2 harg2 arg3 harg3 arg4 harg4 arg5 harg5 x0 x1 x2 x3 x4 = val71 x0 x1 x2 x3 x4 := by
  unfold kernelRun.sl.r_71 val71
  rw [run15, run64, run67, run69, run70]

theorem run72 : kernelRun.sl.r_72 (F := Ideal) c arg1 harg1 arg2 harg2 arg3 harg3 arg4 harg4 arg5 harg5 x0 x1 x2 x3 x4 = val72 x0 x1 x2 x3 x4 := by
  unfold kernelRun.sl.r_72 val72
  rw [run15, run66, run68, run69]

theorem run73 : kernelRun.sl.r_73 (F := Ideal) c arg1 harg1 arg2 harg2 x0 x1 = val73 x0 x1 := by
  unfold kernelRun.sl.r_73 val73
  rw [run15]

theorem run74 : kernelRun.sl.r_74 (F := Ideal) c arg1 harg1 arg2 harg2 x0 x1 = val74 x0 x1 := by
  unfold kernelRun.sl.r_74 val74
  rw [run15]

theorem run75 : kernelRun.sl.r_75 (F := Ideal) c arg1 harg1 arg2 harg2 arg3 harg3 arg4 harg4 arg5 harg5 x0 x1 x2 x3 x4 = val75 x0 x1 x2 x3 x4 := by
  unfold kernelRun.sl.r_75 val75
  rw [run15, run66, run72, run73, run74]

theorem run76 : kernelRun.sl.r_76 (F := Ideal) c arg1 harg1 arg2 harg2 arg3 harg3 arg4 harg4 arg5 harg5 x0 x1 x2 x3 x4 = val76 x0 x1 x2 x3 x4 := by
  unfold kernelRun.sl.r_76 val76
  rw [run15, run64, run71, run73, run74]

theorem run77 : kernelRun.sl.r_77 (F := Ideal) c arg1 harg1 arg2 harg2 arg3 harg3 arg4 harg4 arg5 harg5 x0 x1 x2 x3 x4 = val77 x0 x1 x2 x3 x4 := by
  unfold kernelRun.sl.r_77 val77
  rw [run15, run66]

theorem run78 : kernelRun.sl.r_78 (F := Ideal) c arg1 harg1 arg2 harg2 arg3 harg3 arg4 harg4 arg5 harg5 x0 x1 x2 x3 x4 = val78 x0 x1 x2 x3 x4 := by
  unfold kernelRun.sl.r_78 val78
  rw [run16, run64, run65, run75, run76, run77]

theorem run79 : kernelRun.sl.r_79 (F := Ideal) c arg1 harg1 arg2 harg2 arg3 harg3 arg4 harg4 arg5 harg5 x0 x1 x2 x3 x4 = val79 x0 x1 x2 x3 x4 := by
  unfold kernelRun.sl.r_79 val79
  rw [run16, run30, run64, run65, run75, run76, run77]

theorem run80 : kernelRun.sl.r_80 (F := Ideal) c arg1 harg1 arg2 harg2 arg3 harg3 arg4 harg4 arg5 harg5 x0 x1 x2 x3 x4 = val80 x0 x1 x2 x3 x4 := by
  unfold kernelRun.sl.r_80 val80
  rw [run16, run32, run64, run65, run75, run76, run77]

/-- What the body leaves in output 5 is the boxes. -/
theorem out5_eq (i : grid0.Coords) : out5 (F := Ideal) c i arg1 harg1 arg2 harg2 arg3 harg3 arg4 harg4 arg5 harg5 arg6 harg6 arg7 harg7 arg8 harg8 arg9 harg9 x0 x1 x2 x3 x4 = outBoxes x0 x1 x2 x3 x4 := by
  unfold out5 outBoxes
  unfold kernelRun
  dsimp only
  simp (disch := decide) only [View.read_writes_junk_eq_canon, View.canon_cons_unit_lit', run33, run34, run78, run79, run80]

/-- What the body leaves in output 6 is the scores. -/
theorem out6_eq (i : grid0.Coords) : out6 (F := Ideal) c i arg1 harg1 arg2 harg2 arg3 harg3 arg4 harg4 arg5 harg5 arg6 harg6 arg7 harg7 arg8 harg8 arg9 harg9 x0 x1 x2 x3 x4 = outScores x0 x1 x2 x3 x4 := by
  unfold out6 outScores
  unfold kernelRun
  dsimp only
  simp (disch := decide) only [View.read_writes_junk_eq_canon, View.canon_cons_unit_lit', run0, run16, run64, run65, run75, run76, run77]

/-- What the body leaves in output 7 is the labels. -/
theorem out7_eq (i : grid0.Coords) : out7 (F := Ideal) c i arg1 harg1 arg2 harg2 arg3 harg3 arg4 harg4 arg5 harg5 arg6 harg6 arg7 harg7 arg8 harg8 arg9 harg9 x0 x1 x2 x3 x4 = outLabels x0 x1 x2 x3 x4 := by
  unfold out7 outLabels
  unfold kernelRun
  dsimp only
  simp (disch := decide) only [View.read_writes_junk_eq_canon, View.canon_cons_unit_lit', run16, run17, run64, run65, run75, run76, run77]

end Cert.NmsIdeal.Hand
-- ==== Proof.NmsMath.lean ====
/-
  The combinatorics of greedy suppression and of the final ranking, on natural numbers and truth values; no program is
  named. A relation `E i j` says that the candidate `i` would suppress the later candidate `j`.
-/
module

public import Idealize.ShloMosaic.Lib.SortFacts
public import Idealize.ShloMosaic.Lib.Pointwise

@[expose] public section
noncomputable section
namespace Cert.Proof
open Idealize.ShloMosaic

/-- The number of the first `n` naturals for which `P` holds. -/
def cnt (n : ℕ) (P : ℕ → Bool) : ℕ := ∑ i ∈ Finset.range n, (P i).toNat

/-- A count is no more than the number of naturals counted over. -/
theorem cnt_le (n : ℕ) (P : ℕ → Bool) : cnt n P ≤ n := by
  unfold cnt
  calc ∑ i ∈ Finset.range n, (P i).toNat ≤ ∑ i ∈ Finset.range n, 1 := Finset.sum_le_sum fun i _ => Bool.toNat_le (P i)
    _ = n := by simp

/-- A count that is zero counts nothing. -/
theorem cnt_eq_zero {n : ℕ} {P : ℕ → Bool} (h : cnt n P = 0) (i : ℕ) (hi : i < n) : P i = false := by
  have := (Finset.sum_eq_zero_iff.1 h) i (Finset.mem_range.2 hi)
  cases hp : P i
  · rfl
  · rw [hp] at this; exact absurd this (by decide)

/-- Two predicates that agree below `n` are counted alike. -/
theorem cnt_congr {n : ℕ} {P Q : ℕ → Bool} (h : ∀ i < n, P i = Q i) : cnt n P = cnt n Q :=
  Finset.sum_congr rfl fun i hi => by rw [h i (Finset.mem_range.1 hi)]

/-- The naturals below `j` are `j` in number. -/
theorem cnt_lt (n j : ℕ) (h : j ≤ n) : cnt n (fun i => decide (i < j)) = j := by
  unfold cnt
  have e : ∀ i ∈ Finset.range n, (decide (i < j)).toNat = if i < j then 1 else 0 := fun i _ => by
    by_cases hi : i < j <;> simp [hi]
  rw [Finset.sum_congr rfl e, ← Finset.sum_filter, Finset.sum_const, smul_eq_mul, mul_one]
  have : (Finset.range n).filter (fun i => i < j) = Finset.range j := by
    ext i; simp only [Finset.mem_filter, Finset.mem_range]; omega
  rw [this, Finset.card_range]

/-- A predicate that fails at and after `k` is counted below `k` alone. -/
theorem cnt_cut {n k : ℕ} {P : ℕ → Bool} (hk : k ≤ n) (h : ∀ i, k ≤ i → P i = false) : cnt n P = cnt k P := by
  unfold cnt
  refine (Finset.sum_subset (Finset.range_mono hk) fun i _ hi => ?_).symm
  rw [h i (by simpa using hi)]; rfl

/-- A count over the elements of `Fin n`. -/
theorem cnt_fin (n : ℕ) (P : ℕ → Bool) : ∑ i : Fin n, (P i.val).toNat = cnt n P :=
  Fin.sum_univ_eq_sum_range (fun i => (P i).toNat) n

/-- Counts of two predicates that do not hold together add up. -/
theorem cnt_or {n : ℕ} {P Q R : ℕ → Bool} (h : ∀ i < n, (R i).toNat = (P i).toNat + (Q i).toNat) : cnt n R = cnt n P + cnt n Q := by
  unfold cnt
  rw [← Finset.sum_add_distrib]
  exact Finset.sum_congr rfl fun i hi => h i (Finset.mem_range.1 hi)

/-! ## Greedy suppression, one candidate after another -/

/-- The state of the greedy pass before its step `n`: every later candidate that a kept one suppresses is dropped. -/
def pass (E : ℕ → ℕ → Bool) : ℕ → ℕ → Bool
  | 0, _ => true
  | n + 1, j => pass E n j && !(E n j && decide (n < j) && pass E n n)

/-- Whether candidate `j` is kept by the greedy pass. -/
def kept (E : ℕ → ℕ → Bool) (j : ℕ) : Bool := pass E j j

/-- A candidate's state does not change after its own step. -/
theorem pass_late (E : ℕ → ℕ → Bool) (j d : ℕ) : pass E (j + d) j = kept E j := by
  induction d with
  | zero => rfl
  | succ d ih =>
    show (pass E (j + d) j && !(E (j + d) j && decide (j + d < j) && pass E (j + d) (j + d))) = _
    rw [ih, decide_eq_false (by omega)]; simp

/-- After `n` steps a candidate is dropped exactly when an earlier kept candidate below `n` suppresses it. -/
theorem pass_iff (E : ℕ → ℕ → Bool) (n j : ℕ) :
    pass E n j = true ↔ ∀ i < n, i < j → ¬ (kept E i = true ∧ E i j = true) := by
  induction n with
  | zero => exact ⟨fun _ i hi => absurd hi (Nat.not_lt_zero i), fun _ => rfl⟩
  | succ n ih =>
    have hs : pass E (n + 1) j = (pass E n j && !(E n j && decide (n < j) && kept E n)) := rfl
    rw [hs, Bool.and_eq_true, ih]
    constructor
    · rintro ⟨h1, h2⟩ i hi hij ⟨hk, he⟩
      rcases Nat.lt_succ_iff_lt_or_eq.1 hi with h | rfl
      · exact h1 i h hij ⟨hk, he⟩
      · rw [hk, he, decide_eq_true hij] at h2; exact absurd h2 (by decide)
    · intro h
      refine ⟨fun i hi hij => h i (by omega) hij, ?_⟩
      by_cases hnj : n < j
      · have := h n (by omega) hnj
        cases hk : kept E n <;> cases he : E n j <;> simp_all
      · simp [hnj]

/-- A candidate is kept exactly when no earlier kept candidate suppresses it. -/
theorem kept_iff (E : ℕ → ℕ → Bool) (j : ℕ) : kept E j = true ↔ ∀ i < j, ¬ (kept E i = true ∧ E i j = true) := by
  unfold kept
  rw [pass_iff]
  exact ⟨fun h i hi => h i hi hi, fun h i hi _ => h i hi⟩

/-- One round of the simultaneous pass over the first `N` candidates: keep what no candidate kept so far suppresses. -/
def round (N : ℕ) (E : ℕ → ℕ → Bool) (k : ℕ → Bool) (j : ℕ) : Bool :=
  decide (j < N) && !decide (∃ i, i < N ∧ i < j ∧ k i = true ∧ E i j = true)

/-- The greedy result restricted to the first `N` candidates. -/
def keptTo (N : ℕ) (E : ℕ → ℕ → Bool) (j : ℕ) : Bool := decide (j < N) && kept E j

/-- A round makes one more candidate right. -/
theorem round_right (N : ℕ) (E : ℕ → ℕ → Bool) (k : ℕ → Bool) (t : ℕ) (h : ∀ j < t, k j = keptTo N E j) (j : ℕ) (hj : j ≤ t) :
    round N E k j = keptTo N E j := by
  unfold round keptTo
  by_cases hN : j < N
  · rw [decide_eq_true hN, Bool.true_and, Bool.true_and]
    rw [Bool.eq_iff_iff, kept_iff, Bool.not_eq_true', decide_eq_false_iff_not]
    constructor
    · rintro h1 i hi ⟨hk, he⟩
      refine h1 ⟨i, by omega, hi, ?_, he⟩
      rw [h i (by omega), keptTo, hk, decide_eq_true (by omega)]; rfl
    · rintro h1 ⟨i, hi, hij, hk, he⟩
      refine h1 i hij ⟨?_, he⟩
      rw [h i (by omega), keptTo, decide_eq_true hi, Bool.true_and] at hk
      exact hk
  · rw [decide_eq_false hN, Bool.false_and, Bool.false_and]

/-- A set of candidates that a round does not change is the greedy result. -/
theorem round_fixed (N : ℕ) (E : ℕ → ℕ → Bool) (k : ℕ → Bool) (M : ℕ) (h : ∀ j < M, round N E k j = k j) (j : ℕ) (hj : j < M) :
    k j = keptTo N E j := by
  induction j using Nat.strong_induction_on with
  | _ j ih => rw [← h j hj, round_right N E k j (fun i hi => ih i hi (by omega)) j le_rfl]

/-! ## The final ranking -/

/-- The order of the output: the confirmed candidates first, each group in the order of the candidates. -/
def prec (C : ℕ → Bool) (i j : ℕ) : Bool :=
  if C i then (if C j then decide (i < j) else true) else (if C j then false else decide (i < j))

/-- The place of candidate `j` among the first `N` in the order of the output. -/
def place (N : ℕ) (C : ℕ → Bool) (j : ℕ) : ℕ :=
  if C j then cnt N (fun i => C i && decide (i < j)) else cnt N C + cnt N (fun i => !C i && decide (i < j))

/-- A place is the number of candidates that come before. -/
theorem place_eq (N : ℕ) (C : ℕ → Bool) (j : ℕ) : place N C j = cnt N (fun i => prec C i j) := by
  unfold place prec
  by_cases hj : C j = true
  · rw [if_pos hj]
    exact cnt_congr fun i _ => by cases hi : C i <;> simp [hj]
  · rw [if_neg hj]
    refine (cnt_or fun i _ => ?_).symm
    cases hi : C i <;> simp [hj]

/-- The stable sort depends on the comparison of a later element with an earlier one alone. -/
theorem stableSort_eq_of_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Sorting by a comparison that agrees with the order of the output on later against earlier candidates puts at `k` the
    candidate whose place is `k`. -/
theorem place_sortedFrom {n : ℕ} (C : ℕ → Bool) (gt : Fin n → Fin n → Bool)
    (h : ∀ a b : Fin n, a < b → gt b a = prec C b.val a.val) (k : Fin n) : place n C (sortedFrom gt k).val = k.val := by
  have e : sortedFrom gt = sortedFrom fun a b : Fin n => prec C a.val b.val := by
    have hl : sortPositions n gt = sortPositions n fun a b : Fin n => prec C a.val b.val :=
      stableSort_eq_of_pairwise _ _ _ ((List.pairwise_lt_finRange n).imp fun {a b} hab => h a b hab)
    funext k
    unfold sortedFrom
    rw [List.get_of_eq hl]; rfl
  rw [e]
  set σ : Fin n → Fin n := sortedFrom fun a b : Fin n => prec C a.val b.val with hσ
  have inj : Function.Injective σ := sortedFrom_injective _
  have asym : ∀ a b : Fin n, prec C a.val b.val = true → prec C b.val a.val = false := by
    intro a b; unfold prec
    cases C a.val <;> cases C b.val <;> simp <;> omega
  have tri : ∀ a b : Fin n, a ≠ b → prec C a.val b.val = false → prec C b.val a.val = true := by
    intro a b hab; have hab' : a.val ≠ b.val := fun h => hab (Fin.ext h)
    unfold prec
    cases C a.val <;> cases C b.val <;> simp <;> omega
  have ntr : ∀ a b c : Fin n, prec C a.val b.val = false → prec C b.val c.val = false → prec C a.val c.val = false := by
    intro a b c; unfold prec
    cases C a.val <;> cases C b.val <;> cases C c.val <;> simp <;> omega
  have inc : ∀ a b : Fin n, a < b → prec C (σ a).val (σ b).val = true := by
    intro a b hab
    have h1 : prec C (σ b).val (σ a).val = false := sortedFrom_noInversion _ _ (fun a b => asym a b) (fun _ _ h => h) ntr a b hab
    exact tri (σ b) (σ a) (fun h => absurd (inj h) (ne_of_gt hab)) h1
  have irr : ∀ a : Fin n, prec C a.val a.val = false := fun a => by unfold prec; cases C a.val <;> simp
  have key : ∀ a : Fin n, prec C (σ a).val (σ k).val = decide (a.val < k.val) := by
    intro a
    rcases lt_trichotomy a k with hak | rfl | hak
    · rw [inc a k hak, decide_eq_true (by exact hak)]
    · rw [irr]; simp
    · rw [asym _ _ (inc k a hak), decide_eq_false (by have : k.val < a.val := hak; omega)]
  rw [place_eq, ← cnt_fin]
  have bij : Function.Bijective σ := ⟨inj, sortedFrom_surjective _⟩
  rw [← Function.Bijective.sum_comp bij (fun i : Fin n => (prec C i.val (σ k).val).toNat)]
  simp only [key]
  rw [cnt_fin n (fun a => decide (a < k.val)), cnt_lt n k.val k.isLt.le]

/-- A candidate's place is a position of its own: the candidate sorted to `k` is the only one whose place is `k`. -/
theorem sortedFrom_of_place {n : ℕ} (C : ℕ → Bool) (gt : Fin n → Fin n → Bool)
    (h : ∀ a b : Fin n, a < b → gt b a = prec C b.val a.val) (k j : Fin n) : place n C j.val = k.val ↔ j = sortedFrom gt k := by
  constructor
  · intro hj
    obtain ⟨a, rfl⟩ := sortedFrom_surjective gt j
    rw [place_sortedFrom C gt h] at hj
    rw [Fin.ext hj]
  · rintro rfl; exact place_sortedFrom C gt h k

end Cert.Proof
-- ==== Proof.NmsCell.lean ====
/-
  The arithmetic of the suppression on extended reals and 32-bit words: indicators and their sums and maxima, counts as
  reals and as words, the class word, the decoded box of a candidate and the overlap of two of them. No program is named.
-/
module

public import proofs.«01_k».proof.Proof.NmsMath
public import proofs.«01_k».proof.Proof.Cell

@[expose] public section
set_option maxRecDepth 16384
noncomputable section
namespace Cert.Proof
open Idealize.ShloMosaic

/-! ## Indicators -/

/-- A truth value as an extended real, 1 or 0. -/
def bit (b : Bool) : EReal := if b then 1 else 0

/-- The 0/1 word of a truth value, as a real, is the truth value's indicator. -/
theorem word_bit (P : Bool) :
    (FloatOps.sitofp (F := Ideal) .f32 (BitVec.setWidth 32 (BitVec.ofBool P)) : EReal) = bit P := ofBit_real P

/-- The product of two indicators. -/
theorem bit_mul (a b : Bool) : bit a * bit b = bit (a && b) := by cases a <;> cases b <;> simp [bit]

/-- The larger of two indicators. -/
theorem bit_max (a b : Bool) : max (bit a) (bit b) = bit (a || b) := by cases a <;> cases b <;> simp [bit]

/-- One less one. -/
theorem one_sub_one : (1 : EReal) - 1 = 0 := by
  rw [show (1 : EReal) = ((1 : ℝ) : EReal) from rfl, ← EReal.coe_sub, sub_self]; rfl

/-- One less an indicator. -/
theorem one_sub_bit (a : Bool) : 1 - bit a = bit (!a) := by cases a <;> simp [bit, one_sub_one]

/-- One less an indicator cut at one. -/
theorem one_sub_min_bit (a : Bool) : 1 - min (bit a) 1 = bit (!a) := by cases a <;> simp [bit, one_sub_one]

/-- The distance of two indicators. -/
theorem bit_dist (a b : Bool) : (FloatOps.absf (F := Ideal) (φ := .f32) (bit a - bit b) : EReal) = bit (a != b) := by
  rw [Ideal.absf_def]
  have h : (-1 : EReal) ≤ 1 := by
    show -((1 : ℝ) : EReal) ≤ ((1 : ℝ) : EReal)
    rw [← EReal.coe_neg]; exact EReal.coe_le_coe_iff.2 (by norm_num)
  cases a <;> cases b <;> simp [bit, one_sub_one, h]

/-- Whether an indicator is positive. -/
theorem bit_pos (a : Bool) : decide (0 < bit a) = a := by cases a <;> simp [bit]

/-! ## Counts -/

/-- A natural number as an extended real. -/
def nat (n : ℕ) : EReal := ((n : ℝ) : EReal)

theorem nat_add (a b : ℕ) : nat a + nat b = nat (a + b) := by
  unfold nat; rw [← EReal.coe_add, Nat.cast_add]

theorem bit_nat (b : Bool) : bit b = nat b.toNat := by cases b <;> simp [bit, nat]

/-- The sum of the indicators of a set of positions is their number. -/
theorem sum_bits {n : ℕ} (f : Fin n → EReal) (P : ℕ → Bool) (h : ∀ i, f i = bit (P i.val)) : ∑ i, f i = nat (cnt n P) := by
  rw [Finset.sum_congr rfl fun i _ => h i, Fin.sum_univ_eq_sum_range (fun i => bit (P i)) n]
  unfold cnt
  clear h f
  induction n with
  | zero => simp [nat]
  | succ n ih => rw [Finset.sum_range_succ, Finset.sum_range_succ, ih, bit_nat, nat_add]

/-- Counting in two stretches. -/
theorem cnt_add (n m : ℕ) (P : ℕ → Bool) : cnt (n + m) P = cnt n P + cnt m (fun i => P (n + i)) := by
  unfold cnt; rw [Finset.sum_range_add]

/-- Counting 1024 positions in eight stretches of 128. -/
theorem cnt_chunks (P : ℕ → Bool) :
    nat (cnt 128 P) + nat (cnt 128 fun i => P (128 + i)) + nat (cnt 128 fun i => P (256 + i)) + nat (cnt 128 fun i => P (384 + i))
      + nat (cnt 128 fun i => P (512 + i)) + nat (cnt 128 fun i => P (640 + i)) + nat (cnt 128 fun i => P (768 + i))
      + nat (cnt 128 fun i => P (896 + i)) = nat (cnt 1024 P) := by
  rw [nat_add, nat_add, nat_add, nat_add, nat_add, nat_add, nat_add]
  rw [← cnt_add 128 128, ← cnt_add 256 128, ← cnt_add 384 128, ← cnt_add 512 128, ← cnt_add 640 128, ← cnt_add 768 128,
    ← cnt_add 896 128]

/-- A small natural number rounded to a word is its word. -/
theorem fptosi_nat (n : ℕ) (h : n < 2 ^ 31) : (FloatOps.fptosi (F := Ideal) (φ := .f32) 32 (nat n)) = BitVec.ofNat 32 n := by
  show BitVec.ofInt 32 (max (-(2 ^ (32 - 1) : ℕ) : ℤ) (min (((2 ^ (32 - 1) : ℕ) : ℤ) - 1)
    (if 0 ≤ (n : ℝ) then ⌊(n : ℝ)⌋ else ⌈(n : ℝ)⌉))) = _
  rw [if_pos (Nat.cast_nonneg n), Int.floor_natCast, min_eq_right (by omega), max_eq_right (by omega), BitVec.ofInt_natCast]

/-- A fold of 0/1 words by addition is the word of their number. -/
theorem fold_words {n : ℕ} (f : Fin n → BitVec 32) (P : ℕ → Bool) (h : ∀ x, f x = BitVec.ofNat 32 (P x.val).toNat) :
    Finset.fold IntOp.addi 0#32 f Finset.univ = BitVec.ofNat 32 (cnt n P) := by
  rw [← cnt_fin]
  have key : ∀ s : Finset (Fin n), Finset.fold IntOp.addi 0#32 f s = BitVec.ofNat 32 (∑ i ∈ s, (P i.val).toNat) := by
    intro s
    induction s using Finset.induction with
    | empty => rw [Finset.fold_empty, Finset.sum_empty]
    | insert a s ha ih => rw [Finset.fold_insert ha, Finset.sum_insert ha, ih, h, BitVec.ofNat_add]; rfl
  exact key _

/-! ## Maxima -/

theorem lit_bot : lit 0xFF800000#32 = ⊥ := by simp [lit, Ideal.ofBits, Ideal.ieee]

/-- An indicator and the largest of a row of indicators: whether it or one of the row holds. -/
theorem max_fold (q : Bool) {n : ℕ} (f : Fin n → EReal) (P : Fin n → Bool) (h : ∀ x, f x = bit (P x)) :
    max (bit q) (Finset.fold max (lit 0xFF800000#32) f Finset.univ) = bit (q || decide (∃ x, P x = true)) := by
  have key : ∀ s : Finset (Fin n), max (bit q) (Finset.fold max (lit 0xFF800000#32) f s)
      = bit (q || decide (∃ x ∈ s, P x = true)) := by
    intro s
    induction s using Finset.induction with
    | empty => rw [Finset.fold_empty, lit_bot]; simp
    | insert a s ha ih =>
      rw [Finset.fold_insert ha, max_left_comm, ih, h, bit_max]
      congr 1
      simp only [Finset.mem_insert, exists_eq_or_imp, Bool.decide_or, Bool.decide_eq_true]
      cases q <;> cases P a <;> simp
  rw [key]
  simp

/-- A position among 1024 lies in one of the eight stretches of 128. -/
theorem exists_chunks (p : ℕ → Prop) :
    ((∃ x : Fin 128, p x.val) ∨ (∃ x : Fin 128, p (128 + x.val)) ∨ (∃ x : Fin 128, p (256 + x.val))
      ∨ (∃ x : Fin 128, p (384 + x.val)) ∨ (∃ x : Fin 128, p (512 + x.val)) ∨ (∃ x : Fin 128, p (640 + x.val))
      ∨ (∃ x : Fin 128, p (768 + x.val)) ∨ (∃ x : Fin 128, p (896 + x.val))) ↔ ∃ i, i < 1024 ∧ p i := by
  constructor
  · rintro (⟨x, h⟩ | ⟨x, h⟩ | ⟨x, h⟩ | ⟨x, h⟩ | ⟨x, h⟩ | ⟨x, h⟩ | ⟨x, h⟩ | ⟨x, h⟩) <;>
      exact ⟨_, by have := x.isLt; omega, h⟩
  · rintro ⟨i, hi, h⟩
    have e : ∀ c, c ≤ i → i < c + 128 → ∃ x : Fin 128, p (c + x.val) := fun c h1 h2 =>
      ⟨⟨i - c, by omega⟩, by show p (c + (i - c)); rw [Nat.add_sub_cancel' h1]; exact h⟩
    by_cases h1 : i < 128
    · exact Or.inl ⟨⟨i, h1⟩, h⟩
    by_cases h2 : i < 256
    · exact Or.inr (Or.inl (e _ (by omega) (by omega)))
    by_cases h3 : i < 384
    · exact Or.inr (Or.inr (Or.inl (e _ (by omega) (by omega))))
    by_cases h4 : i < 512
    · exact Or.inr (Or.inr (Or.inr (Or.inl (e _ (by omega) (by omega)))))
    by_cases h5 : i < 640
    · exact Or.inr (Or.inr (Or.inr (Or.inr (Or.inl (e _ (by omega) (by omega))))))
    by_cases h6 : i < 768
    · exact Or.inr (Or.inr (Or.inr (Or.inr (Or.inr (Or.inl (e _ (by omega) (by omega)))))))
    by_cases h7 : i < 896
    · exact Or.inr (Or.inr (Or.inr (Or.inr (Or.inr (Or.inr (Or.inl (e _ (by omega) (by omega))))))))
    · exact Or.inr (Or.inr (Or.inr (Or.inr (Or.inr (Or.inr (Or.inr (e _ (by omega) (by omega))))))))

/-! ## Words -/

/-- Comparing two small words as signed numbers. -/
theorem slt_ofNat (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  congr 1
  rw [BitVec.slt_eq_decide, BitVec.toInt_ofNat', BitVec.toInt_ofNat']
  congr 1
  simp only [Int.bmod, eq_iff_iff]
  omega

/-- Equality of two small words. -/
theorem ofNat_inj (a b : ℕ) (ha : a < 2 ^ 32) (hb : b < 2 ^ 32) : BitVec.ofNat 32 a = BitVec.ofNat 32 b ↔ a = b := by
  rw [← BitVec.toNat_inj, BitVec.toNat_ofNat, BitVec.toNat_ofNat, Nat.mod_eq_of_lt ha, Nat.mod_eq_of_lt hb]

/-- The remainder by 90 of a word read as a signed number, between 0 and 89. -/
def clsNat (w : BitVec 32) : ℕ := (w.toInt % 90).toNat

theorem clsNat_lt (w : BitVec 32) : clsNat w < 90 := by unfold clsNat; omega

/-- The class of a candidate, 1 to 90. -/
def cls (w : BitVec 32) : Fin 91 := ⟨clsNat w + 1, by have := clsNat_lt w; omega⟩

/-- The truncated remainder moved into 0 … 89 is the remainder. -/
theorem rem_word (w : BitVec 32) :
    Scalar.select (IntOp.andi (IntOp.xori (IntOp.cmpi .slt (w.srem 90#32) 0#32) (IntOp.cmpi .slt 90#32 0#32))
      (IntOp.cmpi .ne (w.srem 90#32) 0#32)) (IntOp.addi (w.srem 90#32) 90#32) (w.srem 90#32)
      = BitVec.ofNat 32 (clsNat w) := by
  have hr : (w.srem 90#32).toInt = w.toInt.tmod 90 := by rw [BitVec.toInt_srem]; rfl
  have h2 : IntOp.cmpi .slt (w.srem 90#32) 0#32 = BitVec.ofBool (decide ((w.srem 90#32).toInt < 0)) := by
    show BitVec.ofBool ((w.srem 90#32).slt 0#32) = _
    rw [BitVec.slt_eq_decide]; rfl
  have h3 : IntOp.cmpi .slt 90#32 0#32 = 0#1 := by decide
  have hne : w.srem 90#32 ≠ 0#32 ↔ (w.srem 90#32).toInt ≠ 0 := by
    rw [ne_eq, ne_eq, ← BitVec.toInt_inj]; rfl
  have h4 : IntOp.cmpi .ne (w.srem 90#32) 0#32 = BitVec.ofBool (decide ((w.srem 90#32).toInt ≠ 0)) := by
    show BitVec.ofBool (w.srem 90#32 != 0#32) = _
    congr 1
    rw [Bool.eq_iff_iff, bne_iff_ne, decide_eq_true_iff, hne]
  have hm := Int.emod_emod_of_dvd w.toInt (dvd_refl (90 : ℤ))
  rw [h2, h3, h4]
  generalize hR : w.srem 90#32 = R at *
  have ht := Int.tmod_eq_emod (a := w.toInt) (b := 90)
  have hb := BitVec.toInt_lt (x := R)
  have hb' := BitVec.le_toInt R
  have hc : (BitVec.ofNat 32 (clsNat w)).toInt = w.toInt % 90 := by
    rw [BitVec.toInt_ofNat', clsNat, Int.toNat_of_nonneg (by omega)]
    simp only [Int.bmod]; omega
  rw [← BitVec.toInt_inj, hc]
  by_cases hneg : R.toInt < 0
  · have hn0 : R.toInt ≠ 0 := by omega
    rw [decide_eq_true hneg, decide_eq_true hn0]
    rw [show Scalar.select (IntOp.andi (IntOp.xori (BitVec.ofBool true) 0#1) (BitVec.ofBool true)) (IntOp.addi R 90#32) R
      = IntOp.addi R 90#32 from if_pos (by decide)]
    show (R + 90#32).toInt = _
    rw [BitVec.toInt_add, show (90#32).toInt = 90 from rfl]
    simp only [Int.bmod]
    split at ht <;> omega
  · rw [decide_eq_false hneg]
    have hs : Scalar.select (IntOp.andi (IntOp.xori (BitVec.ofBool false) 0#1) (BitVec.ofBool (decide (R.toInt ≠ 0))))
        (IntOp.addi R 90#32) R = R := if_neg (by cases decide (R.toInt ≠ 0) <;> decide)
    rw [hs]
    split at ht <;> omega

/-! ## The decoded box -/

/-- The decoded and clipped box of class `k`: its left, top, right and bottom edge. -/
def edge (row : Fin 364 → EReal) (p : Fin 4 → EReal) (k : Fin 91) (c : Fin 4) : EReal :=
  match c with
  | 0 => lower (regr row k 0) (regr row k 2) (p 0) (p 2)
  | 1 => lower (regr row k 1) (regr row k 3) (p 1) (p 3)
  | 2 => upper (regr row k 0) (regr row k 2) (p 0) (p 2)
  | 3 => upper (regr row k 1) (regr row k 3) (p 1) (p 3)

/-- A box moved apart by its class, so that boxes of two classes do not meet. -/
def moved (w : BitVec 32) (e : Fin 4 → EReal) (c : Fin 4) : EReal :=
  e c + FloatOps.sitofp (F := Ideal) .f32 (BitVec.ofNat 32 (clsNat w + 1)) * lit 0x45800000#32

/-- The area of a box. -/
def area (a : Fin 4 → EReal) : EReal := (a 2 - a 0) * (a 3 - a 1)

/-- The area two boxes share. -/
def shared (a b : Fin 4 → EReal) : EReal := max 0 (min (a 2) (b 2) - max (a 0) (b 0)) * max 0 (min (a 3) (b 3) - max (a 1) (b 1))

/-- Whether the ratio of the shared area of two boxes to their joint area is above one half. -/
def overlaps (a b : Fin 4 → EReal) : Bool :=
  decide (lit 0x3F000000#32 < Ideal.div (shared a b) (max (area a + area b - shared a b) (lit 0x3089705F#32)))

/-- The strided contraction followed by the pick of a class is the regression of that class. -/
theorem pick_regr (v : Fin 364 → EReal) (k : Fin 91) (c : Fin 4) :
    ∑ x : Fin 91, (∑ x1 : Fin 364, v x1 * (FloatOps.sitofp (F := Ideal) .f32 (BitVec.setWidth 32 (IntOp.cmpi .eq (BitVec.ofNat 32 x1.val)
      (IntOp.addi (IntOp.muli 4#32 (BitVec.ofNat 32 x.val)) (BitVec.ofNat 32 c.val)))) : EReal))
      * (FloatOps.sitofp (F := Ideal) .f32 (BitVec.setWidth 32 (IntOp.cmpi .eq (BitVec.ofNat 32 k.val) (BitVec.ofNat 32 x.val))) : EReal)
      = regr v k c := by
  simp only [sum_strided]
  simp only [cmpi_eq_ofBool]
  refine sum_pick (fun x => regr v x c) _ k fun x => ?_
  rw [decide_eq_true_iff, ofNat_inj _ _ (by omega) (by omega), Fin.ext_iff, eq_comm]

/-- A sum against the indicator of one position. -/
theorem sum_one {n : ℕ} (f : Fin n → EReal) (g : Fin n → Bool) (j : Fin n) (hg : ∀ x, g x = true ↔ x = j) :
    ∑ x, bit (g x) * f x = f j := by
  rw [Finset.sum_eq_single j]
  · rw [(hg j).2 rfl]; exact one_mul _
  · intro x _ hx; rw [Bool.eq_false_iff.2 fun h => hx ((hg x).1 h)]; exact zero_mul _
  · intro h; exact absurd (Finset.mem_univ _) h

end Cert.Proof
-- ==== Proof.NmsRead.lean ====
/-
  The suppression call's values read at an index: each array of the body, as an expression in the entries of the
  arrays it is computed from.
-/
module

public import proofs.«01_k».proof.Proof.NmsIdealPipe
public import proofs.«01_k».proof.Proof.NmsCell
public import Idealize.ShloMosaic.Lib.Pointwise

@[expose] public section
set_option maxRecDepth 16384
noncomputable section
namespace Cert.NmsIdeal.Hand
open Cert.NmsIdeal Cert.NmsIdeal.Gen Cert.Proof Idealize.ShloMosaic Idealize.ShloMosaic.TcCoe Idealize.SL.Sem

/-- The class word: the signed remainder by 90, plus one. -/
theorem class_word (w : BitVec 32) :
    IntOp.addi (Scalar.select (IntOp.andi (IntOp.xori (IntOp.cmpi .slt (IntOp.remsi .vector w (Scalar.select (Scalar.cmpi .eq 90#32 0#32) 1#32 90#32)) 0#32)
        (Scalar.cmpi .slt (Scalar.select (Scalar.cmpi .eq 90#32 0#32) 1#32 90#32) 0#32))
        (IntOp.cmpi .ne (IntOp.remsi .vector w (Scalar.select (Scalar.cmpi .eq 90#32 0#32) 1#32 90#32)) 0#32))
        (IntOp.addi (IntOp.remsi .vector w (Scalar.select (Scalar.cmpi .eq 90#32 0#32) 1#32 90#32)) (Scalar.select (Scalar.cmpi .eq 90#32 0#32) 1#32 90#32))
        (IntOp.remsi .vector w (Scalar.select (Scalar.cmpi .eq 90#32 0#32) 1#32 90#32))) 1#32 = BitVec.ofNat 32 (clsNat w + 1) := by
  rw [show Scalar.select (Scalar.cmpi .eq 90#32 0#32) 1#32 90#32 = 90#32 by decide]
  have hr : IntOp.remsi .vector w 90#32 = w.srem 90#32 := by
    unfold IntOp.remsi
    refine if_neg ?_
    rintro (h | ⟨_, h⟩) <;> exact absurd h (by decide)
  rw [hr]
  have h := rem_word w
  show IntOp.addi (Scalar.select (IntOp.andi (IntOp.xori _ (IntOp.cmpi .slt 90#32 0#32)) _) _ _) 1#32 = _
  rw [h, BitVec.ofNat_add]; rfl

section
variable (v : Fin 364 → EReal) (w : BitVec 32)
/-- Regression 0 of a candidate's class, picked out of its row. -/
theorem pick_regr0 : ∑ x : Fin 91, (∑ x1 : Fin 364, v x1 * (FloatOps.sitofp (F := Ideal) .f32 (BitVec.setWidth 32 (IntOp.cmpi .eq
      (BitVec.ofNat 32 x1.val) (IntOp.addi (IntOp.muli 4#32 (BitVec.ofNat 32 x.val)) 0#32))) : EReal))
    * (FloatOps.sitofp (F := Ideal) .f32 (BitVec.setWidth 32 (IntOp.cmpi .eq (BitVec.ofNat 32 (clsNat w + 1)) (BitVec.ofNat 32 x.val))) : EReal)
    = regr v (cls w) 0 := pick_regr v (cls w) 0
/-- Regression 1 of a candidate's class, picked out of its row. -/
theorem pick_regr1 : ∑ x : Fin 91, (∑ x1 : Fin 364, v x1 * (FloatOps.sitofp (F := Ideal) .f32 (BitVec.setWidth 32 (IntOp.cmpi .eq
      (BitVec.ofNat 32 x1.val) (IntOp.addi (IntOp.muli 4#32 (BitVec.ofNat 32 x.val)) 1#32))) : EReal))
    * (FloatOps.sitofp (F := Ideal) .f32 (BitVec.setWidth 32 (IntOp.cmpi .eq (BitVec.ofNat 32 (clsNat w + 1)) (BitVec.ofNat 32 x.val))) : EReal)
    = regr v (cls w) 1 := pick_regr v (cls w) 1
/-- Regression 2 of a candidate's class, picked out of its row. -/
theorem pick_regr2 : ∑ x : Fin 91, (∑ x1 : Fin 364, v x1 * (FloatOps.sitofp (F := Ideal) .f32 (BitVec.setWidth 32 (IntOp.cmpi .eq
      (BitVec.ofNat 32 x1.val) (IntOp.addi (IntOp.muli 4#32 (BitVec.ofNat 32 x.val)) 2#32))) : EReal))
    * (FloatOps.sitofp (F := Ideal) .f32 (BitVec.setWidth 32 (IntOp.cmpi .eq (BitVec.ofNat 32 (clsNat w + 1)) (BitVec.ofNat 32 x.val))) : EReal)
    = regr v (cls w) 2 := pick_regr v (cls w) 2
/-- Regression 3 of a candidate's class, picked out of its row. -/
theorem pick_regr3 : ∑ x : Fin 91, (∑ x1 : Fin 364, v x1 * (FloatOps.sitofp (F := Ideal) .f32 (BitVec.setWidth 32 (IntOp.cmpi .eq
      (BitVec.ofNat 32 x1.val) (IntOp.addi (IntOp.muli 4#32 (BitVec.ofNat 32 x.val)) 3#32))) : EReal))
    * (FloatOps.sitofp (F := Ideal) .f32 (BitVec.setWidth 32 (IntOp.cmpi .eq (BitVec.ofNat 32 (clsNat w + 1)) (BitVec.ofNat 32 x.val))) : EReal)
    = regr v (cls w) 3 := pick_regr v (cls w) 3
end

/-- An entry of the overlap matrix, from the ranks, the membership indicators, the areas and the moved edges. -/
def adj (r : IVec S1024 32) (t a x1 y1 x2 y2 : FVec Ideal S1024 .f32) (i j : Fin 1024) : EReal :=
  FloatOps.sitofp (F := Ideal) .f32 (BitVec.setWidth 32 (IntOp.andi (BitVec.ofBool (decide (lit 0x3F000000#32
    < Ideal.div (max 0 (min (x2 (ix1 i)) (x2 (ix1 j)) - max (x1 (ix1 i)) (x1 (ix1 j))) * max 0 (min (y2 (ix1 i)) (y2 (ix1 j)) - max (y1 (ix1 i)) (y1 (ix1 j))))
      (max (a (ix1 i) + a (ix1 j) - max 0 (min (x2 (ix1 i)) (x2 (ix1 j)) - max (x1 (ix1 i)) (x1 (ix1 j))) * max 0 (min (y2 (ix1 i)) (y2 (ix1 j)) - max (y1 (ix1 i)) (y1 (ix1 j))))
        (lit 0x3089705F#32))))) (IntOp.cmpi .slt (r (ix1 i)) (r (ix1 j))))) * t (ix1 i) * t (ix1 j)

/-- The number of candidates ahead of candidate `j`, as a word. -/
def ahead (s f : FVec Ideal S1024 .f32) (j : Fin 1024) : BitVec 32 :=
  Finset.fold IntOp.addi (0#32) (fun x : Fin 1024 => BitVec.setWidth 32 (IntOp.ori (BitVec.ofBool (decide (s (ix1 j) < s (ix1 x))))
    (IntOp.andi (BitVec.ofBool (decide (s (ix1 x) = s (ix1 j)))) (BitVec.ofBool (decide (f (ix1 x) < f (ix1 j))))))) Finset.univ

/-- The scores. -/
theorem rd_val0 (x0 : Vec Ideal S1x1x1024 .f32) (i : Fin 1024) :
    val0 x0 (ix1 i) = x0 (ix3 0 0 i) := by
  unfold val0
  pointwise [k0_pay4]

/-- The indices. -/
theorem rd_val1 (x1 : Vec Ideal S1x1x1024 .i32) (i : Fin 1024) :
    val1 x1 (ix1 i) = x1 (ix3 0 0 i) := by
  unfold val1
  pointwise [k0_pay5]

/-- The indices as reals. -/
theorem rd_val2 (x1 : Vec Ideal S1x1x1024 .i32) (i : Fin 1024) :
    val2 x1 (ix1 i) = FloatOps.sitofp (F := Ideal) .f32 (x1 (ix3 0 0 i)) := by
  unfold val2
  pointwise [k0_pay6, k0_pay5]

/-- The gathered regressions. -/
theorem rd_val3 (x2 : Vec Ideal S1x1x1024 .i32) (x3 : Vec Ideal S1x1024x364 .f32) (i : Fin 1024) (j : Fin 364) :
    val3 x2 x3 (ix2 i j) = ∑ x : Fin 1024, FloatOps.sitofp (F := Ideal) .f32 (BitVec.setWidth 32 (IntOp.cmpi .eq (x2 (ix3 0 0 i)) (BitVec.ofNat 32 x.val))) * x3 (ix3 0 x j) := by
  unfold val3
  pointwise [k0_pay8, k0_pay7]

/-- The gathered proposals. -/
theorem rd_val4 (x2 : Vec Ideal S1x1x1024 .i32) (x4 : Vec Ideal S1x1024x4 .f32) (i : Fin 1024) (j : Fin 4) :
    val4 x2 x4 (ix2 i j) = ∑ x : Fin 1024, FloatOps.sitofp (F := Ideal) .f32 (BitVec.setWidth 32 (IntOp.cmpi .eq (x2 (ix3 0 0 i)) (BitVec.ofNat 32 x.val))) * x4 (ix3 0 x j) := by
  unfold val4
  pointwise [k0_pay9, k0_pay7]

/-- The class words. -/
theorem rd_val17 (g1 : IVec S1024 32) (i : Fin 1024) :
    k0_pay23 g1 (ix1 i)
      = BitVec.ofNat 32 (clsNat (g1 (ix1 i)) + 1) := by
  pointwise [k0_pay23]
  exact class_word _

/-- The left edges. -/
theorem rd_val30 (g3 : FVec Ideal S1024x364 .f32) (g4 : FVec Ideal S1024x4 .f32) (g1 : IVec S1024 32) (i : Fin 1024) :
    k0_pay39 (F := Ideal) g3 (iota .tc S364x91 32 [0] iota_S364x91_d0_w32) (k0_pay25 (F := Ideal) (k0_pay24 g1)) (k0_pay28 (F := Ideal) g4) (k0_pay30 (F := Ideal) g4) (k0_pay32 (F := Ideal) g3 (iota .tc S364x91 32 [0] iota_S364x91_d0_w32) (iota .tc S364x91 32 [1] iota_S364x91_d1_w32) (k0_pay24 g1)) (k0_pay34 (iota .tc S364x91 32 [1] iota_S364x91_d1_w32)) (ix1 i)
      = edge (fun x => g3 (ix2 i x)) (fun x => g4 (ix2 i x)) (cls (g1 (ix1 i))) 0 := by
  pointwise [k0_pay24, k0_pay23, k0_pay32, k0_pay25, k0_pay30, k0_pay26, k0_pay28, k0_pay34, k0_pay39, k0_pay35, k0_pay37]
  simp only [class_word, pick_regr0, pick_regr1, pick_regr2, pick_regr3]
  rfl

/-- The top edges. -/
theorem rd_val32 (g3 : FVec Ideal S1024x364 .f32) (g4 : FVec Ideal S1024x4 .f32) (g1 : IVec S1024 32) (i : Fin 1024) :
    k0_pay41 (F := Ideal) (Scalar.ofBits (F := Ideal) .f32 0x44480000#32) (k0_pay40 (F := Ideal) g3 (iota .tc S364x91 32 [0] iota_S364x91_d0_w32) (iota .tc S364x91 32 [1] iota_S364x91_d1_w32) (k0_pay25 (F := Ideal) (k0_pay24 g1)) (k0_pay29 (F := Ideal) g4) (k0_pay31 (F := Ideal) g4) (k0_pay33 (F := Ideal) g3 (iota .tc S364x91 32 [0] iota_S364x91_d0_w32) (iota .tc S364x91 32 [1] iota_S364x91_d1_w32) (k0_pay24 g1))) (ix1 i)
      = edge (fun x => g3 (ix2 i x)) (fun x => g4 (ix2 i x)) (cls (g1 (ix1 i))) 1 := by
  pointwise [k0_pay24, k0_pay23, k0_pay33, k0_pay25, k0_pay31, k0_pay27, k0_pay29, k0_pay40, k0_pay36, k0_pay38, k0_pay41]
  simp only [class_word, pick_regr0, pick_regr1, pick_regr2, pick_regr3]
  rfl

/-- The right edges. -/
theorem rd_val33 (g3 : FVec Ideal S1024x364 .f32) (g4 : FVec Ideal S1024x4 .f32) (g1 : IVec S1024 32) (i : Fin 1024) :
    k0_pay42 (F := Ideal) (k0_pay35 (F := Ideal) (k0_pay28 (F := Ideal) g4) (k0_pay30 (F := Ideal) g4) (k0_pay32 (F := Ideal) g3 (iota .tc S364x91 32 [0] iota_S364x91_d0_w32) (iota .tc S364x91 32 [1] iota_S364x91_d1_w32) (k0_pay24 g1))) (k0_pay37 (F := Ideal) g3 (iota .tc S364x91 32 [0] iota_S364x91_d0_w32) (k0_pay25 (F := Ideal) (k0_pay24 g1)) (k0_pay28 (F := Ideal) g4) (k0_pay34 (iota .tc S364x91 32 [1] iota_S364x91_d1_w32))) (ix1 i)
      = edge (fun x => g3 (ix2 i x)) (fun x => g4 (ix2 i x)) (cls (g1 (ix1 i))) 2 := by
  pointwise [k0_pay32, k0_pay25, k0_pay30, k0_pay26, k0_pay28, k0_pay24, k0_pay23, k0_pay34, k0_pay37, k0_pay35, k0_pay42]
  simp only [class_word, pick_regr0, pick_regr1, pick_regr2, pick_regr3]
  rfl

/-- The bottom edges. -/
theorem rd_val34 (g3 : FVec Ideal S1024x364 .f32) (g4 : FVec Ideal S1024x4 .f32) (g1 : IVec S1024 32) (i : Fin 1024) :
    k0_pay43 (F := Ideal) (k0_pay36 (F := Ideal) (k0_pay29 (F := Ideal) g4) (k0_pay31 (F := Ideal) g4) (k0_pay33 (F := Ideal) g3 (iota .tc S364x91 32 [0] iota_S364x91_d0_w32) (iota .tc S364x91 32 [1] iota_S364x91_d1_w32) (k0_pay24 g1))) (k0_pay38 (F := Ideal) g3 (iota .tc S364x91 32 [0] iota_S364x91_d0_w32) (iota .tc S364x91 32 [1] iota_S364x91_d1_w32) (k0_pay25 (F := Ideal) (k0_pay24 g1)) (k0_pay29 (F := Ideal) g4)) (ix1 i)
      = edge (fun x => g3 (ix2 i x)) (fun x => g4 (ix2 i x)) (cls (g1 (ix1 i))) 3 := by
  pointwise [k0_pay33, k0_pay25, k0_pay31, k0_pay27, k0_pay29, k0_pay24, k0_pay23, k0_pay38, k0_pay36, k0_pay43]
  simp only [class_word, pick_regr0, pick_regr1, pick_regr2, pick_regr3]
  rfl

/-- The left edges, moved apart. -/
theorem rd_val35 (g1 : IVec S1024 32) (g3 : FVec Ideal S1024x364 .f32) (g4 : FVec Ideal S1024x4 .f32) (i : Fin 1024) :
    k0_pay45 (F := Ideal) (k0_pay23 g1) (k0_pay39 (F := Ideal) g3 (iota .tc S364x91 32 [0] iota_S364x91_d0_w32) (k0_pay25 (F := Ideal) (k0_pay24 g1)) (k0_pay28 (F := Ideal) g4) (k0_pay30 (F := Ideal) g4) (k0_pay32 (F := Ideal) g3 (iota .tc S364x91 32 [0] iota_S364x91_d0_w32) (iota .tc S364x91 32 [1] iota_S364x91_d1_w32) (k0_pay24 g1)) (k0_pay34 (iota .tc S364x91 32 [1] iota_S364x91_d1_w32))) (ix1 i)
      = moved (g1 (ix1 i)) (edge (fun x => g3 (ix2 i x)) (fun x => g4 (ix2 i x)) (cls (g1 (ix1 i)))) 0 := by
  pointwise [k0_pay24, k0_pay23, k0_pay32, k0_pay25, k0_pay30, k0_pay26, k0_pay28, k0_pay34, k0_pay39, k0_pay35, k0_pay37, k0_pay45, k0_pay44]
  simp only [class_word, pick_regr0, pick_regr1, pick_regr2, pick_regr3]
  rfl

/-- The top edges, moved apart. -/
theorem rd_val36 (g1 : IVec S1024 32) (g3 : FVec Ideal S1024x364 .f32) (g4 : FVec Ideal S1024x4 .f32) (i : Fin 1024) :
    k0_pay46 (F := Ideal) (k0_pay23 g1) (Scalar.ofBits (F := Ideal) .f32 0x44480000#32) (k0_pay40 (F := Ideal) g3 (iota .tc S364x91 32 [0] iota_S364x91_d0_w32) (iota .tc S364x91 32 [1] iota_S364x91_d1_w32) (k0_pay25 (F := Ideal) (k0_pay24 g1)) (k0_pay29 (F := Ideal) g4) (k0_pay31 (F := Ideal) g4) (k0_pay33 (F := Ideal) g3 (iota .tc S364x91 32 [0] iota_S364x91_d0_w32) (iota .tc S364x91 32 [1] iota_S364x91_d1_w32) (k0_pay24 g1))) (ix1 i)
      = moved (g1 (ix1 i)) (edge (fun x => g3 (ix2 i x)) (fun x => g4 (ix2 i x)) (cls (g1 (ix1 i)))) 1 := by
  pointwise [k0_pay24, k0_pay23, k0_pay33, k0_pay25, k0_pay31, k0_pay27, k0_pay29, k0_pay40, k0_pay36, k0_pay38, k0_pay46, k0_pay44, k0_pay41]
  simp only [class_word, pick_regr0, pick_regr1, pick_regr2, pick_regr3]
  rfl

/-- The right edges, moved apart. -/
theorem rd_val37 (g1 : IVec S1024 32) (g3 : FVec Ideal S1024x364 .f32) (g4 : FVec Ideal S1024x4 .f32) (i : Fin 1024) :
    k0_pay47 (F := Ideal) (k0_pay23 g1) (k0_pay35 (F := Ideal) (k0_pay28 (F := Ideal) g4) (k0_pay30 (F := Ideal) g4) (k0_pay32 (F := Ideal) g3 (iota .tc S364x91 32 [0] iota_S364x91_d0_w32) (iota .tc S364x91 32 [1] iota_S364x91_d1_w32) (k0_pay24 g1))) (k0_pay37 (F := Ideal) g3 (iota .tc S364x91 32 [0] iota_S364x91_d0_w32) (k0_pay25 (F := Ideal) (k0_pay24 g1)) (k0_pay28 (F := Ideal) g4) (k0_pay34 (iota .tc S364x91 32 [1] iota_S364x91_d1_w32))) (ix1 i)
      = moved (g1 (ix1 i)) (edge (fun x => g3 (ix2 i x)) (fun x => g4 (ix2 i x)) (cls (g1 (ix1 i)))) 2 := by
  pointwise [k0_pay32, k0_pay25, k0_pay30, k0_pay26, k0_pay28, k0_pay24, k0_pay23, k0_pay34, k0_pay37, k0_pay35, k0_pay47, k0_pay44, k0_pay42]
  simp only [class_word, pick_regr0, pick_regr1, pick_regr2, pick_regr3]
  rfl

/-- The bottom edges, moved apart. -/
theorem rd_val38 (g1 : IVec S1024 32) (g3 : FVec Ideal S1024x364 .f32) (g4 : FVec Ideal S1024x4 .f32) (i : Fin 1024) :
    k0_pay48 (F := Ideal) (k0_pay23 g1) (k0_pay36 (F := Ideal) (k0_pay29 (F := Ideal) g4) (k0_pay31 (F := Ideal) g4) (k0_pay33 (F := Ideal) g3 (iota .tc S364x91 32 [0] iota_S364x91_d0_w32) (iota .tc S364x91 32 [1] iota_S364x91_d1_w32) (k0_pay24 g1))) (k0_pay38 (F := Ideal) g3 (iota .tc S364x91 32 [0] iota_S364x91_d0_w32) (iota .tc S364x91 32 [1] iota_S364x91_d1_w32) (k0_pay25 (F := Ideal) (k0_pay24 g1)) (k0_pay29 (F := Ideal) g4)) (ix1 i)
      = moved (g1 (ix1 i)) (edge (fun x => g3 (ix2 i x)) (fun x => g4 (ix2 i x)) (cls (g1 (ix1 i)))) 3 := by
  pointwise [k0_pay33, k0_pay25, k0_pay31, k0_pay27, k0_pay29, k0_pay24, k0_pay23, k0_pay38, k0_pay36, k0_pay48, k0_pay44, k0_pay43]
  simp only [class_word, pick_regr0, pick_regr1, pick_regr2, pick_regr3]
  rfl

/-- The areas. -/
theorem rd_val39 (g1 : IVec S1024 32) (g3 : FVec Ideal S1024x364 .f32) (g4 : FVec Ideal S1024x4 .f32) (i : Fin 1024) :
    k0_pay49 (F := Ideal) (k0_pay23 g1) (k0_pay35 (F := Ideal) (k0_pay28 (F := Ideal) g4) (k0_pay30 (F := Ideal) g4) (k0_pay32 (F := Ideal) g3 (iota .tc S364x91 32 [0] iota_S364x91_d0_w32) (iota .tc S364x91 32 [1] iota_S364x91_d1_w32) (k0_pay24 g1))) (k0_pay36 (F := Ideal) (k0_pay29 (F := Ideal) g4) (k0_pay31 (F := Ideal) g4) (k0_pay33 (F := Ideal) g3 (iota .tc S364x91 32 [0] iota_S364x91_d0_w32) (iota .tc S364x91 32 [1] iota_S364x91_d1_w32) (k0_pay24 g1))) (k0_pay37 (F := Ideal) g3 (iota .tc S364x91 32 [0] iota_S364x91_d0_w32) (k0_pay25 (F := Ideal) (k0_pay24 g1)) (k0_pay28 (F := Ideal) g4) (k0_pay34 (iota .tc S364x91 32 [1] iota_S364x91_d1_w32))) (k0_pay38 (F := Ideal) g3 (iota .tc S364x91 32 [0] iota_S364x91_d0_w32) (iota .tc S364x91 32 [1] iota_S364x91_d1_w32) (k0_pay25 (F := Ideal) (k0_pay24 g1)) (k0_pay29 (F := Ideal) g4)) (k0_pay39 (F := Ideal) g3 (iota .tc S364x91 32 [0] iota_S364x91_d0_w32) (k0_pay25 (F := Ideal) (k0_pay24 g1)) (k0_pay28 (F := Ideal) g4) (k0_pay30 (F := Ideal) g4) (k0_pay32 (F := Ideal) g3 (iota .tc S364x91 32 [0] iota_S364x91_d0_w32) (iota .tc S364x91 32 [1] iota_S364x91_d1_w32) (k0_pay24 g1)) (k0_pay34 (iota .tc S364x91 32 [1] iota_S364x91_d1_w32))) (Scalar.ofBits (F := Ideal) .f32 0x44480000#32) (k0_pay40 (F := Ideal) g3 (iota .tc S364x91 32 [0] iota_S364x91_d0_w32) (iota .tc S364x91 32 [1] iota_S364x91_d1_w32) (k0_pay25 (F := Ideal) (k0_pay24 g1)) (k0_pay29 (F := Ideal) g4) (k0_pay31 (F := Ideal) g4) (k0_pay33 (F := Ideal) g3 (iota .tc S364x91 32 [0] iota_S364x91_d0_w32) (iota .tc S364x91 32 [1] iota_S364x91_d1_w32) (k0_pay24 g1))) (ix1 i)
      = area (moved (g1 (ix1 i)) (edge (fun x => g3 (ix2 i x)) (fun x => g4 (ix2 i x)) (cls (g1 (ix1 i))))) := by
  pointwise [k0_pay32, k0_pay25, k0_pay30, k0_pay26, k0_pay28, k0_pay24, k0_pay23, k0_pay33, k0_pay31, k0_pay27, k0_pay29, k0_pay40, k0_pay36, k0_pay38, k0_pay34, k0_pay39, k0_pay35, k0_pay37, k0_pay49, k0_pay46, k0_pay44, k0_pay41, k0_pay48, k0_pay43, k0_pay45, k0_pay47, k0_pay42]
  simp only [class_word, pick_regr0, pick_regr1, pick_regr2, pick_regr3]
  rfl

/-- The ranks of chunk 0. -/
theorem rd_val5 (x0 : Vec Ideal S1x1x1024 .f32) (x1 : Vec Ideal S1x1x1024 .i32) (i : Fin 128) :
    val5 x0 x1 (ix1 i) = ahead (val0 x0) (val2 x1) ⟨i.val, by omega⟩ := by
  unfold val5 val0 val2 ahead
  pointwise [k0_pay10, k0_pay6, k0_pay5, k0_pay4]

/-- The ranks of chunk 1. -/
theorem rd_val7 (x0 : Vec Ideal S1x1x1024 .f32) (x1 : Vec Ideal S1x1x1024 .i32) (i : Fin 128) :
    val7 x0 x1 (ix1 i) = ahead (val0 x0) (val2 x1) ⟨128 + i.val, by omega⟩ := by
  unfold val7 val6 val0 val2 ahead
  pointwise [k0_pay11, k0_pay4, k0_pay6, k0_pay5, k0_pay12]

/-- The ranks of chunk 2. -/
theorem rd_val8 (g0 : FVec Ideal S1024 .f32) (g2 : FVec Ideal S1024 .f32) (i : Fin 128) :
    k0_pay13 (F := Ideal) g0 g2 (ix1 i)
      = ahead g0 g2 ⟨256 + i.val, by omega⟩ := by
  pointwise [k0_pay13, ahead]

/-- The ranks of chunk 3. -/
theorem rd_val10 (g0 : FVec Ideal S1024 .f32) (g2 : FVec Ideal S1024 .f32) (i : Fin 128) :
    k0_pay15 (k0_pay14 (F := Ideal) g0 g2) (ix1 i)
      = ahead g0 g2 ⟨384 + i.val, by omega⟩ := by
  pointwise [k0_pay14, k0_pay15, ahead]

/-- The ranks of chunk 4. -/
theorem rd_val11 (g0 : FVec Ideal S1024 .f32) (g2 : FVec Ideal S1024 .f32) (i : Fin 128) :
    k0_pay16 (F := Ideal) g0 g2 (ix1 i)
      = ahead g0 g2 ⟨512 + i.val, by omega⟩ := by
  pointwise [k0_pay16, ahead]

/-- The ranks of chunk 5. -/
theorem rd_val12 (g0 : FVec Ideal S1024 .f32) (g2 : FVec Ideal S1024 .f32) (i : Fin 128) :
    k0_pay17 (F := Ideal) g0 g2 (ix1 i)
      = ahead g0 g2 ⟨640 + i.val, by omega⟩ := by
  pointwise [k0_pay17, ahead]

/-- The ranks, from those of the first six stretches. -/
theorem rd_ranks (g0 : FVec Ideal S1024 .f32) (g2 : FVec Ideal S1024 .f32) (g5 : IVec S128 32) (g7 : IVec S128 32) (g8 : IVec S128 32) (g10 : IVec S128 32) (g11 : IVec S128 32) (g12 : IVec S128 32) (j : Fin 1024)
    (h5 : ∀ i : Fin 128, g5 (ix1 i) = ahead g0 g2 ⟨i.val, by omega⟩) (h7 : ∀ i : Fin 128, g7 (ix1 i) = ahead g0 g2 ⟨128 + i.val, by omega⟩) (h8 : ∀ i : Fin 128, g8 (ix1 i) = ahead g0 g2 ⟨256 + i.val, by omega⟩) (h10 : ∀ i : Fin 128, g10 (ix1 i) = ahead g0 g2 ⟨384 + i.val, by omega⟩) (h11 : ∀ i : Fin 128, g11 (ix1 i) = ahead g0 g2 ⟨512 + i.val, by omega⟩) (h12 : ∀ i : Fin 128, g12 (ix1 i) = ahead g0 g2 ⟨640 + i.val, by omega⟩) :
    k0_pay21 (F := Ideal) g0 g2 g5 g7 g8 g10 g11 g12 (k0_pay19 (F := Ideal) g0) (k0_pay20 (F := Ideal) g0 g2) (ix1 j) = ahead g0 g2 j := by
  pointwise [k0_pay20, k0_pay18, k0_pay19, k0_pay21]
  have hj := j.isLt
  by_cases c0 : j.val < 128
  · rw [dif_pos c0, h5]
  rw [dif_neg c0]
  by_cases c1 : j.val - 128 < 128
  · rw [dif_pos c1, h7]
    congr 1
    exact Fin.ext (by show 128 + (j.val - 128) = j.val; omega)
  rw [dif_neg c1]
  by_cases c2 : j.val - 128 - 128 < 128
  · rw [dif_pos c2, h8]
    congr 1
    exact Fin.ext (by show 256 + (j.val - 128 - 128) = j.val; omega)
  rw [dif_neg c2]
  by_cases c3 : j.val - 128 - 128 - 128 < 128
  · rw [dif_pos c3, h10]
    congr 1
    exact Fin.ext (by show 384 + (j.val - 128 - 128 - 128) = j.val; omega)
  rw [dif_neg c3]
  by_cases c4 : j.val - 128 - 128 - 128 - 128 < 128
  · rw [dif_pos c4, h11]
    congr 1
    exact Fin.ext (by show 512 + (j.val - 128 - 128 - 128 - 128) = j.val; omega)
  rw [dif_neg c4]
  by_cases c5 : j.val - 128 - 128 - 128 - 128 - 128 < 128
  · rw [dif_pos c5, h12]
    congr 1
    exact Fin.ext (by show 640 + (j.val - 128 - 128 - 128 - 128 - 128) = j.val; omega)
  rw [dif_neg c5]
  by_cases c6 : j.val - 128 - 128 - 128 - 128 - 128 - 128 < 128
  · rw [dif_pos c6]
    simp only [show 768 + (j.val - 128 - 128 - 128 - 128 - 128 - 128) = j.val from by omega, Fin.eta, ahead]
  rw [dif_neg c6]
  simp only [show 896 + (j.val - 128 - 128 - 128 - 128 - 128 - 128 - 128) = j.val from by omega, Fin.eta, ahead]

/-- The ranks: every candidate's number of candidates ahead. -/
theorem rd_val15 (x0 : Vec Ideal S1x1x1024 .f32) (x1 : Vec Ideal S1x1x1024 .i32) (j : Fin 1024) :
    val15 x0 x1 (ix1 j) = ahead (val0 x0) (val2 x1) j := by
  unfold val15 val13 val14
  exact rd_ranks _ _ _ _ _ _ _ _ j (rd_val5 x0 x1) (rd_val7 x0 x1) (rd_val8 (val0 x0) (val2 x1)) (rd_val10 (val0 x0) (val2 x1))
    (rd_val11 (val0 x0) (val2 x1)) (rd_val12 (val0 x0) (val2 x1))

/-- Membership of the first thousand: the rank below 1000. -/
theorem rd_val16 (x0 : Vec Ideal S1x1x1024 .f32) (x1 : Vec Ideal S1x1x1024 .i32) (j : Fin 1024) :
    val16 x0 x1 (ix1 j) = IntOp.cmpi .slt (val15 x0 x1 (ix1 j)) 1000#32 := rfl

/-- The membership indicators. -/
theorem rd_val40 (g16 : IVec S1024 1) (i : Fin 1024) :
    k0_pay50 (F := Ideal) g16 (ix1 i)
      = FloatOps.sitofp (F := Ideal) .f32 (BitVec.setWidth 32 (g16 (ix1 i))) := by
  pointwise [k0_pay50]

/-- The first band of the overlap matrix. -/
theorem rd_band0 (g15 : IVec S1024 32) (g39 : FVec Ideal S1024 .f32) (g40 : FVec Ideal S1024 .f32) (g17 : IVec S1024 32) (g31 : FVec Ideal S1024 .f32) (g27 : FVec Ideal S1024 .f32) (g29 : FVec Ideal S1024 .f32) (g26 : FVec Ideal S1024 .f32) (g28 : FVec Ideal S1024 .f32) (g30 : FVec Ideal S1024 .f32) (i : Fin 128) (j : Fin 1024) :
    k0_pay54 (F := Ideal) g15 g39 g40 (k0_pay51 (F := Ideal) g17 (Scalar.ofBits (F := Ideal) .f32 0x44480000#32) g31) (k0_pay52 (F := Ideal) g17 g27 g29) (k0_pay53 (F := Ideal) g17 g26 g28 g30) (ix2 i j)
      = adj g15 g40 g39 (k0_pay45 (F := Ideal) g17 g30) (k0_pay46 (F := Ideal) g17 (Scalar.ofBits (F := Ideal) .f32 0x44480000#32) g31) (k0_pay47 (F := Ideal) g17 g26 g28) (k0_pay48 (F := Ideal) g17 g27 g29) ⟨i.val, by omega⟩ j := by
  pointwise [k0_pay53, k0_pay47, k0_pay44, k0_pay42, k0_pay45, k0_pay52, k0_pay48, k0_pay43, k0_pay51, k0_pay46, k0_pay41, k0_pay54, adj]

/-- Band 1 of the overlap matrix. -/
theorem rd_band1 (g15 : IVec S1024 32) (g38 : FVec Ideal S1024 .f32) (g39 : FVec Ideal S1024 .f32) (g40 : FVec Ideal S1024 .f32) (g35 : FVec Ideal S1024 .f32) (g36 : FVec Ideal S1024 .f32) (g37 : FVec Ideal S1024 .f32) (i : Fin 128) (j : Fin 1024) :
    k0_pay59 (F := Ideal) g15 g38 g39 g40 (k0_pay55 (F := Ideal) g35) (k0_pay56 (F := Ideal) g36) (k0_pay57 (F := Ideal) g37) (k0_pay58 (F := Ideal) g37) (ix2 i j)
      = adj g15 g40 g39 g35 g36 g37 g38 ⟨128 + i.val, by omega⟩ j := by
  pointwise [k0_pay58, k0_pay57, k0_pay56, k0_pay55, k0_pay59, adj]

/-- Band 2 of the overlap matrix. -/
theorem rd_band2 (g15 : IVec S1024 32) (g36 : FVec Ideal S1024 .f32) (g37 : FVec Ideal S1024 .f32) (g38 : FVec Ideal S1024 .f32) (g39 : FVec Ideal S1024 .f32) (g40 : FVec Ideal S1024 .f32) (g35 : FVec Ideal S1024 .f32) (i : Fin 128) (j : Fin 1024) :
    k0_pay63 (F := Ideal) (k0_pay62 (F := Ideal) g15 g36 g37 g38 g39 g40 (k0_pay60 (F := Ideal) g35) (k0_pay61 (F := Ideal) g36)) (ix2 i j)
      = adj g15 g40 g39 g35 g36 g37 g38 ⟨256 + i.val, by omega⟩ j := by
  pointwise [k0_pay61, k0_pay60, k0_pay62, k0_pay63, adj]

/-- Band 3 of the overlap matrix. -/
theorem rd_band3 (g40 : FVec Ideal S1024 .f32) (g15 : IVec S1024 32) (g35 : FVec Ideal S1024 .f32) (g36 : FVec Ideal S1024 .f32) (g37 : FVec Ideal S1024 .f32) (g38 : FVec Ideal S1024 .f32) (g39 : FVec Ideal S1024 .f32) (i : Fin 128) (j : Fin 1024) :
    k0_pay66 (F := Ideal) g40 (k0_pay64 (F := Ideal) g15 g35 g36 g37 g38 g39) (k0_pay65 (F := Ideal) g40) (ix2 i j)
      = adj g15 g40 g39 g35 g36 g37 g38 ⟨384 + i.val, by omega⟩ j := by
  pointwise [k0_pay65, k0_pay64, k0_pay66, adj]

/-- Band 4 of the overlap matrix. -/
theorem rd_band4 (g15 : IVec S1024 32) (g40 : FVec Ideal S1024 .f32) (g35 : FVec Ideal S1024 .f32) (g36 : FVec Ideal S1024 .f32) (g37 : FVec Ideal S1024 .f32) (g38 : FVec Ideal S1024 .f32) (g39 : FVec Ideal S1024 .f32) (i : Fin 128) (j : Fin 1024) :
    k0_pay69 (F := Ideal) g15 g40 (k0_pay67 (F := Ideal) g35 g36 g37 g38 g39) (k0_pay68 g15) (ix2 i j)
      = adj g15 g40 g39 g35 g36 g37 g38 ⟨512 + i.val, by omega⟩ j := by
  pointwise [k0_pay68, k0_pay67, k0_pay69, adj]

/-- Band 5 of the overlap matrix. -/
theorem rd_band5 (g15 : IVec S1024 32) (g40 : FVec Ideal S1024 .f32) (g35 : FVec Ideal S1024 .f32) (g36 : FVec Ideal S1024 .f32) (g37 : FVec Ideal S1024 .f32) (g38 : FVec Ideal S1024 .f32) (g39 : FVec Ideal S1024 .f32) (i : Fin 128) (j : Fin 1024) :
    k0_pay72 (F := Ideal) g15 g40 (k0_pay70 (F := Ideal) g35 g36 g37 g38) (k0_pay71 (F := Ideal) g35 g36 g37 g38 g39) (ix2 i j)
      = adj g15 g40 g39 g35 g36 g37 g38 ⟨640 + i.val, by omega⟩ j := by
  pointwise [k0_pay71, k0_pay70, k0_pay72, adj]

/-- Band 6 of the overlap matrix. -/
theorem rd_band6 (g15 : IVec S1024 32) (g39 : FVec Ideal S1024 .f32) (g40 : FVec Ideal S1024 .f32) (g35 : FVec Ideal S1024 .f32) (g37 : FVec Ideal S1024 .f32) (g36 : FVec Ideal S1024 .f32) (g38 : FVec Ideal S1024 .f32) (i : Fin 128) (j : Fin 1024) :
    k0_pay76 (F := Ideal) g15 g39 g40 (k0_pay73 (F := Ideal) g35 g37) (k0_pay74 (F := Ideal) g36 g38) (k0_pay75 (F := Ideal)) (ix2 i j)
      = adj g15 g40 g39 g35 g36 g37 g38 ⟨768 + i.val, by omega⟩ j := by
  pointwise [k0_pay74, k0_pay73, k0_pay75, k0_pay76, adj]

/-- Band 7 of the overlap matrix. -/
theorem rd_band7 (g15 : IVec S1024 32) (g39 : FVec Ideal S1024 .f32) (g40 : FVec Ideal S1024 .f32) (g35 : FVec Ideal S1024 .f32) (g36 : FVec Ideal S1024 .f32) (g37 : FVec Ideal S1024 .f32) (g38 : FVec Ideal S1024 .f32) (i : Fin 128) (j : Fin 1024) :
    k0_pay82 (F := Ideal) g15 g39 g40 (k0_pay77 (F := Ideal) g35) (k0_pay78 (F := Ideal) g36) (k0_pay79 (F := Ideal) g37) (k0_pay80 (F := Ideal) g38) (k0_pay81 (F := Ideal) g38) (ix2 i j)
      = adj g15 g40 g39 g35 g36 g37 g38 ⟨896 + i.val, by omega⟩ j := by
  pointwise [k0_pay81, k0_pay80, k0_pay79, k0_pay78, k0_pay77, k0_pay82, adj]

/-- One trip's survivors. -/
theorem rd_nextKeep (B : Bands Ideal) (v k : FVec Ideal S1024 .f32) (i : Fin 1024) : nextKeep B v k (ix1 i)
    = v (ix1 i) * (1 - min (max (max (max (max (max (max (max (max (0) (Finset.fold max (lit 0xFF800000#32) (fun x : Fin 128 => k (ix1 ⟨x.val, by omega⟩) * B.b0 (ix2 x i)) Finset.univ)) (Finset.fold max (lit 0xFF800000#32) (fun x : Fin 128 => k (ix1 ⟨128 + x.val, by omega⟩) * B.b1 (ix2 x i)) Finset.univ)) (Finset.fold max (lit 0xFF800000#32) (fun x : Fin 128 => k (ix1 ⟨256 + x.val, by omega⟩) * B.b2 (ix2 x i)) Finset.univ)) (Finset.fold max (lit 0xFF800000#32) (fun x : Fin 128 => k (ix1 ⟨384 + x.val, by omega⟩) * B.b3 (ix2 x i)) Finset.univ)) (Finset.fold max (lit 0xFF800000#32) (fun x : Fin 128 => k (ix1 ⟨512 + x.val, by omega⟩) * B.b4 (ix2 x i)) Finset.univ)) (Finset.fold max (lit 0xFF800000#32) (fun x : Fin 128 => k (ix1 ⟨640 + x.val, by omega⟩) * B.b5 (ix2 x i)) Finset.univ)) (Finset.fold max (lit 0xFF800000#32) (fun x : Fin 128 => k (ix1 ⟨768 + x.val, by omega⟩) * B.b6 (ix2 x i)) Finset.univ)) (Finset.fold max (lit 0xFF800000#32) (fun x : Fin 128 => k (ix1 ⟨896 + x.val, by omega⟩) * B.b7 (ix2 x i)) Finset.univ)) 1) := by
  unfold nextKeep
  pointwise [k0_pay2, k0_pay109, k0_pay110]

/-- One trip's flag: the sum of the changes, as a word. -/
theorem rd_nextFlag (B : Bands Ideal) (v k : FVec Ideal S1024 .f32) : nextFlag B v k
    = FloatOps.fptosi (F := Ideal) (φ := .f32) 32 (∑ x : Fin 1024, FloatOps.absf (F := Ideal) (φ := .f32) (nextKeep B v k (ix1 x) - k (ix1 x))) := by
  unfold nextFlag nextKeep k0_pay3
  generalize k0_pay2 v k (k0_pay109 k B.b0 B.b1 B.b2 B.b3 B.b4) (k0_pay110 k B.b5) B.b6 B.b7 = w
  pointwise []
  rfl

/-- The confirmed candidates: survivors whose score is above −10⁸. -/
theorem rd_val64 (g0 : FVec Ideal S1024 .f32) (gS : FVec Ideal S1024 .f32) (i : Fin 1024) :
    k0_pay83 (F := Ideal) g0 gS (ix1 i)
      = gS (ix1 i) * FloatOps.sitofp (F := Ideal) .f32 (BitVec.setWidth 32 (BitVec.ofBool (decide (lit 0xCCBEBC20#32 < g0 (ix1 i))))) := by
  pointwise [k0_pay83]

/-- The confirmed candidates, as bits. -/
theorem rd_val65 (g0 : FVec Ideal S1024 .f32) (gS : FVec Ideal S1024 .f32) (i : Fin 1024) :
    k0_pay84 (F := Ideal) g0 gS (ix1 i)
      = BitVec.ofBool (decide (0 < gS (ix1 i) * FloatOps.sitofp (F := Ideal) .f32 (BitVec.setWidth 32 (BitVec.ofBool (decide (lit 0xCCBEBC20#32 < g0 (ix1 i))))))) := by
  pointwise [k0_pay84, k0_pay83]

/-- The unconfirmed candidates of the first thousand. -/
theorem rd_val66 (g40 : FVec Ideal S1024 .f32) (g64 : FVec Ideal S1024 .f32) (i : Fin 1024) :
    k0_pay85 (F := Ideal) g40 g64 (Scalar.ofBits (F := Ideal) .f32 0x3F800000#32) (ix1 i)
      = g40 (ix1 i) * (1 - g64 (ix1 i)) := by
  pointwise [k0_pay85]

/-- The number of confirmed candidates ahead, in eight stretches. -/
theorem rd_val76 (g15 : IVec S1024 32) (g64 : FVec Ideal S1024 .f32) (i : Fin 1024) :
    k0_pay102 (F := Ideal) g15 g64 (k0_pay94 (F := Ideal) g15 g64 (k0_pay88 (F := Ideal) g15 g64) (k0_pay90 (F := Ideal) g15) (k0_pay91 (F := Ideal) g64)) (k0_pay96 g15) (k0_pay97 g15) (ix1 i)
      = (∑ x : Fin 128, g64 (ix1 ⟨x.val, by omega⟩) * FloatOps.sitofp (F := Ideal) .f32 (BitVec.setWidth 32 (IntOp.cmpi .slt (g15 (ix1 ⟨x.val, by omega⟩)) (g15 (ix1 i)))))
      + (∑ x : Fin 128, g64 (ix1 ⟨128 + x.val, by omega⟩) * FloatOps.sitofp (F := Ideal) .f32 (BitVec.setWidth 32 (IntOp.cmpi .slt (g15 (ix1 ⟨128 + x.val, by omega⟩)) (g15 (ix1 i)))))
      + (∑ x : Fin 128, g64 (ix1 ⟨256 + x.val, by omega⟩) * FloatOps.sitofp (F := Ideal) .f32 (BitVec.setWidth 32 (IntOp.cmpi .slt (g15 (ix1 ⟨256 + x.val, by omega⟩)) (g15 (ix1 i)))))
      + (∑ x : Fin 128, g64 (ix1 ⟨384 + x.val, by omega⟩) * FloatOps.sitofp (F := Ideal) .f32 (BitVec.setWidth 32 (IntOp.cmpi .slt (g15 (ix1 ⟨384 + x.val, by omega⟩)) (g15 (ix1 i)))))
      + (∑ x : Fin 128, g64 (ix1 ⟨512 + x.val, by omega⟩) * FloatOps.sitofp (F := Ideal) .f32 (BitVec.setWidth 32 (IntOp.cmpi .slt (g15 (ix1 ⟨512 + x.val, by omega⟩)) (g15 (ix1 i)))))
      + (∑ x : Fin 128, g64 (ix1 ⟨640 + x.val, by omega⟩) * FloatOps.sitofp (F := Ideal) .f32 (BitVec.setWidth 32 (IntOp.cmpi .slt (g15 (ix1 ⟨640 + x.val, by omega⟩)) (g15 (ix1 i)))))
      + (∑ x : Fin 128, g64 (ix1 ⟨768 + x.val, by omega⟩) * FloatOps.sitofp (F := Ideal) .f32 (BitVec.setWidth 32 (IntOp.cmpi .slt (g15 (ix1 ⟨768 + x.val, by omega⟩)) (g15 (ix1 i)))))
      + (∑ x : Fin 128, g64 (ix1 ⟨896 + x.val, by omega⟩) * FloatOps.sitofp (F := Ideal) .f32 (BitVec.setWidth 32 (IntOp.cmpi .slt (g15 (ix1 ⟨896 + x.val, by omega⟩)) (g15 (ix1 i))))) := by
  pointwise [k0_pay91, k0_pay90, k0_pay88, k0_pay87, k0_pay86, k0_pay97, k0_pay96, k0_pay94, k0_pay93, k0_pay92, k0_pay102, k0_pay101, k0_pay99, k0_pay98]

/-- The number of unconfirmed candidates ahead, the first seven stretches. -/
theorem rd_val75 (g15 : IVec S1024 32) (g66 : FVec Ideal S1024 .f32) (g40 : FVec Ideal S1024 .f32) (g64 : FVec Ideal S1024 .f32) (i : Fin 1024) :
    k0_pay100 (F := Ideal) g15 g66 (k0_pay95 (F := Ideal) g15 g66 (k0_pay89 (F := Ideal) g15 g40 g64 (Scalar.ofBits (F := Ideal) .f32 0x3F800000#32)) (k0_pay90 (F := Ideal) g15)) (k0_pay96 g15) (k0_pay97 g15) (ix1 i)
      = (∑ x : Fin 128, g40 (ix1 ⟨x.val, by omega⟩) * (1 - g64 (ix1 ⟨x.val, by omega⟩)) * FloatOps.sitofp (F := Ideal) .f32 (BitVec.setWidth 32 (IntOp.cmpi .slt (g15 (ix1 ⟨x.val, by omega⟩)) (g15 (ix1 i)))))
      + (∑ x : Fin 128, g40 (ix1 ⟨128 + x.val, by omega⟩) * (1 - g64 (ix1 ⟨128 + x.val, by omega⟩)) * FloatOps.sitofp (F := Ideal) .f32 (BitVec.setWidth 32 (IntOp.cmpi .slt (g15 (ix1 ⟨128 + x.val, by omega⟩)) (g15 (ix1 i)))))
      + (∑ x : Fin 128, g66 (ix1 ⟨256 + x.val, by omega⟩) * FloatOps.sitofp (F := Ideal) .f32 (BitVec.setWidth 32 (IntOp.cmpi .slt (g15 (ix1 ⟨256 + x.val, by omega⟩)) (g15 (ix1 i)))))
      + (∑ x : Fin 128, g66 (ix1 ⟨384 + x.val, by omega⟩) * FloatOps.sitofp (F := Ideal) .f32 (BitVec.setWidth 32 (IntOp.cmpi .slt (g15 (ix1 ⟨384 + x.val, by omega⟩)) (g15 (ix1 i)))))
      + (∑ x : Fin 128, g66 (ix1 ⟨512 + x.val, by omega⟩) * FloatOps.sitofp (F := Ideal) .f32 (BitVec.setWidth 32 (IntOp.cmpi .slt (g15 (ix1 ⟨512 + x.val, by omega⟩)) (g15 (ix1 i)))))
      + (∑ x : Fin 128, g66 (ix1 ⟨640 + x.val, by omega⟩) * FloatOps.sitofp (F := Ideal) .f32 (BitVec.setWidth 32 (IntOp.cmpi .slt (g15 (ix1 ⟨640 + x.val, by omega⟩)) (g15 (ix1 i)))))
      + (∑ x : Fin 128, g66 (ix1 ⟨768 + x.val, by omega⟩) * FloatOps.sitofp (F := Ideal) .f32 (BitVec.setWidth 32 (IntOp.cmpi .slt (g15 (ix1 ⟨768 + x.val, by omega⟩)) (g15 (ix1 i))))) := by
  pointwise [k0_pay90, k0_pay89, k0_pay87, k0_pay85, k0_pay86, k0_pay97, k0_pay96, k0_pay95, k0_pay93, k0_pay92, k0_pay100, k0_pay99, k0_pay98]

/-- The last stretch. -/
theorem rd_val77 (g15 : IVec S1024 32) (g66 : FVec Ideal S1024 .f32) (x : Fin 128) (i : Fin 1024) :
    k0_pay103 (F := Ideal) g15 g66 (ix2 x i)
      = g66 (ix1 ⟨896 + x.val, by omega⟩) * FloatOps.sitofp (F := Ideal) .f32 (BitVec.setWidth 32 (IntOp.cmpi .slt (g15 (ix1 ⟨896 + x.val, by omega⟩)) (g15 (ix1 i)))) := by
  pointwise [k0_pay103, k0_pay101]

/-- The indicator of the final places. -/
theorem rd_val78 (g16 : IVec S1024 1) (g64 : FVec Ideal S1024 .f32) (g65 : IVec S1024 1) (g75 : FVec Ideal S1024 .f32) (g76 : FVec Ideal S1024 .f32) (g77 : FVec Ideal S128x1024 .f32) (k : Fin 128) (i : Fin 1024) :
    k0_pay104 (F := Ideal) g16 g64 g65 g75 g76 g77 (ix2 k i)
      = FloatOps.sitofp (F := Ideal) .f32 (BitVec.setWidth 32 (IntOp.cmpi .eq (Scalar.select (g16 (ix1 i)) (FloatOps.fptosi (F := Ideal) (φ := .f32) 32 (Scalar.select (g65 (ix1 i)) (g76 (ix1 i)) ((∑ y : Fin 1024, g64 (ix1 y)) + (g75 (ix1 i) + ∑ y : Fin 128, g77 (ix2 y i))))) 100000#32) (BitVec.ofNat 32 k.val))) := by
  pointwise [k0_pay104]

/-- The left edges in the final order. -/
theorem rd_val79 (g16 : IVec S1024 1) (g30 : FVec Ideal S1024 .f32) (g64 : FVec Ideal S1024 .f32) (g65 : IVec S1024 1) (g75 : FVec Ideal S1024 .f32) (g76 : FVec Ideal S1024 .f32) (g77 : FVec Ideal S128x1024 .f32) (k : Fin 128) :
    k0_pay107 (F := Ideal) g16 g30 g64 g65 g75 g76 g77 (ix1 k)
      = ∑ x : Fin 1024, FloatOps.sitofp (F := Ideal) .f32 (BitVec.setWidth 32 (IntOp.cmpi .eq (Scalar.select (g16 (ix1 x)) (FloatOps.fptosi (F := Ideal) (φ := .f32) 32 (Scalar.select (g65 (ix1 x)) (g76 (ix1 x)) ((∑ y : Fin 1024, g64 (ix1 y)) + (g75 (ix1 x) + ∑ y : Fin 128, g77 (ix2 y x))))) 100000#32) (BitVec.ofNat 32 k.val))) * g30 (ix1 x) := by
  pointwise [k0_pay107, k0_pay104]

/-- The top edges in the final order. -/
theorem rd_val80 (g16 : IVec S1024 1) (g32 : FVec Ideal S1024 .f32) (g64 : FVec Ideal S1024 .f32) (g65 : IVec S1024 1) (g75 : FVec Ideal S1024 .f32) (g76 : FVec Ideal S1024 .f32) (g77 : FVec Ideal S128x1024 .f32) (k : Fin 128) :
    k0_pay108 (F := Ideal) g16 g32 g64 g65 g75 g76 g77 (ix1 k)
      = ∑ x : Fin 1024, FloatOps.sitofp (F := Ideal) .f32 (BitVec.setWidth 32 (IntOp.cmpi .eq (Scalar.select (g16 (ix1 x)) (FloatOps.fptosi (F := Ideal) (φ := .f32) 32 (Scalar.select (g65 (ix1 x)) (g76 (ix1 x)) ((∑ y : Fin 1024, g64 (ix1 y)) + (g75 (ix1 x) + ∑ y : Fin 128, g77 (ix2 y x))))) 100000#32) (BitVec.ofNat 32 k.val))) * g32 (ix1 x) := by
  pointwise [k0_pay108, k0_pay104]

/-- The scores in the final order. -/
theorem rd_outScores (g0 : FVec Ideal S1024 .f32) (g16 : IVec S1024 1) (g64 : FVec Ideal S1024 .f32) (g65 : IVec S1024 1) (g75 : FVec Ideal S1024 .f32) (g76 : FVec Ideal S1024 .f32) (g77 : FVec Ideal S128x1024 .f32) (u w : Fin 1) (k : Fin 128) :
    k0_pay105 (F := Ideal) g0 g16 g64 g65 g75 g76 g77 (ix3 u w k)
      = ∑ x : Fin 1024, FloatOps.sitofp (F := Ideal) .f32 (BitVec.setWidth 32 (IntOp.cmpi .eq (Scalar.select (g16 (ix1 x)) (FloatOps.fptosi (F := Ideal) (φ := .f32) 32 (Scalar.select (g65 (ix1 x)) (g76 (ix1 x)) ((∑ y : Fin 1024, g64 (ix1 y)) + (g75 (ix1 x) + ∑ y : Fin 128, g77 (ix2 y x))))) 100000#32) (BitVec.ofNat 32 k.val))) * Scalar.select (g65 (ix1 x)) (g0 (ix1 x)) (lit 0xCE6E6B28#32) := by
  pointwise [k0_pay105, k0_pay104]

/-- The labels in the final order. -/
theorem rd_outLabels (g16 : IVec S1024 1) (g17 : IVec S1024 32) (g64 : FVec Ideal S1024 .f32) (g65 : IVec S1024 1) (g75 : FVec Ideal S1024 .f32) (g76 : FVec Ideal S1024 .f32) (g77 : FVec Ideal S128x1024 .f32) (u w : Fin 1) (k : Fin 128) :
    k0_pay106 (F := Ideal) g16 g17 g64 g65 g75 g76 g77 (ix3 u w k)
      = FloatOps.fptosi (F := Ideal) (φ := .f32) 32 (∑ x : Fin 1024, FloatOps.sitofp (F := Ideal) .f32 (BitVec.setWidth 32 (IntOp.cmpi .eq (Scalar.select (g16 (ix1 x)) (FloatOps.fptosi (F := Ideal) (φ := .f32) 32 (Scalar.select (g65 (ix1 x)) (g76 (ix1 x)) ((∑ y : Fin 1024, g64 (ix1 y)) + (g75 (ix1 x) + ∑ y : Fin 128, g77 (ix2 y x))))) 100000#32) (BitVec.ofNat 32 k.val))) * FloatOps.sitofp (F := Ideal) .f32 (g17 (ix1 x))) := by
  pointwise [k0_pay106, k0_pay104]

/-- Row 0 of the output boxes. -/
theorem rd_outBoxes0 (g33 : FVec Ideal S1024 .f32) (g34 : FVec Ideal S1024 .f32) (g78 : FVec Ideal S128x1024 .f32) (g79 : FVec Ideal S128 .f32) (g80 : FVec Ideal S128 .f32) (u : Fin 1) (k : Fin 128) :
    k0_pay1 (F := Ideal) g33 g34 g78 g79 g80 (ix3 u 0 k)
      = g79 (ix1 k) := by
  pointwise [k0_pay1]

/-- Row 1 of the output boxes. -/
theorem rd_outBoxes1 (g33 : FVec Ideal S1024 .f32) (g34 : FVec Ideal S1024 .f32) (g78 : FVec Ideal S128x1024 .f32) (g79 : FVec Ideal S128 .f32) (g80 : FVec Ideal S128 .f32) (u : Fin 1) (k : Fin 128) :
    k0_pay1 (F := Ideal) g33 g34 g78 g79 g80 (ix3 u 1 k)
      = g80 (ix1 k) := by
  pointwise [k0_pay1]

/-- Row 2 of the output boxes. -/
theorem rd_outBoxes2 (g33 : FVec Ideal S1024 .f32) (g34 : FVec Ideal S1024 .f32) (g78 : FVec Ideal S128x1024 .f32) (g79 : FVec Ideal S128 .f32) (g80 : FVec Ideal S128 .f32) (u : Fin 1) (k : Fin 128) :
    k0_pay1 (F := Ideal) g33 g34 g78 g79 g80 (ix3 u 2 k)
      = ∑ x : Fin 1024, g78 (ix2 k x) * g33 (ix1 x) := by
  pointwise [k0_pay1]

/-- Row 3 of the output boxes. -/
theorem rd_outBoxes3 (g33 : FVec Ideal S1024 .f32) (g34 : FVec Ideal S1024 .f32) (g78 : FVec Ideal S128x1024 .f32) (g79 : FVec Ideal S128 .f32) (g80 : FVec Ideal S128 .f32) (u : Fin 1) (k : Fin 128) :
    k0_pay1 (F := Ideal) g33 g34 g78 g79 g80 (ix3 u 3 k)
      = ∑ x : Fin 1024, g78 (ix2 k x) * g34 (ix1 x) := by
  pointwise [k0_pay1]

end Cert.NmsIdeal.Hand
-- ==== Proof.NmsModel.lean ====
/-
  One image of the suppression: from the scores, the indices and the two gathered rows of its candidates, the boxes,
  which pairs overlap, which candidates the greedy pass keeps, and which of those are confirmed. No program is named.
-/
module

public import proofs.«01_k».proof.Proof.NmsCell

@[expose] public section
noncomputable section
namespace Cert.Proof
open Idealize.ShloMosaic

/-- The position of a candidate among 1024. -/
def pos (i : ℕ) : Fin 1024 := ⟨i % 1024, by omega⟩

theorem pos_val (i : Fin 1024) : pos i.val = i := Fin.ext (Nat.mod_eq_of_lt i.isLt)

theorem pos_mk (i : ℕ) (h : i < 1024) : pos i = ⟨i, h⟩ := Fin.ext (Nat.mod_eq_of_lt h)

/-- The data of one image: scores, indices, and each candidate's row of regressions and proposal. -/
structure Image where
  s : Fin 1024 → EReal
  ix : Fin 1024 → BitVec 32
  row : Fin 1024 → Fin 364 → EReal
  prop : Fin 1024 → Fin 4 → EReal

/-- The box of a candidate. -/
def Image.box (I : Image) (i : ℕ) : Fin 4 → EReal := edge (I.row (pos i)) (I.prop (pos i)) (cls (I.ix (pos i)))

/-- The box of a candidate, moved apart by its class. -/
def Image.apart (I : Image) (i : ℕ) : Fin 4 → EReal := moved (I.ix (pos i)) (I.box i)

/-- Whether two candidates overlap. -/
def Image.meets (I : Image) (i j : ℕ) : Bool := overlaps (I.apart i) (I.apart j)

/-- Whether a candidate survives the greedy pass with a score above −10⁸. -/
def Image.confirmed (I : Image) (j : ℕ) : Bool := keptTo 1000 I.meets j && decide (lit 0xCCBEBC20#32 < I.s (pos j))

/-- The overlap matrix as the kernel keeps it: between two of the first thousand, the earlier one first. -/
def Image.above (I : Image) (i j : ℕ) : Bool := decide (i < 1000) && decide (j < 1000) && decide (i < j) && I.meets i j

/-- The candidates are strictly ordered: by descending score, equal scores by ascending index. -/
def Image.Ordered (I : Image) : Prop :=
  ∀ i j : Fin 1024, i < j → I.s j < I.s i ∨ (I.s i = I.s j ∧ (I.ix i).toInt < (I.ix j).toInt)

end Cert.Proof
-- ==== Proof.NmsKernel.lean ====
/-
  What the suppression call computes of one image whose candidates are in order: the ranks are the positions, the loop
  leaves the greedy pass's survivors, and each output place receives the one candidate whose place it is.
-/
module

public import proofs.«01_k».proof.Proof.NmsRead
public import proofs.«01_k».proof.Proof.NmsModel

@[expose] public section
set_option maxRecDepth 16384
noncomputable section
namespace Cert.NmsIdeal.Hand
open Cert.NmsIdeal Cert.NmsIdeal.Gen Cert.Proof Idealize.ShloMosaic Idealize.ShloMosaic.TcCoe Idealize.SL.Sem

/-! ## The loop -/

/-- The eight bands hold the indicators of a relation. -/
structure BandsAre (B : Bands Ideal) (A : ℕ → ℕ → Bool) : Prop where
  h0 : ∀ (y : Fin 128) (j : Fin 1024), B.b0 (ix2 y j) = bit (A (y.val) j.val)
  h1 : ∀ (y : Fin 128) (j : Fin 1024), B.b1 (ix2 y j) = bit (A (128 + y.val) j.val)
  h2 : ∀ (y : Fin 128) (j : Fin 1024), B.b2 (ix2 y j) = bit (A (256 + y.val) j.val)
  h3 : ∀ (y : Fin 128) (j : Fin 1024), B.b3 (ix2 y j) = bit (A (384 + y.val) j.val)
  h4 : ∀ (y : Fin 128) (j : Fin 1024), B.b4 (ix2 y j) = bit (A (512 + y.val) j.val)
  h5 : ∀ (y : Fin 128) (j : Fin 1024), B.b5 (ix2 y j) = bit (A (640 + y.val) j.val)
  h6 : ∀ (y : Fin 128) (j : Fin 1024), B.b6 (ix2 y j) = bit (A (768 + y.val) j.val)
  h7 : ∀ (y : Fin 128) (j : Fin 1024), B.b7 (ix2 y j) = bit (A (896 + y.val) j.val)

/-- One trip's survivors: the members that no survivor is above of. -/
theorem nextKeep_bits {B : Bands Ideal} {A : ℕ → ℕ → Bool} (hB : BandsAre B A) (v keep : FVec Ideal S1024 .f32)
    (hv : ∀ j : Fin 1024, v (ix1 j) = bit (decide (j.val < 1000))) (k : ℕ → Bool)
    (hk : ∀ j : Fin 1024, keep (ix1 j) = bit (k j.val)) (i : Fin 1024) (q : Bool)
    (hq : i.val < 1000 → (q = true ↔ ∃ x, x < 1024 ∧ (k x && A x i.val) = true)) :
    nextKeep B v keep (ix1 i) = bit (decide (i.val < 1000) && !q) := by
  have e0 : ∀ x : Fin 128, keep (ix1 ⟨x.val, by omega⟩) * B.b0 (ix2 x i) = bit (k (x.val) && A (x.val) i.val) :=
    fun x => by rw [hk, hB.h0, bit_mul]
  have e1 : ∀ x : Fin 128, keep (ix1 ⟨128 + x.val, by omega⟩) * B.b1 (ix2 x i) = bit (k (128 + x.val) && A (128 + x.val) i.val) :=
    fun x => by rw [hk, hB.h1, bit_mul]
  have e2 : ∀ x : Fin 128, keep (ix1 ⟨256 + x.val, by omega⟩) * B.b2 (ix2 x i) = bit (k (256 + x.val) && A (256 + x.val) i.val) :=
    fun x => by rw [hk, hB.h2, bit_mul]
  have e3 : ∀ x : Fin 128, keep (ix1 ⟨384 + x.val, by omega⟩) * B.b3 (ix2 x i) = bit (k (384 + x.val) && A (384 + x.val) i.val) :=
    fun x => by rw [hk, hB.h3, bit_mul]
  have e4 : ∀ x : Fin 128, keep (ix1 ⟨512 + x.val, by omega⟩) * B.b4 (ix2 x i) = bit (k (512 + x.val) && A (512 + x.val) i.val) :=
    fun x => by rw [hk, hB.h4, bit_mul]
  have e5 : ∀ x : Fin 128, keep (ix1 ⟨640 + x.val, by omega⟩) * B.b5 (ix2 x i) = bit (k (640 + x.val) && A (640 + x.val) i.val) :=
    fun x => by rw [hk, hB.h5, bit_mul]
  have e6 : ∀ x : Fin 128, keep (ix1 ⟨768 + x.val, by omega⟩) * B.b6 (ix2 x i) = bit (k (768 + x.val) && A (768 + x.val) i.val) :=
    fun x => by rw [hk, hB.h6, bit_mul]
  have e7 : ∀ x : Fin 128, keep (ix1 ⟨896 + x.val, by omega⟩) * B.b7 (ix2 x i) = bit (k (896 + x.val) && A (896 + x.val) i.val) :=
    fun x => by rw [hk, hB.h7, bit_mul]
  rw [rd_nextKeep, show (0 : EReal) = bit false from rfl, max_fold _ _ _ e0, max_fold _ _ _ e1, max_fold _ _ _ e2, max_fold _ _ _ e3,
    max_fold _ _ _ e4, max_fold _ _ _ e5, max_fold _ _ _ e6, max_fold _ _ _ e7, one_sub_min_bit, hv, bit_mul]
  by_cases hi : i.val < 1000
  swap
  · rw [decide_eq_false hi, Bool.false_and, Bool.false_and]
  refine congrArg (fun b => bit (decide (i.val < 1000) && !b)) ?_
  rw [Bool.eq_iff_iff, hq hi, ← exists_chunks (fun x => (k x && A x i.val) = true)]
  simp only [Bool.or_eq_true, decide_eq_true_iff, Bool.false_eq_true, false_or, or_assoc]

/-- One trip is one round of the simultaneous pass. -/
theorem nextKeep_round {B : Bands Ideal} {I : Image} (hB : BandsAre B I.above) (v keep : FVec Ideal S1024 .f32)
    (hv : ∀ j : Fin 1024, v (ix1 j) = bit (decide (j.val < 1000))) (k : ℕ → Bool)
    (hk : ∀ j : Fin 1024, keep (ix1 j) = bit (k j.val)) (i : Fin 1024) :
    nextKeep B v keep (ix1 i) = bit (round 1000 I.meets k i.val) := by
  unfold Cert.Proof.round
  refine nextKeep_bits hB v keep hv k hk i _ fun hi => ?_
  rw [decide_eq_true_iff]
  simp only [Image.above, Bool.and_eq_true, decide_eq_true_iff]
  constructor
  · rintro ⟨x, h1, h2, h3, h4⟩
    exact ⟨x, by omega, h3, ⟨⟨h1, hi⟩, h2⟩, h4⟩
  · rintro ⟨x, _, h3, ⟨⟨h1, _⟩, h2⟩, h4⟩
    exact ⟨x, h1, h2, h3, h4⟩

/-- One trip's flag: the number of candidates that changed. -/
theorem nextFlag_count {B : Bands Ideal} {I : Image} (hB : BandsAre B I.above) (v keep : FVec Ideal S1024 .f32)
    (hv : ∀ j : Fin 1024, v (ix1 j) = bit (decide (j.val < 1000))) (k : ℕ → Bool)
    (hk : ∀ j : Fin 1024, keep (ix1 j) = bit (k j.val)) :
    nextFlag B v keep = BitVec.ofNat 32 (cnt 1024 fun j => round 1000 I.meets k j != k j) := by
  rw [rd_nextFlag, sum_bits _ (fun j => round 1000 I.meets k j != k j) fun j => by
    rw [nextKeep_round hB v keep hv k hk j, hk, bit_dist]]
  exact fptosi_nat _ (by have := cnt_le 1024 (fun j => round 1000 I.meets k j != k j); omega)

/-- The loop ends with the greedy pass's survivors, whatever part of it is left to run. -/
theorem loop_bits {B : Bands Ideal} {I : Image} (hB : BandsAre B I.above) (v : FVec Ideal S1024 .f32)
    (hv : ∀ j : Fin 1024, v (ix1 j) = bit (decide (j.val < 1000))) (n : ℕ) :
    ∀ (a : ℕ) (keep : FVec Ideal S1024 .f32) (flag : BitVec 32) (k : ℕ → Bool), n + a = 1025 →
      (∀ j : Fin 1024, keep (ix1 j) = bit (k j.val)) → (∀ j < a, j < 1024 → k j = keptTo 1000 I.meets j) →
      (Scalar.cmpi .sgt flag 0#32 ≠ 1#1 → ∀ j < 1024, k j = keptTo 1000 I.meets j) →
      ∀ j : Fin 1024, (loopOut B v n keep flag (BitVec.ofNat 32 a)).1 (ix1 j) = bit (keptTo 1000 I.meets j.val) := by
  induction n with
  | zero =>
    intro a keep flag k ha hk hr _ j
    rw [loopOut]
    show keep (ix1 j) = _
    rw [hk, hr j.val (by omega) j.isLt]
  | succ n ih =>
    intro a keep flag k ha hk hr hf j
    rw [loopOut]
    by_cases hg : goes flag (BitVec.ofNat 32 a) = 1#1
    · rw [if_pos hg]
      have hit : Scalar.addi (BitVec.ofNat 32 a) 1#32 = BitVec.ofNat 32 (a + 1) := by rw [BitVec.ofNat_add]; rfl
      rw [hit]
      refine ih (a + 1) _ _ (fun j => if j < 1024 then round 1000 I.meets k j else k j) (by omega) ?_ ?_ ?_ j
      · intro j; rw [nextKeep_round hB v keep hv k hk j, if_pos j.isLt]
      · intro j hj hj'
        rw [if_pos hj']
        exact round_right 1000 I.meets k j (fun i hi => hr i (by omega) (by omega)) j le_rfl
      · intro hz j hj
        rw [if_pos hj]
        rw [nextFlag_count hB v keep hv k hk] at hz
        have hc := cnt_le 1024 (fun j => round 1000 I.meets k j != k j)
        have h0 : cnt 1024 (fun j => round 1000 I.meets k j != k j) = 0 := by
          by_contra hne
          apply hz
          show IntOp.cmpi .slt (BitVec.ofNat 32 0) (BitVec.ofNat 32 _) = 1#1
          rw [slt_ofNat _ _ (by omega) (by omega), decide_eq_true (by omega)]; rfl
        have hfix : ∀ j < 1024, round 1000 I.meets k j = k j := fun j hj => by
          have := cnt_eq_zero h0 j hj
          simpa using this
        rw [hfix j hj]
        exact round_fixed 1000 I.meets k 1024 hfix j hj
    · rw [if_neg hg]
      show keep (ix1 j) = _
      rw [hk]
      have hne : Scalar.cmpi .sgt flag 0#32 ≠ 1#1 := by
        intro h1
        apply hg
        unfold goes
        rw [h1]
        show IntOp.andi 1#1 (IntOp.cmpi .slt (BitVec.ofNat 32 a) (BitVec.ofNat 32 1025)) = 1#1
        rw [slt_ofNat _ _ (by omega) (by omega), decide_eq_true (by omega)]; rfl
      rw [hf hne j.val j.isLt]

/-- The loop started with every member a survivor leaves the greedy pass's survivors. -/
theorem loopKeep_bits {B : Bands Ideal} {I : Image} (hB : BandsAre B I.above) (v : FVec Ideal S1024 .f32)
    (hv : ∀ j : Fin 1024, v (ix1 j) = bit (decide (j.val < 1000))) (j : Fin 1024) :
    loopKeep B v (ix1 j) = bit (keptTo 1000 I.meets j.val) := by
  unfold loopKeep
  exact loop_bits hB v hv 1025 0 v 1#32 (fun j => decide (j < 1000)) rfl hv (fun j hj => absurd hj (by omega))
    (fun h => absurd (by decide) h) j

/-! ## The body -/

/-- The 0/1 word of "the first, or the second and the third". -/
theorem or_and_word (a b c : Bool) : BitVec.setWidth 32 (IntOp.ori (BitVec.ofBool a) (IntOp.andi (BitVec.ofBool b) (BitVec.ofBool c)))
    = BitVec.ofNat 32 (a || (b && c)).toNat := by cases a <;> cases b <;> cases c <;> decide

/-- The conjunction of two bits. -/
theorem and_word (a b : Bool) : IntOp.andi (BitVec.ofBool a) (BitVec.ofBool b) = BitVec.ofBool (a && b) := by
  cases a <;> cases b <;> decide

/-- An entry of the overlap matrix is the indicator of "above". -/
theorem adj_bits (I : Image) (r : IVec S1024 32) (t a x1 y1 x2 y2 : FVec Ideal S1024 .f32)
    (hr : ∀ i : Fin 1024, r (ix1 i) = BitVec.ofNat 32 i.val) (ht : ∀ i : Fin 1024, t (ix1 i) = bit (decide (i.val < 1000)))
    (ha : ∀ i : Fin 1024, i.val < 1000 → a (ix1 i) = area (I.apart i.val))
    (h0 : ∀ i : Fin 1024, i.val < 1000 → x1 (ix1 i) = I.apart i.val 0) (h1 : ∀ i : Fin 1024, i.val < 1000 → y1 (ix1 i) = I.apart i.val 1)
    (h2 : ∀ i : Fin 1024, i.val < 1000 → x2 (ix1 i) = I.apart i.val 2) (h3 : ∀ i : Fin 1024, i.val < 1000 → y2 (ix1 i) = I.apart i.val 3)
    (i j : Fin 1024) : adj r t a x1 y1 x2 y2 i j = bit (I.above i.val j.val) := by
  unfold adj Image.above
  by_cases hi : i.val < 1000
  · by_cases hj : j.val < 1000
    · rw [ha i hi, h0 i hi, h1 i hi, h2 i hi, h3 i hi, ha j hj, h0 j hj, h1 j hj, h2 j hj, h3 j hj, hr, hr, ht, ht,
        slt_ofNat _ _ (by omega) (by omega), and_word, word_bit, bit_mul, bit_mul, decide_eq_true hi, decide_eq_true hj]
      rw [Bool.and_true, Bool.and_true, Bool.true_and, Bool.true_and, Bool.and_comm]
      rfl
    · rw [ht j, decide_eq_false hj]
      show _ * (0 : EReal) = _
      rw [mul_zero, Bool.and_false]; rfl
  · rw [ht i, decide_eq_false hi]
    show _ * (0 : EReal) * _ = _
    rw [mul_zero, zero_mul]; rfl

/-- A small number read as a float. -/
theorem sitofp_nat (n : ℕ) (h : n < 2 ^ 31) : FloatOps.sitofp (F := Ideal) .f32 (BitVec.ofNat 32 n) = nat n := by
  show (((BitVec.ofNat 32 n).toInt : ℝ) : EReal) = _
  have e : (BitVec.ofNat 32 n).toInt = (n : ℤ) := by
    rw [BitVec.toInt_eq_toNat_of_lt (by rw [BitVec.toNat_ofNat]; omega), BitVec.toNat_ofNat, Nat.mod_eq_of_lt (by omega)]
  rw [e]; unfold nat; push_cast; rfl

/-- Eight sums of indicators over consecutive stretches count. -/
theorem sum_chunks (P : ℕ → Bool) (f0 f1 f2 f3 f4 f5 f6 f7 : Fin 128 → EReal) (h0 : ∀ x, f0 x = bit (P x.val))
    (h1 : ∀ x, f1 x = bit (P (128 + x.val))) (h2 : ∀ x, f2 x = bit (P (256 + x.val))) (h3 : ∀ x, f3 x = bit (P (384 + x.val)))
    (h4 : ∀ x, f4 x = bit (P (512 + x.val))) (h5 : ∀ x, f5 x = bit (P (640 + x.val))) (h6 : ∀ x, f6 x = bit (P (768 + x.val)))
    (h7 : ∀ x, f7 x = bit (P (896 + x.val))) :
    (∑ x, f0 x) + (∑ x, f1 x) + (∑ x, f2 x) + (∑ x, f3 x) + (∑ x, f4 x) + (∑ x, f5 x) + (∑ x, f6 x) + (∑ x, f7 x) = nat (cnt 1024 P) := by
  rw [sum_bits f0 P h0, sum_bits f1 (fun x => P (128 + x)) h1, sum_bits f2 (fun x => P (256 + x)) h2, sum_bits f3 (fun x => P (384 + x)) h3,
    sum_bits f4 (fun x => P (512 + x)) h4, sum_bits f5 (fun x => P (640 + x)) h5, sum_bits f6 (fun x => P (768 + x)) h6,
    sum_bits f7 (fun x => P (896 + x)) h7]
  exact cnt_chunks P

/-- The five blocks of an image whose slots point into the gathered tables. -/
structure Holds (x0 : Vec Ideal S1x1x1024 .f32) (x1 : Vec Ideal S1x1x1024 .i32) (x2 : Vec Ideal S1x1x1024 .i32)
    (x3 : Vec Ideal S1x1024x364 .f32) (x4 : Vec Ideal S1x1024x4 .f32) (I : Image) : Prop where
  ord : I.Ordered
  s : ∀ i : Fin 1024, x0 (ix3 0 0 i) = I.s i
  ix : ∀ i : Fin 1024, x1 (ix3 0 0 i) = I.ix i
  gather : ∀ i : Fin 1024, i.val < 1000 → ∃ sl : Fin 1024, x2 (ix3 0 0 i) = BitVec.ofNat 32 sl.val
    ∧ (∀ j, x3 (ix3 0 sl j) = I.row i j) ∧ (∀ j, x4 (ix3 0 sl j) = I.prop i j)

section
variable {x0 : Vec Ideal S1x1x1024 .f32} {x1 : Vec Ideal S1x1x1024 .i32} {x2 : Vec Ideal S1x1x1024 .i32}
  {x3 : Vec Ideal S1x1024x364 .f32} {x4 : Vec Ideal S1x1024x4 .f32} {I : Image} (H : Holds x0 x1 x2 x3 x4 I)
include H

/-- The rank of every candidate is its position. -/
theorem rank_eq (j : Fin 1024) : val15 x0 x1 (ix1 j) = BitVec.ofNat 32 j.val := by
  rw [rd_val15]
  unfold ahead
  rw [fold_words _ (fun x => decide (x < j.val)), cnt_lt 1024 j.val j.isLt.le]
  intro x
  rw [or_and_word]
  refine congrArg (fun b : Bool => BitVec.ofNat 32 b.toNat) ?_
  rw [rd_val0, rd_val0, rd_val2, rd_val2, H.s, H.s, H.ix, H.ix]
  have hlt : ∀ a b : BitVec 32, decide ((FloatOps.sitofp (F := Ideal) .f32 a : EReal) < FloatOps.sitofp (F := Ideal) .f32 b)
      = decide (a.toInt < b.toInt) := fun a b => by
    show decide ((((a.toInt : ℝ) : EReal)) < ((b.toInt : ℝ) : EReal)) = _
    rw [Bool.eq_iff_iff, decide_eq_true_iff, decide_eq_true_iff, EReal.coe_lt_coe_iff, Int.cast_lt]
  rw [hlt]
  rcases lt_trichotomy x j with h | h | h
  · rw [decide_eq_true (show x.val < j.val from h)]
    rcases H.ord x j h with h1 | ⟨h1, h2⟩
    · rw [decide_eq_true h1, Bool.true_or]
    · rw [decide_eq_true h1, decide_eq_true h2, Bool.and_true, Bool.or_true]
  · subst h
    rw [decide_eq_false (lt_irrefl _), decide_eq_false (lt_irrefl (I.ix x).toInt), decide_eq_false (lt_irrefl x.val), Bool.and_false, Bool.or_false]
  · rw [decide_eq_false (show ¬ x.val < j.val from by have : j.val < x.val := h; omega)]
    rcases H.ord j x h with h1 | ⟨h1, h2⟩
    · rw [decide_eq_false (lt_asymm h1), decide_eq_false (ne_of_lt h1), Bool.false_and, Bool.or_false]
    · rw [decide_eq_false (by rw [h1]; exact lt_irrefl _), decide_eq_false (lt_asymm h2), Bool.and_false, Bool.or_false]

/-- The members are the first thousand. -/
theorem top_eq (j : Fin 1024) : val16 x0 x1 (ix1 j) = BitVec.ofBool (decide (j.val < 1000)) := by
  rw [rd_val16, rank_eq H]
  exact slt_ofNat j.val 1000 (by omega) (by omega)

/-- The membership indicators. -/
theorem topf_eq (j : Fin 1024) : val40 x0 x1 (ix1 j) = bit (decide (j.val < 1000)) :=
  (rd_val40 (val16 x0 x1) j).trans (by rw [top_eq H, word_bit])

/-- The gathered row of regressions of a member. -/
theorem row_eq (i : Fin 1024) (hi : i.val < 1000) (j : Fin 364) : val3 x2 x3 (ix2 i j) = I.row i j := by
  obtain ⟨sl, h1, h2, _⟩ := H.gather i hi
  rw [rd_val3, h1, ← h2]
  simp only [cmpi_eq_ofBool, word_bit]
  exact sum_one (fun x => x3 (ix3 0 x j)) (fun x => decide (BitVec.ofNat 32 sl.val = BitVec.ofNat 32 x.val)) sl fun x => by
    rw [decide_eq_true_iff, ofNat_inj _ _ (by omega) (by omega), Fin.ext_iff, eq_comm]

/-- The gathered proposal of a member. -/
theorem prop_eq (i : Fin 1024) (hi : i.val < 1000) (j : Fin 4) : val4 x2 x4 (ix2 i j) = I.prop i j := by
  obtain ⟨sl, h1, _, h2⟩ := H.gather i hi
  rw [rd_val4, h1, ← h2]
  simp only [cmpi_eq_ofBool, word_bit]
  exact sum_one (fun x => x4 (ix3 0 x j)) (fun x => decide (BitVec.ofNat 32 sl.val = BitVec.ofNat 32 x.val)) sl fun x => by
    rw [decide_eq_true_iff, ofNat_inj _ _ (by omega) (by omega), Fin.ext_iff, eq_comm]

/-- The decoded box of a member. -/
theorem box_eq (i : Fin 1024) (hi : i.val < 1000) :
    edge (fun x => val3 x2 x3 (ix2 i x)) (fun x => val4 x2 x4 (ix2 i x)) (cls (val1 x1 (ix1 i))) = I.box i.val := by
  unfold Image.box
  rw [pos_val, funext (row_eq H i hi), funext (prop_eq H i hi), rd_val1, H.ix]

/-- The box of a member, moved apart. -/
theorem apart_eq (i : Fin 1024) (hi : i.val < 1000) :
    moved (val1 x1 (ix1 i)) (edge (fun x => val3 x2 x3 (ix2 i x)) (fun x => val4 x2 x4 (ix2 i x)) (cls (val1 x1 (ix1 i)))) = I.apart i.val := by
  rw [box_eq H i hi]
  unfold Image.apart
  rw [pos_val, rd_val1, H.ix]

theorem val30_box (i : Fin 1024) (hi : i.val < 1000) : val30 x1 x2 x3 x4 (ix1 i) = I.box i.val 0 :=
  (rd_val30 (val3 x2 x3) (val4 x2 x4) (val1 x1) i).trans (congrFun (box_eq H i hi) 0)

theorem val32_box (i : Fin 1024) (hi : i.val < 1000) : val32 x1 x2 x3 x4 (ix1 i) = I.box i.val 1 :=
  (rd_val32 (val3 x2 x3) (val4 x2 x4) (val1 x1) i).trans (congrFun (box_eq H i hi) 1)

theorem val33_box (i : Fin 1024) (hi : i.val < 1000) : val33 x1 x2 x3 x4 (ix1 i) = I.box i.val 2 :=
  (rd_val33 (val3 x2 x3) (val4 x2 x4) (val1 x1) i).trans (congrFun (box_eq H i hi) 2)

theorem val34_box (i : Fin 1024) (hi : i.val < 1000) : val34 x1 x2 x3 x4 (ix1 i) = I.box i.val 3 :=
  (rd_val34 (val3 x2 x3) (val4 x2 x4) (val1 x1) i).trans (congrFun (box_eq H i hi) 3)

theorem val35_apart (i : Fin 1024) (hi : i.val < 1000) : val35 x1 x2 x3 x4 (ix1 i) = I.apart i.val 0 :=
  (rd_val35 (val1 x1) (val3 x2 x3) (val4 x2 x4) i).trans (congrFun (apart_eq H i hi) 0)

theorem val36_apart (i : Fin 1024) (hi : i.val < 1000) : val36 x1 x2 x3 x4 (ix1 i) = I.apart i.val 1 :=
  (rd_val36 (val1 x1) (val3 x2 x3) (val4 x2 x4) i).trans (congrFun (apart_eq H i hi) 1)

theorem val37_apart (i : Fin 1024) (hi : i.val < 1000) : val37 x1 x2 x3 x4 (ix1 i) = I.apart i.val 2 :=
  (rd_val37 (val1 x1) (val3 x2 x3) (val4 x2 x4) i).trans (congrFun (apart_eq H i hi) 2)

theorem val38_apart (i : Fin 1024) (hi : i.val < 1000) : val38 x1 x2 x3 x4 (ix1 i) = I.apart i.val 3 :=
  (rd_val38 (val1 x1) (val3 x2 x3) (val4 x2 x4) i).trans (congrFun (apart_eq H i hi) 3)

theorem val39_area (i : Fin 1024) (hi : i.val < 1000) : val39 x1 x2 x3 x4 (ix1 i) = area (I.apart i.val) :=
  (rd_val39 (val1 x1) (val3 x2 x3) (val4 x2 x4) i).trans (congrArg area (apart_eq H i hi))

/-- Every entry of the overlap matrix is the indicator of "above". -/
theorem adj_eq (i j : Fin 1024) : adj (val15 x0 x1) (val40 x0 x1) (val39 x1 x2 x3 x4) (val35 x1 x2 x3 x4) (val36 x1 x2 x3 x4) (val37 x1 x2 x3 x4) (val38 x1 x2 x3 x4) i j
    = bit (I.above i.val j.val) :=
  adj_bits I _ _ _ _ _ _ _ (rank_eq H) (topf_eq H) (val39_area H) (val35_apart H) (val36_apart H) (val37_apart H) (val38_apart H) i j

/-- The bands hold the indicators of "above". -/
theorem bands_eq : BandsAre (bands x0 x1 x2 x3 x4) I.above where
  h0 y j := (rd_band0 (val15 x0 x1) (val39 x1 x2 x3 x4) (val40 x0 x1) (val17 x1) (val31 x1 x2 x3 x4) (val27 x1 x2 x3 x4) (val29 x1 x2 x3 x4) (val26 x1 x2 x3 x4) (val28 x1 x2 x3 x4) (val30 x1 x2 x3 x4) y j).trans (adj_eq H _ j)
  h1 y j := (rd_band1 (val15 x0 x1) (val38 x1 x2 x3 x4) (val39 x1 x2 x3 x4) (val40 x0 x1) (val35 x1 x2 x3 x4) (val36 x1 x2 x3 x4) (val37 x1 x2 x3 x4) y j).trans (adj_eq H _ j)
  h2 y j := (rd_band2 (val15 x0 x1) (val36 x1 x2 x3 x4) (val37 x1 x2 x3 x4) (val38 x1 x2 x3 x4) (val39 x1 x2 x3 x4) (val40 x0 x1) (val35 x1 x2 x3 x4) y j).trans (adj_eq H _ j)
  h3 y j := (rd_band3 (val40 x0 x1) (val15 x0 x1) (val35 x1 x2 x3 x4) (val36 x1 x2 x3 x4) (val37 x1 x2 x3 x4) (val38 x1 x2 x3 x4) (val39 x1 x2 x3 x4) y j).trans (adj_eq H _ j)
  h4 y j := (rd_band4 (val15 x0 x1) (val40 x0 x1) (val35 x1 x2 x3 x4) (val36 x1 x2 x3 x4) (val37 x1 x2 x3 x4) (val38 x1 x2 x3 x4) (val39 x1 x2 x3 x4) y j).trans (adj_eq H _ j)
  h5 y j := (rd_band5 (val15 x0 x1) (val40 x0 x1) (val35 x1 x2 x3 x4) (val36 x1 x2 x3 x4) (val37 x1 x2 x3 x4) (val38 x1 x2 x3 x4) (val39 x1 x2 x3 x4) y j).trans (adj_eq H _ j)
  h6 y j := (rd_band6 (val15 x0 x1) (val39 x1 x2 x3 x4) (val40 x0 x1) (val35 x1 x2 x3 x4) (val37 x1 x2 x3 x4) (val36 x1 x2 x3 x4) (val38 x1 x2 x3 x4) y j).trans (adj_eq H _ j)
  h7 y j := (rd_band7 (val15 x0 x1) (val39 x1 x2 x3 x4) (val40 x0 x1) (val35 x1 x2 x3 x4) (val36 x1 x2 x3 x4) (val37 x1 x2 x3 x4) (val38 x1 x2 x3 x4) y j).trans (adj_eq H _ j)

/-- The loop's survivors are those of the greedy pass. -/
theorem survivors_eq (j : Fin 1024) : survivors x0 x1 x2 x3 x4 (ix1 j) = bit (keptTo 1000 I.meets j.val) := by
  unfold survivors
  exact loopKeep_bits (bands_eq H) _ (topf_eq H) j

/-- The confirmed candidates, as numbers. -/
theorem conf_eq (j : Fin 1024) : val64 x0 x1 x2 x3 x4 (ix1 j) = bit (I.confirmed j.val) :=
  (rd_val64 (val0 x0) (survivors x0 x1 x2 x3 x4) j).trans (by
    rw [survivors_eq H, rd_val0, H.s, word_bit, bit_mul]; unfold Image.confirmed; rw [pos_val])

/-- The confirmed candidates, as bits. -/
theorem confb_eq (j : Fin 1024) : val65 x0 x1 x2 x3 x4 (ix1 j) = BitVec.ofBool (I.confirmed j.val) :=
  (rd_val65 (val0 x0) (survivors x0 x1 x2 x3 x4) j).trans (by
    rw [survivors_eq H, rd_val0, H.s, word_bit, bit_mul, bit_pos]; unfold Image.confirmed; rw [pos_val])

/-- The unconfirmed members. -/
theorem unc_eq (j : Fin 1024) : val66 x0 x1 x2 x3 x4 (ix1 j) = bit (decide (j.val < 1000) && !I.confirmed j.val) :=
  (rd_val66 (val40 x0 x1) (val64 x0 x1 x2 x3 x4) j).trans (by rw [topf_eq H, conf_eq H, one_sub_bit, bit_mul])

/-- The comparison of two ranks. -/
theorem rank_lt (x i : Fin 1024) : IntOp.cmpi .slt (val15 x0 x1 (ix1 x)) (val15 x0 x1 (ix1 i)) = BitVec.ofBool (decide (x.val < i.val)) := by
  rw [rank_eq H, rank_eq H, slt_ofNat _ _ (by omega) (by omega)]

/-- The number of confirmed candidates ahead. -/
theorem confAhead_eq (i : Fin 1024) : val76 x0 x1 x2 x3 x4 (ix1 i) = nat (cnt 1024 fun x => I.confirmed x && decide (x < i.val)) := by
  refine (rd_val76 (val15 x0 x1) (val64 x0 x1 x2 x3 x4) i).trans ?_
  have e : ∀ x : Fin 1024, val64 x0 x1 x2 x3 x4 (ix1 x) * FloatOps.sitofp (F := Ideal) .f32 (BitVec.setWidth 32 (IntOp.cmpi .slt (val15 x0 x1 (ix1 x)) (val15 x0 x1 (ix1 i))))
      = bit (I.confirmed x.val && decide (x.val < i.val)) := fun x => by rw [conf_eq H, rank_lt H, word_bit, bit_mul]
  exact sum_chunks (fun x => I.confirmed x && decide (x < i.val)) _ _ _ _ _ _ _ _ (fun x => e ⟨x.val, by omega⟩) (fun x => e ⟨128 + x.val, by omega⟩) (fun x => e ⟨256 + x.val, by omega⟩) (fun x => e ⟨384 + x.val, by omega⟩) (fun x => e ⟨512 + x.val, by omega⟩) (fun x => e ⟨640 + x.val, by omega⟩) (fun x => e ⟨768 + x.val, by omega⟩) (fun x => e ⟨896 + x.val, by omega⟩)

/-- The number of unconfirmed members ahead. -/
theorem uncAhead_eq (i : Fin 1024) : val75 x0 x1 x2 x3 x4 (ix1 i) + ∑ y : Fin 128, val77 x0 x1 x2 x3 x4 (ix2 y i)
    = nat (cnt 1024 fun x => (decide (x < 1000) && !I.confirmed x) && decide (x < i.val)) := by
  have e : ∀ x : Fin 1024, val66 x0 x1 x2 x3 x4 (ix1 x) * FloatOps.sitofp (F := Ideal) .f32 (BitVec.setWidth 32 (IntOp.cmpi .slt (val15 x0 x1 (ix1 x)) (val15 x0 x1 (ix1 i))))
      = bit ((decide (x.val < 1000) && !I.confirmed x.val) && decide (x.val < i.val)) := fun x => by rw [unc_eq H, rank_lt H, word_bit, bit_mul]
  have d : ∀ x : Fin 1024, val40 x0 x1 (ix1 x) * (1 - val64 x0 x1 x2 x3 x4 (ix1 x)) * FloatOps.sitofp (F := Ideal) .f32 (BitVec.setWidth 32 (IntOp.cmpi .slt (val15 x0 x1 (ix1 x)) (val15 x0 x1 (ix1 i))))
      = bit ((decide (x.val < 1000) && !I.confirmed x.val) && decide (x.val < i.val)) := fun x => by
    rw [topf_eq H, conf_eq H, one_sub_bit, bit_mul, rank_lt H, word_bit, bit_mul]
  have l : ∀ y : Fin 128, val77 x0 x1 x2 x3 x4 (ix2 y i) = bit ((decide (896 + y.val < 1000) && !I.confirmed (896 + y.val)) && decide (896 + y.val < i.val)) :=
    fun y => (rd_val77 (val15 x0 x1) (val66 x0 x1 x2 x3 x4) y i).trans (e ⟨896 + y.val, by omega⟩)
  have s75 := rd_val75 (val15 x0 x1) (val66 x0 x1 x2 x3 x4) (val40 x0 x1) (val64 x0 x1 x2 x3 x4) i
  refine (congrArg (fun z : EReal => z + ∑ y : Fin 128, val77 x0 x1 x2 x3 x4 (ix2 y i)) s75).trans ?_
  exact sum_chunks (fun x => (decide (x < 1000) && !I.confirmed x) && decide (x < i.val)) _ _ _ _ _ _ _ _ (fun x => d ⟨x.val, by omega⟩) (fun x => d ⟨128 + x.val, by omega⟩) (fun x => e ⟨256 + x.val, by omega⟩) (fun x => e ⟨384 + x.val, by omega⟩) (fun x => e ⟨512 + x.val, by omega⟩) (fun x => e ⟨640 + x.val, by omega⟩) (fun x => e ⟨768 + x.val, by omega⟩) l

/-- The number of confirmed candidates. -/
theorem confAll_eq : ∑ y : Fin 1024, val64 x0 x1 x2 x3 x4 (ix1 y) = nat (cnt 1024 I.confirmed) := sum_bits _ _ (conf_eq H)

/-- The final place of a member, as a word. -/
theorem place_word (i : Fin 1024) : Scalar.select (val16 x0 x1 (ix1 i)) (FloatOps.fptosi (F := Ideal) (φ := .f32) 32
      (Scalar.select (val65 x0 x1 x2 x3 x4 (ix1 i)) (val76 x0 x1 x2 x3 x4 (ix1 i)) ((∑ y : Fin 1024, val64 x0 x1 x2 x3 x4 (ix1 y)) + (val75 x0 x1 x2 x3 x4 (ix1 i) + ∑ y : Fin 128, val77 x0 x1 x2 x3 x4 (ix2 y i))))) 100000#32
    = if i.val < 1000 then BitVec.ofNat 32 (place 1000 I.confirmed i.val) else BitVec.ofNat 32 100000 := by
  rw [top_eq H, confb_eq H, confAhead_eq H, uncAhead_eq H, confAll_eq H]
  by_cases hi : i.val < 1000
  · rw [if_pos hi, decide_eq_true hi, place]
    show FloatOps.fptosi (F := Ideal) (φ := .f32) 32 (Scalar.select _ _ _) = _
    have hl : ∀ x, 1000 ≤ x → I.confirmed x = false := fun x hx => by
      unfold Image.confirmed keptTo; rw [decide_eq_false (by omega : ¬ x < 1000), Bool.false_and, Bool.false_and]
    have c1 : cnt 1024 (fun x => I.confirmed x && decide (x < i.val)) = cnt 1000 fun x => I.confirmed x && decide (x < i.val) :=
      cnt_cut (by omega) fun x hx => by rw [hl x hx, Bool.false_and]
    have c2 : cnt 1024 I.confirmed = cnt 1000 I.confirmed := cnt_cut (by omega) hl
    have c3 : cnt 1024 (fun x => (decide (x < 1000) && !I.confirmed x) && decide (x < i.val)) = cnt 1000 fun x => !I.confirmed x && decide (x < i.val) :=
      (cnt_cut (by omega) fun x hx => by rw [decide_eq_false (by omega : ¬ x < 1000), Bool.false_and, Bool.false_and]).trans
        (cnt_congr fun x hx => by rw [decide_eq_true hx, Bool.true_and])
    rw [c1, c2, c3, nat_add]
    have b1 := cnt_le 1000 (fun x => I.confirmed x && decide (x < i.val))
    have b2 := cnt_le 1000 I.confirmed
    have b3 := cnt_le 1000 (fun x => !I.confirmed x && decide (x < i.val))
    cases I.confirmed i.val
    · exact fptosi_nat _ (by omega)
    · exact fptosi_nat _ (by omega)
  · rw [if_neg hi, decide_eq_false hi]; rfl

/-- The sum over the candidates at a place is the one candidate whose place it is. -/
theorem sum_place (f : Fin 1024 → EReal) (k : Fin 128) (j : Fin 1000) (hj : place 1000 I.confirmed j.val = k.val) :
    ∑ x : Fin 1024, FloatOps.sitofp (F := Ideal) .f32 (BitVec.setWidth 32 (IntOp.cmpi .eq (Scalar.select (val16 x0 x1 (ix1 x)) (FloatOps.fptosi (F := Ideal) (φ := .f32) 32
      (Scalar.select (val65 x0 x1 x2 x3 x4 (ix1 x)) (val76 x0 x1 x2 x3 x4 (ix1 x)) ((∑ y : Fin 1024, val64 x0 x1 x2 x3 x4 (ix1 y)) + (val75 x0 x1 x2 x3 x4 (ix1 x) + ∑ y : Fin 128, val77 x0 x1 x2 x3 x4 (ix2 y x))))) 100000#32) (BitVec.ofNat 32 k.val))) * f x
    = f (pos j.val) := by
  simp only [place_word H, cmpi_eq_ofBool, word_bit]
  refine sum_one f _ (pos j.val) fun x => ?_
  rw [decide_eq_true_iff]
  have key := fun i : Fin 1000 => sortedFrom_of_place I.confirmed (fun a b : Fin 1000 => prec I.confirmed a.val b.val) (fun _ _ h => rfl) (⟨k.val, by omega⟩ : Fin 1000) i
  constructor
  · intro h
    by_cases hx : x.val < 1000
    · rw [if_pos hx, ofNat_inj _ _ (by rw [place_eq]; have := cnt_le 1000 (fun i => prec I.confirmed i x.val); omega) (by omega)] at h
      have e := ((key ⟨x.val, hx⟩).1 h).trans ((key j).1 hj).symm
      rw [← e, pos_val]
    · rw [if_neg hx, ofNat_inj _ _ (by omega) (by omega)] at h
      omega
  · rintro rfl
    have hx : (pos j.val).val = j.val := Nat.mod_eq_of_lt (by omega)
    rw [hx, if_pos j.isLt, hj]

/-- The scores at a place. -/
theorem outScores_eq (u w : Fin 1) (k : Fin 128) (j : Fin 1000) (hj : place 1000 I.confirmed j.val = k.val) :
    outScores x0 x1 x2 x3 x4 (ix3 u w k) = Scalar.select (BitVec.ofBool (I.confirmed j.val)) (I.s (pos j.val)) (lit 0xCE6E6B28#32) := by
  refine (rd_outScores (val0 x0) (val16 x0 x1) (val64 x0 x1 x2 x3 x4) (val65 x0 x1 x2 x3 x4) (val75 x0 x1 x2 x3 x4) (val76 x0 x1 x2 x3 x4) (val77 x0 x1 x2 x3 x4) u w k).trans ?_
  refine (sum_place H (fun x => Scalar.select (val65 x0 x1 x2 x3 x4 (ix1 x)) (val0 x0 (ix1 x)) (lit 0xCE6E6B28#32)) k j hj).trans ?_
  have hx : (pos j.val).val = j.val := Nat.mod_eq_of_lt (by omega)
  show Scalar.select (val65 x0 x1 x2 x3 x4 (ix1 (pos j.val))) (val0 x0 (ix1 (pos j.val))) (lit 0xCE6E6B28#32) = _
  rw [confb_eq H, rd_val0, H.s, hx]

/-- The labels at a place. -/
theorem outLabels_eq (u w : Fin 1) (k : Fin 128) (j : Fin 1000) (hj : place 1000 I.confirmed j.val = k.val) :
    outLabels x0 x1 x2 x3 x4 (ix3 u w k) = BitVec.ofNat 32 (clsNat (I.ix (pos j.val)) + 1) := by
  refine (rd_outLabels (val16 x0 x1) (val17 x1) (val64 x0 x1 x2 x3 x4) (val65 x0 x1 x2 x3 x4) (val75 x0 x1 x2 x3 x4) (val76 x0 x1 x2 x3 x4) (val77 x0 x1 x2 x3 x4) u w k).trans ?_
  refine (congrArg (FloatOps.fptosi (F := Ideal) (φ := .f32) 32) (sum_place H (fun x => FloatOps.sitofp (F := Ideal) .f32 (val17 x1 (ix1 x))) k j hj)).trans ?_
  have e : val17 x1 (ix1 (pos j.val)) = BitVec.ofNat 32 (clsNat (I.ix (pos j.val)) + 1) :=
    (rd_val17 (val1 x1) (pos j.val)).trans (by rw [rd_val1, H.ix])
  have b := clsNat_lt (I.ix (pos j.val))
  show FloatOps.fptosi (F := Ideal) (φ := .f32) 32 (FloatOps.sitofp (F := Ideal) .f32 (val17 x1 (ix1 (pos j.val)))) = _
  rw [e, sitofp_nat _ (by omega)]
  exact fptosi_nat _ (by omega)

/-- The boxes at a place. -/
theorem outBoxes_eq (u : Fin 1) (c : Fin 4) (k : Fin 128) (j : Fin 1000) (hj : place 1000 I.confirmed j.val = k.val) :
    outBoxes x0 x1 x2 x3 x4 (ix3 u c k) = I.box j.val c := by
  have hx : (pos j.val).val = j.val := Nat.mod_eq_of_lt (by omega)
  have hlt : (pos j.val).val < 1000 := by rw [hx]; exact j.isLt
  have oh : ∀ x : Fin 1024, val78 x0 x1 x2 x3 x4 (ix2 k x) = _ := fun x => rd_val78 (val16 x0 x1) (val64 x0 x1 x2 x3 x4) (val65 x0 x1 x2 x3 x4) (val75 x0 x1 x2 x3 x4) (val76 x0 x1 x2 x3 x4) (val77 x0 x1 x2 x3 x4) k x
  match c with
  | 0 =>
    refine (rd_outBoxes0 (val33 x1 x2 x3 x4) (val34 x1 x2 x3 x4) (val78 x0 x1 x2 x3 x4) (val79 x0 x1 x2 x3 x4) (val80 x0 x1 x2 x3 x4) u k).trans ((rd_val79 (val16 x0 x1) (val30 x1 x2 x3 x4) (val64 x0 x1 x2 x3 x4) (val65 x0 x1 x2 x3 x4) (val75 x0 x1 x2 x3 x4) (val76 x0 x1 x2 x3 x4) (val77 x0 x1 x2 x3 x4) k).trans ?_)
    exact (sum_place H (fun x => val30 x1 x2 x3 x4 (ix1 x)) k j hj).trans ((val30_box H _ hlt).trans (by rw [hx]))
  | 1 =>
    refine (rd_outBoxes1 (val33 x1 x2 x3 x4) (val34 x1 x2 x3 x4) (val78 x0 x1 x2 x3 x4) (val79 x0 x1 x2 x3 x4) (val80 x0 x1 x2 x3 x4) u k).trans ((rd_val80 (val16 x0 x1) (val32 x1 x2 x3 x4) (val64 x0 x1 x2 x3 x4) (val65 x0 x1 x2 x3 x4) (val75 x0 x1 x2 x3 x4) (val76 x0 x1 x2 x3 x4) (val77 x0 x1 x2 x3 x4) k).trans ?_)
    exact (sum_place H (fun x => val32 x1 x2 x3 x4 (ix1 x)) k j hj).trans ((val32_box H _ hlt).trans (by rw [hx]))
  | 2 =>
    refine (rd_outBoxes2 (val33 x1 x2 x3 x4) (val34 x1 x2 x3 x4) (val78 x0 x1 x2 x3 x4) (val79 x0 x1 x2 x3 x4) (val80 x0 x1 x2 x3 x4) u k).trans ?_
    simp only [oh]
    exact (sum_place H (fun x => val33 x1 x2 x3 x4 (ix1 x)) k j hj).trans ((val33_box H _ hlt).trans (by rw [hx]))
  | 3 =>
    refine (rd_outBoxes3 (val33 x1 x2 x3 x4) (val34 x1 x2 x3 x4) (val78 x0 x1 x2 x3 x4) (val79 x0 x1 x2 x3 x4) (val80 x0 x1 x2 x3 x4) u k).trans ?_
    simp only [oh]
    exact (sum_place H (fun x => val34 x1 x2 x3 x4 (ix1 x)) k j hj).trans ((val34_box H _ hlt).trans (by rw [hx]))
end
end Cert.NmsIdeal.Hand
-- ==== Proof.NmsPre.lean ====
/-
  What the precondition says of the arguments: in each image the candidates are strictly ordered, and the slots of the first
  thousand name rows.
-/
module

public import proofs.«01_k».proof.Proof.NmsModel
public import proofs.«01_k».proof.Pre_sorted_candidates
public import Idealize.ShloMosaic.Lib.ReduceAll
public import Idealize.ShloMosaic.Lib.Pointwise

@[expose] public section
set_option maxRecDepth 16384
noncomputable section
namespace Cert.Proof
open Cert.Pre_sorted_candidates Cert.Pre_sorted_candidates.Facts Idealize.ShloMosaic

/-- The row a slot word names. -/
def slotOf (w : BitVec 32) : Fin 1024 := ⟨w.toNat % 1024, by omega⟩

/-- The image `b` of the arguments. -/
def imageOf (x0 : FVec Ideal S2x1024 .f32) (x1 x2 : IVec S2x1024 32) (x3 : FVec Ideal S2x1024x364 .f32) (x4 : FVec Ideal S2x1024x4 .f32)
    (b : Fin 2) : Image where
  s i := x0 (ix2 b i)
  ix i := x1 (ix2 b i)
  row i j := x3 (ix3 b (slotOf (x2 (ix2 b i))) j)
  prop i j := x4 (ix3 b (slotOf (x2 (ix2 b i))) j)

/-- What the precondition says: the images are ordered and the first thousand slots name rows. -/
structure Good (x0 : FVec Ideal S2x1024 .f32) (x1 x2 : IVec S2x1024 32) (x3 : FVec Ideal S2x1024x364 .f32) (x4 : FVec Ideal S2x1024x4 .f32) : Prop where
  ord : ∀ b, (imageOf x0 x1 x2 x3 x4 b).Ordered
  slot : ∀ b (i : Fin 1024), i.val < 1000 → x2 (ix2 b i) = BitVec.ofNat 32 (slotOf (x2 (ix2 b i))).val

/-- A conjunction of bits that is one has both ones. -/
theorem and_one : ∀ a c : BitVec 1, IntOp.andi a c = 1#1 → a = 1#1 ∧ c = 1#1 := by decide
/-- A disjunction of bits that is one has a one. -/
theorem or_one : ∀ a c : BitVec 1, IntOp.ori a c = 1#1 → a = 1#1 ∨ c = 1#1 := by decide
/-- A boolean whose bit is one is true. -/
theorem bool_one : ∀ a : Bool, BitVec.ofBool a = 1#1 → a = true := by decide

/-- A word between 0 and 1023 is the word of the row it names. -/
theorem slot_word (w : BitVec 32) (h0 : IntOp.cmpi .sge w 0#32 = 1#1) (h1 : IntOp.cmpi .slt w 1024#32 = 1#1) :
    w = BitVec.ofNat 32 (slotOf w).val := by
  have a : (0#32 : BitVec 32).toInt ≤ w.toInt := of_decide_eq_true (bool_one _ h0)
  have c : w.toInt < (1024#32 : BitVec 32).toInt := of_decide_eq_true (bool_one _ h1)
  have e0 : (0#32 : BitVec 32).toInt = 0 := by decide
  have e1 : (1024#32 : BitVec 32).toInt = 1024 := by decide
  rw [e0] at a
  rw [e1] at c
  rw [BitVec.toInt_eq_toNat_cond] at a c
  have hw := w.isLt
  have hl : w.toNat < 1024 := by split at a <;> omega
  apply BitVec.eq_of_toNat_eq
  rw [BitVec.toNat_ofNat]
  show w.toNat = w.toNat % 1024 % 2 ^ 32
  omega

/-- An order that holds between neighbours holds between any two. -/
theorem ordered_of_neighbours (I : Image)
    (h : ∀ i : Fin 1023, I.s ⟨1 + i.val, by omega⟩ < I.s ⟨i.val, by omega⟩
      ∨ (I.s ⟨i.val, by omega⟩ = I.s ⟨1 + i.val, by omega⟩ ∧ (I.ix ⟨i.val, by omega⟩).toInt < (I.ix ⟨1 + i.val, by omega⟩).toInt)) : I.Ordered := by
  have key : ∀ (d i : ℕ) (hi : i + 1 + d < 1024), I.s ⟨i + 1 + d, hi⟩ < I.s ⟨i, by omega⟩
      ∨ (I.s ⟨i, by omega⟩ = I.s ⟨i + 1 + d, hi⟩ ∧ (I.ix ⟨i, by omega⟩).toInt < (I.ix ⟨i + 1 + d, hi⟩).toInt) := by
    intro d
    induction d with
    | zero =>
      intro i hi
      have := h ⟨i, by omega⟩
      have e : (⟨1 + i, by omega⟩ : Fin 1024) = ⟨i + 1 + 0, hi⟩ := Fin.ext (by show 1 + i = i + 1 + 0; omega)
      rw [← e]
      exact this
    | succ d ih =>
      intro i hi
      have h1 := ih i (by omega)
      have h2 := h ⟨i + 1 + d, by omega⟩
      have e : (⟨1 + (i + 1 + d), by omega⟩ : Fin 1024) = ⟨i + 1 + (d + 1), hi⟩ := Fin.ext (by show 1 + (i + 1 + d) = i + 1 + (d + 1); omega)
      dsimp only at h2
      rw [e] at h2
      rcases h1 with h1 | h1 <;> rcases h2 with h2 | h2
      · exact .inl (h2.trans h1)
      · exact .inl (h2.1 ▸ h1)
      · exact .inl (h1.1.symm ▸ h2)
      · exact .inr ⟨h1.1.trans h2.1, h1.2.trans h2.2⟩
  intro i j hij
  have hv : i.val < j.val := hij
  obtain ⟨d, hd⟩ : ∃ d, j.val = i.val + 1 + d := ⟨j.val - i.val - 1, by omega⟩
  have k := key d i.val (by omega)
  have e : (⟨i.val + 1 + d, by omega⟩ : Fin 1024) = j := Fin.ext hd.symm
  rw [e] at k
  exact k

/-- What the precondition says of the arguments. -/
theorem good [Cert.Pre_sorted_candidates.Facts] (x0 : FVec Ideal S2x1024 .f32) (x1 x2 : IVec S2x1024 32) (x3 : FVec Ideal S2x1024x364 .f32) (x4 : FVec Ideal S2x1024x4 .f32)
    (h : Cert.Pre_sorted_candidates.fn (F := Ideal) x0 x1 x2 x3 x4 = fun _ => 1#1) : Good x0 x1 x2 x3 x4 := by
  have hj := congrFun h (fun a => a.elim0)
  unfold Cert.Pre_sorted_candidates.fn Cert.Pre_sorted_candidates.fn_part1 at hj
  obtain ⟨hab, hc⟩ := and_one _ _ hj
  obtain ⟨ha, hb⟩ := and_one _ _ hab
  have : Subsingleton S_.Idx := ⟨fun _ _ => funext fun a => a.elim0⟩
  have ha' := fun i => Host.reduce_andi_all _ _ _ _ _ ha i
  have hb' := fun i => Host.reduce_andi_all _ _ _ _ _ hb i
  have hc' := fun i => Host.reduce_andi_all _ _ _ _ _ hc i
  constructor
  · intro b
    apply ordered_of_neighbours
    intro i
    have e := ha' (ix2 b i)
    have r : ∀ (x : FVec Ideal S2x1024 .f32), extractStridedSlice S2x1023 ![0, 0] x slices_S2x1024_S2x1023_0_0 (ix2 b i) = x (ix2 b ⟨i.val, by omega⟩) := fun x => by
      pointwise []
    have r' : ∀ (x : FVec Ideal S2x1024 .f32), extractStridedSlice S2x1023 ![0, 1] x slices_S2x1024_S2x1023_0_1 (ix2 b i) = x (ix2 b ⟨1 + i.val, by omega⟩) := fun x => by
      pointwise []
    have q : ∀ (x : IVec S2x1024 32), extractStridedSlice S2x1023 ![0, 0] x slices_S2x1024_S2x1023_0_0 (ix2 b i) = x (ix2 b ⟨i.val, by omega⟩) := fun x => by
      pointwise []
    have q' : ∀ (x : IVec S2x1024 32), extractStridedSlice S2x1023 ![0, 1] x slices_S2x1024_S2x1023_0_1 (ix2 b i) = x (ix2 b ⟨1 + i.val, by omega⟩) := fun x => by
      pointwise []
    rcases or_one _ _ e with e | e
    · left
      have e' := of_decide_eq_true (bool_one _ e)
      dsimp only at e'
      rw [r, r'] at e'
      exact e'
    · right
      obtain ⟨e1, e2⟩ := and_one _ _ e
      have e1' := of_decide_eq_true (bool_one _ e1)
      have e2' := of_decide_eq_true (bool_one _ e2)
      dsimp only at e1' e2'
      rw [r, r'] at e1'
      rw [q, q'] at e2'
      exact ⟨e1', e2'⟩
  · intro b i hi
    have q : ∀ (x : IVec S2x1024 32), extractStridedSlice S2x1000 ![0, 0] x slices_S2x1024_S2x1000_0_0 (ix2 b ⟨i.val, hi⟩) = x (ix2 b i) := fun x => by
      pointwise []
    have eb := hb' (ix2 b ⟨i.val, hi⟩)
    have ec := hc' (ix2 b ⟨i.val, hi⟩)
    have hq := q x2
    refine slot_word _ (Eq.trans ?_ eb) (Eq.trans ?_ ec)
    · exact congrArg (fun w => IntOp.cmpi .sge w 0#32) hq.symm
    · exact congrArg (fun w => IntOp.cmpi .slt w 1024#32) hq.symm

end Cert.Proof
-- ==== Proof.NmsArrays.lean ====
/-
  What the kernel's call leaves in its three results: block by block the boxes, scores and labels of the two images.
-/
module

public import proofs.«01_k».proof.Proof.NmsKernel
public import proofs.«01_k».proof.Proof.NmsPre
public import proofs.«01_k».proof.Proof.NmsIdealPipe
public import proofs.«01_k».proof.Proof.NmsIdealLaunch
public import Idealize.ShloMosaic.Lib.Pipeline.ValueKit
public import Idealize.ShloMosaic.Lib.Pointwise
public import Idealize.ShloMosaic.Lib.Claim

@[expose] public section
set_option maxRecDepth 16384
noncomputable section
namespace Cert.NmsIdeal.Hand
open Cert.NmsIdeal Cert.NmsIdeal.Gen Cert.Proof Idealize.ShloMosaic Idealize.ShloMosaic.TcCoe Idealize.SL.Sem

variable (m : (ℓ : Loc nD τ sig) → Buf (Elt Ideal) ℓ)

/-- The windows' index maps at every grid point. -/
theorem win_idx : ∀ t : Fin (cfg0 (F := Ideal)).N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] ∧ t.val < 2 :=
  (by decide +kernel : ∀ t : Fin grid0.N, _)

/-- The arguments' contents. -/
abbrev a0 (c : Dev nD) : FVec Ideal S2x1024 .f32 := m ((c : Thread nD τ).loc main_arg0)
abbrev a1 (c : Dev nD) : IVec S2x1024 32 := m ((c : Thread nD τ).loc main_arg1)
abbrev a2 (c : Dev nD) : IVec S2x1024 32 := m ((c : Thread nD τ).loc main_arg2)
abbrev a3 (c : Dev nD) : FVec Ideal S2x1024x364 .f32 := m ((c : Thread nD τ).loc main_arg3)
abbrev a4 (c : Dev nD) : FVec Ideal S2x1024x4 .f32 := m ((c : Thread nD τ).loc main_arg4)

/-- The scores at the call's entry, with a middle axis. -/
theorem V_v0 (c : Dev nD) : V m c main_v0 = (broadcastInDim S2x1x1024 ![0, 2] bcast_S2x1024_S2x1x1024_0_2 (a0 m c)) := by
  show StableHlo.after [hostOps0].flatten (fun b => m (c, b)) _ = _
  simp only [List.flatten_cons, List.flatten_nil, List.append_nil]
  after_results
/-- The indices at the call's entry, with a middle axis. -/
theorem V_v1 (c : Dev nD) : V m c main_v1 = (broadcastInDim S2x1x1024 ![0, 2] bcast_S2x1024_S2x1x1024_0_2 (a1 m c)) := by
  show StableHlo.after [hostOps0].flatten (fun b => m (c, b)) _ = _
  simp only [List.flatten_cons, List.flatten_nil, List.append_nil]
  after_results
/-- The slots at the call's entry, with a middle axis. -/
theorem V_v2 (c : Dev nD) : V m c main_v2 = (broadcastInDim S2x1x1024 ![0, 2] bcast_S2x1024_S2x1x1024_0_2 (a2 m c)) := by
  show StableHlo.after [hostOps0].flatten (fun b => m (c, b)) _ = _
  simp only [List.flatten_cons, List.flatten_nil, List.append_nil]
  after_results

/-- A block of the scores. -/
theorem blk0 (c : Dev nD) (t : Fin (cfg0 (F := Ideal)).N) (ht : t.val < 2) (i : Fin 1024) :
    (iblk m c 0 t : Vec Ideal S1x1x1024 .f32) (ix3 0 0 i) = a0 m c (ix2 ⟨t.val, ht⟩ i) := by
  have e : (iblk m c 0 t : Vec Ideal S1x1x1024 .f32) (ix3 0 0 i) = (V m c main_v0 : FVec Ideal S2x1x1024 .f32) (ix3 ⟨t.val, ht⟩ 0 i) := by
    blk_point [iblk, win_idx t]
  rw [e, V_v0]
  pointwise []

/-- A block of the indices. -/
theorem blk1 (c : Dev nD) (t : Fin (cfg0 (F := Ideal)).N) (ht : t.val < 2) (i : Fin 1024) :
    (iblk m c 1 t : Vec Ideal S1x1x1024 .i32) (ix3 0 0 i) = a1 m c (ix2 ⟨t.val, ht⟩ i) := by
  have e : (iblk m c 1 t : Vec Ideal S1x1x1024 .i32) (ix3 0 0 i) = (V m c main_v1 : IVec S2x1x1024 32) (ix3 ⟨t.val, ht⟩ 0 i) := by
    blk_point [iblk, win_idx t]
  rw [e, V_v1]
  pointwise []

/-- A block of the slots. -/
theorem blk2 (c : Dev nD) (t : Fin (cfg0 (F := Ideal)).N) (ht : t.val < 2) (i : Fin 1024) :
    (iblk m c 2 t : Vec Ideal S1x1x1024 .i32) (ix3 0 0 i) = a2 m c (ix2 ⟨t.val, ht⟩ i) := by
  have e : (iblk m c 2 t : Vec Ideal S1x1x1024 .i32) (ix3 0 0 i) = (V m c main_v2 : IVec S2x1x1024 32) (ix3 ⟨t.val, ht⟩ 0 i) := by
    blk_point [iblk, win_idx t]
  rw [e, V_v2]
  pointwise []

/-- A block of the regressions. -/
theorem blk3 (c : Dev nD) (t : Fin (cfg0 (F := Ideal)).N) (ht : t.val < 2) (i : Fin 1024) (j : Fin 364) :
    (iblk m c 3 t : Vec Ideal S1x1024x364 .f32) (ix3 0 i j) = a3 m c (ix3 ⟨t.val, ht⟩ i j) := by
  have e : (iblk m c 3 t : Vec Ideal S1x1024x364 .f32) (ix3 0 i j) = (V m c main_arg3 : FVec Ideal S2x1024x364 .f32) (ix3 ⟨t.val, ht⟩ i j) := by
    blk_point [iblk, win_idx t]
  rw [e, V_main_arg3]

/-- A block of the proposals. -/
theorem blk4 (c : Dev nD) (t : Fin (cfg0 (F := Ideal)).N) (ht : t.val < 2) (i : Fin 1024) (j : Fin 4) :
    (iblk m c 4 t : Vec Ideal S1x1024x4 .f32) (ix3 0 i j) = a4 m c (ix3 ⟨t.val, ht⟩ i j) := by
  have e : (iblk m c 4 t : Vec Ideal S1x1024x4 .f32) (ix3 0 i j) = (V m c main_arg4 : FVec Ideal S2x1024x4 .f32) (ix3 ⟨t.val, ht⟩ i j) := by
    blk_point [iblk, win_idx t]
  rw [e, V_main_arg4]

/-- Under the precondition the blocks of a grid point hold the image of that number. -/
theorem holds (c : Dev nD) (t : Fin (cfg0 (F := Ideal)).N) (ht : t.val < 2) (G : Good (a0 m c) (a1 m c) (a2 m c) (a3 m c) (a4 m c)) :
    Holds (iblk m c 0 t) (iblk m c 1 t) (iblk m c 2 t) (iblk m c 3 t) (iblk m c 4 t)
      (imageOf (a0 m c) (a1 m c) (a2 m c) (a3 m c) (a4 m c) ⟨t.val, ht⟩) where
  ord := G.ord _
  s i := blk0 m c t ht i
  ix i := blk1 m c t ht i
  gather i hi := ⟨slotOf (a2 m c (ix2 ⟨t.val, ht⟩ i)), (blk2 m c t ht i).trans (G.slot _ i hi), fun j => blk3 m c t ht _ j, fun j => blk4 m c t ht _ j⟩

/-- The grid point of an image. -/
abbrev pointOf (b : Fin 2) : Fin (cfg0 (F := Ideal)).N := ⟨b.val, b.isLt⟩

/-- The boxes the call leaves. -/
def boxesArr (c : Dev nD) : FVec Ideal S2x4x128 .f32 := fun i =>
  outBoxes (iblk m c 0 (pointOf (i 0))) (iblk m c 1 (pointOf (i 0))) (iblk m c 2 (pointOf (i 0))) (iblk m c 3 (pointOf (i 0))) (iblk m c 4 (pointOf (i 0))) (ix3 0 (i 1) (i 2))
/-- The scores the call leaves. -/
def scoresArr (c : Dev nD) : FVec Ideal S2x1x128 .f32 := fun i =>
  outScores (iblk m c 0 (pointOf (i 0))) (iblk m c 1 (pointOf (i 0))) (iblk m c 2 (pointOf (i 0))) (iblk m c 3 (pointOf (i 0))) (iblk m c 4 (pointOf (i 0))) (ix3 0 (i 1) (i 2))
/-- The labels the call leaves. -/
def labelsArr (c : Dev nD) : IVec S2x1x128 32 := fun i =>
  outLabels (iblk m c 0 (pointOf (i 0))) (iblk m c 1 (pointOf (i 0))) (iblk m c 2 (pointOf (i 0))) (iblk m c 3 (pointOf (i 0))) (iblk m c 4 (pointOf (i 0))) (ix3 0 (i 1) (i 2))

/-- The box array after the run. -/
theorem boxes_final (c : Dev nD) : (dats m 0 c).arrAt 5 (cfgs (F := Ideal) 0).N = boxesArr m c := by
  refine (dats m 0 c).arrAt_eq_of_covers 5 _ (by decide +kernel) fun t _ y => ?_
  blk_simp
  rw [after0_5]
  unfold outsAt0
  dsimp only
  rw [out5_eq]
  have ht := (win_idx t).2.2.2.2.2.2.2.2
  obtain ⟨u, r, k, rfl⟩ : ∃ (u : Fin 1) (r : Fin 4) (k : Fin 128), y = ix3 u r k := ⟨y 0, y 1, y 2, eq_ix3 y⟩
  have e : (((View.whole main_v3_0).slice (win0_5.rect t)).emb (ix3 u r k) : S2x4x128.Idx) = ix3 ⟨t.val, ht⟩ r k := by blk_ext [win_idx t]
  refine Eq.trans ?_ (congrArg (boxesArr m c) e.symm)
  rw [Subsingleton.elim u 0]
  rfl

/-- The score array after the run. -/
theorem scores_final (c : Dev nD) : (dats m 0 c).arrAt 6 (cfgs (F := Ideal) 0).N = scoresArr m c := by
  refine (dats m 0 c).arrAt_eq_of_covers 6 _ (by decide +kernel) fun t _ y => ?_
  blk_simp
  rw [after0_6]
  unfold outsAt0
  dsimp only
  rw [out6_eq]
  have ht := (win_idx t).2.2.2.2.2.2.2.2
  obtain ⟨u, r, k, rfl⟩ : ∃ (u : Fin 1) (r : Fin 1) (k : Fin 128), y = ix3 u r k := ⟨y 0, y 1, y 2, eq_ix3 y⟩
  have e : (((View.whole main_v3_1).slice (win0_6.rect t)).emb (ix3 u r k) : S2x1x128.Idx) = ix3 ⟨t.val, ht⟩ r k := by blk_ext [win_idx t]
  refine Eq.trans ?_ (congrArg (scoresArr m c) e.symm)
  rw [Subsingleton.elim u 0]
  rfl

/-- The label array after the run. -/
theorem labels_final (c : Dev nD) : (dats m 0 c).arrAt 7 (cfgs (F := Ideal) 0).N = labelsArr m c := by
  refine (dats m 0 c).arrAt_eq_of_covers 7 _ (by decide +kernel) fun t _ y => ?_
  blk_simp
  rw [after0_7]
  unfold outsAt0
  dsimp only
  rw [out7_eq]
  have ht := (win_idx t).2.2.2.2.2.2.2.2
  obtain ⟨u, r, k, rfl⟩ : ∃ (u : Fin 1) (r : Fin 1) (k : Fin 128), y = ix3 u r k := ⟨y 0, y 1, y 2, eq_ix3 y⟩
  have e : (((View.whole main_v3_2).slice (win0_7.rect t)).emb (ix3 u r k) : S2x1x128.Idx) = ix3 ⟨t.val, ht⟩ r k := by blk_ext [win_idx t]
  refine Eq.trans ?_ (congrArg (labelsArr m c) e.symm)
  rw [Subsingleton.elim u 0]
  rfl

/-- The contents the host's last stretch starts with. -/
abbrev atEnd (c : Dev nD) : Valuation τ sig (Elt Ideal) :=
  Pipeline.withArrays (cfgs (F := Ideal) 0).spec c (V0 m c) fun w => (dats m 0 c).arrAt w (cfgs (F := Ideal) 0).N

/-- The windows' arrays are distinct. -/
theorem arr_inj : Function.Injective (Pipeline.arrRef (cfgs (F := Ideal) 0).spec) := by
  exact (by decide : Function.Injective (Pipeline.arrRef spec0))

theorem atEnd_boxes (c : Dev nD) : atEnd m c (Proc.devRef .tc main_v3_0) = boxesArr m c :=
  (Pipeline.withArrays_arr _ arr_inj c (V0 m c) _ 5).trans (boxes_final m c)
theorem atEnd_scores (c : Dev nD) : atEnd m c (Proc.devRef .tc main_v3_1) = scoresArr m c :=
  (Pipeline.withArrays_arr _ arr_inj c (V0 m c) _ 6).trans (scores_final m c)
theorem atEnd_labels (c : Dev nD) : atEnd m c (Proc.devRef .tc main_v3_2) = labelsArr m c :=
  (Pipeline.withArrays_arr _ arr_inj c (V0 m c) _ 7).trans (labels_final m c)

/-- The boxes after the host's last stretch. -/
theorem tail_boxes (X : Valuation τ sig (Elt Ideal)) : StableHlo.after [hostOps1].flatten X (Proc.devRef .tc main_v5)
    = extractStridedSlice S2x100x4 ![0, 0, 0] (transpose S2x128x4 [0, 2, 1] (X (Proc.devRef .tc main_v3_0)) transposes_S2x4x128_S2x128x4_0_2_1) slices_S2x128x4_S2x100x4_0_0_0 := by
  simp only [List.flatten_cons, List.flatten_nil, List.append_nil]
  after_results
/-- The scores after the host's last stretch. -/
theorem tail_scores (X : Valuation τ sig (Elt Ideal)) : StableHlo.after [hostOps1].flatten X (Proc.devRef .tc main_v7)
    = shapeCast S2x100 (extractStridedSlice S2x1x100 ![0, 0, 0] (X (Proc.devRef .tc main_v3_1)) slices_S2x1x128_S2x1x100_0_0_0) shapeCasts_S2x1x100_S2x100 := by
  simp only [List.flatten_cons, List.flatten_nil, List.append_nil]
  after_results
  rfl
/-- The labels after the host's last stretch. -/
theorem tail_labels (X : Valuation τ sig (Elt Ideal)) : StableHlo.after [hostOps1].flatten X (Proc.devRef .tc main_v9)
    = shapeCast S2x100 (extractStridedSlice S2x1x100 ![0, 0, 0] (X (Proc.devRef .tc main_v3_2)) slices_S2x1x128_S2x1x100_0_0_0) shapeCasts_S2x1x100_S2x100 := by
  simp only [List.flatten_cons, List.flatten_nil, List.append_nil]
  after_results
  rfl

/-- The boxes the kernel ends with. -/
def boxesOut (c : Dev nD) : FVec Ideal S2x100x4 .f32 :=
  extractStridedSlice S2x100x4 ![0, 0, 0] (transpose S2x128x4 [0, 2, 1] (boxesArr m c) transposes_S2x4x128_S2x128x4_0_2_1) slices_S2x128x4_S2x100x4_0_0_0
/-- The scores the kernel ends with. -/
def scoresOut (c : Dev nD) : FVec Ideal S2x100 .f32 :=
  shapeCast S2x100 (extractStridedSlice S2x1x100 ![0, 0, 0] (scoresArr m c) slices_S2x1x128_S2x1x100_0_0_0) shapeCasts_S2x1x100_S2x100
/-- The labels the kernel ends with. -/
def labelsOut (c : Dev nD) : IVec S2x100 32 :=
  shapeCast S2x100 (extractStridedSlice S2x1x100 ![0, 0, 0] (labelsArr m c) slices_S2x1x128_S2x1x100_0_0_0) shapeCasts_S2x1x100_S2x100

section
variable (c : Dev nD) (G : Good (a0 m c) (a1 m c) (a2 m c) (a3 m c) (a4 m c)) (b : Fin 2) (q : Fin 100) (j : Fin 1000)
  (hj : place 1000 (imageOf (a0 m c) (a1 m c) (a2 m c) (a3 m c) (a4 m c) b).confirmed j.val = q.val)
include G hj

/-- The box at `q` is that of the candidate whose place is `q`. -/
theorem boxesOut_at (d : Fin 4) : boxesOut m c (ix3 b q d) = (imageOf (a0 m c) (a1 m c) (a2 m c) (a3 m c) (a4 m c) b).box j.val d := by
  have e : boxesOut m c (ix3 b q d) = boxesArr m c (ix3 b d ⟨q.val, by omega⟩) := by
    unfold boxesOut
    generalize boxesArr m c = y
    pointwise []
  rw [e]
  exact outBoxes_eq (holds m c (pointOf b) b.isLt G) 0 d ⟨q.val, by omega⟩ j hj

/-- The score at `q` is that of the candidate whose place is `q`, or −10⁹ if it is not confirmed. -/
theorem scoresOut_at : scoresOut m c (ix2 b q) = Scalar.select (BitVec.ofBool ((imageOf (a0 m c) (a1 m c) (a2 m c) (a3 m c) (a4 m c) b).confirmed j.val))
    ((imageOf (a0 m c) (a1 m c) (a2 m c) (a3 m c) (a4 m c) b).s (pos j.val)) (lit 0xCE6E6B28#32) := by
  have e : scoresOut m c (ix2 b q) = scoresArr m c (ix3 b 0 ⟨q.val, by omega⟩) := by
    unfold scoresOut
    generalize scoresArr m c = y
    pointwise []
  rw [e]
  exact outScores_eq (holds m c (pointOf b) b.isLt G) 0 0 ⟨q.val, by omega⟩ j hj

/-- The label at `q` is that of the candidate whose place is `q`. -/
theorem labelsOut_at : labelsOut m c (ix2 b q) = BitVec.ofNat 32 (clsNat ((imageOf (a0 m c) (a1 m c) (a2 m c) (a3 m c) (a4 m c) b).ix (pos j.val)) + 1) := by
  have e : labelsOut m c (ix2 b q) = labelsArr m c (ix3 b 0 ⟨q.val, by omega⟩) := by
    unfold labelsOut
    generalize labelsArr m c = y
    pointwise []
  rw [e]
  exact outLabels_eq (holds m c (pointOf b) b.isLt G) 0 0 ⟨q.val, by omega⟩ j hj

end

/-- The kernel runs, ends with the values above and leaves its arguments. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v5) = boxesOut m c
      ∧ r.2.mem ((c.tc : Thread nD τ).loc main_v7) = scoresOut m c
      ∧ r.2.mem ((c.tc : Thread nD τ).loc main_v9) = labelsOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono (fun r h c => ?_) (θ_run_and (run_main m ρ) (unchanged m ρ))
  obtain ⟨h1, h2⟩ := h
  have e5 := ((h1 c).2 main_v5 (Pipeline.mem_restRefs_of main_v5 (by decide) (show ∀ w : Fin 8, (spec0 w).arr.view.ref ≠ main_v5 by decide)))
  have e7 := ((h1 c).2 main_v7 (Pipeline.mem_restRefs_of main_v7 (by decide) (show ∀ w : Fin 8, (spec0 w).arr.view.ref ≠ main_v7 by decide)))
  have e9 := ((h1 c).2 main_v9 (Pipeline.mem_restRefs_of main_v9 (by decide) (show ∀ w : Fin 8, (spec0 w).arr.view.ref ≠ main_v9 by decide)))
  refine ⟨e5.trans ((tail_boxes (atEnd m c)).trans ?_), e7.trans ((tail_scores (atEnd m c)).trans ?_), e9.trans ((tail_labels (atEnd m c)).trans ?_), h2 c⟩
  · rw [atEnd_boxes]; rfl
  · rw [atEnd_scores]; rfl
  · rw [atEnd_labels]; rfl

end Cert.NmsIdeal.Hand
-- ==== Proof.NmsRefDefs.lean ====
/-
  The reference's values as functions of its arguments, one definition per operation of its program: `r_` before the
  loop, of the five arguments; `p_` after it, of the scores `s`, the survivors `k`, the boxes `b` and the labels `l`.
-/
module

public import proofs.«01_k».proof.Proof.Gen.NmsRefIdeal
public import Idealize.ShloMosaic.Lib.Pointwise

@[expose] public section
noncomputable section
namespace Cert.NmsRefIdeal.Hand
open Cert.NmsRefIdeal Cert.NmsRefIdeal.Gen Idealize.ShloMosaic Idealize.ShloMosaic.TcCoe Idealize.SL.Sem

def r_v0 (x4 : FVec Ideal S2x1024x4 .f32) : FVec Ideal S2x1024x2 .f32 := (extractStridedSlice S2x1024x2 ![0, 0, 2] · slices_S2x1024x4_S2x1024x2_0_0_2) x4
def r_v1 (x4 : FVec Ideal S2x1024x4 .f32) : FVec Ideal S2x1024x2 .f32 := (extractStridedSlice S2x1024x2 ![0, 0, 0] · slices_S2x1024x4_S2x1024x2_0_0_0) x4
def r_v2 (x4 : FVec Ideal S2x1024x4 .f32) : FVec Ideal S2x1024x2 .f32 := subf (r_v0 x4) (r_v1 x4)
def r_v3 (x4 : FVec Ideal S2x1024x4 .f32) : FVec Ideal S2x1024x2 .f32 := (extractStridedSlice S2x1024x2 ![0, 0, 0] · slices_S2x1024x4_S2x1024x2_0_0_0) x4
def r_cst : FVec Ideal S_ .f32 := (constant S_ .f32 0x3F000000#32)
def r_v4 : FVec Ideal S2x1024x2 .f32 := (broadcastInDim S2x1024x2 ![] bcast_S_S2x1024x2) r_cst
def r_v5 (x4 : FVec Ideal S2x1024x4 .f32) : FVec Ideal S2x1024x2 .f32 := mulf r_v4 (r_v2 x4)
def r_v6 (x4 : FVec Ideal S2x1024x4 .f32) : FVec Ideal S2x1024x2 .f32 := addf (r_v3 x4) (r_v5 x4)
def r_v7 (x3 : FVec Ideal S2x1024x364 .f32) : FVec Ideal S2x1024x91x4 .f32 := shapeCast S2x1024x91x4 x3 shapeCasts_S2x1024x364_S2x1024x91x4
def r_v8 (x3 : FVec Ideal S2x1024x364 .f32) : FVec Ideal S2x1024x91x2 .f32 := (extractStridedSlice S2x1024x91x2 ![0, 0, 0, 0] · slices_S2x1024x91x4_S2x1024x91x2_0_0_0_0) (r_v7 x3)
def r_cst_0 : FVec Ideal S_ .f32 := (constant S_ .f32 0x41200000#32)
def r_v9 : FVec Ideal S2x1024x91x2 .f32 := (broadcastInDim S2x1024x91x2 ![] bcast_S_S2x1024x91x2) r_cst_0
def r_v10 (x3 : FVec Ideal S2x1024x364 .f32) : FVec Ideal S2x1024x91x2 .f32 := Host.divf (r_v8 x3) r_v9
def r_v11 (x4 : FVec Ideal S2x1024x4 .f32) : FVec Ideal S2x1024x1x2 .f32 := (broadcastInDim S2x1024x1x2 ![0, 1, 3] bcast_S2x1024x2_S2x1024x1x2_0_1_3) (r_v2 x4)
def r_v12 (x4 : FVec Ideal S2x1024x4 .f32) : FVec Ideal S2x1024x91x2 .f32 := (broadcastInDim S2x1024x91x2 ![0, 1, 2, 3] bcast_S2x1024x1x2_S2x1024x91x2_0_1_2_3) (r_v11 x4)
def r_v13 (x3 : FVec Ideal S2x1024x364 .f32) (x4 : FVec Ideal S2x1024x4 .f32) : FVec Ideal S2x1024x91x2 .f32 := mulf (r_v10 x3) (r_v12 x4)
def r_v14 (x4 : FVec Ideal S2x1024x4 .f32) : FVec Ideal S2x1024x1x2 .f32 := (broadcastInDim S2x1024x1x2 ![0, 1, 3] bcast_S2x1024x2_S2x1024x1x2_0_1_3) (r_v6 x4)
def r_v15 (x4 : FVec Ideal S2x1024x4 .f32) : FVec Ideal S2x1024x91x2 .f32 := (broadcastInDim S2x1024x91x2 ![0, 1, 2, 3] bcast_S2x1024x1x2_S2x1024x91x2_0_1_2_3) (r_v14 x4)
def r_v16 (x3 : FVec Ideal S2x1024x364 .f32) (x4 : FVec Ideal S2x1024x4 .f32) : FVec Ideal S2x1024x91x2 .f32 := addf (r_v13 x3 x4) (r_v15 x4)
def r_v17 (x3 : FVec Ideal S2x1024x364 .f32) : FVec Ideal S2x1024x91x2 .f32 := (extractStridedSlice S2x1024x91x2 ![0, 0, 0, 2] · slices_S2x1024x91x4_S2x1024x91x2_0_0_0_2) (r_v7 x3)
def r_cst_1 : FVec Ideal S_ .f32 := (constant S_ .f32 0x40A00000#32)
def r_v18 : FVec Ideal S2x1024x91x2 .f32 := (broadcastInDim S2x1024x91x2 ![] bcast_S_S2x1024x91x2) r_cst_1
def r_v19 (x3 : FVec Ideal S2x1024x364 .f32) : FVec Ideal S2x1024x91x2 .f32 := Host.divf (r_v17 x3) r_v18
def r_cst_2 : FVec Ideal S_ .f32 := (constant S_ .f32 0x40845349#32)
def r_v20 : FVec Ideal S2x1024x91x2 .f32 := (broadcastInDim S2x1024x91x2 ![] bcast_S_S2x1024x91x2) r_cst_2
def r_v21 (x3 : FVec Ideal S2x1024x364 .f32) : FVec Ideal S2x1024x91x2 .f32 := minimumf (r_v19 x3) r_v20
def r_v22 (x3 : FVec Ideal S2x1024x364 .f32) : FVec Ideal S2x1024x91x2 .f32 := Host.exp (r_v21 x3)
def r_v23 (x4 : FVec Ideal S2x1024x4 .f32) : FVec Ideal S2x1024x1x2 .f32 := (broadcastInDim S2x1024x1x2 ![0, 1, 3] bcast_S2x1024x2_S2x1024x1x2_0_1_3) (r_v2 x4)
def r_v24 (x4 : FVec Ideal S2x1024x4 .f32) : FVec Ideal S2x1024x91x2 .f32 := (broadcastInDim S2x1024x91x2 ![0, 1, 2, 3] bcast_S2x1024x1x2_S2x1024x91x2_0_1_2_3) (r_v23 x4)
def r_v25 (x3 : FVec Ideal S2x1024x364 .f32) (x4 : FVec Ideal S2x1024x4 .f32) : FVec Ideal S2x1024x91x2 .f32 := mulf (r_v22 x3) (r_v24 x4)
def r_cst_3 : FVec Ideal S_ .f32 := (constant S_ .f32 0x3F000000#32)
def r_v26 : FVec Ideal S2x1024x91x2 .f32 := (broadcastInDim S2x1024x91x2 ![] bcast_S_S2x1024x91x2) r_cst_3
def r_v27 (x3 : FVec Ideal S2x1024x364 .f32) (x4 : FVec Ideal S2x1024x4 .f32) : FVec Ideal S2x1024x91x2 .f32 := mulf r_v26 (r_v25 x3 x4)
def r_v28 (x3 : FVec Ideal S2x1024x364 .f32) (x4 : FVec Ideal S2x1024x4 .f32) : FVec Ideal S2x1024x91x2 .f32 := subf (r_v16 x3 x4) (r_v27 x3 x4)
def r_cst_4 : FVec Ideal S_ .f32 := (constant S_ .f32 0x3F000000#32)
def r_v29 : FVec Ideal S2x1024x91x2 .f32 := (broadcastInDim S2x1024x91x2 ![] bcast_S_S2x1024x91x2) r_cst_4
def r_v30 (x3 : FVec Ideal S2x1024x364 .f32) (x4 : FVec Ideal S2x1024x4 .f32) : FVec Ideal S2x1024x91x2 .f32 := mulf r_v29 (r_v25 x3 x4)
def r_v31 (x3 : FVec Ideal S2x1024x364 .f32) (x4 : FVec Ideal S2x1024x4 .f32) : FVec Ideal S2x1024x91x2 .f32 := addf (r_v16 x3 x4) (r_v30 x3 x4)
def r_v32 (x3 : FVec Ideal S2x1024x364 .f32) (x4 : FVec Ideal S2x1024x4 .f32) : FVec Ideal S2x1024x91x4 .f32 := (fun a b => concatenate S2x1024x91x4 3 [⟨S2x1024x91x2, a⟩, ⟨S2x1024x91x2, b⟩] concatenates_S2x1024x91x2_S2x1024x91x2_S2x1024x91x4_d3) (r_v28 x3 x4) (r_v31 x3 x4)
def r_v33 (x3 : FVec Ideal S2x1024x364 .f32) (x4 : FVec Ideal S2x1024x4 .f32) : FVec Ideal S2x1024x90x4 .f32 := (extractStridedSlice S2x1024x90x4 ![0, 0, 1, 0] · slices_S2x1024x91x4_S2x1024x90x4_0_0_1_0) (r_v32 x3 x4)
def r_v34 (x3 : FVec Ideal S2x1024x364 .f32) (x4 : FVec Ideal S2x1024x4 .f32) : FVec Ideal S2x92160x4 .f32 := shapeCast S2x92160x4 (r_v33 x3 x4) shapeCasts_S2x1024x90x4_S2x92160x4
def r_cst_5 : FVec Ideal S_ .f32 := (constant S_ .f32 0x00000000#32)
def r_v35 : FVec Ideal S2x92160x4 .f32 := (broadcastInDim S2x92160x4 ![] bcast_S_S2x92160x4) r_cst_5
def r_v36 (x3 : FVec Ideal S2x1024x364 .f32) (x4 : FVec Ideal S2x1024x4 .f32) : FVec Ideal S2x92160x4 .f32 := maximumf (r_v34 x3 x4) r_v35
def r_cst_6 : FVec Ideal S_ .f32 := (constant S_ .f32 0x44480000#32)
def r_v37 : FVec Ideal S2x92160x4 .f32 := (broadcastInDim S2x92160x4 ![] bcast_S_S2x92160x4) r_cst_6
def r_v38 (x3 : FVec Ideal S2x1024x364 .f32) (x4 : FVec Ideal S2x1024x4 .f32) : FVec Ideal S2x92160x4 .f32 := minimumf (r_v36 x3 x4) r_v37
def r_v39 (x0 : FVec Ideal S2x1024 .f32) : FVec Ideal S2x1000 .f32 := (extractStridedSlice S2x1000 ![0, 0] · slices_S2x1024_S2x1000_0_0) x0
def r_v40 (x1 : IVec S2x1024 32) : IVec S2x1000 32 := (extractStridedSlice S2x1000 ![0, 0] · slices_S2x1024_S2x1000_0_0) x1
def r_c : IVec S_ 32 := (constantI S_ 32 90#32)
def r_call0_v0 : IVec S_ 32 := id r_c
def r_call0_c : IVec S_ 32 := (constantI S_ 32 0#32)
def r_call0_v1 : IVec S_ 1 := (cmpi .eq) r_call0_v0 r_call0_c
def r_call0_c_0 : IVec S_ 32 := (constantI S_ 32 1#32)
def r_call0_v2 : IVec S_ 32 := select r_call0_v1 r_call0_c_0 r_call0_v0
def r_call0_v3 : IVec S2x1000 32 := (broadcastInDim S2x1000 ![] bcast_S_S2x1000) r_call0_v2
def r_call0_v4 (x1 : IVec S2x1024 32) : IVec S2x1000 32 := Host.remsi (r_v40 x1) r_call0_v3
def r_call0_c_1 : IVec S_ 32 := (constantI S_ 32 0#32)
def r_call0_v5 : IVec S2x1000 32 := (broadcastInDim S2x1000 ![] bcast_S_S2x1000) r_call0_c_1
def r_call0_v6 (x1 : IVec S2x1024 32) : IVec S2x1000 1 := (cmpi .ne) (r_call0_v4 x1) r_call0_v5
def r_call0_c_2 : IVec S_ 32 := (constantI S_ 32 0#32)
def r_call0_v7 : IVec S2x1000 32 := (broadcastInDim S2x1000 ![] bcast_S_S2x1000) r_call0_c_2
def r_call0_v8 (x1 : IVec S2x1024 32) : IVec S2x1000 1 := (cmpi .slt) (r_call0_v4 x1) r_call0_v7
def r_call0_c_3 : IVec S_ 32 := (constantI S_ 32 0#32)
def r_call0_v9 : IVec S_ 1 := (cmpi .slt) r_call0_v2 r_call0_c_3
def r_call0_v10 : IVec S2x1000 1 := (broadcastInDim S2x1000 ![] bcast_S_S2x1000) r_call0_v9
def r_call0_v11 (x1 : IVec S2x1024 32) : IVec S2x1000 1 := (cmpi .ne) (r_call0_v8 x1) r_call0_v10
def r_call0_v12 (x1 : IVec S2x1024 32) : IVec S2x1000 1 := andi (r_call0_v11 x1) (r_call0_v6 x1)
def r_call0_v13 : IVec S2x1000 32 := (broadcastInDim S2x1000 ![] bcast_S_S2x1000) r_call0_v2
def r_call0_v14 (x1 : IVec S2x1024 32) : IVec S2x1000 32 := addi (r_call0_v4 x1) r_call0_v13
def r_v41 (x1 : IVec S2x1024 32) : IVec S2x1000 32 := select (r_call0_v12 x1) (r_call0_v14 x1) (r_call0_v4 x1)
def r_c_7 : IVec S_ 32 := (constantI S_ 32 1#32)
def r_v42 : IVec S2x1000 32 := (broadcastInDim S2x1000 ![] bcast_S_S2x1000) r_c_7
def r_v43 (x1 : IVec S2x1024 32) : IVec S2x1000 32 := addi (r_v41 x1) r_v42
def r_v44 (x2 : IVec S2x1024 32) : IVec S2x1000 32 := (extractStridedSlice S2x1000 ![0, 0] · slices_S2x1024_S2x1000_0_0) x2
def r_c_8 : IVec S_ 32 := (constantI S_ 32 90#32)
def r_v45 : IVec S2x1000 32 := (broadcastInDim S2x1000 ![] bcast_S_S2x1000) r_c_8
def r_v46 (x2 : IVec S2x1024 32) : IVec S2x1000 32 := muli (r_v44 x2) r_v45
def r_v47 (x1 : IVec S2x1024 32) (x2 : IVec S2x1024 32) : IVec S2x1000 32 := addi (r_v46 x2) (r_v43 x1)
def r_c_9 : IVec S_ 32 := (constantI S_ 32 1#32)
def r_v48 : IVec S2x1000 32 := (broadcastInDim S2x1000 ![] bcast_S_S2x1000) r_c_9
def r_v49 (x1 : IVec S2x1024 32) (x2 : IVec S2x1024 32) : IVec S2x1000 32 := subi (r_v47 x1 x2) r_v48
def r_c_10 : IVec S_ 32 := (constantI S_ 32 0#32)
def r_v50 : IVec S2x1000 32 := (broadcastInDim S2x1000 ![] bcast_S_S2x1000) r_c_10
def r_v51 (x1 : IVec S2x1024 32) (x2 : IVec S2x1024 32) : IVec S2x1000 1 := (cmpi .slt) (r_v49 x1 x2) r_v50
def r_c_11 : IVec S_ 32 := (constantI S_ 32 92160#32)
def r_v52 : IVec S2x1000 32 := (broadcastInDim S2x1000 ![] bcast_S_S2x1000) r_c_11
def r_v53 (x1 : IVec S2x1024 32) (x2 : IVec S2x1024 32) : IVec S2x1000 32 := addi (r_v49 x1 x2) r_v52
def r_v54 (x1 : IVec S2x1024 32) (x2 : IVec S2x1024 32) : IVec S2x1000 32 := select (r_v51 x1 x2) (r_v53 x1 x2) (r_v49 x1 x2)
def r_v55 (x1 : IVec S2x1024 32) (x2 : IVec S2x1024 32) : IVec S2x1000x1 32 := (broadcastInDim S2x1000x1 ![0, 1] bcast_S2x1000_S2x1000x1_0_1) (r_v54 x1 x2)
def r_v56 (x1 : IVec S2x1024 32) (x2 : IVec S2x1024 32) (x3 : FVec Ideal S2x1024x364 .f32) (x4 : FVec Ideal S2x1024x4 .f32) : FVec Ideal S2x1000x4 .f32 := (fun x i => Host.gather gather_S2x92160x4_S2x1000x1_S2x1000x4_2_1_0_0_1_2_114 x i) (r_v38 x3 x4) (r_v55 x1 x2)
def r_v57 (x1 : IVec S2x1024 32) : FVec Ideal S2x1000 .f32 := (sitofp .f32) (r_v43 x1)
def r_v58 (x1 : IVec S2x1024 32) : FVec Ideal S2x1000x1 .f32 := (broadcastInDim S2x1000x1 ![0, 1] bcast_S2x1000_S2x1000x1_0_1) (r_v57 x1)
def r_cst_12 : FVec Ideal S_ .f32 := (constant S_ .f32 0x45800000#32)
def r_v59 : FVec Ideal S2x1000x1 .f32 := (broadcastInDim S2x1000x1 ![] bcast_S_S2x1000x1) r_cst_12
def r_v60 (x1 : IVec S2x1024 32) : FVec Ideal S2x1000x1 .f32 := mulf (r_v58 x1) r_v59
def r_v61 (x1 : IVec S2x1024 32) : FVec Ideal S2x1000x4 .f32 := (broadcastInDim S2x1000x4 ![0, 1, 2] bcast_S2x1000x1_S2x1000x4_0_1_2) (r_v60 x1)
def r_v62 (x1 : IVec S2x1024 32) (x2 : IVec S2x1024 32) (x3 : FVec Ideal S2x1024x364 .f32) (x4 : FVec Ideal S2x1024x4 .f32) : FVec Ideal S2x1000x4 .f32 := addf (r_v56 x1 x2 x3 x4) (r_v61 x1)
def r_v63 (x1 : IVec S2x1024 32) (x2 : IVec S2x1024 32) (x3 : FVec Ideal S2x1024x364 .f32) (x4 : FVec Ideal S2x1024x4 .f32) : FVec Ideal S2x1000x1 .f32 := (extractStridedSlice S2x1000x1 ![0, 0, 2] · slices_S2x1000x4_S2x1000x1_0_0_2) (r_v62 x1 x2 x3 x4)
def r_v64 (x1 : IVec S2x1024 32) (x2 : IVec S2x1024 32) (x3 : FVec Ideal S2x1024x364 .f32) (x4 : FVec Ideal S2x1024x4 .f32) : FVec Ideal S2x1000 .f32 := shapeCast S2x1000 (r_v63 x1 x2 x3 x4) shapeCasts_S2x1000x1_S2x1000
def r_v65 (x1 : IVec S2x1024 32) (x2 : IVec S2x1024 32) (x3 : FVec Ideal S2x1024x364 .f32) (x4 : FVec Ideal S2x1024x4 .f32) : FVec Ideal S2x1000x1 .f32 := (extractStridedSlice S2x1000x1 ![0, 0, 0] · slices_S2x1000x4_S2x1000x1_0_0_0) (r_v62 x1 x2 x3 x4)
def r_v66 (x1 : IVec S2x1024 32) (x2 : IVec S2x1024 32) (x3 : FVec Ideal S2x1024x364 .f32) (x4 : FVec Ideal S2x1024x4 .f32) : FVec Ideal S2x1000 .f32 := shapeCast S2x1000 (r_v65 x1 x2 x3 x4) shapeCasts_S2x1000x1_S2x1000
def r_v67 (x1 : IVec S2x1024 32) (x2 : IVec S2x1024 32) (x3 : FVec Ideal S2x1024x364 .f32) (x4 : FVec Ideal S2x1024x4 .f32) : FVec Ideal S2x1000 .f32 := subf (r_v64 x1 x2 x3 x4) (r_v66 x1 x2 x3 x4)
def r_v68 (x1 : IVec S2x1024 32) (x2 : IVec S2x1024 32) (x3 : FVec Ideal S2x1024x364 .f32) (x4 : FVec Ideal S2x1024x4 .f32) : FVec Ideal S2x1000x1 .f32 := (extractStridedSlice S2x1000x1 ![0, 0, 3] · slices_S2x1000x4_S2x1000x1_0_0_3) (r_v62 x1 x2 x3 x4)
def r_v69 (x1 : IVec S2x1024 32) (x2 : IVec S2x1024 32) (x3 : FVec Ideal S2x1024x364 .f32) (x4 : FVec Ideal S2x1024x4 .f32) : FVec Ideal S2x1000 .f32 := shapeCast S2x1000 (r_v68 x1 x2 x3 x4) shapeCasts_S2x1000x1_S2x1000
def r_v70 (x1 : IVec S2x1024 32) (x2 : IVec S2x1024 32) (x3 : FVec Ideal S2x1024x364 .f32) (x4 : FVec Ideal S2x1024x4 .f32) : FVec Ideal S2x1000x1 .f32 := (extractStridedSlice S2x1000x1 ![0, 0, 1] · slices_S2x1000x4_S2x1000x1_0_0_1) (r_v62 x1 x2 x3 x4)
def r_v71 (x1 : IVec S2x1024 32) (x2 : IVec S2x1024 32) (x3 : FVec Ideal S2x1024x364 .f32) (x4 : FVec Ideal S2x1024x4 .f32) : FVec Ideal S2x1000 .f32 := shapeCast S2x1000 (r_v70 x1 x2 x3 x4) shapeCasts_S2x1000x1_S2x1000
def r_v72 (x1 : IVec S2x1024 32) (x2 : IVec S2x1024 32) (x3 : FVec Ideal S2x1024x364 .f32) (x4 : FVec Ideal S2x1024x4 .f32) : FVec Ideal S2x1000 .f32 := subf (r_v69 x1 x2 x3 x4) (r_v71 x1 x2 x3 x4)
def r_v73 (x1 : IVec S2x1024 32) (x2 : IVec S2x1024 32) (x3 : FVec Ideal S2x1024x364 .f32) (x4 : FVec Ideal S2x1024x4 .f32) : FVec Ideal S2x1000 .f32 := mulf (r_v67 x1 x2 x3 x4) (r_v72 x1 x2 x3 x4)
def r_v74 (x1 : IVec S2x1024 32) (x2 : IVec S2x1024 32) (x3 : FVec Ideal S2x1024x364 .f32) (x4 : FVec Ideal S2x1024x4 .f32) : FVec Ideal S2x1000x2 .f32 := (extractStridedSlice S2x1000x2 ![0, 0, 0] · slices_S2x1000x4_S2x1000x2_0_0_0) (r_v62 x1 x2 x3 x4)
def r_v75 (x1 : IVec S2x1024 32) (x2 : IVec S2x1024 32) (x3 : FVec Ideal S2x1024x364 .f32) (x4 : FVec Ideal S2x1024x4 .f32) : FVec Ideal S2x1000x1x2 .f32 := (broadcastInDim S2x1000x1x2 ![0, 1, 3] bcast_S2x1000x2_S2x1000x1x2_0_1_3) (r_v74 x1 x2 x3 x4)
def r_v76 (x1 : IVec S2x1024 32) (x2 : IVec S2x1024 32) (x3 : FVec Ideal S2x1024x364 .f32) (x4 : FVec Ideal S2x1024x4 .f32) : FVec Ideal S2x1000x2 .f32 := (extractStridedSlice S2x1000x2 ![0, 0, 0] · slices_S2x1000x4_S2x1000x2_0_0_0) (r_v62 x1 x2 x3 x4)
def r_v77 (x1 : IVec S2x1024 32) (x2 : IVec S2x1024 32) (x3 : FVec Ideal S2x1024x364 .f32) (x4 : FVec Ideal S2x1024x4 .f32) : FVec Ideal S2x1x1000x2 .f32 := (broadcastInDim S2x1x1000x2 ![0, 2, 3] bcast_S2x1000x2_S2x1x1000x2_0_2_3) (r_v76 x1 x2 x3 x4)
def r_v78 (x1 : IVec S2x1024 32) (x2 : IVec S2x1024 32) (x3 : FVec Ideal S2x1024x364 .f32) (x4 : FVec Ideal S2x1024x4 .f32) : FVec Ideal S2x1000x1000x2 .f32 := (broadcastInDim S2x1000x1000x2 ![0, 1, 2, 3] bcast_S2x1000x1x2_S2x1000x1000x2_0_1_2_3) (r_v75 x1 x2 x3 x4)
def r_v79 (x1 : IVec S2x1024 32) (x2 : IVec S2x1024 32) (x3 : FVec Ideal S2x1024x364 .f32) (x4 : FVec Ideal S2x1024x4 .f32) : FVec Ideal S2x1000x1000x2 .f32 := (broadcastInDim S2x1000x1000x2 ![0, 1, 2, 3] bcast_S2x1x1000x2_S2x1000x1000x2_0_1_2_3) (r_v77 x1 x2 x3 x4)
def r_v80 (x1 : IVec S2x1024 32) (x2 : IVec S2x1024 32) (x3 : FVec Ideal S2x1024x364 .f32) (x4 : FVec Ideal S2x1024x4 .f32) : FVec Ideal S2x1000x1000x2 .f32 := maximumf (r_v78 x1 x2 x3 x4) (r_v79 x1 x2 x3 x4)
def r_v81 (x1 : IVec S2x1024 32) (x2 : IVec S2x1024 32) (x3 : FVec Ideal S2x1024x364 .f32) (x4 : FVec Ideal S2x1024x4 .f32) : FVec Ideal S2x1000x2 .f32 := (extractStridedSlice S2x1000x2 ![0, 0, 2] · slices_S2x1000x4_S2x1000x2_0_0_2) (r_v62 x1 x2 x3 x4)
def r_v82 (x1 : IVec S2x1024 32) (x2 : IVec S2x1024 32) (x3 : FVec Ideal S2x1024x364 .f32) (x4 : FVec Ideal S2x1024x4 .f32) : FVec Ideal S2x1000x1x2 .f32 := (broadcastInDim S2x1000x1x2 ![0, 1, 3] bcast_S2x1000x2_S2x1000x1x2_0_1_3) (r_v81 x1 x2 x3 x4)
def r_v83 (x1 : IVec S2x1024 32) (x2 : IVec S2x1024 32) (x3 : FVec Ideal S2x1024x364 .f32) (x4 : FVec Ideal S2x1024x4 .f32) : FVec Ideal S2x1000x2 .f32 := (extractStridedSlice S2x1000x2 ![0, 0, 2] · slices_S2x1000x4_S2x1000x2_0_0_2) (r_v62 x1 x2 x3 x4)
def r_v84 (x1 : IVec S2x1024 32) (x2 : IVec S2x1024 32) (x3 : FVec Ideal S2x1024x364 .f32) (x4 : FVec Ideal S2x1024x4 .f32) : FVec Ideal S2x1x1000x2 .f32 := (broadcastInDim S2x1x1000x2 ![0, 2, 3] bcast_S2x1000x2_S2x1x1000x2_0_2_3) (r_v83 x1 x2 x3 x4)
def r_v85 (x1 : IVec S2x1024 32) (x2 : IVec S2x1024 32) (x3 : FVec Ideal S2x1024x364 .f32) (x4 : FVec Ideal S2x1024x4 .f32) : FVec Ideal S2x1000x1000x2 .f32 := (broadcastInDim S2x1000x1000x2 ![0, 1, 2, 3] bcast_S2x1000x1x2_S2x1000x1000x2_0_1_2_3) (r_v82 x1 x2 x3 x4)
def r_v86 (x1 : IVec S2x1024 32) (x2 : IVec S2x1024 32) (x3 : FVec Ideal S2x1024x364 .f32) (x4 : FVec Ideal S2x1024x4 .f32) : FVec Ideal S2x1000x1000x2 .f32 := (broadcastInDim S2x1000x1000x2 ![0, 1, 2, 3] bcast_S2x1x1000x2_S2x1000x1000x2_0_1_2_3) (r_v84 x1 x2 x3 x4)
def r_v87 (x1 : IVec S2x1024 32) (x2 : IVec S2x1024 32) (x3 : FVec Ideal S2x1024x364 .f32) (x4 : FVec Ideal S2x1024x4 .f32) : FVec Ideal S2x1000x1000x2 .f32 := minimumf (r_v85 x1 x2 x3 x4) (r_v86 x1 x2 x3 x4)
def r_v88 (x1 : IVec S2x1024 32) (x2 : IVec S2x1024 32) (x3 : FVec Ideal S2x1024x364 .f32) (x4 : FVec Ideal S2x1024x4 .f32) : FVec Ideal S2x1000x1000x2 .f32 := subf (r_v87 x1 x2 x3 x4) (r_v80 x1 x2 x3 x4)
def r_cst_13 : FVec Ideal S_ .f32 := (constant S_ .f32 0x00000000#32)
def r_v89 : FVec Ideal S2x1000x1000x2 .f32 := (broadcastInDim S2x1000x1000x2 ![] bcast_S_S2x1000x1000x2) r_cst_13
def r_v90 (x1 : IVec S2x1024 32) (x2 : IVec S2x1024 32) (x3 : FVec Ideal S2x1024x364 .f32) (x4 : FVec Ideal S2x1024x4 .f32) : FVec Ideal S2x1000x1000x2 .f32 := maximumf (r_v88 x1 x2 x3 x4) r_v89
def r_v91 (x1 : IVec S2x1024 32) (x2 : IVec S2x1024 32) (x3 : FVec Ideal S2x1024x364 .f32) (x4 : FVec Ideal S2x1024x4 .f32) : FVec Ideal S2x1000x1000x1 .f32 := (extractStridedSlice S2x1000x1000x1 ![0, 0, 0, 0] · slices_S2x1000x1000x2_S2x1000x1000x1_0_0_0_0) (r_v90 x1 x2 x3 x4)
def r_v92 (x1 : IVec S2x1024 32) (x2 : IVec S2x1024 32) (x3 : FVec Ideal S2x1024x364 .f32) (x4 : FVec Ideal S2x1024x4 .f32) : FVec Ideal S2x1000x1000 .f32 := shapeCast S2x1000x1000 (r_v91 x1 x2 x3 x4) shapeCasts_S2x1000x1000x1_S2x1000x1000
def r_v93 (x1 : IVec S2x1024 32) (x2 : IVec S2x1024 32) (x3 : FVec Ideal S2x1024x364 .f32) (x4 : FVec Ideal S2x1024x4 .f32) : FVec Ideal S2x1000x1000x1 .f32 := (extractStridedSlice S2x1000x1000x1 ![0, 0, 0, 1] · slices_S2x1000x1000x2_S2x1000x1000x1_0_0_0_1) (r_v90 x1 x2 x3 x4)
def r_v94 (x1 : IVec S2x1024 32) (x2 : IVec S2x1024 32) (x3 : FVec Ideal S2x1024x364 .f32) (x4 : FVec Ideal S2x1024x4 .f32) : FVec Ideal S2x1000x1000 .f32 := shapeCast S2x1000x1000 (r_v93 x1 x2 x3 x4) shapeCasts_S2x1000x1000x1_S2x1000x1000
def r_v95 (x1 : IVec S2x1024 32) (x2 : IVec S2x1024 32) (x3 : FVec Ideal S2x1024x364 .f32) (x4 : FVec Ideal S2x1024x4 .f32) : FVec Ideal S2x1000x1000 .f32 := mulf (r_v92 x1 x2 x3 x4) (r_v94 x1 x2 x3 x4)
def r_v96 (x1 : IVec S2x1024 32) (x2 : IVec S2x1024 32) (x3 : FVec Ideal S2x1024x364 .f32) (x4 : FVec Ideal S2x1024x4 .f32) : FVec Ideal S2x1000x1 .f32 := (broadcastInDim S2x1000x1 ![0, 1] bcast_S2x1000_S2x1000x1_0_1) (r_v73 x1 x2 x3 x4)
def r_v97 (x1 : IVec S2x1024 32) (x2 : IVec S2x1024 32) (x3 : FVec Ideal S2x1024x364 .f32) (x4 : FVec Ideal S2x1024x4 .f32) : FVec Ideal S2x1x1000 .f32 := (broadcastInDim S2x1x1000 ![0, 2] bcast_S2x1000_S2x1x1000_0_2) (r_v73 x1 x2 x3 x4)
def r_v98 (x1 : IVec S2x1024 32) (x2 : IVec S2x1024 32) (x3 : FVec Ideal S2x1024x364 .f32) (x4 : FVec Ideal S2x1024x4 .f32) : FVec Ideal S2x1000x1000 .f32 := (broadcastInDim S2x1000x1000 ![0, 1, 2] bcast_S2x1000x1_S2x1000x1000_0_1_2) (r_v96 x1 x2 x3 x4)
def r_v99 (x1 : IVec S2x1024 32) (x2 : IVec S2x1024 32) (x3 : FVec Ideal S2x1024x364 .f32) (x4 : FVec Ideal S2x1024x4 .f32) : FVec Ideal S2x1000x1000 .f32 := (broadcastInDim S2x1000x1000 ![0, 1, 2] bcast_S2x1x1000_S2x1000x1000_0_1_2) (r_v97 x1 x2 x3 x4)
def r_v100 (x1 : IVec S2x1024 32) (x2 : IVec S2x1024 32) (x3 : FVec Ideal S2x1024x364 .f32) (x4 : FVec Ideal S2x1024x4 .f32) : FVec Ideal S2x1000x1000 .f32 := addf (r_v98 x1 x2 x3 x4) (r_v99 x1 x2 x3 x4)
def r_v101 (x1 : IVec S2x1024 32) (x2 : IVec S2x1024 32) (x3 : FVec Ideal S2x1024x364 .f32) (x4 : FVec Ideal S2x1024x4 .f32) : FVec Ideal S2x1000x1000 .f32 := subf (r_v100 x1 x2 x3 x4) (r_v95 x1 x2 x3 x4)
def r_cst_14 : FVec Ideal S_ .f32 := (constant S_ .f32 0x3089705F#32)
def r_v102 : FVec Ideal S2x1000x1000 .f32 := (broadcastInDim S2x1000x1000 ![] bcast_S_S2x1000x1000) r_cst_14
def r_v103 (x1 : IVec S2x1024 32) (x2 : IVec S2x1024 32) (x3 : FVec Ideal S2x1024x364 .f32) (x4 : FVec Ideal S2x1024x4 .f32) : FVec Ideal S2x1000x1000 .f32 := maximumf (r_v101 x1 x2 x3 x4) r_v102
def r_v104 (x1 : IVec S2x1024 32) (x2 : IVec S2x1024 32) (x3 : FVec Ideal S2x1024x364 .f32) (x4 : FVec Ideal S2x1024x4 .f32) : FVec Ideal S2x1000x1000 .f32 := Host.divf (r_v95 x1 x2 x3 x4) (r_v103 x1 x2 x3 x4)
def r_v105 : IVec S1000 32 := (iotaInDim S1000 32 0)
def r_c_15 : IVec S_ 1 := (constantI S_ 1 1#1)
def r_v106 : IVec S2x1000 1 := (broadcastInDim S2x1000 ![] bcast_S_S2x1000) r_c_15
def r_c_16 : IVec S_ 32 := (constantI S_ 32 0#32)
def r_c_17 : IVec S_ 32 := (constantI S_ 32 0#32)
def r_v107_0 (x1 : IVec S2x1024 32) (x2 : IVec S2x1024 32) (x3 : FVec Ideal S2x1024x364 .f32) (x4 : FVec Ideal S2x1024x4 .f32) : FVec Ideal S2x1000x1000 .f32 := id (r_v104 x1 x2 x3 x4)
def r_v107_1 : IVec S1000 32 := id r_v105
def r_v107_2 : IVec S_ 32 := id r_c_17
def r_v107_3 : IVec S_ 32 := id r_c_16
def r_v107_4 : IVec S2x1000 1 := id r_v106
def p_cst_18 : FVec Ideal S_ .f32 := (constant S_ .f32 0xCCBEBC20#32)
def p_v108 : FVec Ideal S2x1000 .f32 := (broadcastInDim S2x1000 ![] bcast_S_S2x1000) p_cst_18
def p_v109 (s : FVec Ideal S2x1000 .f32) : IVec S2x1000 1 := (cmpf .ogt) s p_v108
def p_v110 (s : FVec Ideal S2x1000 .f32) (k : IVec S2x1000 1) : IVec S2x1000 1 := andi k (p_v109 s)
def p_cst_19 : FVec Ideal S_ .f32 := (constant S_ .f32 0xCE6E6B28#32)
def p_v111 : FVec Ideal S2x1000 .f32 := (broadcastInDim S2x1000 ![] bcast_S_S2x1000) p_cst_19
def p_v112 (s : FVec Ideal S2x1000 .f32) (k : IVec S2x1000 1) : FVec Ideal S2x1000 .f32 := select (p_v110 s k) s p_v111
def p_values (s : FVec Ideal S2x1000 .f32) (k : IVec S2x1000 1) : FVec Ideal S2x100 .f32 := (fun x => (Host.topK S2x100 1 (FloatOps.cmpfTotal .gt) x sliceFits_S2x1000_S2x100).1) (p_v112 s k)
def p_indices (s : FVec Ideal S2x1000 .f32) (k : IVec S2x1000 1) : IVec S2x100 32 := (fun x => (Host.topK S2x100 1 (FloatOps.cmpfTotal .gt) x sliceFits_S2x1000_S2x100).2) (p_v112 s k)
def p_c_20 : IVec S_ 32 := (constantI S_ 32 0#32)
def p_v113 : IVec S2x100 32 := (broadcastInDim S2x100 ![] bcast_S_S2x100) p_c_20
def p_v114 (s : FVec Ideal S2x1000 .f32) (k : IVec S2x1000 1) : IVec S2x100 1 := (cmpi .slt) (p_indices s k) p_v113
def p_c_21 : IVec S_ 32 := (constantI S_ 32 1000#32)
def p_v115 : IVec S2x100 32 := (broadcastInDim S2x100 ![] bcast_S_S2x100) p_c_21
def p_v116 (s : FVec Ideal S2x1000 .f32) (k : IVec S2x1000 1) : IVec S2x100 32 := addi (p_indices s k) p_v115
def p_v117 (s : FVec Ideal S2x1000 .f32) (k : IVec S2x1000 1) : IVec S2x100 32 := select (p_v114 s k) (p_v116 s k) (p_indices s k)
def p_v118 (s : FVec Ideal S2x1000 .f32) (k : IVec S2x1000 1) : IVec S2x100x1 32 := (broadcastInDim S2x100x1 ![0, 1] bcast_S2x100_S2x100x1_0_1) (p_v117 s k)
def p_v119 (s : FVec Ideal S2x1000 .f32) (k : IVec S2x1000 1) (b : FVec Ideal S2x1000x4 .f32) : FVec Ideal S2x100x4 .f32 := (fun x i => Host.gather gather_S2x1000x4_S2x100x1_S2x100x4_2_1_0_0_1_2_114 x i) b (p_v118 s k)
def p_c_22 : IVec S_ 32 := (constantI S_ 32 0#32)
def p_v120 : IVec S2x100 32 := (broadcastInDim S2x100 ![] bcast_S_S2x100) p_c_22
def p_v121 (s : FVec Ideal S2x1000 .f32) (k : IVec S2x1000 1) : IVec S2x100 1 := (cmpi .slt) (p_indices s k) p_v120
def p_c_23 : IVec S_ 32 := (constantI S_ 32 1000#32)
def p_v122 : IVec S2x100 32 := (broadcastInDim S2x100 ![] bcast_S_S2x100) p_c_23
def p_v123 (s : FVec Ideal S2x1000 .f32) (k : IVec S2x1000 1) : IVec S2x100 32 := addi (p_indices s k) p_v122
def p_v124 (s : FVec Ideal S2x1000 .f32) (k : IVec S2x1000 1) : IVec S2x100 32 := select (p_v121 s k) (p_v123 s k) (p_indices s k)
def p_v125 (s : FVec Ideal S2x1000 .f32) (k : IVec S2x1000 1) : IVec S2x100x1 32 := (broadcastInDim S2x100x1 ![0, 1] bcast_S2x100_S2x100x1_0_1) (p_v124 s k)
def p_v126 (s : FVec Ideal S2x1000 .f32) (k : IVec S2x1000 1) (l : IVec S2x1000 32) : IVec S2x100 32 := (fun x i => Host.gather gather_S2x1000_S2x100x1_S2x100_n_1_0_0_1_2_11 x i) l (p_v125 s k)

end Cert.NmsRefIdeal.Hand
-- ==== Proof.NmsRefHost.lean ====
/-
  The reference's memory: the contents of its buffers at the loop's entry and after its last stretch, as the values of
  the reference, window by window.
-/
module

public import proofs.«01_k».proof.Proof.Gen.NmsRefIdeal.Run
public import proofs.«01_k».proof.Proof.NmsRefDefs

@[expose] public section
set_option maxRecDepth 8192
noncomputable section
namespace Cert.NmsRefIdeal.Hand
open Cert.NmsRefIdeal Cert.NmsRefIdeal.Gen Idealize.ShloMosaic Idealize.ShloMosaic.TcCoe
open Idealize.SL Idealize.SL.Sem Idealize.ShloMosaic.StableHlo

section
variable {F : FTy → Type} [FloatOps F]
/-- Operations 1 to 10 of a stretch. -/
abbrev w0 : List (HloOp τ sig (Elt F)) :=
  [ StableHlo.unary main_arg4 main_v0 ((extractStridedSlice S2x1024x2 ![0, 0, 2] · slices_S2x1024x4_S2x1024x2_0_0_2) : (⟨S2x1024x4, .f32⟩ : BufTy).Contents (Elt F) → (⟨S2x1024x2, .f32⟩ : BufTy).Contents (Elt F)),
    StableHlo.unary main_arg4 main_v1 ((extractStridedSlice S2x1024x2 ![0, 0, 0] · slices_S2x1024x4_S2x1024x2_0_0_0) : (⟨S2x1024x4, .f32⟩ : BufTy).Contents (Elt F) → (⟨S2x1024x2, .f32⟩ : BufTy).Contents (Elt F)),
    StableHlo.binary main_v0 main_v1 main_v2 (subf : (⟨S2x1024x2, .f32⟩ : BufTy).Contents (Elt F) → (⟨S2x1024x2, .f32⟩ : BufTy).Contents (Elt F) → (⟨S2x1024x2, .f32⟩ : BufTy).Contents (Elt F)),
    StableHlo.unary main_arg4 main_v3 ((extractStridedSlice S2x1024x2 ![0, 0, 0] · slices_S2x1024x4_S2x1024x2_0_0_0) : (⟨S2x1024x4, .f32⟩ : BufTy).Contents (Elt F) → (⟨S2x1024x2, .f32⟩ : BufTy).Contents (Elt F)),
    StableHlo.nullary main_cst (constant S_ .f32 0x3F000000#32),
    StableHlo.unary main_cst main_v4 (broadcastInDim S2x1024x2 ![] bcast_S_S2x1024x2 : (⟨S_, .f32⟩ : BufTy).Contents (Elt F) → (⟨S2x1024x2, .f32⟩ : BufTy).Contents (Elt F)),
    StableHlo.binary main_v4 main_v2 main_v5 (mulf : (⟨S2x1024x2, .f32⟩ : BufTy).Contents (Elt F) → (⟨S2x1024x2, .f32⟩ : BufTy).Contents (Elt F) → (⟨S2x1024x2, .f32⟩ : BufTy).Contents (Elt F)),
    StableHlo.binary main_v3 main_v5 main_v6 (addf : (⟨S2x1024x2, .f32⟩ : BufTy).Contents (Elt F) → (⟨S2x1024x2, .f32⟩ : BufTy).Contents (Elt F) → (⟨S2x1024x2, .f32⟩ : BufTy).Contents (Elt F)),
    StableHlo.reshape main_arg3 main_v7 (rfl : (.f32 : EltTy) = .f32) shapeCasts_S2x1024x364_S2x1024x91x4,
    StableHlo.unary main_v7 main_v8 ((extractStridedSlice S2x1024x91x2 ![0, 0, 0, 0] · slices_S2x1024x91x4_S2x1024x91x2_0_0_0_0) : (⟨S2x1024x91x4, .f32⟩ : BufTy).Contents (Elt F) → (⟨S2x1024x91x2, .f32⟩ : BufTy).Contents (Elt F)) ]
/-- What they write. -/
abbrev w0_W : List (Ref sig .tc) := [main_v0, main_v1, main_v2, main_v3, main_cst, main_v4, main_v5, main_v6, main_v7, main_v8]
theorem w0_writes : (w0 : List (HloOp τ sig (Elt F))).Forall fun op => op.writes ⊆ (w0_W.map (Proc.devRef (τ := τ) .tc)).toFinset :=
  forall_writes_sub_of_map rfl
/-- Operations 11 to 20 of a stretch. -/
abbrev w1 : List (HloOp τ sig (Elt F)) :=
  [ StableHlo.nullary main_cst_0 (constant S_ .f32 0x41200000#32),
    StableHlo.unary main_cst_0 main_v9 (broadcastInDim S2x1024x91x2 ![] bcast_S_S2x1024x91x2 : (⟨S_, .f32⟩ : BufTy).Contents (Elt F) → (⟨S2x1024x91x2, .f32⟩ : BufTy).Contents (Elt F)),
    StableHlo.binary main_v8 main_v9 main_v10 (Host.divf : (⟨S2x1024x91x2, .f32⟩ : BufTy).Contents (Elt F) → (⟨S2x1024x91x2, .f32⟩ : BufTy).Contents (Elt F) → (⟨S2x1024x91x2, .f32⟩ : BufTy).Contents (Elt F)),
    StableHlo.unary main_v2 main_v11 (broadcastInDim S2x1024x1x2 ![0, 1, 3] bcast_S2x1024x2_S2x1024x1x2_0_1_3 : (⟨S2x1024x2, .f32⟩ : BufTy).Contents (Elt F) → (⟨S2x1024x1x2, .f32⟩ : BufTy).Contents (Elt F)),
    StableHlo.unary main_v11 main_v12 (broadcastInDim S2x1024x91x2 ![0, 1, 2, 3] bcast_S2x1024x1x2_S2x1024x91x2_0_1_2_3 : (⟨S2x1024x1x2, .f32⟩ : BufTy).Contents (Elt F) → (⟨S2x1024x91x2, .f32⟩ : BufTy).Contents (Elt F)),
    StableHlo.binary main_v10 main_v12 main_v13 (mulf : (⟨S2x1024x91x2, .f32⟩ : BufTy).Contents (Elt F) → (⟨S2x1024x91x2, .f32⟩ : BufTy).Contents (Elt F) → (⟨S2x1024x91x2, .f32⟩ : BufTy).Contents (Elt F)),
    StableHlo.unary main_v6 main_v14 (broadcastInDim S2x1024x1x2 ![0, 1, 3] bcast_S2x1024x2_S2x1024x1x2_0_1_3 : (⟨S2x1024x2, .f32⟩ : BufTy).Contents (Elt F) → (⟨S2x1024x1x2, .f32⟩ : BufTy).Contents (Elt F)),
    StableHlo.unary main_v14 main_v15 (broadcastInDim S2x1024x91x2 ![0, 1, 2, 3] bcast_S2x1024x1x2_S2x1024x91x2_0_1_2_3 : (⟨S2x1024x1x2, .f32⟩ : BufTy).Contents (Elt F) → (⟨S2x1024x91x2, .f32⟩ : BufTy).Contents (Elt F)),
    StableHlo.binary main_v13 main_v15 main_v16 (addf : (⟨S2x1024x91x2, .f32⟩ : BufTy).Contents (Elt F) → (⟨S2x1024x91x2, .f32⟩ : BufTy).Contents (Elt F) → (⟨S2x1024x91x2, .f32⟩ : BufTy).Contents (Elt F)),
    StableHlo.unary main_v7 main_v17 ((extractStridedSlice S2x1024x91x2 ![0, 0, 0, 2] · slices_S2x1024x91x4_S2x1024x91x2_0_0_0_2) : (⟨S2x1024x91x4, .f32⟩ : BufTy).Contents (Elt F) → (⟨S2x1024x91x2, .f32⟩ : BufTy).Contents (Elt F)) ]
/-- What they write. -/
abbrev w1_W : List (Ref sig .tc) := [main_cst_0, main_v9, main_v10, main_v11, main_v12, main_v13, main_v14, main_v15, main_v16, main_v17]
theorem w1_writes : (w1 : List (HloOp τ sig (Elt F))).Forall fun op => op.writes ⊆ (w1_W.map (Proc.devRef (τ := τ) .tc)).toFinset :=
  forall_writes_sub_of_map rfl
/-- Operations 21 to 30 of a stretch. -/
abbrev w2 : List (HloOp τ sig (Elt F)) :=
  [ StableHlo.nullary main_cst_1 (constant S_ .f32 0x40A00000#32),
    StableHlo.unary main_cst_1 main_v18 (broadcastInDim S2x1024x91x2 ![] bcast_S_S2x1024x91x2 : (⟨S_, .f32⟩ : BufTy).Contents (Elt F) → (⟨S2x1024x91x2, .f32⟩ : BufTy).Contents (Elt F)),
    StableHlo.binary main_v17 main_v18 main_v19 (Host.divf : (⟨S2x1024x91x2, .f32⟩ : BufTy).Contents (Elt F) → (⟨S2x1024x91x2, .f32⟩ : BufTy).Contents (Elt F) → (⟨S2x1024x91x2, .f32⟩ : BufTy).Contents (Elt F)),
    StableHlo.nullary main_cst_2 (constant S_ .f32 0x40845349#32),
    StableHlo.unary main_cst_2 main_v20 (broadcastInDim S2x1024x91x2 ![] bcast_S_S2x1024x91x2 : (⟨S_, .f32⟩ : BufTy).Contents (Elt F) → (⟨S2x1024x91x2, .f32⟩ : BufTy).Contents (Elt F)),
    StableHlo.binary main_v19 main_v20 main_v21 (minimumf : (⟨S2x1024x91x2, .f32⟩ : BufTy).Contents (Elt F) → (⟨S2x1024x91x2, .f32⟩ : BufTy).Contents (Elt F) → (⟨S2x1024x91x2, .f32⟩ : BufTy).Contents (Elt F)),
    StableHlo.unary main_v21 main_v22 (Host.exp : (⟨S2x1024x91x2, .f32⟩ : BufTy).Contents (Elt F) → (⟨S2x1024x91x2, .f32⟩ : BufTy).Contents (Elt F)),
    StableHlo.unary main_v2 main_v23 (broadcastInDim S2x1024x1x2 ![0, 1, 3] bcast_S2x1024x2_S2x1024x1x2_0_1_3 : (⟨S2x1024x2, .f32⟩ : BufTy).Contents (Elt F) → (⟨S2x1024x1x2, .f32⟩ : BufTy).Contents (Elt F)),
    StableHlo.unary main_v23 main_v24 (broadcastInDim S2x1024x91x2 ![0, 1, 2, 3] bcast_S2x1024x1x2_S2x1024x91x2_0_1_2_3 : (⟨S2x1024x1x2, .f32⟩ : BufTy).Contents (Elt F) → (⟨S2x1024x91x2, .f32⟩ : BufTy).Contents (Elt F)),
    StableHlo.binary main_v22 main_v24 main_v25 (mulf : (⟨S2x1024x91x2, .f32⟩ : BufTy).Contents (Elt F) → (⟨S2x1024x91x2, .f32⟩ : BufTy).Contents (Elt F) → (⟨S2x1024x91x2, .f32⟩ : BufTy).Contents (Elt F)) ]
/-- What they write. -/
abbrev w2_W : List (Ref sig .tc) := [main_cst_1, main_v18, main_v19, main_cst_2, main_v20, main_v21, main_v22, main_v23, main_v24, main_v25]
theorem w2_writes : (w2 : List (HloOp τ sig (Elt F))).Forall fun op => op.writes ⊆ (w2_W.map (Proc.devRef (τ := τ) .tc)).toFinset :=
  forall_writes_sub_of_map rfl
/-- Operations 31 to 40 of a stretch. -/
abbrev w3 : List (HloOp τ sig (Elt F)) :=
  [ StableHlo.nullary main_cst_3 (constant S_ .f32 0x3F000000#32),
    StableHlo.unary main_cst_3 main_v26 (broadcastInDim S2x1024x91x2 ![] bcast_S_S2x1024x91x2 : (⟨S_, .f32⟩ : BufTy).Contents (Elt F) → (⟨S2x1024x91x2, .f32⟩ : BufTy).Contents (Elt F)),
    StableHlo.binary main_v26 main_v25 main_v27 (mulf : (⟨S2x1024x91x2, .f32⟩ : BufTy).Contents (Elt F) → (⟨S2x1024x91x2, .f32⟩ : BufTy).Contents (Elt F) → (⟨S2x1024x91x2, .f32⟩ : BufTy).Contents (Elt F)),
    StableHlo.binary main_v16 main_v27 main_v28 (subf : (⟨S2x1024x91x2, .f32⟩ : BufTy).Contents (Elt F) → (⟨S2x1024x91x2, .f32⟩ : BufTy).Contents (Elt F) → (⟨S2x1024x91x2, .f32⟩ : BufTy).Contents (Elt F)),
    StableHlo.nullary main_cst_4 (constant S_ .f32 0x3F000000#32),
    StableHlo.unary main_cst_4 main_v29 (broadcastInDim S2x1024x91x2 ![] bcast_S_S2x1024x91x2 : (⟨S_, .f32⟩ : BufTy).Contents (Elt F) → (⟨S2x1024x91x2, .f32⟩ : BufTy).Contents (Elt F)),
    StableHlo.binary main_v29 main_v25 main_v30 (mulf : (⟨S2x1024x91x2, .f32⟩ : BufTy).Contents (Elt F) → (⟨S2x1024x91x2, .f32⟩ : BufTy).Contents (Elt F) → (⟨S2x1024x91x2, .f32⟩ : BufTy).Contents (Elt F)),
    StableHlo.binary main_v16 main_v30 main_v31 (addf : (⟨S2x1024x91x2, .f32⟩ : BufTy).Contents (Elt F) → (⟨S2x1024x91x2, .f32⟩ : BufTy).Contents (Elt F) → (⟨S2x1024x91x2, .f32⟩ : BufTy).Contents (Elt F)),
    StableHlo.binary main_v28 main_v31 main_v32 ((fun a b => concatenate S2x1024x91x4 3 [⟨S2x1024x91x2, a⟩, ⟨S2x1024x91x2, b⟩] concatenates_S2x1024x91x2_S2x1024x91x2_S2x1024x91x4_d3) : (⟨S2x1024x91x2, .f32⟩ : BufTy).Contents (Elt F) → (⟨S2x1024x91x2, .f32⟩ : BufTy).Contents (Elt F) → (⟨S2x1024x91x4, .f32⟩ : BufTy).Contents (Elt F)),
    StableHlo.unary main_v32 main_v33 ((extractStridedSlice S2x1024x90x4 ![0, 0, 1, 0] · slices_S2x1024x91x4_S2x1024x90x4_0_0_1_0) : (⟨S2x1024x91x4, .f32⟩ : BufTy).Contents (Elt F) → (⟨S2x1024x90x4, .f32⟩ : BufTy).Contents (Elt F)) ]
/-- What they write. -/
abbrev w3_W : List (Ref sig .tc) := [main_cst_3, main_v26, main_v27, main_v28, main_cst_4, main_v29, main_v30, main_v31, main_v32, main_v33]
theorem w3_writes : (w3 : List (HloOp τ sig (Elt F))).Forall fun op => op.writes ⊆ (w3_W.map (Proc.devRef (τ := τ) .tc)).toFinset :=
  forall_writes_sub_of_map rfl
/-- Operations 41 to 50 of a stretch. -/
abbrev w4 : List (HloOp τ sig (Elt F)) :=
  [ StableHlo.reshape main_v33 main_v34 (rfl : (.f32 : EltTy) = .f32) shapeCasts_S2x1024x90x4_S2x92160x4,
    StableHlo.nullary main_cst_5 (constant S_ .f32 0x00000000#32),
    StableHlo.unary main_cst_5 main_v35 (broadcastInDim S2x92160x4 ![] bcast_S_S2x92160x4 : (⟨S_, .f32⟩ : BufTy).Contents (Elt F) → (⟨S2x92160x4, .f32⟩ : BufTy).Contents (Elt F)),
    StableHlo.binary main_v34 main_v35 main_v36 (maximumf : (⟨S2x92160x4, .f32⟩ : BufTy).Contents (Elt F) → (⟨S2x92160x4, .f32⟩ : BufTy).Contents (Elt F) → (⟨S2x92160x4, .f32⟩ : BufTy).Contents (Elt F)),
    StableHlo.nullary main_cst_6 (constant S_ .f32 0x44480000#32),
    StableHlo.unary main_cst_6 main_v37 (broadcastInDim S2x92160x4 ![] bcast_S_S2x92160x4 : (⟨S_, .f32⟩ : BufTy).Contents (Elt F) → (⟨S2x92160x4, .f32⟩ : BufTy).Contents (Elt F)),
    StableHlo.binary main_v36 main_v37 main_v38 (minimumf : (⟨S2x92160x4, .f32⟩ : BufTy).Contents (Elt F) → (⟨S2x92160x4, .f32⟩ : BufTy).Contents (Elt F) → (⟨S2x92160x4, .f32⟩ : BufTy).Contents (Elt F)),
    StableHlo.unary main_arg0 main_v39 ((extractStridedSlice S2x1000 ![0, 0] · slices_S2x1024_S2x1000_0_0) : (⟨S2x1024, .f32⟩ : BufTy).Contents (Elt F) → (⟨S2x1000, .f32⟩ : BufTy).Contents (Elt F)),
    StableHlo.unary main_arg1 main_v40 ((extractStridedSlice S2x1000 ![0, 0] · slices_S2x1024_S2x1000_0_0) : (⟨S2x1024, .i32⟩ : BufTy).Contents (Elt F) → (⟨S2x1000, .i32⟩ : BufTy).Contents (Elt F)),
    StableHlo.nullary main_c (constantI S_ 32 90#32) ]
/-- What they write. -/
abbrev w4_W : List (Ref sig .tc) := [main_v34, main_cst_5, main_v35, main_v36, main_cst_6, main_v37, main_v38, main_v39, main_v40, main_c]
theorem w4_writes : (w4 : List (HloOp τ sig (Elt F))).Forall fun op => op.writes ⊆ (w4_W.map (Proc.devRef (τ := τ) .tc)).toFinset :=
  forall_writes_sub_of_map rfl
/-- Operations 1 to 11 of a stretch. -/
abbrev w5 : List (HloOp τ sig (Elt F)) :=
  [ StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S2x1000, .i32⟩) (broadcastInDim S2x1000 ![] bcast_S_S2x1000),
    StableHlo.TRef.binary (.of main_v40 : StableHlo.TRef sig ⟨S2x1000, .i32⟩) (.of main_call0_v3 : StableHlo.TRef sig ⟨S2x1000, .i32⟩) (.of main_call0_v4 : StableHlo.TRef sig ⟨S2x1000, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S2x1000, .i32⟩) (broadcastInDim S2x1000 ![] bcast_S_S2x1000),
    StableHlo.TRef.binary (.of main_call0_v4 : StableHlo.TRef sig ⟨S2x1000, .i32⟩) (.of main_call0_v5 : StableHlo.TRef sig ⟨S2x1000, .i32⟩) (.of main_call0_v6 : StableHlo.TRef sig ⟨S2x1000, .i1⟩) (cmpi .ne),
    StableHlo.TRef.nullary (.of main_call0_c_2 : StableHlo.TRef sig ⟨S_, .i32⟩) (constantI S_ 32 0#32) ]
/-- What they write. -/
abbrev w5_W : List (Ref sig .tc) := [main_call0_v0, main_call0_c, main_call0_v1, main_call0_c_0, main_call0_v2, main_call0_v3, main_call0_v4, main_call0_c_1, main_call0_v5, main_call0_v6, main_call0_c_2]
theorem w5_writes : (w5 : List (HloOp τ sig (Elt F))).Forall fun op => op.writes ⊆ (w5_W.map (Proc.devRef (τ := τ) .tc)).toFinset :=
  forall_writes_sub_of_map rfl
/-- Operations 12 to 21 of a stretch. -/
abbrev w6 : List (HloOp τ sig (Elt F)) :=
  [ StableHlo.TRef.unary (.of main_call0_c_2 : StableHlo.TRef sig ⟨S_, .i32⟩) (.of main_call0_v7 : StableHlo.TRef sig ⟨S2x1000, .i32⟩) (broadcastInDim S2x1000 ![] bcast_S_S2x1000),
    StableHlo.TRef.binary (.of main_call0_v4 : StableHlo.TRef sig ⟨S2x1000, .i32⟩) (.of main_call0_v7 : StableHlo.TRef sig ⟨S2x1000, .i32⟩) (.of main_call0_v8 : StableHlo.TRef sig ⟨S2x1000, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S2x1000, .i1⟩) (broadcastInDim S2x1000 ![] bcast_S_S2x1000),
    StableHlo.TRef.binary (.of main_call0_v8 : StableHlo.TRef sig ⟨S2x1000, .i1⟩) (.of main_call0_v10 : StableHlo.TRef sig ⟨S2x1000, .i1⟩) (.of main_call0_v11 : StableHlo.TRef sig ⟨S2x1000, .i1⟩) (cmpi .ne),
    StableHlo.TRef.binary (.of main_call0_v11 : StableHlo.TRef sig ⟨S2x1000, .i1⟩) (.of main_call0_v6 : StableHlo.TRef sig ⟨S2x1000, .i1⟩) (.of main_call0_v12 : StableHlo.TRef sig ⟨S2x1000, .i1⟩) andi,
    StableHlo.TRef.unary main_call0_call0.v0 (.of main_call0_v13 : StableHlo.TRef sig ⟨S2x1000, .i32⟩) (broadcastInDim S2x1000 ![] bcast_S_S2x1000),
    StableHlo.TRef.binary (.of main_call0_v4 : StableHlo.TRef sig ⟨S2x1000, .i32⟩) (.of main_call0_v13 : StableHlo.TRef sig ⟨S2x1000, .i32⟩) (.of main_call0_v14 : StableHlo.TRef sig ⟨S2x1000, .i32⟩) addi,
    StableHlo.TRef.ternary (.of main_call0_v12 : StableHlo.TRef sig ⟨S2x1000, .i1⟩) (.of main_call0_v14 : StableHlo.TRef sig ⟨S2x1000, .i32⟩) (.of main_call0_v4 : StableHlo.TRef sig ⟨S2x1000, .i32⟩) (.of main_v41 : StableHlo.TRef sig ⟨S2x1000, .i32⟩) select ]
/-- What they write. -/
abbrev w6_W : List (Ref sig .tc) := [main_call0_v7, main_call0_v8, main_call0_c_3, main_call0_v9, main_call0_v10, main_call0_v11, main_call0_v12, main_call0_v13, main_call0_v14, main_v41]
theorem w6_writes : (w6 : List (HloOp τ sig (Elt F))).Forall fun op => op.writes ⊆ (w6_W.map (Proc.devRef (τ := τ) .tc)).toFinset :=
  forall_writes_sub_of_map rfl
/-- Operations 1 to 12 of a stretch. -/
abbrev w7 : List (HloOp τ sig (Elt F)) :=
  [ StableHlo.nullary main_c_7 (constantI S_ 32 1#32),
    StableHlo.unary main_c_7 main_v42 (broadcastInDim S2x1000 ![] bcast_S_S2x1000 : (⟨S_, .i32⟩ : BufTy).Contents (Elt F) → (⟨S2x1000, .i32⟩ : BufTy).Contents (Elt F)),
    StableHlo.binary main_v41 main_v42 main_v43 (addi : (⟨S2x1000, .i32⟩ : BufTy).Contents (Elt F) → (⟨S2x1000, .i32⟩ : BufTy).Contents (Elt F) → (⟨S2x1000, .i32⟩ : BufTy).Contents (Elt F)),
    StableHlo.unary main_arg2 main_v44 ((extractStridedSlice S2x1000 ![0, 0] · slices_S2x1024_S2x1000_0_0) : (⟨S2x1024, .i32⟩ : BufTy).Contents (Elt F) → (⟨S2x1000, .i32⟩ : BufTy).Contents (Elt F)),
    StableHlo.nullary main_c_8 (constantI S_ 32 90#32),
    StableHlo.unary main_c_8 main_v45 (broadcastInDim S2x1000 ![] bcast_S_S2x1000 : (⟨S_, .i32⟩ : BufTy).Contents (Elt F) → (⟨S2x1000, .i32⟩ : BufTy).Contents (Elt F)),
    StableHlo.binary main_v44 main_v45 main_v46 (muli : (⟨S2x1000, .i32⟩ : BufTy).Contents (Elt F) → (⟨S2x1000, .i32⟩ : BufTy).Contents (Elt F) → (⟨S2x1000, .i32⟩ : BufTy).Contents (Elt F)),
    StableHlo.binary main_v46 main_v43 main_v47 (addi : (⟨S2x1000, .i32⟩ : BufTy).Contents (Elt F) → (⟨S2x1000, .i32⟩ : BufTy).Contents (Elt F) → (⟨S2x1000, .i32⟩ : BufTy).Contents (Elt F)),
    StableHlo.nullary main_c_9 (constantI S_ 32 1#32),
    StableHlo.unary main_c_9 main_v48 (broadcastInDim S2x1000 ![] bcast_S_S2x1000 : (⟨S_, .i32⟩ : BufTy).Contents (Elt F) → (⟨S2x1000, .i32⟩ : BufTy).Contents (Elt F)),
    StableHlo.binary main_v47 main_v48 main_v49 (subi : (⟨S2x1000, .i32⟩ : BufTy).Contents (Elt F) → (⟨S2x1000, .i32⟩ : BufTy).Contents (Elt F) → (⟨S2x1000, .i32⟩ : BufTy).Contents (Elt F)),
    StableHlo.nullary main_c_10 (constantI S_ 32 0#32) ]
/-- What they write. -/
abbrev w7_W : List (Ref sig .tc) := [main_c_7, main_v42, main_v43, main_v44, main_c_8, main_v45, main_v46, main_v47, main_c_9, main_v48, main_v49, main_c_10]
theorem w7_writes : (w7 : List (HloOp τ sig (Elt F))).Forall fun op => op.writes ⊆ (w7_W.map (Proc.devRef (τ := τ) .tc)).toFinset :=
  forall_writes_sub_of_map rfl
/-- Operations 13 to 24 of a stretch. -/
abbrev w8 : List (HloOp τ sig (Elt F)) :=
  [ StableHlo.unary main_c_10 main_v50 (broadcastInDim S2x1000 ![] bcast_S_S2x1000 : (⟨S_, .i32⟩ : BufTy).Contents (Elt F) → (⟨S2x1000, .i32⟩ : BufTy).Contents (Elt F)),
    StableHlo.binary main_v49 main_v50 main_v51 (cmpi .slt : (⟨S2x1000, .i32⟩ : BufTy).Contents (Elt F) → (⟨S2x1000, .i32⟩ : BufTy).Contents (Elt F) → (⟨S2x1000, .i1⟩ : BufTy).Contents (Elt F)),
    StableHlo.nullary main_c_11 (constantI S_ 32 92160#32),
    StableHlo.unary main_c_11 main_v52 (broadcastInDim S2x1000 ![] bcast_S_S2x1000 : (⟨S_, .i32⟩ : BufTy).Contents (Elt F) → (⟨S2x1000, .i32⟩ : BufTy).Contents (Elt F)),
    StableHlo.binary main_v49 main_v52 main_v53 (addi : (⟨S2x1000, .i32⟩ : BufTy).Contents (Elt F) → (⟨S2x1000, .i32⟩ : BufTy).Contents (Elt F) → (⟨S2x1000, .i32⟩ : BufTy).Contents (Elt F)),
    StableHlo.ternary main_v51 main_v53 main_v49 main_v54 (select : (⟨S2x1000, .i1⟩ : BufTy).Contents (Elt F) → (⟨S2x1000, .i32⟩ : BufTy).Contents (Elt F) → (⟨S2x1000, .i32⟩ : BufTy).Contents (Elt F) → (⟨S2x1000, .i32⟩ : BufTy).Contents (Elt F)),
    StableHlo.unary main_v54 main_v55 (broadcastInDim S2x1000x1 ![0, 1] bcast_S2x1000_S2x1000x1_0_1 : (⟨S2x1000, .i32⟩ : BufTy).Contents (Elt F) → (⟨S2x1000x1, .i32⟩ : BufTy).Contents (Elt F)),
    StableHlo.binary main_v38 main_v55 main_v56 ((fun x i => Host.gather gather_S2x92160x4_S2x1000x1_S2x1000x4_2_1_0_0_1_2_114 x i) : (⟨S2x92160x4, .f32⟩ : BufTy).Contents (Elt F) → (⟨S2x1000x1, .i32⟩ : BufTy).Contents (Elt F) → (⟨S2x1000x4, .f32⟩ : BufTy).Contents (Elt F)),
    StableHlo.unary main_v43 main_v57 (sitofp .f32 : (⟨S2x1000, .i32⟩ : BufTy).Contents (Elt F) → (⟨S2x1000, .f32⟩ : BufTy).Contents (Elt F)),
    StableHlo.unary main_v57 main_v58 (broadcastInDim S2x1000x1 ![0, 1] bcast_S2x1000_S2x1000x1_0_1 : (⟨S2x1000, .f32⟩ : BufTy).Contents (Elt F) → (⟨S2x1000x1, .f32⟩ : BufTy).Contents (Elt F)),
    StableHlo.nullary main_cst_12 (constant S_ .f32 0x45800000#32),
    StableHlo.unary main_cst_12 main_v59 (broadcastInDim S2x1000x1 ![] bcast_S_S2x1000x1 : (⟨S_, .f32⟩ : BufTy).Contents (Elt F) → (⟨S2x1000x1, .f32⟩ : BufTy).Contents (Elt F)) ]
/-- What they write. -/
abbrev w8_W : List (Ref sig .tc) := [main_v50, main_v51, main_c_11, main_v52, main_v53, main_v54, main_v55, main_v56, main_v57, main_v58, main_cst_12, main_v59]
theorem w8_writes : (w8 : List (HloOp τ sig (Elt F))).Forall fun op => op.writes ⊆ (w8_W.map (Proc.devRef (τ := τ) .tc)).toFinset :=
  forall_writes_sub_of_map rfl
/-- Operations 25 to 36 of a stretch. -/
abbrev w9 : List (HloOp τ sig (Elt F)) :=
  [ StableHlo.binary main_v58 main_v59 main_v60 (mulf : (⟨S2x1000x1, .f32⟩ : BufTy).Contents (Elt F) → (⟨S2x1000x1, .f32⟩ : BufTy).Contents (Elt F) → (⟨S2x1000x1, .f32⟩ : BufTy).Contents (Elt F)),
    StableHlo.unary main_v60 main_v61 (broadcastInDim S2x1000x4 ![0, 1, 2] bcast_S2x1000x1_S2x1000x4_0_1_2 : (⟨S2x1000x1, .f32⟩ : BufTy).Contents (Elt F) → (⟨S2x1000x4, .f32⟩ : BufTy).Contents (Elt F)),
    StableHlo.binary main_v56 main_v61 main_v62 (addf : (⟨S2x1000x4, .f32⟩ : BufTy).Contents (Elt F) → (⟨S2x1000x4, .f32⟩ : BufTy).Contents (Elt F) → (⟨S2x1000x4, .f32⟩ : BufTy).Contents (Elt F)),
    StableHlo.unary main_v62 main_v63 ((extractStridedSlice S2x1000x1 ![0, 0, 2] · slices_S2x1000x4_S2x1000x1_0_0_2) : (⟨S2x1000x4, .f32⟩ : BufTy).Contents (Elt F) → (⟨S2x1000x1, .f32⟩ : BufTy).Contents (Elt F)),
    StableHlo.reshape main_v63 main_v64 (rfl : (.f32 : EltTy) = .f32) shapeCasts_S2x1000x1_S2x1000,
    StableHlo.unary main_v62 main_v65 ((extractStridedSlice S2x1000x1 ![0, 0, 0] · slices_S2x1000x4_S2x1000x1_0_0_0) : (⟨S2x1000x4, .f32⟩ : BufTy).Contents (Elt F) → (⟨S2x1000x1, .f32⟩ : BufTy).Contents (Elt F)),
    StableHlo.reshape main_v65 main_v66 (rfl : (.f32 : EltTy) = .f32) shapeCasts_S2x1000x1_S2x1000,
    StableHlo.binary main_v64 main_v66 main_v67 (subf : (⟨S2x1000, .f32⟩ : BufTy).Contents (Elt F) → (⟨S2x1000, .f32⟩ : BufTy).Contents (Elt F) → (⟨S2x1000, .f32⟩ : BufTy).Contents (Elt F)),
    StableHlo.unary main_v62 main_v68 ((extractStridedSlice S2x1000x1 ![0, 0, 3] · slices_S2x1000x4_S2x1000x1_0_0_3) : (⟨S2x1000x4, .f32⟩ : BufTy).Contents (Elt F) → (⟨S2x1000x1, .f32⟩ : BufTy).Contents (Elt F)),
    StableHlo.reshape main_v68 main_v69 (rfl : (.f32 : EltTy) = .f32) shapeCasts_S2x1000x1_S2x1000,
    StableHlo.unary main_v62 main_v70 ((extractStridedSlice S2x1000x1 ![0, 0, 1] · slices_S2x1000x4_S2x1000x1_0_0_1) : (⟨S2x1000x4, .f32⟩ : BufTy).Contents (Elt F) → (⟨S2x1000x1, .f32⟩ : BufTy).Contents (Elt F)),
    StableHlo.reshape main_v70 main_v71 (rfl : (.f32 : EltTy) = .f32) shapeCasts_S2x1000x1_S2x1000 ]
/-- What they write. -/
abbrev w9_W : List (Ref sig .tc) := [main_v60, main_v61, main_v62, main_v63, main_v64, main_v65, main_v66, main_v67, main_v68, main_v69, main_v70, main_v71]
theorem w9_writes : (w9 : List (HloOp τ sig (Elt F))).Forall fun op => op.writes ⊆ (w9_W.map (Proc.devRef (τ := τ) .tc)).toFinset :=
  forall_writes_sub_of_map rfl
/-- Operations 37 to 48 of a stretch. -/
abbrev w10 : List (HloOp τ sig (Elt F)) :=
  [ StableHlo.binary main_v69 main_v71 main_v72 (subf : (⟨S2x1000, .f32⟩ : BufTy).Contents (Elt F) → (⟨S2x1000, .f32⟩ : BufTy).Contents (Elt F) → (⟨S2x1000, .f32⟩ : BufTy).Contents (Elt F)),
    StableHlo.binary main_v67 main_v72 main_v73 (mulf : (⟨S2x1000, .f32⟩ : BufTy).Contents (Elt F) → (⟨S2x1000, .f32⟩ : BufTy).Contents (Elt F) → (⟨S2x1000, .f32⟩ : BufTy).Contents (Elt F)),
    StableHlo.unary main_v62 main_v74 ((extractStridedSlice S2x1000x2 ![0, 0, 0] · slices_S2x1000x4_S2x1000x2_0_0_0) : (⟨S2x1000x4, .f32⟩ : BufTy).Contents (Elt F) → (⟨S2x1000x2, .f32⟩ : BufTy).Contents (Elt F)),
    StableHlo.unary main_v74 main_v75 (broadcastInDim S2x1000x1x2 ![0, 1, 3] bcast_S2x1000x2_S2x1000x1x2_0_1_3 : (⟨S2x1000x2, .f32⟩ : BufTy).Contents (Elt F) → (⟨S2x1000x1x2, .f32⟩ : BufTy).Contents (Elt F)),
    StableHlo.unary main_v62 main_v76 ((extractStridedSlice S2x1000x2 ![0, 0, 0] · slices_S2x1000x4_S2x1000x2_0_0_0) : (⟨S2x1000x4, .f32⟩ : BufTy).Contents (Elt F) → (⟨S2x1000x2, .f32⟩ : BufTy).Contents (Elt F)),
    StableHlo.unary main_v76 main_v77 (broadcastInDim S2x1x1000x2 ![0, 2, 3] bcast_S2x1000x2_S2x1x1000x2_0_2_3 : (⟨S2x1000x2, .f32⟩ : BufTy).Contents (Elt F) → (⟨S2x1x1000x2, .f32⟩ : BufTy).Contents (Elt F)),
    StableHlo.unary main_v75 main_v78 (broadcastInDim S2x1000x1000x2 ![0, 1, 2, 3] bcast_S2x1000x1x2_S2x1000x1000x2_0_1_2_3 : (⟨S2x1000x1x2, .f32⟩ : BufTy).Contents (Elt F) → (⟨S2x1000x1000x2, .f32⟩ : BufTy).Contents (Elt F)),
    StableHlo.unary main_v77 main_v79 (broadcastInDim S2x1000x1000x2 ![0, 1, 2, 3] bcast_S2x1x1000x2_S2x1000x1000x2_0_1_2_3 : (⟨S2x1x1000x2, .f32⟩ : BufTy).Contents (Elt F) → (⟨S2x1000x1000x2, .f32⟩ : BufTy).Contents (Elt F)),
    StableHlo.binary main_v78 main_v79 main_v80 (maximumf : (⟨S2x1000x1000x2, .f32⟩ : BufTy).Contents (Elt F) → (⟨S2x1000x1000x2, .f32⟩ : BufTy).Contents (Elt F) → (⟨S2x1000x1000x2, .f32⟩ : BufTy).Contents (Elt F)),
    StableHlo.unary main_v62 main_v81 ((extractStridedSlice S2x1000x2 ![0, 0, 2] · slices_S2x1000x4_S2x1000x2_0_0_2) : (⟨S2x1000x4, .f32⟩ : BufTy).Contents (Elt F) → (⟨S2x1000x2, .f32⟩ : BufTy).Contents (Elt F)),
    StableHlo.unary main_v81 main_v82 (broadcastInDim S2x1000x1x2 ![0, 1, 3] bcast_S2x1000x2_S2x1000x1x2_0_1_3 : (⟨S2x1000x2, .f32⟩ : BufTy).Contents (Elt F) → (⟨S2x1000x1x2, .f32⟩ : BufTy).Contents (Elt F)),
    StableHlo.unary main_v62 main_v83 ((extractStridedSlice S2x1000x2 ![0, 0, 2] · slices_S2x1000x4_S2x1000x2_0_0_2) : (⟨S2x1000x4, .f32⟩ : BufTy).Contents (Elt F) → (⟨S2x1000x2, .f32⟩ : BufTy).Contents (Elt F)) ]
/-- What they write. -/
abbrev w10_W : List (Ref sig .tc) := [main_v72, main_v73, main_v74, main_v75, main_v76, main_v77, main_v78, main_v79, main_v80, main_v81, main_v82, main_v83]
theorem w10_writes : (w10 : List (HloOp τ sig (Elt F))).Forall fun op => op.writes ⊆ (w10_W.map (Proc.devRef (τ := τ) .tc)).toFinset :=
  forall_writes_sub_of_map rfl
/-- Operations 49 to 60 of a stretch. -/
abbrev w11 : List (HloOp τ sig (Elt F)) :=
  [ StableHlo.unary main_v83 main_v84 (broadcastInDim S2x1x1000x2 ![0, 2, 3] bcast_S2x1000x2_S2x1x1000x2_0_2_3 : (⟨S2x1000x2, .f32⟩ : BufTy).Contents (Elt F) → (⟨S2x1x1000x2, .f32⟩ : BufTy).Contents (Elt F)),
    StableHlo.unary main_v82 main_v85 (broadcastInDim S2x1000x1000x2 ![0, 1, 2, 3] bcast_S2x1000x1x2_S2x1000x1000x2_0_1_2_3 : (⟨S2x1000x1x2, .f32⟩ : BufTy).Contents (Elt F) → (⟨S2x1000x1000x2, .f32⟩ : BufTy).Contents (Elt F)),
    StableHlo.unary main_v84 main_v86 (broadcastInDim S2x1000x1000x2 ![0, 1, 2, 3] bcast_S2x1x1000x2_S2x1000x1000x2_0_1_2_3 : (⟨S2x1x1000x2, .f32⟩ : BufTy).Contents (Elt F) → (⟨S2x1000x1000x2, .f32⟩ : BufTy).Contents (Elt F)),
    StableHlo.binary main_v85 main_v86 main_v87 (minimumf : (⟨S2x1000x1000x2, .f32⟩ : BufTy).Contents (Elt F) → (⟨S2x1000x1000x2, .f32⟩ : BufTy).Contents (Elt F) → (⟨S2x1000x1000x2, .f32⟩ : BufTy).Contents (Elt F)),
    StableHlo.binary main_v87 main_v80 main_v88 (subf : (⟨S2x1000x1000x2, .f32⟩ : BufTy).Contents (Elt F) → (⟨S2x1000x1000x2, .f32⟩ : BufTy).Contents (Elt F) → (⟨S2x1000x1000x2, .f32⟩ : BufTy).Contents (Elt F)),
    StableHlo.nullary main_cst_13 (constant S_ .f32 0x00000000#32),
    StableHlo.unary main_cst_13 main_v89 (broadcastInDim S2x1000x1000x2 ![] bcast_S_S2x1000x1000x2 : (⟨S_, .f32⟩ : BufTy).Contents (Elt F) → (⟨S2x1000x1000x2, .f32⟩ : BufTy).Contents (Elt F)),
    StableHlo.binary main_v88 main_v89 main_v90 (maximumf : (⟨S2x1000x1000x2, .f32⟩ : BufTy).Contents (Elt F) → (⟨S2x1000x1000x2, .f32⟩ : BufTy).Contents (Elt F) → (⟨S2x1000x1000x2, .f32⟩ : BufTy).Contents (Elt F)),
    StableHlo.unary main_v90 main_v91 ((extractStridedSlice S2x1000x1000x1 ![0, 0, 0, 0] · slices_S2x1000x1000x2_S2x1000x1000x1_0_0_0_0) : (⟨S2x1000x1000x2, .f32⟩ : BufTy).Contents (Elt F) → (⟨S2x1000x1000x1, .f32⟩ : BufTy).Contents (Elt F)),
    StableHlo.reshape main_v91 main_v92 (rfl : (.f32 : EltTy) = .f32) shapeCasts_S2x1000x1000x1_S2x1000x1000,
    StableHlo.unary main_v90 main_v93 ((extractStridedSlice S2x1000x1000x1 ![0, 0, 0, 1] · slices_S2x1000x1000x2_S2x1000x1000x1_0_0_0_1) : (⟨S2x1000x1000x2, .f32⟩ : BufTy).Contents (Elt F) → (⟨S2x1000x1000x1, .f32⟩ : BufTy).Contents (Elt F)),
    StableHlo.reshape main_v93 main_v94 (rfl : (.f32 : EltTy) = .f32) shapeCasts_S2x1000x1000x1_S2x1000x1000 ]
/-- What they write. -/
abbrev w11_W : List (Ref sig .tc) := [main_v84, main_v85, main_v86, main_v87, main_v88, main_cst_13, main_v89, main_v90, main_v91, main_v92, main_v93, main_v94]
theorem w11_writes : (w11 : List (HloOp τ sig (Elt F))).Forall fun op => op.writes ⊆ (w11_W.map (Proc.devRef (τ := τ) .tc)).toFinset :=
  forall_writes_sub_of_map rfl
/-- Operations 61 to 72 of a stretch. -/
abbrev w12 : List (HloOp τ sig (Elt F)) :=
  [ StableHlo.binary main_v92 main_v94 main_v95 (mulf : (⟨S2x1000x1000, .f32⟩ : BufTy).Contents (Elt F) → (⟨S2x1000x1000, .f32⟩ : BufTy).Contents (Elt F) → (⟨S2x1000x1000, .f32⟩ : BufTy).Contents (Elt F)),
    StableHlo.unary main_v73 main_v96 (broadcastInDim S2x1000x1 ![0, 1] bcast_S2x1000_S2x1000x1_0_1 : (⟨S2x1000, .f32⟩ : BufTy).Contents (Elt F) → (⟨S2x1000x1, .f32⟩ : BufTy).Contents (Elt F)),
    StableHlo.unary main_v73 main_v97 (broadcastInDim S2x1x1000 ![0, 2] bcast_S2x1000_S2x1x1000_0_2 : (⟨S2x1000, .f32⟩ : BufTy).Contents (Elt F) → (⟨S2x1x1000, .f32⟩ : BufTy).Contents (Elt F)),
    StableHlo.unary main_v96 main_v98 (broadcastInDim S2x1000x1000 ![0, 1, 2] bcast_S2x1000x1_S2x1000x1000_0_1_2 : (⟨S2x1000x1, .f32⟩ : BufTy).Contents (Elt F) → (⟨S2x1000x1000, .f32⟩ : BufTy).Contents (Elt F)),
    StableHlo.unary main_v97 main_v99 (broadcastInDim S2x1000x1000 ![0, 1, 2] bcast_S2x1x1000_S2x1000x1000_0_1_2 : (⟨S2x1x1000, .f32⟩ : BufTy).Contents (Elt F) → (⟨S2x1000x1000, .f32⟩ : BufTy).Contents (Elt F)),
    StableHlo.binary main_v98 main_v99 main_v100 (addf : (⟨S2x1000x1000, .f32⟩ : BufTy).Contents (Elt F) → (⟨S2x1000x1000, .f32⟩ : BufTy).Contents (Elt F) → (⟨S2x1000x1000, .f32⟩ : BufTy).Contents (Elt F)),
    StableHlo.binary main_v100 main_v95 main_v101 (subf : (⟨S2x1000x1000, .f32⟩ : BufTy).Contents (Elt F) → (⟨S2x1000x1000, .f32⟩ : BufTy).Contents (Elt F) → (⟨S2x1000x1000, .f32⟩ : BufTy).Contents (Elt F)),
    StableHlo.nullary main_cst_14 (constant S_ .f32 0x3089705F#32),
    StableHlo.unary main_cst_14 main_v102 (broadcastInDim S2x1000x1000 ![] bcast_S_S2x1000x1000 : (⟨S_, .f32⟩ : BufTy).Contents (Elt F) → (⟨S2x1000x1000, .f32⟩ : BufTy).Contents (Elt F)),
    StableHlo.binary main_v101 main_v102 main_v103 (maximumf : (⟨S2x1000x1000, .f32⟩ : BufTy).Contents (Elt F) → (⟨S2x1000x1000, .f32⟩ : BufTy).Contents (Elt F) → (⟨S2x1000x1000, .f32⟩ : BufTy).Contents (Elt F)),
    StableHlo.binary main_v95 main_v103 main_v104 (Host.divf : (⟨S2x1000x1000, .f32⟩ : BufTy).Contents (Elt F) → (⟨S2x1000x1000, .f32⟩ : BufTy).Contents (Elt F) → (⟨S2x1000x1000, .f32⟩ : BufTy).Contents (Elt F)),
    StableHlo.nullary main_v105 (iotaInDim S1000 32 0) ]
/-- What they write. -/
abbrev w12_W : List (Ref sig .tc) := [main_v95, main_v96, main_v97, main_v98, main_v99, main_v100, main_v101, main_cst_14, main_v102, main_v103, main_v104, main_v105]
theorem w12_writes : (w12 : List (HloOp τ sig (Elt F))).Forall fun op => op.writes ⊆ (w12_W.map (Proc.devRef (τ := τ) .tc)).toFinset :=
  forall_writes_sub_of_map rfl
/-- Operations 73 to 81 of a stretch. -/
abbrev w13 : List (HloOp τ sig (Elt F)) :=
  [ StableHlo.nullary main_c_15 (constantI S_ 1 1#1),
    StableHlo.unary main_c_15 main_v106 (broadcastInDim S2x1000 ![] bcast_S_S2x1000 : (⟨S_, .i1⟩ : BufTy).Contents (Elt F) → (⟨S2x1000, .i1⟩ : BufTy).Contents (Elt F)),
    StableHlo.nullary main_c_16 (constantI S_ 32 0#32),
    StableHlo.nullary main_c_17 (constantI S_ 32 0#32),
    StableHlo.unary main_v104 main_v107_0 id,
    StableHlo.unary main_v105 main_v107_1 id,
    StableHlo.unary main_c_17 main_v107_2 id,
    StableHlo.unary main_c_16 main_v107_3 id,
    StableHlo.unary main_v106 main_v107_4 id ]
/-- What they write. -/
abbrev w13_W : List (Ref sig .tc) := [main_c_15, main_v106, main_c_16, main_c_17, main_v107_0, main_v107_1, main_v107_2, main_v107_3, main_v107_4]
theorem w13_writes : (w13 : List (HloOp τ sig (Elt F))).Forall fun op => op.writes ⊆ (w13_W.map (Proc.devRef (τ := τ) .tc)).toFinset :=
  forall_writes_sub_of_map rfl
/-- Operations 1 to 9 of a stretch. -/
abbrev w14 : List (HloOp τ sig (Elt F)) :=
  [ StableHlo.nullary main_cst_18 (constant S_ .f32 0xCCBEBC20#32),
    StableHlo.unary main_cst_18 main_v108 (broadcastInDim S2x1000 ![] bcast_S_S2x1000 : (⟨S_, .f32⟩ : BufTy).Contents (Elt F) → (⟨S2x1000, .f32⟩ : BufTy).Contents (Elt F)),
    StableHlo.binary main_v39 main_v108 main_v109 (cmpf .ogt : (⟨S2x1000, .f32⟩ : BufTy).Contents (Elt F) → (⟨S2x1000, .f32⟩ : BufTy).Contents (Elt F) → (⟨S2x1000, .i1⟩ : BufTy).Contents (Elt F)),
    StableHlo.binary main_v107_4 main_v109 main_v110 (andi : (⟨S2x1000, .i1⟩ : BufTy).Contents (Elt F) → (⟨S2x1000, .i1⟩ : BufTy).Contents (Elt F) → (⟨S2x1000, .i1⟩ : BufTy).Contents (Elt F)),
    StableHlo.nullary main_cst_19 (constant S_ .f32 0xCE6E6B28#32),
    StableHlo.unary main_cst_19 main_v111 (broadcastInDim S2x1000 ![] bcast_S_S2x1000 : (⟨S_, .f32⟩ : BufTy).Contents (Elt F) → (⟨S2x1000, .f32⟩ : BufTy).Contents (Elt F)),
    StableHlo.ternary main_v110 main_v39 main_v111 main_v112 (select : (⟨S2x1000, .i1⟩ : BufTy).Contents (Elt F) → (⟨S2x1000, .f32⟩ : BufTy).Contents (Elt F) → (⟨S2x1000, .f32⟩ : BufTy).Contents (Elt F) → (⟨S2x1000, .f32⟩ : BufTy).Contents (Elt F)),
    StableHlo.unary main_v112 main_values ((fun x => (Host.topK S2x100 1 (FloatOps.cmpfTotal .gt) x sliceFits_S2x1000_S2x100).1) : (⟨S2x1000, .f32⟩ : BufTy).Contents (Elt F) → (⟨S2x100, .f32⟩ : BufTy).Contents (Elt F)),
    StableHlo.unary main_v112 main_indices ((fun x => (Host.topK S2x100 1 (FloatOps.cmpfTotal .gt) x sliceFits_S2x1000_S2x100).2) : (⟨S2x1000, .f32⟩ : BufTy).Contents (Elt F) → (⟨S2x100, .i32⟩ : BufTy).Contents (Elt F)) ]
/-- What they write. -/
abbrev w14_W : List (Ref sig .tc) := [main_cst_18, main_v108, main_v109, main_v110, main_cst_19, main_v111, main_v112, main_values, main_indices]
theorem w14_writes : (w14 : List (HloOp τ sig (Elt F))).Forall fun op => op.writes ⊆ (w14_W.map (Proc.devRef (τ := τ) .tc)).toFinset :=
  forall_writes_sub_of_map rfl
/-- Operations 10 to 18 of a stretch. -/
abbrev w15 : List (HloOp τ sig (Elt F)) :=
  [ StableHlo.nullary main_c_20 (constantI S_ 32 0#32),
    StableHlo.unary main_c_20 main_v113 (broadcastInDim S2x100 ![] bcast_S_S2x100 : (⟨S_, .i32⟩ : BufTy).Contents (Elt F) → (⟨S2x100, .i32⟩ : BufTy).Contents (Elt F)),
    StableHlo.binary main_indices main_v113 main_v114 (cmpi .slt : (⟨S2x100, .i32⟩ : BufTy).Contents (Elt F) → (⟨S2x100, .i32⟩ : BufTy).Contents (Elt F) → (⟨S2x100, .i1⟩ : BufTy).Contents (Elt F)),
    StableHlo.nullary main_c_21 (constantI S_ 32 1000#32),
    StableHlo.unary main_c_21 main_v115 (broadcastInDim S2x100 ![] bcast_S_S2x100 : (⟨S_, .i32⟩ : BufTy).Contents (Elt F) → (⟨S2x100, .i32⟩ : BufTy).Contents (Elt F)),
    StableHlo.binary main_indices main_v115 main_v116 (addi : (⟨S2x100, .i32⟩ : BufTy).Contents (Elt F) → (⟨S2x100, .i32⟩ : BufTy).Contents (Elt F) → (⟨S2x100, .i32⟩ : BufTy).Contents (Elt F)),
    StableHlo.ternary main_v114 main_v116 main_indices main_v117 (select : (⟨S2x100, .i1⟩ : BufTy).Contents (Elt F) → (⟨S2x100, .i32⟩ : BufTy).Contents (Elt F) → (⟨S2x100, .i32⟩ : BufTy).Contents (Elt F) → (⟨S2x100, .i32⟩ : BufTy).Contents (Elt F)),
    StableHlo.unary main_v117 main_v118 (broadcastInDim S2x100x1 ![0, 1] bcast_S2x100_S2x100x1_0_1 : (⟨S2x100, .i32⟩ : BufTy).Contents (Elt F) → (⟨S2x100x1, .i32⟩ : BufTy).Contents (Elt F)),
    StableHlo.binary main_v56 main_v118 main_v119 ((fun x i => Host.gather gather_S2x1000x4_S2x100x1_S2x100x4_2_1_0_0_1_2_114 x i) : (⟨S2x1000x4, .f32⟩ : BufTy).Contents (Elt F) → (⟨S2x100x1, .i32⟩ : BufTy).Contents (Elt F) → (⟨S2x100x4, .f32⟩ : BufTy).Contents (Elt F)) ]
/-- What they write. -/
abbrev w15_W : List (Ref sig .tc) := [main_c_20, main_v113, main_v114, main_c_21, main_v115, main_v116, main_v117, main_v118, main_v119]
theorem w15_writes : (w15 : List (HloOp τ sig (Elt F))).Forall fun op => op.writes ⊆ (w15_W.map (Proc.devRef (τ := τ) .tc)).toFinset :=
  forall_writes_sub_of_map rfl
/-- Operations 19 to 27 of a stretch. -/
abbrev w16 : List (HloOp τ sig (Elt F)) :=
  [ StableHlo.nullary main_c_22 (constantI S_ 32 0#32),
    StableHlo.unary main_c_22 main_v120 (broadcastInDim S2x100 ![] bcast_S_S2x100 : (⟨S_, .i32⟩ : BufTy).Contents (Elt F) → (⟨S2x100, .i32⟩ : BufTy).Contents (Elt F)),
    StableHlo.binary main_indices main_v120 main_v121 (cmpi .slt : (⟨S2x100, .i32⟩ : BufTy).Contents (Elt F) → (⟨S2x100, .i32⟩ : BufTy).Contents (Elt F) → (⟨S2x100, .i1⟩ : BufTy).Contents (Elt F)),
    StableHlo.nullary main_c_23 (constantI S_ 32 1000#32),
    StableHlo.unary main_c_23 main_v122 (broadcastInDim S2x100 ![] bcast_S_S2x100 : (⟨S_, .i32⟩ : BufTy).Contents (Elt F) → (⟨S2x100, .i32⟩ : BufTy).Contents (Elt F)),
    StableHlo.binary main_indices main_v122 main_v123 (addi : (⟨S2x100, .i32⟩ : BufTy).Contents (Elt F) → (⟨S2x100, .i32⟩ : BufTy).Contents (Elt F) → (⟨S2x100, .i32⟩ : BufTy).Contents (Elt F)),
    StableHlo.ternary main_v121 main_v123 main_indices main_v124 (select : (⟨S2x100, .i1⟩ : BufTy).Contents (Elt F) → (⟨S2x100, .i32⟩ : BufTy).Contents (Elt F) → (⟨S2x100, .i32⟩ : BufTy).Contents (Elt F) → (⟨S2x100, .i32⟩ : BufTy).Contents (Elt F)),
    StableHlo.unary main_v124 main_v125 (broadcastInDim S2x100x1 ![0, 1] bcast_S2x100_S2x100x1_0_1 : (⟨S2x100, .i32⟩ : BufTy).Contents (Elt F) → (⟨S2x100x1, .i32⟩ : BufTy).Contents (Elt F)),
    StableHlo.binary main_v43 main_v125 main_v126 ((fun x i => Host.gather gather_S2x1000_S2x100x1_S2x100_n_1_0_0_1_2_11 x i) : (⟨S2x1000, .i32⟩ : BufTy).Contents (Elt F) → (⟨S2x100x1, .i32⟩ : BufTy).Contents (Elt F) → (⟨S2x100, .i32⟩ : BufTy).Contents (Elt F)) ]
/-- What they write. -/
abbrev w16_W : List (Ref sig .tc) := [main_c_22, main_v120, main_v121, main_c_23, main_v122, main_v123, main_v124, main_v125, main_v126]
theorem w16_writes : (w16 : List (HloOp τ sig (Elt F))).Forall fun op => op.writes ⊆ (w16_W.map (Proc.devRef (τ := τ) .tc)).toFinset :=
  forall_writes_sub_of_map rfl
theorem hostOps0_eq : (hostOps0 : List (HloOp τ sig (Elt F))) = w0 ++ w1 ++ w2 ++ w3 ++ w4 := rfl
theorem hostOps0_1_eq : (hostOps0_1 : List (HloOp τ sig (Elt F))) = w5 ++ w6 := rfl
theorem hostOps0_2_eq : (hostOps0_2 : List (HloOp τ sig (Elt F))) = w7 ++ w8 ++ w9 ++ w10 ++ w11 ++ w12 ++ w13 := rfl
theorem hostOps0_3_eq : (hostOps0_3 : List (HloOp τ sig (Elt F))) = w14 ++ w15 ++ w16 := rfl
end
/-- The contents before the first window. -/
def t0 (V : Valuation τ sig (Elt Ideal)) : Valuation τ sig (Elt Ideal) := V
theorem t0_main_arg0 (V : Valuation τ sig (Elt Ideal)) : t0 V (no_index (Proc.devRef .tc main_arg0)) = V (Proc.devRef .tc main_arg0) := rfl
theorem t0_main_arg1 (V : Valuation τ sig (Elt Ideal)) : t0 V (no_index (Proc.devRef .tc main_arg1)) = V (Proc.devRef .tc main_arg1) := rfl
theorem t0_main_arg2 (V : Valuation τ sig (Elt Ideal)) : t0 V (no_index (Proc.devRef .tc main_arg2)) = V (Proc.devRef .tc main_arg2) := rfl
theorem t0_main_arg3 (V : Valuation τ sig (Elt Ideal)) : t0 V (no_index (Proc.devRef .tc main_arg3)) = V (Proc.devRef .tc main_arg3) := rfl
theorem t0_main_arg4 (V : Valuation τ sig (Elt Ideal)) : t0 V (no_index (Proc.devRef .tc main_arg4)) = V (Proc.devRef .tc main_arg4) := rfl
/-- The contents after window 0. -/
def t1 (V : Valuation τ sig (Elt Ideal)) : Valuation τ sig (Elt Ideal) := after w0 (t0 V)
theorem t1_keep (V : Valuation τ sig (Elt Ideal)) (r : Ref sig .tc) (h : r ∉ w0_W) : t1 V (Proc.devRef .tc r) = t0 V (Proc.devRef .tc r) :=
  after_of_writes_sub w0 _ w0_writes h
theorem t1_main_arg0 (V : Valuation τ sig (Elt Ideal)) : t1 V (no_index (Proc.devRef .tc main_arg0)) = (V (Proc.devRef .tc main_arg0)) :=
  (t1_keep V main_arg0 (by decide)).trans (t0_main_arg0 V)
theorem t1_main_arg1 (V : Valuation τ sig (Elt Ideal)) : t1 V (no_index (Proc.devRef .tc main_arg1)) = (V (Proc.devRef .tc main_arg1)) :=
  (t1_keep V main_arg1 (by decide)).trans (t0_main_arg1 V)
theorem t1_main_arg2 (V : Valuation τ sig (Elt Ideal)) : t1 V (no_index (Proc.devRef .tc main_arg2)) = (V (Proc.devRef .tc main_arg2)) :=
  (t1_keep V main_arg2 (by decide)).trans (t0_main_arg2 V)
set_option maxHeartbeats 4000000 in
theorem t1_main_v2 (V : Valuation τ sig (Elt Ideal)) : t1 V (no_index (Proc.devRef .tc main_v2)) = r_v2 (V (Proc.devRef .tc main_arg4)) := by
  unfold t1
  simp only [w0]
  after_results_entrywise [t0_main_arg0, t0_main_arg1, t0_main_arg2, t0_main_arg3, t0_main_arg4, cast_eq]
  all_goals rfl
set_option maxHeartbeats 4000000 in
theorem t1_main_v6 (V : Valuation τ sig (Elt Ideal)) : t1 V (no_index (Proc.devRef .tc main_v6)) = r_v6 (V (Proc.devRef .tc main_arg4)) := by
  unfold t1
  simp only [w0]
  after_results_entrywise [t0_main_arg0, t0_main_arg1, t0_main_arg2, t0_main_arg3, t0_main_arg4, cast_eq]
  all_goals rfl
set_option maxHeartbeats 4000000 in
theorem t1_main_v7 (V : Valuation τ sig (Elt Ideal)) : t1 V (no_index (Proc.devRef .tc main_v7)) = r_v7 (V (Proc.devRef .tc main_arg3)) := by
  unfold t1
  simp only [w0]
  after_results_entrywise [t0_main_arg0, t0_main_arg1, t0_main_arg2, t0_main_arg3, t0_main_arg4, cast_eq]
  all_goals rfl
set_option maxHeartbeats 4000000 in
theorem t1_main_v8 (V : Valuation τ sig (Elt Ideal)) : t1 V (no_index (Proc.devRef .tc main_v8)) = r_v8 (V (Proc.devRef .tc main_arg3)) := by
  unfold t1
  simp only [w0]
  after_results_entrywise [t0_main_arg0, t0_main_arg1, t0_main_arg2, t0_main_arg3, t0_main_arg4, cast_eq]
  all_goals rfl
/-- The contents after window 1. -/
def t2 (V : Valuation τ sig (Elt Ideal)) : Valuation τ sig (Elt Ideal) := after w1 (t1 V)
theorem t2_keep (V : Valuation τ sig (Elt Ideal)) (r : Ref sig .tc) (h : r ∉ w1_W) : t2 V (Proc.devRef .tc r) = t1 V (Proc.devRef .tc r) :=
  after_of_writes_sub w1 _ w1_writes h
theorem t2_main_arg0 (V : Valuation τ sig (Elt Ideal)) : t2 V (no_index (Proc.devRef .tc main_arg0)) = (V (Proc.devRef .tc main_arg0)) :=
  (t2_keep V main_arg0 (by decide)).trans (t1_main_arg0 V)
theorem t2_main_arg1 (V : Valuation τ sig (Elt Ideal)) : t2 V (no_index (Proc.devRef .tc main_arg1)) = (V (Proc.devRef .tc main_arg1)) :=
  (t2_keep V main_arg1 (by decide)).trans (t1_main_arg1 V)
theorem t2_main_arg2 (V : Valuation τ sig (Elt Ideal)) : t2 V (no_index (Proc.devRef .tc main_arg2)) = (V (Proc.devRef .tc main_arg2)) :=
  (t2_keep V main_arg2 (by decide)).trans (t1_main_arg2 V)
set_option maxHeartbeats 4000000 in
theorem t2_main_v16 (V : Valuation τ sig (Elt Ideal)) : t2 V (no_index (Proc.devRef .tc main_v16)) = r_v16 (V (Proc.devRef .tc main_arg3)) (V (Proc.devRef .tc main_arg4)) := by
  unfold t2
  simp only [w1]
  after_results_entrywise [t1_main_arg0, t1_main_arg1, t1_main_arg2, t1_main_v2, t1_main_v6, t1_main_v7, t1_main_v8, cast_eq]
  all_goals rfl
set_option maxHeartbeats 4000000 in
theorem t2_main_v17 (V : Valuation τ sig (Elt Ideal)) : t2 V (no_index (Proc.devRef .tc main_v17)) = r_v17 (V (Proc.devRef .tc main_arg3)) := by
  unfold t2
  simp only [w1]
  after_results_entrywise [t1_main_arg0, t1_main_arg1, t1_main_arg2, t1_main_v2, t1_main_v6, t1_main_v7, t1_main_v8, cast_eq]
  all_goals rfl
theorem t2_main_v2 (V : Valuation τ sig (Elt Ideal)) : t2 V (no_index (Proc.devRef .tc main_v2)) = r_v2 (V (Proc.devRef .tc main_arg4)) :=
  (t2_keep V main_v2 (by decide)).trans (t1_main_v2 V)
/-- The contents after window 2. -/
def t3 (V : Valuation τ sig (Elt Ideal)) : Valuation τ sig (Elt Ideal) := after w2 (t2 V)
theorem t3_keep (V : Valuation τ sig (Elt Ideal)) (r : Ref sig .tc) (h : r ∉ w2_W) : t3 V (Proc.devRef .tc r) = t2 V (Proc.devRef .tc r) :=
  after_of_writes_sub w2 _ w2_writes h
theorem t3_main_arg0 (V : Valuation τ sig (Elt Ideal)) : t3 V (no_index (Proc.devRef .tc main_arg0)) = (V (Proc.devRef .tc main_arg0)) :=
  (t3_keep V main_arg0 (by decide)).trans (t2_main_arg0 V)
theorem t3_main_arg1 (V : Valuation τ sig (Elt Ideal)) : t3 V (no_index (Proc.devRef .tc main_arg1)) = (V (Proc.devRef .tc main_arg1)) :=
  (t3_keep V main_arg1 (by decide)).trans (t2_main_arg1 V)
theorem t3_main_arg2 (V : Valuation τ sig (Elt Ideal)) : t3 V (no_index (Proc.devRef .tc main_arg2)) = (V (Proc.devRef .tc main_arg2)) :=
  (t3_keep V main_arg2 (by decide)).trans (t2_main_arg2 V)
theorem t3_main_v16 (V : Valuation τ sig (Elt Ideal)) : t3 V (no_index (Proc.devRef .tc main_v16)) = r_v16 (V (Proc.devRef .tc main_arg3)) (V (Proc.devRef .tc main_arg4)) :=
  (t3_keep V main_v16 (by decide)).trans (t2_main_v16 V)
set_option maxHeartbeats 4000000 in
theorem t3_main_v25 (V : Valuation τ sig (Elt Ideal)) : t3 V (no_index (Proc.devRef .tc main_v25)) = r_v25 (V (Proc.devRef .tc main_arg3)) (V (Proc.devRef .tc main_arg4)) := by
  unfold t3
  simp only [w2]
  after_results_entrywise [t2_main_arg0, t2_main_arg1, t2_main_arg2, t2_main_v16, t2_main_v17, t2_main_v2, cast_eq]
  all_goals rfl
/-- The contents after window 3. -/
def t4 (V : Valuation τ sig (Elt Ideal)) : Valuation τ sig (Elt Ideal) := after w3 (t3 V)
theorem t4_keep (V : Valuation τ sig (Elt Ideal)) (r : Ref sig .tc) (h : r ∉ w3_W) : t4 V (Proc.devRef .tc r) = t3 V (Proc.devRef .tc r) :=
  after_of_writes_sub w3 _ w3_writes h
theorem t4_main_arg0 (V : Valuation τ sig (Elt Ideal)) : t4 V (no_index (Proc.devRef .tc main_arg0)) = (V (Proc.devRef .tc main_arg0)) :=
  (t4_keep V main_arg0 (by decide)).trans (t3_main_arg0 V)
theorem t4_main_arg1 (V : Valuation τ sig (Elt Ideal)) : t4 V (no_index (Proc.devRef .tc main_arg1)) = (V (Proc.devRef .tc main_arg1)) :=
  (t4_keep V main_arg1 (by decide)).trans (t3_main_arg1 V)
theorem t4_main_arg2 (V : Valuation τ sig (Elt Ideal)) : t4 V (no_index (Proc.devRef .tc main_arg2)) = (V (Proc.devRef .tc main_arg2)) :=
  (t4_keep V main_arg2 (by decide)).trans (t3_main_arg2 V)
set_option maxHeartbeats 4000000 in
theorem t4_main_v33 (V : Valuation τ sig (Elt Ideal)) : t4 V (no_index (Proc.devRef .tc main_v33)) = r_v33 (V (Proc.devRef .tc main_arg3)) (V (Proc.devRef .tc main_arg4)) := by
  unfold t4
  simp only [w3]
  after_results_entrywise [t3_main_arg0, t3_main_arg1, t3_main_arg2, t3_main_v16, t3_main_v25, cast_eq]
  all_goals rfl
/-- The contents after window 4. -/
def t5 (V : Valuation τ sig (Elt Ideal)) : Valuation τ sig (Elt Ideal) := after w4 (t4 V)
theorem t5_keep (V : Valuation τ sig (Elt Ideal)) (r : Ref sig .tc) (h : r ∉ w4_W) : t5 V (Proc.devRef .tc r) = t4 V (Proc.devRef .tc r) :=
  after_of_writes_sub w4 _ w4_writes h
theorem t5_main_arg2 (V : Valuation τ sig (Elt Ideal)) : t5 V (no_index (Proc.devRef .tc main_arg2)) = (V (Proc.devRef .tc main_arg2)) :=
  (t5_keep V main_arg2 (by decide)).trans (t4_main_arg2 V)
set_option maxHeartbeats 4000000 in
theorem t5_main_c (V : Valuation τ sig (Elt Ideal)) : t5 V (no_index (Proc.devRef .tc main_c)) = r_c := by
  unfold t5
  simp only [w4]
  after_results_entrywise [t4_main_arg0, t4_main_arg1, t4_main_arg2, t4_main_v33, cast_eq]
  all_goals rfl
set_option maxHeartbeats 4000000 in
theorem t5_main_v38 (V : Valuation τ sig (Elt Ideal)) : t5 V (no_index (Proc.devRef .tc main_v38)) = r_v38 (V (Proc.devRef .tc main_arg3)) (V (Proc.devRef .tc main_arg4)) := by
  unfold t5
  simp only [w4]
  after_results_entrywise [t4_main_arg0, t4_main_arg1, t4_main_arg2, t4_main_v33, cast_eq]
  all_goals rfl
set_option maxHeartbeats 4000000 in
theorem t5_main_v39 (V : Valuation τ sig (Elt Ideal)) : t5 V (no_index (Proc.devRef .tc main_v39)) = r_v39 (V (Proc.devRef .tc main_arg0)) := by
  unfold t5
  simp only [w4]
  after_results_entrywise [t4_main_arg0, t4_main_arg1, t4_main_arg2, t4_main_v33, cast_eq]
  all_goals rfl
set_option maxHeartbeats 4000000 in
theorem t5_main_v40 (V : Valuation τ sig (Elt Ideal)) : t5 V (no_index (Proc.devRef .tc main_v40)) = r_v40 (V (Proc.devRef .tc main_arg1)) := by
  unfold t5
  simp only [w4]
  after_results_entrywise [t4_main_arg0, t4_main_arg1, t4_main_arg2, t4_main_v33, cast_eq]
  all_goals rfl
/-- The contents after window 5. -/
def t6 (V : Valuation τ sig (Elt Ideal)) : Valuation τ sig (Elt Ideal) := after w5 (t5 V)
theorem t6_keep (V : Valuation τ sig (Elt Ideal)) (r : Ref sig .tc) (h : r ∉ w5_W) : t6 V (Proc.devRef .tc r) = t5 V (Proc.devRef .tc r) :=
  after_of_writes_sub w5 _ w5_writes h
theorem t6_main_arg2 (V : Valuation τ sig (Elt Ideal)) : t6 V (no_index (Proc.devRef .tc main_arg2)) = (V (Proc.devRef .tc main_arg2)) :=
  (t6_keep V main_arg2 (by decide)).trans (t5_main_arg2 V)
set_option maxHeartbeats 4000000 in
theorem t6_main_call0_c_2 (V : Valuation τ sig (Elt Ideal)) : t6 V (no_index (Proc.devRef .tc main_call0_c_2)) = r_call0_c_2 := by
  unfold t6
  simp only [w5]
  after_results_entrywise [t5_main_arg2, t5_main_c, t5_main_v38, t5_main_v39, t5_main_v40, cast_eq]
  all_goals rfl
set_option maxHeartbeats 4000000 in
theorem t6_main_call0_v2 (V : Valuation τ sig (Elt Ideal)) : t6 V (no_index (Proc.devRef .tc main_call0_v2)) = r_call0_v2 := by
  unfold t6
  simp only [w5]
  after_results_entrywise [t5_main_arg2, t5_main_c, t5_main_v38, t5_main_v39, t5_main_v40, cast_eq]
  all_goals rfl
set_option maxHeartbeats 4000000 in
theorem t6_main_call0_v4 (V : Valuation τ sig (Elt Ideal)) : t6 V (no_index (Proc.devRef .tc main_call0_v4)) = r_call0_v4 (V (Proc.devRef .tc main_arg1)) := by
  unfold t6
  simp only [w5]
  after_results_entrywise [t5_main_arg2, t5_main_c, t5_main_v38, t5_main_v39, t5_main_v40, cast_eq]
  all_goals rfl
set_option maxHeartbeats 4000000 in
theorem t6_main_call0_v6 (V : Valuation τ sig (Elt Ideal)) : t6 V (no_index (Proc.devRef .tc main_call0_v6)) = r_call0_v6 (V (Proc.devRef .tc main_arg1)) := by
  unfold t6
  simp only [w5]
  after_results_entrywise [t5_main_arg2, t5_main_c, t5_main_v38, t5_main_v39, t5_main_v40, cast_eq]
  all_goals rfl
theorem t6_main_v38 (V : Valuation τ sig (Elt Ideal)) : t6 V (no_index (Proc.devRef .tc main_v38)) = r_v38 (V (Proc.devRef .tc main_arg3)) (V (Proc.devRef .tc main_arg4)) :=
  (t6_keep V main_v38 (by decide)).trans (t5_main_v38 V)
theorem t6_main_v39 (V : Valuation τ sig (Elt Ideal)) : t6 V (no_index (Proc.devRef .tc main_v39)) = r_v39 (V (Proc.devRef .tc main_arg0)) :=
  (t6_keep V main_v39 (by decide)).trans (t5_main_v39 V)
/-- The contents after window 6. -/
def t7 (V : Valuation τ sig (Elt Ideal)) : Valuation τ sig (Elt Ideal) := after w6 (t6 V)
theorem t7_keep (V : Valuation τ sig (Elt Ideal)) (r : Ref sig .tc) (h : r ∉ w6_W) : t7 V (Proc.devRef .tc r) = t6 V (Proc.devRef .tc r) :=
  after_of_writes_sub w6 _ w6_writes h
theorem t7_main_arg2 (V : Valuation τ sig (Elt Ideal)) : t7 V (no_index (Proc.devRef .tc main_arg2)) = (V (Proc.devRef .tc main_arg2)) :=
  (t7_keep V main_arg2 (by decide)).trans (t6_main_arg2 V)
theorem t7_main_v38 (V : Valuation τ sig (Elt Ideal)) : t7 V (no_index (Proc.devRef .tc main_v38)) = r_v38 (V (Proc.devRef .tc main_arg3)) (V (Proc.devRef .tc main_arg4)) :=
  (t7_keep V main_v38 (by decide)).trans (t6_main_v38 V)
theorem t7_main_v39 (V : Valuation τ sig (Elt Ideal)) : t7 V (no_index (Proc.devRef .tc main_v39)) = r_v39 (V (Proc.devRef .tc main_arg0)) :=
  (t7_keep V main_v39 (by decide)).trans (t6_main_v39 V)
set_option maxHeartbeats 4000000 in
theorem t7_main_v41 (V : Valuation τ sig (Elt Ideal)) : t7 V (no_index (Proc.devRef .tc main_v41)) = r_v41 (V (Proc.devRef .tc main_arg1)) := by
  unfold t7
  simp only [w6]
  after_results_entrywise [t6_main_arg2, t6_main_call0_c_2, t6_main_call0_v2, t6_main_call0_v4, t6_main_call0_v6, t6_main_v38, t6_main_v39, cast_eq]
  all_goals rfl
/-- The contents after window 7. -/
def t8 (V : Valuation τ sig (Elt Ideal)) : Valuation τ sig (Elt Ideal) := after w7 (t7 V)
theorem t8_keep (V : Valuation τ sig (Elt Ideal)) (r : Ref sig .tc) (h : r ∉ w7_W) : t8 V (Proc.devRef .tc r) = t7 V (Proc.devRef .tc r) :=
  after_of_writes_sub w7 _ w7_writes h
set_option maxHeartbeats 4000000 in
theorem t8_main_c_10 (V : Valuation τ sig (Elt Ideal)) : t8 V (no_index (Proc.devRef .tc main_c_10)) = r_c_10 := by
  unfold t8
  simp only [w7]
  after_results_entrywise [t7_main_arg2, t7_main_v38, t7_main_v39, t7_main_v41, cast_eq]
  all_goals rfl
theorem t8_main_v38 (V : Valuation τ sig (Elt Ideal)) : t8 V (no_index (Proc.devRef .tc main_v38)) = r_v38 (V (Proc.devRef .tc main_arg3)) (V (Proc.devRef .tc main_arg4)) :=
  (t8_keep V main_v38 (by decide)).trans (t7_main_v38 V)
theorem t8_main_v39 (V : Valuation τ sig (Elt Ideal)) : t8 V (no_index (Proc.devRef .tc main_v39)) = r_v39 (V (Proc.devRef .tc main_arg0)) :=
  (t8_keep V main_v39 (by decide)).trans (t7_main_v39 V)
set_option maxHeartbeats 4000000 in
theorem t8_main_v43 (V : Valuation τ sig (Elt Ideal)) : t8 V (no_index (Proc.devRef .tc main_v43)) = r_v43 (V (Proc.devRef .tc main_arg1)) := by
  unfold t8
  simp only [w7]
  after_results_entrywise [t7_main_arg2, t7_main_v38, t7_main_v39, t7_main_v41, cast_eq]
  all_goals rfl
set_option maxHeartbeats 4000000 in
theorem t8_main_v49 (V : Valuation τ sig (Elt Ideal)) : t8 V (no_index (Proc.devRef .tc main_v49)) = r_v49 (V (Proc.devRef .tc main_arg1)) (V (Proc.devRef .tc main_arg2)) := by
  unfold t8
  simp only [w7]
  after_results_entrywise [t7_main_arg2, t7_main_v38, t7_main_v39, t7_main_v41, cast_eq]
  all_goals rfl
/-- The contents after window 8. -/
def t9 (V : Valuation τ sig (Elt Ideal)) : Valuation τ sig (Elt Ideal) := after w8 (t8 V)
theorem t9_keep (V : Valuation τ sig (Elt Ideal)) (r : Ref sig .tc) (h : r ∉ w8_W) : t9 V (Proc.devRef .tc r) = t8 V (Proc.devRef .tc r) :=
  after_of_writes_sub w8 _ w8_writes h
theorem t9_main_v39 (V : Valuation τ sig (Elt Ideal)) : t9 V (no_index (Proc.devRef .tc main_v39)) = r_v39 (V (Proc.devRef .tc main_arg0)) :=
  (t9_keep V main_v39 (by decide)).trans (t8_main_v39 V)
theorem t9_main_v43 (V : Valuation τ sig (Elt Ideal)) : t9 V (no_index (Proc.devRef .tc main_v43)) = r_v43 (V (Proc.devRef .tc main_arg1)) :=
  (t9_keep V main_v43 (by decide)).trans (t8_main_v43 V)
set_option maxHeartbeats 4000000 in
theorem t9_main_v56 (V : Valuation τ sig (Elt Ideal)) : t9 V (no_index (Proc.devRef .tc main_v56)) = r_v56 (V (Proc.devRef .tc main_arg1)) (V (Proc.devRef .tc main_arg2)) (V (Proc.devRef .tc main_arg3)) (V (Proc.devRef .tc main_arg4)) := by
  unfold t9
  simp only [w8]
  after_results_entrywise [t8_main_c_10, t8_main_v38, t8_main_v39, t8_main_v43, t8_main_v49, cast_eq]
  all_goals rfl
set_option maxHeartbeats 4000000 in
theorem t9_main_v58 (V : Valuation τ sig (Elt Ideal)) : t9 V (no_index (Proc.devRef .tc main_v58)) = r_v58 (V (Proc.devRef .tc main_arg1)) := by
  unfold t9
  simp only [w8]
  after_results_entrywise [t8_main_c_10, t8_main_v38, t8_main_v39, t8_main_v43, t8_main_v49, cast_eq]
  all_goals rfl
set_option maxHeartbeats 4000000 in
theorem t9_main_v59 (V : Valuation τ sig (Elt Ideal)) : t9 V (no_index (Proc.devRef .tc main_v59)) = r_v59 := by
  unfold t9
  simp only [w8]
  after_results_entrywise [t8_main_c_10, t8_main_v38, t8_main_v39, t8_main_v43, t8_main_v49, cast_eq]
  all_goals rfl
/-- The contents after window 9. -/
def t10 (V : Valuation τ sig (Elt Ideal)) : Valuation τ sig (Elt Ideal) := after w9 (t9 V)
theorem t10_keep (V : Valuation τ sig (Elt Ideal)) (r : Ref sig .tc) (h : r ∉ w9_W) : t10 V (Proc.devRef .tc r) = t9 V (Proc.devRef .tc r) :=
  after_of_writes_sub w9 _ w9_writes h
theorem t10_main_v39 (V : Valuation τ sig (Elt Ideal)) : t10 V (no_index (Proc.devRef .tc main_v39)) = r_v39 (V (Proc.devRef .tc main_arg0)) :=
  (t10_keep V main_v39 (by decide)).trans (t9_main_v39 V)
theorem t10_main_v43 (V : Valuation τ sig (Elt Ideal)) : t10 V (no_index (Proc.devRef .tc main_v43)) = r_v43 (V (Proc.devRef .tc main_arg1)) :=
  (t10_keep V main_v43 (by decide)).trans (t9_main_v43 V)
theorem t10_main_v56 (V : Valuation τ sig (Elt Ideal)) : t10 V (no_index (Proc.devRef .tc main_v56)) = r_v56 (V (Proc.devRef .tc main_arg1)) (V (Proc.devRef .tc main_arg2)) (V (Proc.devRef .tc main_arg3)) (V (Proc.devRef .tc main_arg4)) :=
  (t10_keep V main_v56 (by decide)).trans (t9_main_v56 V)
set_option maxHeartbeats 4000000 in
theorem t10_main_v62 (V : Valuation τ sig (Elt Ideal)) : t10 V (no_index (Proc.devRef .tc main_v62)) = r_v62 (V (Proc.devRef .tc main_arg1)) (V (Proc.devRef .tc main_arg2)) (V (Proc.devRef .tc main_arg3)) (V (Proc.devRef .tc main_arg4)) := by
  unfold t10
  simp only [w9]
  after_results_entrywise [t9_main_v39, t9_main_v43, t9_main_v56, t9_main_v58, t9_main_v59, cast_eq]
  all_goals rfl
set_option maxHeartbeats 4000000 in
theorem t10_main_v67 (V : Valuation τ sig (Elt Ideal)) : t10 V (no_index (Proc.devRef .tc main_v67)) = r_v67 (V (Proc.devRef .tc main_arg1)) (V (Proc.devRef .tc main_arg2)) (V (Proc.devRef .tc main_arg3)) (V (Proc.devRef .tc main_arg4)) := by
  unfold t10
  simp only [w9]
  after_results_entrywise [t9_main_v39, t9_main_v43, t9_main_v56, t9_main_v58, t9_main_v59, cast_eq]
  all_goals rfl
set_option maxHeartbeats 4000000 in
theorem t10_main_v69 (V : Valuation τ sig (Elt Ideal)) : t10 V (no_index (Proc.devRef .tc main_v69)) = r_v69 (V (Proc.devRef .tc main_arg1)) (V (Proc.devRef .tc main_arg2)) (V (Proc.devRef .tc main_arg3)) (V (Proc.devRef .tc main_arg4)) := by
  unfold t10
  simp only [w9]
  after_results_entrywise [t9_main_v39, t9_main_v43, t9_main_v56, t9_main_v58, t9_main_v59, cast_eq]
  all_goals rfl
set_option maxHeartbeats 4000000 in
theorem t10_main_v71 (V : Valuation τ sig (Elt Ideal)) : t10 V (no_index (Proc.devRef .tc main_v71)) = r_v71 (V (Proc.devRef .tc main_arg1)) (V (Proc.devRef .tc main_arg2)) (V (Proc.devRef .tc main_arg3)) (V (Proc.devRef .tc main_arg4)) := by
  unfold t10
  simp only [w9]
  after_results_entrywise [t9_main_v39, t9_main_v43, t9_main_v56, t9_main_v58, t9_main_v59, cast_eq]
  all_goals rfl
/-- The contents after window 10. -/
def t11 (V : Valuation τ sig (Elt Ideal)) : Valuation τ sig (Elt Ideal) := after w10 (t10 V)
theorem t11_keep (V : Valuation τ sig (Elt Ideal)) (r : Ref sig .tc) (h : r ∉ w10_W) : t11 V (Proc.devRef .tc r) = t10 V (Proc.devRef .tc r) :=
  after_of_writes_sub w10 _ w10_writes h
theorem t11_main_v39 (V : Valuation τ sig (Elt Ideal)) : t11 V (no_index (Proc.devRef .tc main_v39)) = r_v39 (V (Proc.devRef .tc main_arg0)) :=
  (t11_keep V main_v39 (by decide)).trans (t10_main_v39 V)
theorem t11_main_v43 (V : Valuation τ sig (Elt Ideal)) : t11 V (no_index (Proc.devRef .tc main_v43)) = r_v43 (V (Proc.devRef .tc main_arg1)) :=
  (t11_keep V main_v43 (by decide)).trans (t10_main_v43 V)
theorem t11_main_v56 (V : Valuation τ sig (Elt Ideal)) : t11 V (no_index (Proc.devRef .tc main_v56)) = r_v56 (V (Proc.devRef .tc main_arg1)) (V (Proc.devRef .tc main_arg2)) (V (Proc.devRef .tc main_arg3)) (V (Proc.devRef .tc main_arg4)) :=
  (t11_keep V main_v56 (by decide)).trans (t10_main_v56 V)
set_option maxHeartbeats 4000000 in
theorem t11_main_v73 (V : Valuation τ sig (Elt Ideal)) : t11 V (no_index (Proc.devRef .tc main_v73)) = r_v73 (V (Proc.devRef .tc main_arg1)) (V (Proc.devRef .tc main_arg2)) (V (Proc.devRef .tc main_arg3)) (V (Proc.devRef .tc main_arg4)) := by
  unfold t11
  simp only [w10]
  after_results_entrywise [t10_main_v39, t10_main_v43, t10_main_v56, t10_main_v62, t10_main_v67, t10_main_v69, t10_main_v71, cast_eq]
  all_goals rfl
set_option maxHeartbeats 4000000 in
theorem t11_main_v80 (V : Valuation τ sig (Elt Ideal)) : t11 V (no_index (Proc.devRef .tc main_v80)) = r_v80 (V (Proc.devRef .tc main_arg1)) (V (Proc.devRef .tc main_arg2)) (V (Proc.devRef .tc main_arg3)) (V (Proc.devRef .tc main_arg4)) := by
  unfold t11
  simp only [w10]
  after_results_entrywise [t10_main_v39, t10_main_v43, t10_main_v56, t10_main_v62, t10_main_v67, t10_main_v69, t10_main_v71, cast_eq]
  all_goals rfl
set_option maxHeartbeats 4000000 in
theorem t11_main_v82 (V : Valuation τ sig (Elt Ideal)) : t11 V (no_index (Proc.devRef .tc main_v82)) = r_v82 (V (Proc.devRef .tc main_arg1)) (V (Proc.devRef .tc main_arg2)) (V (Proc.devRef .tc main_arg3)) (V (Proc.devRef .tc main_arg4)) := by
  unfold t11
  simp only [w10]
  after_results_entrywise [t10_main_v39, t10_main_v43, t10_main_v56, t10_main_v62, t10_main_v67, t10_main_v69, t10_main_v71, cast_eq]
  all_goals rfl
set_option maxHeartbeats 4000000 in
theorem t11_main_v83 (V : Valuation τ sig (Elt Ideal)) : t11 V (no_index (Proc.devRef .tc main_v83)) = r_v83 (V (Proc.devRef .tc main_arg1)) (V (Proc.devRef .tc main_arg2)) (V (Proc.devRef .tc main_arg3)) (V (Proc.devRef .tc main_arg4)) := by
  unfold t11
  simp only [w10]
  after_results_entrywise [t10_main_v39, t10_main_v43, t10_main_v56, t10_main_v62, t10_main_v67, t10_main_v69, t10_main_v71, cast_eq]
  all_goals rfl
/-- The contents after window 11. -/
def t12 (V : Valuation τ sig (Elt Ideal)) : Valuation τ sig (Elt Ideal) := after w11 (t11 V)
theorem t12_keep (V : Valuation τ sig (Elt Ideal)) (r : Ref sig .tc) (h : r ∉ w11_W) : t12 V (Proc.devRef .tc r) = t11 V (Proc.devRef .tc r) :=
  after_of_writes_sub w11 _ w11_writes h
theorem t12_main_v39 (V : Valuation τ sig (Elt Ideal)) : t12 V (no_index (Proc.devRef .tc main_v39)) = r_v39 (V (Proc.devRef .tc main_arg0)) :=
  (t12_keep V main_v39 (by decide)).trans (t11_main_v39 V)
theorem t12_main_v43 (V : Valuation τ sig (Elt Ideal)) : t12 V (no_index (Proc.devRef .tc main_v43)) = r_v43 (V (Proc.devRef .tc main_arg1)) :=
  (t12_keep V main_v43 (by decide)).trans (t11_main_v43 V)
theorem t12_main_v56 (V : Valuation τ sig (Elt Ideal)) : t12 V (no_index (Proc.devRef .tc main_v56)) = r_v56 (V (Proc.devRef .tc main_arg1)) (V (Proc.devRef .tc main_arg2)) (V (Proc.devRef .tc main_arg3)) (V (Proc.devRef .tc main_arg4)) :=
  (t12_keep V main_v56 (by decide)).trans (t11_main_v56 V)
theorem t12_main_v73 (V : Valuation τ sig (Elt Ideal)) : t12 V (no_index (Proc.devRef .tc main_v73)) = r_v73 (V (Proc.devRef .tc main_arg1)) (V (Proc.devRef .tc main_arg2)) (V (Proc.devRef .tc main_arg3)) (V (Proc.devRef .tc main_arg4)) :=
  (t12_keep V main_v73 (by decide)).trans (t11_main_v73 V)
set_option maxHeartbeats 4000000 in
theorem t12_main_v92 (V : Valuation τ sig (Elt Ideal)) : t12 V (no_index (Proc.devRef .tc main_v92)) = r_v92 (V (Proc.devRef .tc main_arg1)) (V (Proc.devRef .tc main_arg2)) (V (Proc.devRef .tc main_arg3)) (V (Proc.devRef .tc main_arg4)) := by
  unfold t12
  simp only [w11]
  after_results_entrywise [t11_main_v39, t11_main_v43, t11_main_v56, t11_main_v73, t11_main_v80, t11_main_v82, t11_main_v83, cast_eq]
  all_goals rfl
set_option maxHeartbeats 4000000 in
theorem t12_main_v94 (V : Valuation τ sig (Elt Ideal)) : t12 V (no_index (Proc.devRef .tc main_v94)) = r_v94 (V (Proc.devRef .tc main_arg1)) (V (Proc.devRef .tc main_arg2)) (V (Proc.devRef .tc main_arg3)) (V (Proc.devRef .tc main_arg4)) := by
  unfold t12
  simp only [w11]
  after_results_entrywise [t11_main_v39, t11_main_v43, t11_main_v56, t11_main_v73, t11_main_v80, t11_main_v82, t11_main_v83, cast_eq]
  all_goals rfl
/-- The contents after window 12. -/
def t13 (V : Valuation τ sig (Elt Ideal)) : Valuation τ sig (Elt Ideal) := after w12 (t12 V)
theorem t13_keep (V : Valuation τ sig (Elt Ideal)) (r : Ref sig .tc) (h : r ∉ w12_W) : t13 V (Proc.devRef .tc r) = t12 V (Proc.devRef .tc r) :=
  after_of_writes_sub w12 _ w12_writes h
set_option maxHeartbeats 4000000 in
theorem t13_main_v104 (V : Valuation τ sig (Elt Ideal)) : t13 V (no_index (Proc.devRef .tc main_v104)) = r_v104 (V (Proc.devRef .tc main_arg1)) (V (Proc.devRef .tc main_arg2)) (V (Proc.devRef .tc main_arg3)) (V (Proc.devRef .tc main_arg4)) := by
  unfold t13
  simp only [w12]
  after_results_entrywise [t12_main_v39, t12_main_v43, t12_main_v56, t12_main_v73, t12_main_v92, t12_main_v94, cast_eq]
  all_goals rfl
set_option maxHeartbeats 4000000 in
theorem t13_main_v105 (V : Valuation τ sig (Elt Ideal)) : t13 V (no_index (Proc.devRef .tc main_v105)) = r_v105 := by
  unfold t13
  simp only [w12]
  after_results_entrywise [t12_main_v39, t12_main_v43, t12_main_v56, t12_main_v73, t12_main_v92, t12_main_v94, cast_eq]
  all_goals rfl
theorem t13_main_v39 (V : Valuation τ sig (Elt Ideal)) : t13 V (no_index (Proc.devRef .tc main_v39)) = r_v39 (V (Proc.devRef .tc main_arg0)) :=
  (t13_keep V main_v39 (by decide)).trans (t12_main_v39 V)
theorem t13_main_v43 (V : Valuation τ sig (Elt Ideal)) : t13 V (no_index (Proc.devRef .tc main_v43)) = r_v43 (V (Proc.devRef .tc main_arg1)) :=
  (t13_keep V main_v43 (by decide)).trans (t12_main_v43 V)
theorem t13_main_v56 (V : Valuation τ sig (Elt Ideal)) : t13 V (no_index (Proc.devRef .tc main_v56)) = r_v56 (V (Proc.devRef .tc main_arg1)) (V (Proc.devRef .tc main_arg2)) (V (Proc.devRef .tc main_arg3)) (V (Proc.devRef .tc main_arg4)) :=
  (t13_keep V main_v56 (by decide)).trans (t12_main_v56 V)
/-- The contents after window 13. -/
def t14 (V : Valuation τ sig (Elt Ideal)) : Valuation τ sig (Elt Ideal) := after w13 (t13 V)
theorem t14_keep (V : Valuation τ sig (Elt Ideal)) (r : Ref sig .tc) (h : r ∉ w13_W) : t14 V (Proc.devRef .tc r) = t13 V (Proc.devRef .tc r) :=
  after_of_writes_sub w13 _ w13_writes h
set_option maxHeartbeats 4000000 in
theorem t14_main_v107_0 (V : Valuation τ sig (Elt Ideal)) : t14 V (no_index (Proc.devRef .tc main_v107_0)) = r_v107_0 (V (Proc.devRef .tc main_arg1)) (V (Proc.devRef .tc main_arg2)) (V (Proc.devRef .tc main_arg3)) (V (Proc.devRef .tc main_arg4)) := by
  unfold t14
  simp only [w13]
  after_results_entrywise [t13_main_v104, t13_main_v105, t13_main_v39, t13_main_v43, t13_main_v56, cast_eq]
  all_goals rfl
set_option maxHeartbeats 4000000 in
theorem t14_main_v107_1 (V : Valuation τ sig (Elt Ideal)) : t14 V (no_index (Proc.devRef .tc main_v107_1)) = r_v107_1 := by
  unfold t14
  simp only [w13]
  after_results_entrywise [t13_main_v104, t13_main_v105, t13_main_v39, t13_main_v43, t13_main_v56, cast_eq]
  all_goals rfl
set_option maxHeartbeats 4000000 in
theorem t14_main_v107_2 (V : Valuation τ sig (Elt Ideal)) : t14 V (no_index (Proc.devRef .tc main_v107_2)) = r_v107_2 := by
  unfold t14
  simp only [w13]
  after_results_entrywise [t13_main_v104, t13_main_v105, t13_main_v39, t13_main_v43, t13_main_v56, cast_eq]
  all_goals rfl
set_option maxHeartbeats 4000000 in
theorem t14_main_v107_3 (V : Valuation τ sig (Elt Ideal)) : t14 V (no_index (Proc.devRef .tc main_v107_3)) = r_v107_3 := by
  unfold t14
  simp only [w13]
  after_results_entrywise [t13_main_v104, t13_main_v105, t13_main_v39, t13_main_v43, t13_main_v56, cast_eq]
  all_goals rfl
set_option maxHeartbeats 4000000 in
theorem t14_main_v107_4 (V : Valuation τ sig (Elt Ideal)) : t14 V (no_index (Proc.devRef .tc main_v107_4)) = r_v107_4 := by
  unfold t14
  simp only [w13]
  after_results_entrywise [t13_main_v104, t13_main_v105, t13_main_v39, t13_main_v43, t13_main_v56, cast_eq]
  all_goals rfl
theorem t14_main_v39 (V : Valuation τ sig (Elt Ideal)) : t14 V (no_index (Proc.devRef .tc main_v39)) = r_v39 (V (Proc.devRef .tc main_arg0)) :=
  (t14_keep V main_v39 (by decide)).trans (t13_main_v39 V)
theorem t14_main_v43 (V : Valuation τ sig (Elt Ideal)) : t14 V (no_index (Proc.devRef .tc main_v43)) = r_v43 (V (Proc.devRef .tc main_arg1)) :=
  (t14_keep V main_v43 (by decide)).trans (t13_main_v43 V)
theorem t14_main_v56 (V : Valuation τ sig (Elt Ideal)) : t14 V (no_index (Proc.devRef .tc main_v56)) = r_v56 (V (Proc.devRef .tc main_arg1)) (V (Proc.devRef .tc main_arg2)) (V (Proc.devRef .tc main_arg3)) (V (Proc.devRef .tc main_arg4)) :=
  (t14_keep V main_v56 (by decide)).trans (t13_main_v56 V)
/-- The windows in order are the program's stretches. -/
theorem t_all (V : Valuation τ sig (Elt Ideal)) : after hostOps0_2 (after hostOps0_1 (after hostOps0 V)) = t14 V := by
  simp only [hostOps0_eq, hostOps0_1_eq, hostOps0_2_eq, after_append]
  rfl
theorem entry_main_v39 (V : Valuation τ sig (Elt Ideal)) : (after hostOps0_2 (after hostOps0_1 (after hostOps0 V))) (Proc.devRef .tc main_v39) = r_v39 (V (Proc.devRef .tc main_arg0)) :=
  (congrFun (t_all V) _).trans (t14_main_v39 V)
theorem entry_main_v43 (V : Valuation τ sig (Elt Ideal)) : (after hostOps0_2 (after hostOps0_1 (after hostOps0 V))) (Proc.devRef .tc main_v43) = r_v43 (V (Proc.devRef .tc main_arg1)) :=
  (congrFun (t_all V) _).trans (t14_main_v43 V)
theorem entry_main_v56 (V : Valuation τ sig (Elt Ideal)) : (after hostOps0_2 (after hostOps0_1 (after hostOps0 V))) (Proc.devRef .tc main_v56) = r_v56 (V (Proc.devRef .tc main_arg1)) (V (Proc.devRef .tc main_arg2)) (V (Proc.devRef .tc main_arg3)) (V (Proc.devRef .tc main_arg4)) :=
  (congrFun (t_all V) _).trans (t14_main_v56 V)
theorem entry_main_v107_0 (V : Valuation τ sig (Elt Ideal)) : (after hostOps0_2 (after hostOps0_1 (after hostOps0 V))) (Proc.devRef .tc main_v107_0) = r_v107_0 (V (Proc.devRef .tc main_arg1)) (V (Proc.devRef .tc main_arg2)) (V (Proc.devRef .tc main_arg3)) (V (Proc.devRef .tc main_arg4)) :=
  (congrFun (t_all V) _).trans (t14_main_v107_0 V)
theorem entry_main_v107_1 (V : Valuation τ sig (Elt Ideal)) : (after hostOps0_2 (after hostOps0_1 (after hostOps0 V))) (Proc.devRef .tc main_v107_1) = r_v107_1 :=
  (congrFun (t_all V) _).trans (t14_main_v107_1 V)
theorem entry_main_v107_2 (V : Valuation τ sig (Elt Ideal)) : (after hostOps0_2 (after hostOps0_1 (after hostOps0 V))) (Proc.devRef .tc main_v107_2) = r_v107_2 :=
  (congrFun (t_all V) _).trans (t14_main_v107_2 V)
theorem entry_main_v107_3 (V : Valuation τ sig (Elt Ideal)) : (after hostOps0_2 (after hostOps0_1 (after hostOps0 V))) (Proc.devRef .tc main_v107_3) = r_v107_3 :=
  (congrFun (t_all V) _).trans (t14_main_v107_3 V)
theorem entry_main_v107_4 (V : Valuation τ sig (Elt Ideal)) : (after hostOps0_2 (after hostOps0_1 (after hostOps0 V))) (Proc.devRef .tc main_v107_4) = r_v107_4 :=
  (congrFun (t_all V) _).trans (t14_main_v107_4 V)
/-- The contents before the first window. -/
def u0 (V : Valuation τ sig (Elt Ideal)) : Valuation τ sig (Elt Ideal) := V
theorem u0_main_v107_4 (V : Valuation τ sig (Elt Ideal)) : u0 V (no_index (Proc.devRef .tc main_v107_4)) = V (Proc.devRef .tc main_v107_4) := rfl
theorem u0_main_v39 (V : Valuation τ sig (Elt Ideal)) : u0 V (no_index (Proc.devRef .tc main_v39)) = V (Proc.devRef .tc main_v39) := rfl
theorem u0_main_v43 (V : Valuation τ sig (Elt Ideal)) : u0 V (no_index (Proc.devRef .tc main_v43)) = V (Proc.devRef .tc main_v43) := rfl
theorem u0_main_v56 (V : Valuation τ sig (Elt Ideal)) : u0 V (no_index (Proc.devRef .tc main_v56)) = V (Proc.devRef .tc main_v56) := rfl
/-- The contents after window 0. -/
def u1 (V : Valuation τ sig (Elt Ideal)) : Valuation τ sig (Elt Ideal) := after w14 (u0 V)
theorem u1_keep (V : Valuation τ sig (Elt Ideal)) (r : Ref sig .tc) (h : r ∉ w14_W) : u1 V (Proc.devRef .tc r) = u0 V (Proc.devRef .tc r) :=
  after_of_writes_sub w14 _ w14_writes h
set_option maxHeartbeats 4000000 in
theorem u1_main_indices (V : Valuation τ sig (Elt Ideal)) : u1 V (no_index (Proc.devRef .tc main_indices)) = p_indices (V (Proc.devRef .tc main_v39)) (V (Proc.devRef .tc main_v107_4)) := by
  unfold u1
  simp only [w14]
  after_results_entrywise [u0_main_v107_4, u0_main_v39, u0_main_v43, u0_main_v56, cast_eq]
  all_goals rfl
theorem u1_main_v43 (V : Valuation τ sig (Elt Ideal)) : u1 V (no_index (Proc.devRef .tc main_v43)) = (V (Proc.devRef .tc main_v43)) :=
  (u1_keep V main_v43 (by decide)).trans (u0_main_v43 V)
theorem u1_main_v56 (V : Valuation τ sig (Elt Ideal)) : u1 V (no_index (Proc.devRef .tc main_v56)) = (V (Proc.devRef .tc main_v56)) :=
  (u1_keep V main_v56 (by decide)).trans (u0_main_v56 V)
set_option maxHeartbeats 4000000 in
theorem u1_main_values (V : Valuation τ sig (Elt Ideal)) : u1 V (no_index (Proc.devRef .tc main_values)) = p_values (V (Proc.devRef .tc main_v39)) (V (Proc.devRef .tc main_v107_4)) := by
  unfold u1
  simp only [w14]
  after_results_entrywise [u0_main_v107_4, u0_main_v39, u0_main_v43, u0_main_v56, cast_eq]
  all_goals rfl
/-- The contents after window 1. -/
def u2 (V : Valuation τ sig (Elt Ideal)) : Valuation τ sig (Elt Ideal) := after w15 (u1 V)
theorem u2_keep (V : Valuation τ sig (Elt Ideal)) (r : Ref sig .tc) (h : r ∉ w15_W) : u2 V (Proc.devRef .tc r) = u1 V (Proc.devRef .tc r) :=
  after_of_writes_sub w15 _ w15_writes h
theorem u2_main_indices (V : Valuation τ sig (Elt Ideal)) : u2 V (no_index (Proc.devRef .tc main_indices)) = p_indices (V (Proc.devRef .tc main_v39)) (V (Proc.devRef .tc main_v107_4)) :=
  (u2_keep V main_indices (by decide)).trans (u1_main_indices V)
set_option maxHeartbeats 4000000 in
theorem u2_main_v119 (V : Valuation τ sig (Elt Ideal)) : u2 V (no_index (Proc.devRef .tc main_v119)) = p_v119 (V (Proc.devRef .tc main_v39)) (V (Proc.devRef .tc main_v107_4)) (V (Proc.devRef .tc main_v56)) := by
  unfold u2
  simp only [w15]
  after_results_entrywise [u1_main_indices, u1_main_v43, u1_main_v56, u1_main_values, cast_eq]
  all_goals rfl
theorem u2_main_v43 (V : Valuation τ sig (Elt Ideal)) : u2 V (no_index (Proc.devRef .tc main_v43)) = (V (Proc.devRef .tc main_v43)) :=
  (u2_keep V main_v43 (by decide)).trans (u1_main_v43 V)
theorem u2_main_values (V : Valuation τ sig (Elt Ideal)) : u2 V (no_index (Proc.devRef .tc main_values)) = p_values (V (Proc.devRef .tc main_v39)) (V (Proc.devRef .tc main_v107_4)) :=
  (u2_keep V main_values (by decide)).trans (u1_main_values V)
/-- The contents after window 2. -/
def u3 (V : Valuation τ sig (Elt Ideal)) : Valuation τ sig (Elt Ideal) := after w16 (u2 V)
theorem u3_keep (V : Valuation τ sig (Elt Ideal)) (r : Ref sig .tc) (h : r ∉ w16_W) : u3 V (Proc.devRef .tc r) = u2 V (Proc.devRef .tc r) :=
  after_of_writes_sub w16 _ w16_writes h
theorem u3_main_v119 (V : Valuation τ sig (Elt Ideal)) : u3 V (no_index (Proc.devRef .tc main_v119)) = p_v119 (V (Proc.devRef .tc main_v39)) (V (Proc.devRef .tc main_v107_4)) (V (Proc.devRef .tc main_v56)) :=
  (u3_keep V main_v119 (by decide)).trans (u2_main_v119 V)
set_option maxHeartbeats 4000000 in
theorem u3_main_v126 (V : Valuation τ sig (Elt Ideal)) : u3 V (no_index (Proc.devRef .tc main_v126)) = p_v126 (V (Proc.devRef .tc main_v39)) (V (Proc.devRef .tc main_v107_4)) (V (Proc.devRef .tc main_v43)) := by
  unfold u3
  simp only [w16]
  after_results_entrywise [u2_main_indices, u2_main_v119, u2_main_v43, u2_main_values, cast_eq]
  all_goals rfl
theorem u3_main_values (V : Valuation τ sig (Elt Ideal)) : u3 V (no_index (Proc.devRef .tc main_values)) = p_values (V (Proc.devRef .tc main_v39)) (V (Proc.devRef .tc main_v107_4)) :=
  (u3_keep V main_values (by decide)).trans (u2_main_values V)
/-- The windows in order are the program's stretches. -/
theorem u_all (V : Valuation τ sig (Elt Ideal)) : after hostOps0_3 V = u3 V := by
  simp only [hostOps0_3_eq, after_append]
  rfl
theorem post_main_values (V : Valuation τ sig (Elt Ideal)) : (after hostOps0_3 V) (Proc.devRef .tc main_values) = p_values (V (Proc.devRef .tc main_v39)) (V (Proc.devRef .tc main_v107_4)) :=
  (congrFun (u_all V) _).trans (u3_main_values V)
theorem post_main_v119 (V : Valuation τ sig (Elt Ideal)) : (after hostOps0_3 V) (Proc.devRef .tc main_v119) = p_v119 (V (Proc.devRef .tc main_v39)) (V (Proc.devRef .tc main_v107_4)) (V (Proc.devRef .tc main_v56)) :=
  (congrFun (u_all V) _).trans (u3_main_v119 V)
theorem post_main_v126 (V : Valuation τ sig (Elt Ideal)) : (after hostOps0_3 V) (Proc.devRef .tc main_v126) = p_v126 (V (Proc.devRef .tc main_v39)) (V (Proc.devRef .tc main_v107_4)) (V (Proc.devRef .tc main_v43)) :=
  (congrFun (u_all V) _).trans (u3_main_v126 V)

end Cert.NmsRefIdeal.Hand
-- ==== Proof.NmsRefLoop.lean ====
/-
  The reference's loop: what its trips do to the survivors, and that the other buffers keep their contents.
-/
module

public import proofs.«01_k».proof.Proof.NmsRefHost
public import proofs.«01_k».proof.Proof.NmsModel
public import proofs.«01_k».proof.Proof.NmsMath
public import Idealize.ShloMosaic.Lib.DynamicIndex

@[expose] public section
set_option maxRecDepth 16384
noncomputable section
namespace Cert.NmsRefIdeal.Hand
open Cert.NmsRefIdeal Cert.NmsRefIdeal.Gen Cert.NmsRefIdeal.Value Cert.Proof Idealize.ShloMosaic Idealize.ShloMosaic.TcCoe
open Idealize.SL Idealize.SL.Sem Idealize.ShloMosaic.StableHlo

/-- A slice of one row of a batch of matrices, read at an index. -/
theorem row_slice {α : Type} (x : S2x1000x1000.Idx → α) (start : Fin 3 → Int) (h : S2x1000x1000.Slices (fun _ => 0) S2x1x1000)
    (t : ℕ) (ht : t < 1000) (h0 : start 0 = 0) (h1 : start 1 = t) (h2 : start 2 = 0) (b : Fin 2) (u : Fin 1) (j : Fin 1000) :
    Host.dynamicSlice S2x1x1000 x start h (ix3 b u j) = x (ix3 b ⟨t, ht⟩ j) := by
  have hoff : S2x1000x1000.Slices ![0, t, 0] S2x1x1000 := by
    refine ⟨rfl, fun a => ?_⟩
    have ha : a = 0 ∨ a = 1 ∨ a = 2 := by fin_cases a <;> simp
    rcases ha with rfl | rfl | rfl
    · exact le_refl 2
    · show t + 1 ≤ 1000; omega
    · exact le_refl 1000
  have hs : ∀ a : Fin 3, start a = ((![0, t, 0] : Fin 3 → ℕ) a : Int) := fun a => by
    have ha : a = 0 ∨ a = 1 ∨ a = 2 := by fin_cases a <;> simp
    rcases ha with rfl | rfl | rfl
    · exact h0
    · exact h1
    · exact h2
  rw [Host.dynamicSlice_eq_extractStridedSlice S2x1x1000 x start ![0, t, 0] h hoff hs]
  refine congrArg x (funext fun a => Fin.ext ?_)
  have ha : a = 0 ∨ a = 1 ∨ a = 2 := by fin_cases a <;> simp
  rcases ha with rfl | rfl | rfl
  · show 0 + b.val = b.val; omega
  · show t + u.val = t; omega
  · show 0 + j.val = j.val; omega

/-- A slice of one entry of each row, read at an index. -/
theorem one_slice {α : Type} (x : S2x1000.Idx → α) (start : Fin 2 → Int) (h : S2x1000.Slices (fun _ => 0) S2x1)
    (t : ℕ) (ht : t < 1000) (h0 : start 0 = 0) (h1 : start 1 = t) (b : Fin 2) (u : Fin 1) :
    Host.dynamicSlice S2x1 x start h (ix2 b u) = x (ix2 b ⟨t, ht⟩) := by
  have hoff : S2x1000.Slices ![0, t] S2x1 := by
    refine ⟨rfl, fun a => ?_⟩
    have ha : a = 0 ∨ a = 1 := by fin_cases a <;> simp
    rcases ha with rfl | rfl
    · exact le_refl 2
    · show t + 1 ≤ 1000; omega
  have hs : ∀ a : Fin 2, start a = ((![0, t] : Fin 2 → ℕ) a : Int) := fun a => by
    have ha : a = 0 ∨ a = 1 := by fin_cases a <;> simp
    rcases ha with rfl | rfl
    · exact h0
    · exact h1
  rw [Host.dynamicSlice_eq_extractStridedSlice S2x1 x start ![0, t] h hoff hs]
  refine congrArg x (funext fun a => Fin.ext ?_)
  have ha : a = 0 ∨ a = 1 := by fin_cases a <;> simp
  rcases ha with rfl | rfl
  · show 0 + b.val = b.val; omega
  · show t + u.val = t; omega

/-- The start index of a trip's slices. -/
abbrev at3 (n : IVec S_ 32) : IVec S_ 32 := select (cmpi .slt n (constantI S_ 32 0#32)) (addi (id n) (constantI S_ 32 1000#32)) n

/-- The survivors after one trip, of the overlap ratios, the positions, the trip's number and the survivors before it. -/
def trip (o : FVec Ideal S2x1000x1000 .f32) (p : IVec S1000 32) (n : IVec S_ 32) (k : IVec S2x1000 1) : IVec S2x1000 1 :=
  andi k (noti (andi (andi (cmpf .ogt (shapeCast S2x1000 (Host.dynamicSlice S2x1x1000 o (fun e => (((![constantI S_ 32 0#32, at3 n, constantI S_ 32 0#32] : Fin 3 → IVec S_ 32)) e (Shape.Idx.first h_S_)).toInt) sliceFits_S2x1000x1000_S2x1x1000) shapeCasts_S2x1x1000_S2x1000)
    (broadcastInDim S2x1000 ![] bcast_S_S2x1000 (constant S_ .f32 0x3F000000#32)))
    (broadcastInDim S2x1000 ![0, 1] bcast_S1x1000_S2x1000_0_1 (cmpi .sgt (broadcastInDim S1x1000 ![1] bcast_S1000_S1x1000_1 p) (broadcastInDim S1x1000 ![] bcast_S_S1x1000 n))))
    (broadcastInDim S2x1000 ![0, 1] bcast_S2x1_S2x1000_0_1 (Host.dynamicSlice S2x1 k (fun e => (((![constantI S_ 32 0#32, at3 n] : Fin 2 → IVec S_ 32)) e (Shape.Idx.first h_S_)).toInt) sliceFits_S2x1000_S2x1))))

/-- One trip, read at a candidate. -/
theorem trip_read (o : FVec Ideal S2x1000x1000 .f32) (p : IVec S1000 32) (n : IVec S_ 32) (k : IVec S2x1000 1) (t : ℕ) (ht : t < 1000)
    (hn : n = fun _ => BitVec.ofNat 32 t) (b : Fin 2) (j : Fin 1000) :
    trip o p n k (ix2 b j) = IntOp.andi (k (ix2 b j)) (~~~(IntOp.andi (IntOp.andi
      (BitVec.ofBool (decide (lit 0x3F000000#32 < o (ix3 b ⟨t, ht⟩ j)))) (IntOp.cmpi .sgt (p (ix1 j)) (BitVec.ofNat 32 t))) (k (ix2 b ⟨t, ht⟩)))) := by
  subst hn
  have hst : ∀ i, (at3 (fun _ => BitVec.ofNat 32 t) i).toInt = (t : Int) := fun i => toInt_wrap_ofNat t (by omega)
  have h3 := fun u => row_slice o (fun e => (((![constantI S_ 32 0#32, at3 (fun _ => BitVec.ofNat 32 t), constantI S_ 32 0#32] : Fin 3 → IVec S_ 32)) e (Shape.Idx.first h_S_)).toInt)
    sliceFits_S2x1000x1000_S2x1x1000 t ht rfl (hst _) rfl b u j
  have h2 := fun u => one_slice k (fun e => (((![constantI S_ 32 0#32, at3 (fun _ => BitVec.ofNat 32 t)] : Fin 2 → IVec S_ 32)) e (Shape.Idx.first h_S_)).toInt)
    sliceFits_S2x1000_S2x1 t ht rfl (hst _) b u
  unfold trip
  generalize Host.dynamicSlice S2x1x1000 o _ _ = y3 at h3
  generalize Host.dynamicSlice S2x1 k _ _ = y2 at h2
  pointwise []
  rw [h3, h2]

/-- The survivors after `n` trips. -/
def trips (o : FVec Ideal S2x1000x1000 .f32) (p : IVec S1000 32) (k : IVec S2x1000 1) : ℕ → IVec S2x1000 1
  | 0 => k
  | n + 1 => trip o p (fun _ => BitVec.ofNat 32 n) (trips o p k n)

/-- The survivors after `n` trips are those of the greedy pass. -/
theorem trips_read (o : FVec Ideal S2x1000x1000 .f32) (p : IVec S1000 32) (k : IVec S2x1000 1) (b : Fin 2) (M : ℕ → ℕ → Bool)
    (ho : ∀ i j : Fin 1000, decide (lit 0x3F000000#32 < o (ix3 b i j)) = M i.val j.val) (hp : ∀ j : Fin 1000, p (ix1 j) = BitVec.ofNat 32 j.val)
    (hk : ∀ j : Fin 1000, k (ix2 b j) = 1#1) : ∀ n ≤ 1000, ∀ j : Fin 1000, trips o p k n (ix2 b j) = BitVec.ofBool (pass M n j.val)
  | 0, _, j => hk j
  | n + 1, h, j => by
    have ih := trips_read o p k b M ho hp hk n (by omega)
    have hg : IntOp.cmpi .sgt (BitVec.ofNat 32 j.val) (BitVec.ofNat 32 n) = BitVec.ofBool (decide (n < j.val)) :=
      slt_ofNat n j.val (by omega) (by omega)
    have hb : ∀ x y z w : Bool, IntOp.andi (BitVec.ofBool x) (~~~(IntOp.andi (IntOp.andi (BitVec.ofBool y) (BitVec.ofBool z)) (BitVec.ofBool w)))
      = BitVec.ofBool (x && !(y && z && w)) := by decide
    show trip o p (fun _ => BitVec.ofNat 32 n) (trips o p k n) (ix2 b j) = _
    rw [trip_read o p _ _ n (by omega) rfl b j, ih j, ih ⟨n, by omega⟩, hp j, hg, ho ⟨n, by omega⟩ j, hb]
    rfl

/-- The survivors after the thousand trips are the candidates the greedy pass keeps. -/
theorem trips_all (o : FVec Ideal S2x1000x1000 .f32) (p : IVec S1000 32) (k : IVec S2x1000 1) (b : Fin 2) (M : ℕ → ℕ → Bool)
    (ho : ∀ i j : Fin 1000, decide (lit 0x3F000000#32 < o (ix3 b i j)) = M i.val j.val) (hp : ∀ j : Fin 1000, p (ix1 j) = BitVec.ofNat 32 j.val)
    (hk : ∀ j : Fin 1000, k (ix2 b j) = 1#1) (j : Fin 1000) : trips o p k 1000 (ix2 b j) = BitVec.ofBool (kept M j.val) := by
  have h := trips_read o p k b M ho hp hk 1000 le_rfl j
  rw [h]
  obtain ⟨d, hd⟩ : ∃ d, j.val + d = 1000 := ⟨1000 - j.val, by omega⟩
  have hl := pass_late M j.val d
  rw [hd] at hl
  rw [hl]

/-- One trip's survivors of the contents before it. -/
theorem step_survivors (X : Valuation τ sig (Elt Ideal)) : step_main_v107_4 X
    = trip (X (Proc.devRef .tc main_v107_0)) (X (Proc.devRef .tc main_v107_1)) (X (Proc.devRef .tc main_v107_3)) (X (Proc.devRef .tc main_v107_4)) := rfl

/-- What the iterated step leaves in the carried buffers. -/
theorem steps (X : Valuation τ sig (Elt Ideal)) (h3 : X (Proc.devRef .tc main_v107_3) = fun _ => BitVec.ofNat 32 0) : ∀ n,
    (STEP^[n] X) (Proc.devRef .tc main_v107_0) = X (Proc.devRef .tc main_v107_0)
    ∧ (STEP^[n] X) (Proc.devRef .tc main_v107_1) = X (Proc.devRef .tc main_v107_1)
    ∧ ((STEP^[n] X) (Proc.devRef .tc main_v107_3) = fun _ => BitVec.ofNat 32 n)
    ∧ (STEP^[n] X) (Proc.devRef .tc main_v107_4)
      = trips (X (Proc.devRef .tc main_v107_0)) (X (Proc.devRef .tc main_v107_1)) (X (Proc.devRef .tc main_v107_4)) n
  | 0 => ⟨rfl, rfl, h3, rfl⟩
  | n + 1 => by
    obtain ⟨a0, a1, a3, a4⟩ := steps X h3 n
    rw [Function.iterate_succ_apply']
    refine ⟨(STEP_main_v107_0 _).trans a0, (STEP_main_v107_1 _).trans a1, (STEP_main_v107_3 _).trans ?_, (STEP_main_v107_4 _).trans ?_⟩
    · unfold step_main_v107_3
      rw [a3]
      funext i
      show BitVec.ofNat 32 n + 1#32 = _
      exact (BitVec.ofNat_add n 1).symm
    · rw [step_survivors, a0, a1, a3, a4]
      rfl

variable (m : (ℓ : Loc nD τ sig) → Buf (Elt Ideal) ℓ) (c : Dev nD)

/-- A buffer neither the condition nor the body writes keeps its contents through the loop. -/
theorem loop_keep (r : Ref sig .tc) (hc : r ∉ condOps_W) (h0 : r ∉ while0Ops0_W) (h1 : r ∉ while0Ops0_1_W) (h2 : r ∉ while0Ops0_2_W)
    (h3 : r ∉ while0Ops0_3_W) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc, loop_keep r hc h0 h1 h2 h3 k]
    rfl

/-- The contents the stretch after the loop starts with. -/
abbrev left : Valuation τ sig (Elt Ideal) := after condOps (atK m 1000 c)

/-- The overlap ratios, the positions and the first survivors at the loop's entry, of the arguments. -/
theorem left_keep (r : Ref sig .tc) (hc : r ∉ condOps_W) (h0 : r ∉ while0Ops0_W) (h1 : r ∉ while0Ops0_1_W) (h2 : r ∉ while0Ops0_2_W)
    (h3 : r ∉ while0Ops0_3_W) : left m c (Proc.devRef .tc r) = entryContents preI m c (Proc.devRef .tc r) :=
  (after_of_writes_sub condOps _ condOps_writes hc).trans (loop_keep m c r hc h0 h1 h2 h3 1000)

/-- The arguments' contents. -/
abbrev a0 : FVec Ideal S2x1024 .f32 := launchContents m c (Proc.devRef .tc main_arg0)
abbrev a1 : IVec S2x1024 32 := launchContents m c (Proc.devRef .tc main_arg1)
abbrev a2 : IVec S2x1024 32 := launchContents m c (Proc.devRef .tc main_arg2)
abbrev a3 : FVec Ideal S2x1024x364 .f32 := launchContents m c (Proc.devRef .tc main_arg3)
abbrev a4 : FVec Ideal S2x1024x4 .f32 := launchContents m c (Proc.devRef .tc main_arg4)

theorem left_v39 : left m c (Proc.devRef .tc main_v39) = r_v39 (a0 m c) :=
  (left_keep m c main_v39 (by decide) (by decide) (by decide) (by decide) (by decide)).trans (entry_main_v39 _)
theorem left_v43 : left m c (Proc.devRef .tc main_v43) = r_v43 (a1 m c) :=
  (left_keep m c main_v43 (by decide) (by decide) (by decide) (by decide) (by decide)).trans (entry_main_v43 _)
theorem left_v56 : left m c (Proc.devRef .tc main_v56) = r_v56 (a1 m c) (a2 m c) (a3 m c) (a4 m c) :=
  (left_keep m c main_v56 (by decide) (by decide) (by decide) (by decide) (by decide)).trans (entry_main_v56 _)

/-- The survivors after the loop. -/
theorem left_survivors : left m c (Proc.devRef .tc main_v107_4)
    = trips (r_v107_0 (a1 m c) (a2 m c) (a3 m c) (a4 m c)) r_v107_1 r_v107_4 1000 := by
  have h := (steps (entryContents preI m c) (entry_main_v107_3 _) 1000).2.2.2
  refine (after_of_writes_sub condOps _ condOps_writes (by decide)).trans ((atK_agree m c 1000 main_v107_4 (by decide)).trans (h.trans ?_))
  rw [show entryContents preI m c (Proc.devRef .tc main_v107_0) = _ from entry_main_v107_0 _,
    show entryContents preI m c (Proc.devRef .tc main_v107_1) = _ from entry_main_v107_1 _,
    show entryContents preI m c (Proc.devRef .tc main_v107_4) = _ from entry_main_v107_4 _]

/-- The survivors of the reference, of its arguments. -/
def survivors (x1 x2 : IVec S2x1024 32) (x3 : FVec Ideal S2x1024x364 .f32) (x4 : FVec Ideal S2x1024x4 .f32) : IVec S2x1000 1 :=
  trips (r_v107_0 x1 x2 x3 x4) r_v107_1 r_v107_4 1000

/-- An argument is not written. -/
theorem final_arg (r : Ref sig .tc) (hc : r ∉ condOps_W) (h0 : r ∉ while0Ops0_W) (h1 : r ∉ while0Ops0_1_W) (h2 : r ∉ while0Ops0_2_W)
    (h3 : r ∉ while0Ops0_3_W) (g0 : r ∉ hostOps0_W) (g1 : r ∉ hostOps0_1_W) (g2 : r ∉ hostOps0_2_W) (p0 : r ∉ w14_W) (p1 : r ∉ w15_W) (p2 : r ∉ w16_W) :
    finalContents condOps preI bodyI postI 1000 m c (Proc.devRef .tc r) = launchContents m c (Proc.devRef .tc r) := by
  have e : finalContents condOps preI bodyI postI 1000 m c = after hostOps0_3 (left m c) := rfl
  rw [e, u_all, u3_keep _ r p2, u2_keep _ r p1, u1_keep _ r p0]
  refine (left_keep m c r hc h0 h1 h2 h3).trans ?_
  show after hostOps0_2 (after hostOps0_1 (after hostOps0 (launchContents m c))) _ = _
  rw [after_of_writes_sub hostOps0_2 _ hostOps0_2_writes g2, after_of_writes_sub hostOps0_1 _ hostOps0_1_writes g1,
    after_of_writes_sub hostOps0 _ hostOps0_writes g0]

/-- The boxes the reference ends with. -/
theorem final_boxes : finalContents condOps preI bodyI postI 1000 m c (Proc.devRef .tc main_v119)
    = p_v119 (r_v39 (a0 m c)) (survivors (a1 m c) (a2 m c) (a3 m c) (a4 m c)) (r_v56 (a1 m c) (a2 m c) (a3 m c) (a4 m c)) := by
  refine (post_main_v119 (left m c)).trans ?_
  rw [left_v39, left_v56, left_survivors]; rfl

/-- The scores the reference ends with. -/
theorem final_scores : finalContents condOps preI bodyI postI 1000 m c (Proc.devRef .tc main_values)
    = p_values (r_v39 (a0 m c)) (survivors (a1 m c) (a2 m c) (a3 m c) (a4 m c)) := by
  refine (post_main_values (left m c)).trans ?_
  rw [left_v39, left_survivors]; rfl

/-- The labels the reference ends with. -/
theorem final_labels : finalContents condOps preI bodyI postI 1000 m c (Proc.devRef .tc main_v126)
    = p_v126 (r_v39 (a0 m c)) (survivors (a1 m c) (a2 m c) (a3 m c) (a4 m c)) (r_v43 (a1 m c)) := by
  refine (post_main_v126 (left m c)).trans ?_
  rw [left_v39, left_v43, left_survivors]; rfl

/-- The reference runs, ends with the values above and leaves its arguments. -/
theorem run (ρ : Dev nD → PrngReg) : θ_run (defs (F := Ideal)) (onTc (τ := τ) (main (F := Ideal))) ⟨m, fun _ => 0, ρ⟩
    (fun r => ∀ c : Dev nD,
      r.2.mem ((c.tc : Thread nD τ).loc main_v119) = p_v119 (r_v39 (a0 m c)) (survivors (a1 m c) (a2 m c) (a3 m c) (a4 m c)) (r_v56 (a1 m c) (a2 m c) (a3 m c) (a4 m c))
      ∧ r.2.mem ((c.tc : Thread nD τ).loc main_values) = p_values (r_v39 (a0 m c)) (survivors (a1 m c) (a2 m c) (a3 m c) (a4 m c))
      ∧ r.2.mem ((c.tc : Thread nD τ).loc main_v126) = p_v126 (r_v39 (a0 m c)) (survivors (a1 m c) (a2 m c) (a3 m c) (a4 m c)) (r_v43 (a1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono (fun r h c => ?_) (run_fold (F := Ideal) m ρ)
  refine ⟨(h c main_v119 rfl).trans (final_boxes m c), (h c main_values rfl).trans (final_scores m c), (h c main_v126 rfl).trans (final_labels m c),
    (h c main_arg0 rfl).trans (final_arg m c main_arg0 (by decide) (by decide) (by decide) (by decide) (by decide) (by decide) (by decide) (by decide) (by decide) (by decide) (by decide)),
    (h c main_arg1 rfl).trans (final_arg m c main_arg1 (by decide) (by decide) (by decide) (by decide) (by decide) (by decide) (by decide) (by decide) (by decide) (by decide) (by decide)),
    (h c main_arg2 rfl).trans (final_arg m c main_arg2 (by decide) (by decide) (by decide) (by decide) (by decide) (by decide) (by decide) (by decide) (by decide) (by decide) (by decide)),
    (h c main_arg3 rfl).trans (final_arg m c main_arg3 (by decide) (by decide) (by decide) (by decide) (by decide) (by decide) (by decide) (by decide) (by decide) (by decide) (by decide)),
    (h c main_arg4 rfl).trans (final_arg m c main_arg4 (by decide) (by decide) (by decide) (by decide) (by decide) (by decide) (by decide) (by decide) (by decide) (by decide) (by decide))⟩

end Cert.NmsRefIdeal.Hand
-- ==== Proof.NmsGather.lean ====
/-
  The reference's gathers of rows, read at an index: a batch of operands, one start row per result row.
-/
module

public import Idealize.ShloMosaic.Lib.ValueIdx
public import Idealize.ShloMosaic.Lib.Pointwise

@[expose] public section
noncomputable section
namespace Cert.Proof
open Idealize.ShloMosaic

variable {α : Type}

/-- The dimension numbers of a gather of whole rows of a batch of operands. -/
abbrev rowDims (B N R C : ℕ)
    (wf : GatherDims.WF ⟨3, ![B, N, C]⟩ ⟨3, ![B, R, 1]⟩ ⟨3, ![B, R, C]⟩ [2] [1] [0] [1] [0] 2 ![1, 1, C]) :
    GatherDims ⟨3, ![B, N, C]⟩ ⟨3, ![B, R, 1]⟩ ⟨3, ![B, R, C]⟩ where
  offsetDims := [2]
  collapsedSliceDims := [1]
  operandBatchingDims := [0]
  startIndicesBatchingDims := [0]
  startIndexMap := [1]
  indexVectorDim := 2
  sliceSizes := ![1, 1, C]
  wf := wf

/-- A row gathered is the operand's row at the start index, read signed and cut to the operand's rows. -/
theorem gather_row_apply {B N R C w : ℕ} (hN : 0 < N)
    (wf : GatherDims.WF ⟨3, ![B, N, C]⟩ ⟨3, ![B, R, 1]⟩ ⟨3, ![B, R, C]⟩ [2] [1] [0] [1] [0] 2 ![1, 1, C])
    (x : (⟨3, ![B, N, C]⟩ : Shape).Idx → α) (idx : IVec ⟨3, ![B, R, 1]⟩ w) (b : Fin B) (r : Fin R) (c : Fin C) :
    Host.gather (rowDims B N R C wf) x idx (ix3 b r c)
      = x (ix3 b ⟨min (idx (ix3 b r 0)).toInt.toNat (N - 1), by omega⟩ c) := by
  unfold Host.gather
  refine congrArg x (funext fun a => Fin.ext ?_)
  show (rowDims B N R C wf).start (ix3 b r c) idx a + (rowDims B N R C wf).batchCoord (ix3 b r c) a
      + (rowDims B N R C wf).offCoord (ix3 b r c) a = _
  have ha : a = 0 ∨ a = 1 ∨ a = 2 := by fin_cases a <;> simp
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (by simp),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims B N R C wf).startIndexMap from List.mem_singleton.mpr rfl)]
    have hsi : (rowDims B N R C wf).siIdx (ix3 b r c) ⟨List.idxOf (1 : Fin 3) (rowDims B N R C wf).startIndexMap,
        List.idxOf_lt_length_iff.2 (List.mem_singleton.mpr rfl)⟩ = ix3 b r 0 := by
      funext e; refine Fin.ext ?_
      match e with
      | ⟨0, _⟩ => rfl
      | ⟨1, _⟩ => rfl
      | ⟨2, _⟩ => rfl
    rw [hsi]
    rfl
  · rw [GatherDims.batchCoord_eq_zero _ _ _ (by simp)]
    unfold GatherDims.start
    rw [dif_neg (by simp)]
    simp only [Nat.zero_add]
    unfold GatherDims.offCoord
    rw [dif_pos ((GatherDims.mem_sKept _ _).mpr ⟨by simp, by simp⟩)]
    rfl

/-- The dimension numbers of a gather of single entries of a batch of operands. -/
abbrev oneDims (B N R : ℕ)
    (wf : GatherDims.WF ⟨2, ![B, N]⟩ ⟨3, ![B, R, 1]⟩ ⟨2, ![B, R]⟩ [] [1] [0] [1] [0] 2 ![1, 1]) :
    GatherDims ⟨2, ![B, N]⟩ ⟨3, ![B, R, 1]⟩ ⟨2, ![B, R]⟩ where
  offsetDims := []
  collapsedSliceDims := [1]
  operandBatchingDims := [0]
  startIndicesBatchingDims := [0]
  startIndexMap := [1]
  indexVectorDim := 2
  sliceSizes := ![1, 1]
  wf := wf

/-- An entry gathered is the operand's at the start index, read signed and cut to the operand's entries. -/
theorem gather_one_apply {B N R w : ℕ} (hN : 0 < N)
    (wf : GatherDims.WF ⟨2, ![B, N]⟩ ⟨3, ![B, R, 1]⟩ ⟨2, ![B, R]⟩ [] [1] [0] [1] [0] 2 ![1, 1])
    (x : (⟨2, ![B, N]⟩ : Shape).Idx → α) (idx : IVec ⟨3, ![B, R, 1]⟩ w) (b : Fin B) (r : Fin R) :
    Host.gather (oneDims B N R wf) x idx (ix2 b r)
      = x (ix2 b ⟨min (idx (ix3 b r 0)).toInt.toNat (N - 1), by omega⟩) := by
  unfold Host.gather
  refine congrArg x (funext fun a => Fin.ext ?_)
  show (oneDims B N R wf).start (ix2 b r) idx a + (oneDims B N R wf).batchCoord (ix2 b r) a
      + (oneDims B N R wf).offCoord (ix2 b r) a = _
  have ha : a = 0 ∨ a = 1 := by fin_cases a <;> simp
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (by simp),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (oneDims B N R wf).startIndexMap from List.mem_singleton.mpr rfl)]
    have hsi : (oneDims B N R wf).siIdx (ix2 b r) ⟨List.idxOf (1 : Fin 2) (oneDims B N R wf).startIndexMap,
        List.idxOf_lt_length_iff.2 (List.mem_singleton.mpr rfl)⟩ = ix3 b r 0 := by
      funext e; refine Fin.ext ?_
      match e with
      | ⟨0, _⟩ => rfl
      | ⟨1, _⟩ => rfl
      | ⟨2, _⟩ => rfl
    rw [hsi]
    rfl

/-- What the cut of a start index that is one of the rows is. -/
theorem cut_start (n N : ℕ) (hn : n < N) (hN : N ≤ 2 ^ 31) : min (BitVec.ofNat 32 n).toInt.toNat (N - 1) = n := by
  rw [BitVec.toInt_eq_toNat_of_lt (by rw [BitVec.toNat_ofNat]; omega), Int.toNat_natCast, BitVec.toNat_ofNat,
    Nat.mod_eq_of_lt (by omega)]
  omega

end Cert.Proof
-- ==== Proof.NmsRefRead.lean ====
/-
  The reference's values read at an index: boxes, classes, gathered boxes, overlap ratios.
-/
module

public import proofs.«01_k».proof.Proof.NmsRefDefs
public import proofs.«01_k».proof.Proof.NmsModel
public import proofs.«01_k».proof.Proof.NmsGather

@[expose] public section
set_option maxRecDepth 16384
noncomputable section
namespace Cert.NmsRefIdeal.Hand
open Cert.NmsRefIdeal Cert.NmsRefIdeal.Gen Cert.Proof Idealize.ShloMosaic Idealize.ShloMosaic.TcCoe Idealize.SL.Sem

/-- The class of column `k` of the ninety that are decoded: class 0 is dropped. -/
abbrev colCls (k : Fin 90) : Fin 91 := ⟨1 + k.val, by omega⟩

/-- The place of class `k` of row `r` among the decoded boxes. -/
abbrev flat (r : Fin 1024) (k : Fin 90) : Fin 92160 := ⟨r.val * 90 + k.val, by omega⟩

/-- A regression of a class of a row, at its column. -/
theorem regr_at (x3 : FVec Ideal S2x1024x364 .f32) (b : Fin 2) (r : Fin 1024) (k : Fin 90) (c : Fin 4) (n : ℕ) (h : n < 364)
    (hn : n = 4 * (colCls k).val + c.val) :
    x3 (ix3 b r ⟨n, h⟩) = regr (fun j => x3 (ix3 b r j)) (colCls k) c := by
  subst hn; rfl

/-- Coordinate 0 of a decoded box, before the cut to the image. -/
theorem decoded_0 (x3 : FVec Ideal S2x1024x364 .f32) (x4 : FVec Ideal S2x1024x4 .f32) (b : Fin 2) (r : Fin 1024) (k : Fin 90) :
    r_v33 x3 x4 (ix4 b r k 0) = mid (regr (fun j => x3 (ix3 b r j)) (colCls k) 0) (x4 (ix3 b r 0)) (x4 (ix3 b r 2))
      - half (regr (fun j => x3 (ix3 b r j)) (colCls k) 2) (x4 (ix3 b r 0)) (x4 (ix3 b r 2)) := by
  pointwise [r_v33, r_v32, r_v31, r_v30, r_v29, r_cst_4, r_v28, r_v27, r_v26, r_cst_3, r_v25, r_v24, r_v23, r_v22, r_v21, r_v20, r_cst_2, r_v19, r_v18, r_cst_1, r_v17, r_v16, r_v15, r_v14, r_v13, r_v12, r_v11, r_v10, r_v9, r_cst_0, r_v8, r_v7, r_v6, r_v5, r_v4, r_cst, r_v3, r_v2, r_v1, r_v0]
  rw [regr_at x3 b r k 0 ((1 + k.val) * 4) _ (by show _ = 4 * (1 + k.val) + 0; omega), regr_at x3 b r k 2 ((1 + k.val) * 4 + 2) _ (by show _ = 4 * (1 + k.val) + 2; omega)]
  rfl

/-- Coordinate 1 of a decoded box, before the cut to the image. -/
theorem decoded_1 (x3 : FVec Ideal S2x1024x364 .f32) (x4 : FVec Ideal S2x1024x4 .f32) (b : Fin 2) (r : Fin 1024) (k : Fin 90) :
    r_v33 x3 x4 (ix4 b r k 1) = mid (regr (fun j => x3 (ix3 b r j)) (colCls k) 1) (x4 (ix3 b r 1)) (x4 (ix3 b r 3))
      - half (regr (fun j => x3 (ix3 b r j)) (colCls k) 3) (x4 (ix3 b r 1)) (x4 (ix3 b r 3)) := by
  pointwise [r_v33, r_v32, r_v31, r_v30, r_v29, r_cst_4, r_v28, r_v27, r_v26, r_cst_3, r_v25, r_v24, r_v23, r_v22, r_v21, r_v20, r_cst_2, r_v19, r_v18, r_cst_1, r_v17, r_v16, r_v15, r_v14, r_v13, r_v12, r_v11, r_v10, r_v9, r_cst_0, r_v8, r_v7, r_v6, r_v5, r_v4, r_cst, r_v3, r_v2, r_v1, r_v0]
  rw [regr_at x3 b r k 1 ((1 + k.val) * 4 + 1) _ (by show _ = 4 * (1 + k.val) + 1; omega), regr_at x3 b r k 3 ((1 + k.val) * 4 + 3) _ (by show _ = 4 * (1 + k.val) + 3; omega)]
  rfl

/-- Coordinate 2 of a decoded box, before the cut to the image. -/
theorem decoded_2 (x3 : FVec Ideal S2x1024x364 .f32) (x4 : FVec Ideal S2x1024x4 .f32) (b : Fin 2) (r : Fin 1024) (k : Fin 90) :
    r_v33 x3 x4 (ix4 b r k 2) = mid (regr (fun j => x3 (ix3 b r j)) (colCls k) 0) (x4 (ix3 b r 0)) (x4 (ix3 b r 2))
      + half (regr (fun j => x3 (ix3 b r j)) (colCls k) 2) (x4 (ix3 b r 0)) (x4 (ix3 b r 2)) := by
  pointwise [r_v33, r_v32, r_v31, r_v30, r_v29, r_cst_4, r_v28, r_v27, r_v26, r_cst_3, r_v25, r_v24, r_v23, r_v22, r_v21, r_v20, r_cst_2, r_v19, r_v18, r_cst_1, r_v17, r_v16, r_v15, r_v14, r_v13, r_v12, r_v11, r_v10, r_v9, r_cst_0, r_v8, r_v7, r_v6, r_v5, r_v4, r_cst, r_v3, r_v2, r_v1, r_v0]
  rw [regr_at x3 b r k 0 ((1 + k.val) * 4) _ (by show _ = 4 * (1 + k.val) + 0; omega), regr_at x3 b r k 2 ((1 + k.val) * 4 + 2) _ (by show _ = 4 * (1 + k.val) + 2; omega)]
  rfl

/-- Coordinate 3 of a decoded box, before the cut to the image. -/
theorem decoded_3 (x3 : FVec Ideal S2x1024x364 .f32) (x4 : FVec Ideal S2x1024x4 .f32) (b : Fin 2) (r : Fin 1024) (k : Fin 90) :
    r_v33 x3 x4 (ix4 b r k 3) = mid (regr (fun j => x3 (ix3 b r j)) (colCls k) 1) (x4 (ix3 b r 1)) (x4 (ix3 b r 3))
      + half (regr (fun j => x3 (ix3 b r j)) (colCls k) 3) (x4 (ix3 b r 1)) (x4 (ix3 b r 3)) := by
  pointwise [r_v33, r_v32, r_v31, r_v30, r_v29, r_cst_4, r_v28, r_v27, r_v26, r_cst_3, r_v25, r_v24, r_v23, r_v22, r_v21, r_v20, r_cst_2, r_v19, r_v18, r_cst_1, r_v17, r_v16, r_v15, r_v14, r_v13, r_v12, r_v11, r_v10, r_v9, r_cst_0, r_v8, r_v7, r_v6, r_v5, r_v4, r_cst, r_v3, r_v2, r_v1, r_v0]
  rw [regr_at x3 b r k 1 ((1 + k.val) * 4 + 1) _ (by show _ = 4 * (1 + k.val) + 1; omega), regr_at x3 b r k 3 ((1 + k.val) * 4 + 3) _ (by show _ = 4 * (1 + k.val) + 3; omega)]
  rfl

/-- The cut of a decoded box to the image. -/
theorem clipped (x3 : FVec Ideal S2x1024x364 .f32) (x4 : FVec Ideal S2x1024x4 .f32) (b : Fin 2) (r : Fin 1024) (k : Fin 90) (c : Fin 4) :
    r_v38 x3 x4 (ix3 b (flat r k) c) = clip (r_v33 x3 x4 (ix4 b r k c)) := by
  unfold r_v38 r_v36 r_v34
  generalize r_v33 x3 x4 = y
  pointwise [r_v37, r_cst_6, r_v35, r_cst_5]
  have h1 : (r.val * 90 + k.val) / 90 = r.val := by omega
  have h2 : (r.val * 90 + k.val) % 90 = k.val := by omega
  simp only [h1, h2]
  unfold clip
  rw [min_comm, max_comm]

/-- The box of a class of a row. -/
theorem box_read (x3 : FVec Ideal S2x1024x364 .f32) (x4 : FVec Ideal S2x1024x4 .f32) (b : Fin 2) (r : Fin 1024) (k : Fin 90) (c : Fin 4) :
    r_v38 x3 x4 (ix3 b (flat r k) c) = edge (fun j => x3 (ix3 b r j)) (fun j => x4 (ix3 b r j)) (colCls k) c := by
  rw [clipped]
  match c with
  | 0 => exact congrArg clip (decoded_0 x3 x4 b r k)
  | 1 => exact congrArg clip (decoded_1 x3 x4 b r k)
  | 2 => exact congrArg clip (decoded_2 x3 x4 b r k)
  | 3 => exact congrArg clip (decoded_3 x3 x4 b r k)

/-- The floored remainder by 90 of a word, one added, is the word of its class. -/
theorem cls_host (w : BitVec 32) :
    IntOp.addi (Scalar.select (IntOp.andi (IntOp.cmpi .ne (IntOp.cmpi .slt (IntOp.remsi .host w 90#32) 0#32) (IntOp.cmpi .slt 90#32 0#32))
        (IntOp.cmpi .ne (IntOp.remsi .host w 90#32) 0#32)) (IntOp.addi (IntOp.remsi .host w 90#32) 90#32) (IntOp.remsi .host w 90#32)) 1#32
      = BitVec.ofNat 32 (clsNat w + 1) := by
  have hr : IntOp.remsi .host w 90#32 = w.srem 90#32 := by
    unfold IntOp.remsi
    refine if_neg ?_
    rintro (h | ⟨_, h⟩) <;> exact absurd h (by decide)
  have hx : ∀ a c : BitVec 1, IntOp.cmpi .ne a c = IntOp.xori a c := by decide
  rw [hr, hx, rem_word]
  exact (BitVec.ofNat_add _ 1).symm

/-- The class word of a candidate. -/
theorem cls_word (x1 : IVec S2x1024 32) (b : Fin 2) (i : Fin 1000) :
    r_v43 x1 (ix2 b i) = BitVec.ofNat 32 (clsNat (x1 (ix2 b (pos i.val))) + 1) := by
  rw [pos_mk i.val (by omega), ← cls_host]
  pointwise [r_v43, r_v42, r_c_7, r_v41, r_call0_v14, r_call0_v13, r_call0_v12, r_call0_v11, r_call0_v10, r_call0_v9, r_call0_c_3, r_call0_v8, r_call0_v7, r_call0_c_2, r_call0_v6, r_call0_v5, r_call0_c_1, r_call0_v4, r_call0_v3, r_call0_v2, r_call0_c_0, r_call0_v1, r_call0_c, r_call0_v0, r_c, r_v40]
  rfl

/-- The start index of a candidate's gather, of the word of its slot and of its class. -/
theorem start_words (s n : ℕ) (hs : s < 1024) (hn : n < 90) :
    Scalar.select (IntOp.cmpi .slt (IntOp.subi (IntOp.addi (IntOp.muli (BitVec.ofNat 32 s) 90#32) (BitVec.ofNat 32 (n + 1))) 1#32) 0#32)
      (IntOp.addi (IntOp.subi (IntOp.addi (IntOp.muli (BitVec.ofNat 32 s) 90#32) (BitVec.ofNat 32 (n + 1))) 1#32) 92160#32)
      (IntOp.subi (IntOp.addi (IntOp.muli (BitVec.ofNat 32 s) 90#32) (BitVec.ofNat 32 (n + 1))) 1#32)
      = BitVec.ofNat 32 (s * 90 + n) := by
  have e : IntOp.subi (IntOp.addi (IntOp.muli (BitVec.ofNat 32 s) 90#32) (BitVec.ofNat 32 (n + 1))) 1#32 = BitVec.ofNat 32 (s * 90 + n) := by
    show BitVec.ofNat 32 s * 90#32 + BitVec.ofNat 32 (n + 1) - 1#32 = _
    rw [BitVec.ofNat_add, BitVec.ofNat_add, BitVec.ofNat_mul, ← BitVec.add_assoc, BitVec.add_sub_cancel]
  rw [e, show (0#32 : BitVec 32) = BitVec.ofNat 32 0 from rfl, slt_ofNat _ _ (by omega) (by omega), decide_eq_false (by omega)]
  rfl

/-- The start index of a candidate's gather is the place of its box. -/
theorem start_word (x1 x2 : IVec S2x1024 32) (b : Fin 2) (i : Fin 1000) (s : Fin 1024) (hs : x2 (ix2 b (pos i.val)) = BitVec.ofNat 32 s.val) :
    r_v55 x1 x2 (ix3 b i 0) = BitVec.ofNat 32 (s.val * 90 + clsNat (x1 (ix2 b (pos i.val)))) := by
  have h := cls_word x1 b i
  rw [← start_words s.val _ s.isLt (clsNat_lt _), ← h, ← hs, pos_mk i.val (by omega)]
  unfold r_v55 r_v54 r_v53 r_v51 r_v49 r_v47
  generalize r_v43 x1 = y
  pointwise [r_v52, r_c_11, r_v50, r_c_10, r_v48, r_c_9, r_v46, r_v45, r_c_8, r_v44]

/-- A candidate's box, gathered. -/
theorem gathered (x1 x2 : IVec S2x1024 32) (x3 : FVec Ideal S2x1024x364 .f32) (x4 : FVec Ideal S2x1024x4 .f32) (b : Fin 2) (i : Fin 1000)
    (s : Fin 1024) (hs : x2 (ix2 b (pos i.val)) = BitVec.ofNat 32 s.val) (c : Fin 4) :
    r_v56 x1 x2 x3 x4 (ix3 b i c) = edge (fun j => x3 (ix3 b s j)) (fun j => x4 (ix3 b s j)) (cls (x1 (ix2 b (pos i.val)))) c := by
  have h := start_word x1 x2 b i s hs
  unfold r_v56
  generalize r_v55 x1 x2 = y at h
  have hg := gather_row_apply (by decide) Facts₀.gather_S2x92160x4_S2x1000x1_S2x1000x4_2_1_0_0_1_2_114_wf (r_v38 x3 x4) y b i c
  refine hg.trans ?_
  have hk := clsNat_lt (x1 (ix2 b (pos i.val)))
  have hp : (⟨min (y (ix3 b i 0)).toInt.toNat (92160 - 1), by omega⟩ : Fin 92160) = flat s ⟨clsNat (x1 (ix2 b (pos i.val))), hk⟩ :=
    Fin.ext (by show min _ _ = _; rw [h, cut_start _ _ (by omega) (by omega)])
  rw [hp, box_read]
  have hc : colCls ⟨clsNat (x1 (ix2 b (pos i.val))), hk⟩ = cls (x1 (ix2 b (pos i.val))) := Fin.ext (Nat.add_comm _ _)
  rw [hc]

/-! The overlap ratios, of the boxes moved apart: each stage of the chain as a function of the stage it starts from. -/

def ar_v63 (y : FVec Ideal S2x1000x4 .f32) : FVec Ideal S2x1000x1 .f32 := (extractStridedSlice S2x1000x1 ![0, 0, 2] · slices_S2x1000x4_S2x1000x1_0_0_2) y
def ar_v64 (y : FVec Ideal S2x1000x4 .f32) : FVec Ideal S2x1000 .f32 := shapeCast S2x1000 (ar_v63 y) shapeCasts_S2x1000x1_S2x1000
def ar_v65 (y : FVec Ideal S2x1000x4 .f32) : FVec Ideal S2x1000x1 .f32 := (extractStridedSlice S2x1000x1 ![0, 0, 0] · slices_S2x1000x4_S2x1000x1_0_0_0) y
def ar_v66 (y : FVec Ideal S2x1000x4 .f32) : FVec Ideal S2x1000 .f32 := shapeCast S2x1000 (ar_v65 y) shapeCasts_S2x1000x1_S2x1000
def ar_v67 (y : FVec Ideal S2x1000x4 .f32) : FVec Ideal S2x1000 .f32 := subf (ar_v64 y) (ar_v66 y)
def ar_v68 (y : FVec Ideal S2x1000x4 .f32) : FVec Ideal S2x1000x1 .f32 := (extractStridedSlice S2x1000x1 ![0, 0, 3] · slices_S2x1000x4_S2x1000x1_0_0_3) y
def ar_v69 (y : FVec Ideal S2x1000x4 .f32) : FVec Ideal S2x1000 .f32 := shapeCast S2x1000 (ar_v68 y) shapeCasts_S2x1000x1_S2x1000
def ar_v70 (y : FVec Ideal S2x1000x4 .f32) : FVec Ideal S2x1000x1 .f32 := (extractStridedSlice S2x1000x1 ![0, 0, 1] · slices_S2x1000x4_S2x1000x1_0_0_1) y
def ar_v71 (y : FVec Ideal S2x1000x4 .f32) : FVec Ideal S2x1000 .f32 := shapeCast S2x1000 (ar_v70 y) shapeCasts_S2x1000x1_S2x1000
def ar_v72 (y : FVec Ideal S2x1000x4 .f32) : FVec Ideal S2x1000 .f32 := subf (ar_v69 y) (ar_v71 y)
def ar_v73 (y : FVec Ideal S2x1000x4 .f32) : FVec Ideal S2x1000 .f32 := mulf (ar_v67 y) (ar_v72 y)

/-- The area of a candidate's moved box. -/
theorem ar_read (y : FVec Ideal S2x1000x4 .f32) (b : Fin 2) (i : Fin 1000) :
    ar_v73 y (ix2 b i) = area (fun c => y (ix3 b i c)) := by
  pointwise [ar_v73, ar_v72, ar_v71, ar_v70, ar_v69, ar_v68, ar_v67, ar_v66, ar_v65, ar_v64, ar_v63]
  rfl

/-- The stage in the chain. -/
theorem ar_eq (x1 x2 : IVec S2x1024 32) (x3 : FVec Ideal S2x1024x364 .f32) (x4 : FVec Ideal S2x1024x4 .f32) : r_v73 x1 x2 x3 x4 = ar_v73 (r_v62 x1 x2 x3 x4) := rfl

def lo_v74 (y : FVec Ideal S2x1000x4 .f32) : FVec Ideal S2x1000x2 .f32 := (extractStridedSlice S2x1000x2 ![0, 0, 0] · slices_S2x1000x4_S2x1000x2_0_0_0) y
def lo_v75 (y : FVec Ideal S2x1000x4 .f32) : FVec Ideal S2x1000x1x2 .f32 := (broadcastInDim S2x1000x1x2 ![0, 1, 3] bcast_S2x1000x2_S2x1000x1x2_0_1_3) (lo_v74 y)
def lo_v76 (y : FVec Ideal S2x1000x4 .f32) : FVec Ideal S2x1000x2 .f32 := (extractStridedSlice S2x1000x2 ![0, 0, 0] · slices_S2x1000x4_S2x1000x2_0_0_0) y
def lo_v77 (y : FVec Ideal S2x1000x4 .f32) : FVec Ideal S2x1x1000x2 .f32 := (broadcastInDim S2x1x1000x2 ![0, 2, 3] bcast_S2x1000x2_S2x1x1000x2_0_2_3) (lo_v76 y)
def lo_v78 (y : FVec Ideal S2x1000x4 .f32) : FVec Ideal S2x1000x1000x2 .f32 := (broadcastInDim S2x1000x1000x2 ![0, 1, 2, 3] bcast_S2x1000x1x2_S2x1000x1000x2_0_1_2_3) (lo_v75 y)
def lo_v79 (y : FVec Ideal S2x1000x4 .f32) : FVec Ideal S2x1000x1000x2 .f32 := (broadcastInDim S2x1000x1000x2 ![0, 1, 2, 3] bcast_S2x1x1000x2_S2x1000x1000x2_0_1_2_3) (lo_v77 y)
def lo_v80 (y : FVec Ideal S2x1000x4 .f32) : FVec Ideal S2x1000x1000x2 .f32 := maximumf (lo_v78 y) (lo_v79 y)

/-- The larger of two lower sides. -/
theorem lo_read (y : FVec Ideal S2x1000x4 .f32) (b : Fin 2) (i j : Fin 1000) (d : Fin 2) :
    lo_v80 y (ix4 b i j d) = max (y (ix3 b i ⟨d.val, by omega⟩)) (y (ix3 b j ⟨d.val, by omega⟩)) := by
  pointwise [lo_v80, lo_v79, lo_v78, lo_v77, lo_v76, lo_v75, lo_v74]

/-- The stage in the chain. -/
theorem lo_eq (x1 x2 : IVec S2x1024 32) (x3 : FVec Ideal S2x1024x364 .f32) (x4 : FVec Ideal S2x1024x4 .f32) : r_v80 x1 x2 x3 x4 = lo_v80 (r_v62 x1 x2 x3 x4) := rfl

def up_v81 (y : FVec Ideal S2x1000x4 .f32) : FVec Ideal S2x1000x2 .f32 := (extractStridedSlice S2x1000x2 ![0, 0, 2] · slices_S2x1000x4_S2x1000x2_0_0_2) y
def up_v82 (y : FVec Ideal S2x1000x4 .f32) : FVec Ideal S2x1000x1x2 .f32 := (broadcastInDim S2x1000x1x2 ![0, 1, 3] bcast_S2x1000x2_S2x1000x1x2_0_1_3) (up_v81 y)
def up_v83 (y : FVec Ideal S2x1000x4 .f32) : FVec Ideal S2x1000x2 .f32 := (extractStridedSlice S2x1000x2 ![0, 0, 2] · slices_S2x1000x4_S2x1000x2_0_0_2) y
def up_v84 (y : FVec Ideal S2x1000x4 .f32) : FVec Ideal S2x1x1000x2 .f32 := (broadcastInDim S2x1x1000x2 ![0, 2, 3] bcast_S2x1000x2_S2x1x1000x2_0_2_3) (up_v83 y)
def up_v85 (y : FVec Ideal S2x1000x4 .f32) : FVec Ideal S2x1000x1000x2 .f32 := (broadcastInDim S2x1000x1000x2 ![0, 1, 2, 3] bcast_S2x1000x1x2_S2x1000x1000x2_0_1_2_3) (up_v82 y)
def up_v86 (y : FVec Ideal S2x1000x4 .f32) : FVec Ideal S2x1000x1000x2 .f32 := (broadcastInDim S2x1000x1000x2 ![0, 1, 2, 3] bcast_S2x1x1000x2_S2x1000x1000x2_0_1_2_3) (up_v84 y)
def up_v87 (y : FVec Ideal S2x1000x4 .f32) : FVec Ideal S2x1000x1000x2 .f32 := minimumf (up_v85 y) (up_v86 y)

/-- The smaller of two upper sides. -/
theorem up_read (y : FVec Ideal S2x1000x4 .f32) (b : Fin 2) (i j : Fin 1000) (d : Fin 2) :
    up_v87 y (ix4 b i j d) = min (y (ix3 b i ⟨2 + d.val, by omega⟩)) (y (ix3 b j ⟨2 + d.val, by omega⟩)) := by
  pointwise [up_v87, up_v86, up_v85, up_v84, up_v83, up_v82, up_v81]

/-- The stage in the chain. -/
theorem up_eq (x1 x2 : IVec S2x1024 32) (x3 : FVec Ideal S2x1024x364 .f32) (x4 : FVec Ideal S2x1024x4 .f32) : r_v87 x1 x2 x3 x4 = up_v87 (r_v62 x1 x2 x3 x4) := rfl

def si_v88 (y z : FVec Ideal S2x1000x1000x2 .f32) : FVec Ideal S2x1000x1000x2 .f32 := subf y z
def si_v90 (y z : FVec Ideal S2x1000x1000x2 .f32) : FVec Ideal S2x1000x1000x2 .f32 := maximumf (si_v88 y z) r_v89

/-- A side of the shared box. -/
theorem si_read (y z : FVec Ideal S2x1000x1000x2 .f32) (b : Fin 2) (i j : Fin 1000) (d : Fin 2) :
    si_v90 y z (ix4 b i j d) = max 0 (y (ix4 b i j d) - z (ix4 b i j d)) := by
  pointwise [si_v90, si_v88, r_v89, r_cst_13]
  exact max_comm _ _

/-- The stage in the chain. -/
theorem si_eq (x1 x2 : IVec S2x1024 32) (x3 : FVec Ideal S2x1024x364 .f32) (x4 : FVec Ideal S2x1024x4 .f32) : r_v90 x1 x2 x3 x4 = si_v90 (r_v87 x1 x2 x3 x4) (r_v80 x1 x2 x3 x4) := rfl

def sh_v91 (y : FVec Ideal S2x1000x1000x2 .f32) : FVec Ideal S2x1000x1000x1 .f32 := (extractStridedSlice S2x1000x1000x1 ![0, 0, 0, 0] · slices_S2x1000x1000x2_S2x1000x1000x1_0_0_0_0) y
def sh_v92 (y : FVec Ideal S2x1000x1000x2 .f32) : FVec Ideal S2x1000x1000 .f32 := shapeCast S2x1000x1000 (sh_v91 y) shapeCasts_S2x1000x1000x1_S2x1000x1000
def sh_v93 (y : FVec Ideal S2x1000x1000x2 .f32) : FVec Ideal S2x1000x1000x1 .f32 := (extractStridedSlice S2x1000x1000x1 ![0, 0, 0, 1] · slices_S2x1000x1000x2_S2x1000x1000x1_0_0_0_1) y
def sh_v94 (y : FVec Ideal S2x1000x1000x2 .f32) : FVec Ideal S2x1000x1000 .f32 := shapeCast S2x1000x1000 (sh_v93 y) shapeCasts_S2x1000x1000x1_S2x1000x1000
def sh_v95 (y : FVec Ideal S2x1000x1000x2 .f32) : FVec Ideal S2x1000x1000 .f32 := mulf (sh_v92 y) (sh_v94 y)

/-- The product of the sides of the shared box. -/
theorem sh_read (y : FVec Ideal S2x1000x1000x2 .f32) (b : Fin 2) (i j : Fin 1000) :
    sh_v95 y (ix3 b i j) = y (ix4 b i j 0) * y (ix4 b i j 1) := by
  pointwise [sh_v95, sh_v94, sh_v93, sh_v92, sh_v91]

/-- The stage in the chain. -/
theorem sh_eq (x1 x2 : IVec S2x1024 32) (x3 : FVec Ideal S2x1024x364 .f32) (x4 : FVec Ideal S2x1024x4 .f32) : r_v95 x1 x2 x3 x4 = sh_v95 (r_v90 x1 x2 x3 x4) := rfl

def ra_v96 (y : FVec Ideal S2x1000x1000 .f32) (z : FVec Ideal S2x1000 .f32) : FVec Ideal S2x1000x1 .f32 := (broadcastInDim S2x1000x1 ![0, 1] bcast_S2x1000_S2x1000x1_0_1) z
def ra_v97 (y : FVec Ideal S2x1000x1000 .f32) (z : FVec Ideal S2x1000 .f32) : FVec Ideal S2x1x1000 .f32 := (broadcastInDim S2x1x1000 ![0, 2] bcast_S2x1000_S2x1x1000_0_2) z
def ra_v98 (y : FVec Ideal S2x1000x1000 .f32) (z : FVec Ideal S2x1000 .f32) : FVec Ideal S2x1000x1000 .f32 := (broadcastInDim S2x1000x1000 ![0, 1, 2] bcast_S2x1000x1_S2x1000x1000_0_1_2) (ra_v96 y z)
def ra_v99 (y : FVec Ideal S2x1000x1000 .f32) (z : FVec Ideal S2x1000 .f32) : FVec Ideal S2x1000x1000 .f32 := (broadcastInDim S2x1000x1000 ![0, 1, 2] bcast_S2x1x1000_S2x1000x1000_0_1_2) (ra_v97 y z)
def ra_v100 (y : FVec Ideal S2x1000x1000 .f32) (z : FVec Ideal S2x1000 .f32) : FVec Ideal S2x1000x1000 .f32 := addf (ra_v98 y z) (ra_v99 y z)
def ra_v101 (y : FVec Ideal S2x1000x1000 .f32) (z : FVec Ideal S2x1000 .f32) : FVec Ideal S2x1000x1000 .f32 := subf (ra_v100 y z) y
def ra_v103 (y : FVec Ideal S2x1000x1000 .f32) (z : FVec Ideal S2x1000 .f32) : FVec Ideal S2x1000x1000 .f32 := maximumf (ra_v101 y z) r_v102
def ra_v104 (y : FVec Ideal S2x1000x1000 .f32) (z : FVec Ideal S2x1000 .f32) : FVec Ideal S2x1000x1000 .f32 := Host.divf y (ra_v103 y z)

/-- The ratio of the shared and the joint area. -/
theorem ra_read (y : FVec Ideal S2x1000x1000 .f32) (z : FVec Ideal S2x1000 .f32) (b : Fin 2) (i j : Fin 1000) :
    ra_v104 y z (ix3 b i j) = Ideal.div (y (ix3 b i j)) (max (z (ix2 b i) + z (ix2 b j) - y (ix3 b i j)) (lit 0x3089705F#32)) := by
  pointwise [ra_v104, ra_v103, ra_v101, ra_v100, ra_v99, ra_v98, ra_v97, ra_v96, r_v102, r_cst_14]

/-- The stage in the chain. -/
theorem ra_eq (x1 x2 : IVec S2x1024 32) (x3 : FVec Ideal S2x1024x364 .f32) (x4 : FVec Ideal S2x1024x4 .f32) : r_v104 x1 x2 x3 x4 = ra_v104 (r_v95 x1 x2 x3 x4) (r_v73 x1 x2 x3 x4) := rfl

/-- The ratio of the shared and the joint area of two candidates, of the boxes moved apart. -/
theorem ratio_read (x1 x2 : IVec S2x1024 32) (x3 : FVec Ideal S2x1024x364 .f32) (x4 : FVec Ideal S2x1024x4 .f32) (b : Fin 2) (i j : Fin 1000) :
    r_v104 x1 x2 x3 x4 (ix3 b i j) = Ideal.div (shared (fun c => r_v62 x1 x2 x3 x4 (ix3 b i c)) (fun c => r_v62 x1 x2 x3 x4 (ix3 b j c)))
      (max (area (fun c => r_v62 x1 x2 x3 x4 (ix3 b i c)) + area (fun c => r_v62 x1 x2 x3 x4 (ix3 b j c))
        - shared (fun c => r_v62 x1 x2 x3 x4 (ix3 b i c)) (fun c => r_v62 x1 x2 x3 x4 (ix3 b j c))) (lit 0x3089705F#32)) := by
  rw [ra_eq, ra_read, ar_eq, ar_read, ar_read, sh_eq, sh_read, si_eq, si_read, si_read, up_eq, up_read, up_read, lo_eq, lo_read, lo_read]
  generalize r_v62 x1 x2 x3 x4 = y
  rfl

/-- A candidate's box moved apart by its class. -/
theorem apart_read (x1 x2 : IVec S2x1024 32) (x3 : FVec Ideal S2x1024x364 .f32) (x4 : FVec Ideal S2x1024x4 .f32) (b : Fin 2) (i : Fin 1000)
    (s : Fin 1024) (hs : x2 (ix2 b (pos i.val)) = BitVec.ofNat 32 s.val) (c : Fin 4) :
    r_v62 x1 x2 x3 x4 (ix3 b i c) = moved (x1 (ix2 b (pos i.val)))
      (edge (fun j => x3 (ix3 b s j)) (fun j => x4 (ix3 b s j)) (cls (x1 (ix2 b (pos i.val))))) c := by
  have h := gathered x1 x2 x3 x4 b i s hs c
  have hw := cls_word x1 b i
  unfold r_v62 r_v61 r_v60 r_v58 r_v57
  generalize r_v56 x1 x2 x3 x4 = y at h
  generalize r_v43 x1 = z at hw
  pointwise [r_v59, r_cst_12]
  rw [h, hw]; rfl

end Cert.NmsRefIdeal.Hand
-- ==== Proof.NmsRefTop.lean ====
/-
  The reference's last part read at an index: the confirmed scores, the hundred greatest of them with their positions, and
  what is gathered at those positions.
-/
module

public import proofs.«01_k».proof.Proof.NmsRefDefs
public import proofs.«01_k».proof.Proof.NmsModel
public import proofs.«01_k».proof.Proof.NmsMath
public import proofs.«01_k».proof.Proof.NmsGather

@[expose] public section
set_option maxRecDepth 16384
noncomputable section
namespace Cert.NmsRefIdeal.Hand
open Cert.NmsRefIdeal Cert.NmsRefIdeal.Gen Cert.Proof Idealize.ShloMosaic Idealize.ShloMosaic.TcCoe Idealize.SL.Sem

attribute [local irreducible] sortedFrom

/-- The comparison of two candidates by which the hundred greatest are found. -/
def greater (x : FVec Ideal S2x1000 .f32) (b : Fin 2) (a a' : Fin 1000) : Bool :=
  FloatOps.cmpfTotal .gt (x (ix2 b a)) (x (ix2 b a')) == 1#1

/-- The position of the k-th greatest. -/
def chosen (x : FVec Ideal S2x1000 .f32) (b : Fin 2) (k : Fin 100) : Fin 1000 := sortedFrom (greater x b) ⟨k.val, by omega⟩

/-- The element of a batch of rows along the second axis. -/
theorem along_row (b : Fin 2) (i : Fin 1000) (hd : 1 < S2x1000.rank) (i' : Fin (S2x1000.size ⟨1, hd⟩)) :
    Shape.Idx.along (s := S2x1000) (ix2 b i) ⟨1, hd⟩ i' = ix2 b (⟨i'.val, i'.isLt⟩ : Fin 1000) := by
  funext a
  have ha : a = 0 ∨ a = 1 := by fin_cases a <;> simp
  rcases ha with rfl | rfl <;> rfl

/-- The first hundred of a batch of rows. -/
theorem first_read {α : Type} (f : S2x1000.Idx → α) (h : S2x1000.Slices (fun _ => 0) S2x100) (b : Fin 2) (k : Fin 100) :
    extractStridedSlice S2x100 (fun _ => 0) f h (ix2 b k) = f (ix2 b (⟨k.val, by omega⟩ : Fin 1000)) := by
  unfold extractStridedSlice
  refine congrArg f (funext fun a => ?_)
  have ha : a = 0 ∨ a = 1 := by fin_cases a <;> simp
  rcases ha with rfl | rfl
  · exact Fin.ext (Nat.zero_add _)
  · exact Fin.ext (Nat.zero_add _)

/-- Two batches of rows sorted together, read at an index. -/
theorem sort_read {α β : Type} (cmp : α × β → α × β → BitVec 1) (x : S2x1000.Idx → α) (y : S2x1000.Idx → β) (b : Fin 2) (i : Fin 1000)
    (g : Fin 1000 → Fin 1000 → Bool) (hg : ∀ a a', g a a' = (cmp (x (ix2 b a), y (ix2 b a)) (x (ix2 b a'), y (ix2 b a')) == 1#1)) :
    (Host.sort2 S2x1000 1 cmp x y).1 (ix2 b i) = x (ix2 b (sortedFrom g i))
    ∧ (Host.sort2 S2x1000 1 cmp x y).2 (ix2 b i) = y (ix2 b (sortedFrom g i)) := by
  have hd : 1 < S2x1000.rank := by decide
  have hg' : (fun a a' : Fin (S2x1000.size ⟨1, hd⟩) => (cmp (x (Shape.Idx.along (s := S2x1000) (ix2 b i) ⟨1, hd⟩ a), y (Shape.Idx.along (s := S2x1000) (ix2 b i) ⟨1, hd⟩ a))
      (x (Shape.Idx.along (s := S2x1000) (ix2 b i) ⟨1, hd⟩ a'), y (Shape.Idx.along (s := S2x1000) (ix2 b i) ⟨1, hd⟩ a')) == 1#1)) = g := by
    funext a a'
    rw [along_row b i hd a, along_row b i hd a']
    exact (hg _ _).symm
  have hπ : sortedFrom (fun a a' : Fin (S2x1000.size ⟨1, hd⟩) => (cmp (x (Shape.Idx.along (s := S2x1000) (ix2 b i) ⟨1, hd⟩ a), y (Shape.Idx.along (s := S2x1000) (ix2 b i) ⟨1, hd⟩ a))
      (x (Shape.Idx.along (s := S2x1000) (ix2 b i) ⟨1, hd⟩ a'), y (Shape.Idx.along (s := S2x1000) (ix2 b i) ⟨1, hd⟩ a')) == 1#1)) ((ix2 b i : S2x1000.Idx) ⟨1, hd⟩) = sortedFrom g i :=
    congrFun (congrArg sortedFrom hg') i
  have h1 : ∀ {γ : Type} (z : S2x1000.Idx → γ) (π : Fin (S2x1000.size ⟨1, hd⟩)), π = sortedFrom g i →
      z (Shape.Idx.along (s := S2x1000) (ix2 b i) ⟨1, hd⟩ π) = z (ix2 b (sortedFrom g i)) := fun z π h => by
    subst h
    exact congrArg z (along_row b i hd _)
  unfold Host.sort2
  rw [dif_pos hd]
  exact ⟨h1 x _ hπ, h1 y _ hπ⟩

/-- The hundred greatest values and their positions, read at an index. -/
theorem top_read (x : FVec Ideal S2x1000 .f32) (b : Fin 2) (k : Fin 100) :
    (Host.topK S2x100 1 (FloatOps.cmpfTotal .gt) x sliceFits_S2x1000_S2x100).1 (ix2 b k) = x (ix2 b (chosen x b k))
    ∧ (Host.topK S2x100 1 (FloatOps.cmpfTotal .gt) x sliceFits_S2x1000_S2x100).2 (ix2 b k) = BitVec.ofNat 32 (chosen x b k).val := by
  have h := sort_read (fun l r : Ideal .f32 × BitVec 32 => FloatOps.cmpfTotal .gt l.1 r.1) x
    (fun i => if hd : 1 < S2x1000.rank then iotaInDim S2x1000 32 ⟨1, hd⟩ i else 0#32) b ⟨k.val, by omega⟩ (greater x b) (fun _ _ => rfl)
  unfold Host.topK
  refine ⟨(first_read _ sliceFits_S2x1000_S2x100 b k).trans h.1, (first_read _ sliceFits_S2x1000_S2x100 b k).trans (h.2.trans ?_)⟩
  rw [dif_pos (by decide)]
  rfl

/-- The confirmed scores: those of the survivors above −10⁸, and −10⁹ for the others. -/
theorem confirmed_read (s : FVec Ideal S2x1000 .f32) (k : IVec S2x1000 1) (b : Fin 2) (i : Fin 1000) :
    p_v112 s k (ix2 b i) = Scalar.select (IntOp.andi (k (ix2 b i)) (FloatOps.cmpf .ogt (s (ix2 b i)) (lit 0xCCBEBC20#32))) (s (ix2 b i)) (lit 0xCE6E6B28#32) := by
  pointwise [p_v112, p_v111, p_cst_19, p_v110, p_v109, p_v108, p_cst_18]

/-- −10⁹ is below −10⁸. -/
theorem sentinel_lt : lit 0xCE6E6B28#32 < lit 0xCCBEBC20#32 := by
  simp [lit, Ideal.ofBits, Ideal.ieee]
  exact_mod_cast (by norm_num : (12500000 : ℝ) * 2 ^ 3 < 15625000 * 2 ^ 6)

section
variable (I : Image) (hI : I.Ordered) (s : FVec Ideal S2x1000 .f32) (k : IVec S2x1000 1) (b : Fin 2)
  (hs : ∀ i : Fin 1000, s (ix2 b i) = I.s (pos i.val)) (hk : ∀ i : Fin 1000, k (ix2 b i) = BitVec.ofBool (kept I.meets i.val))
include hs hk

/-- The confirmed score of a candidate. -/
theorem confirmed_image (i : Fin 1000) :
    p_v112 s k (ix2 b i) = Scalar.select (BitVec.ofBool (I.confirmed i.val)) (I.s (pos i.val)) (lit 0xCE6E6B28#32) := by
  rw [confirmed_read, hk, hs]
  have hb : ∀ x y : Bool, IntOp.andi (BitVec.ofBool x) (BitVec.ofBool y) = BitVec.ofBool (x && y) := by decide
  have hc : ∀ a c : Ideal .f32, FloatOps.cmpf .ogt a c = BitVec.ofBool (decide ((c : EReal) < a)) := fun _ _ => rfl
  rw [hc, hb]
  unfold Image.confirmed keptTo
  rw [decide_eq_true i.isLt, Bool.true_and]

include hI in
/-- The comparison agrees with the order of the output on later against earlier candidates. -/
theorem greater_prec (a c : Fin 1000) (hac : a < c) : greater (p_v112 s k) b c a = prec I.confirmed c.val a.val := by
  have h : greater (p_v112 s k) b c a = decide (p_v112 s k (ix2 b a) < p_v112 s k (ix2 b c)) := by
    have hb : ∀ x : Bool, (BitVec.ofBool x == 1#1) = x := by decide
    exact hb _
  have hlt : ¬ c.val < a.val := by have : a.val < c.val := hac; omega
  have hle : I.s (pos c.val) ≤ I.s (pos a.val) := by
    have hp : pos a.val < pos c.val := by
      rw [pos_mk a.val (by omega), pos_mk c.val (by omega)]; exact hac
    rcases hI (pos a.val) (pos c.val) hp with h | h
    · exact h.le
    · exact h.1.ge
  have hgt : ∀ i, I.confirmed i = true → lit 0xCE6E6B28#32 < I.s (pos i) := fun i hi => by
    unfold Image.confirmed at hi
    rw [Bool.and_eq_true, decide_eq_true_iff] at hi
    exact sentinel_lt.trans hi.2
  rw [h, confirmed_image I s k b hs hk, confirmed_image I s k b hs hk]
  unfold prec
  cases ha : I.confirmed a.val <;> cases hc : I.confirmed c.val
  · show decide (lit 0xCE6E6B28#32 < lit 0xCE6E6B28#32) = decide (c.val < a.val)
    rw [decide_eq_false (lt_irrefl _), decide_eq_false hlt]
  · show decide (lit 0xCE6E6B28#32 < I.s (pos c.val)) = true
    exact decide_eq_true (hgt _ hc)
  · show decide (I.s (pos a.val) < lit 0xCE6E6B28#32) = false
    exact decide_eq_false (hgt _ ha).le.not_gt
  · show decide (I.s (pos a.val) < I.s (pos c.val)) = decide (c.val < a.val)
    rw [decide_eq_false hle.not_gt, decide_eq_false hlt]

include hI in
/-- The place of the candidate chosen at `q` is `q`. -/
theorem place_chosen (q : Fin 100) : place 1000 I.confirmed (chosen (p_v112 s k) b q).val = q.val :=
  place_sortedFrom I.confirmed (greater (p_v112 s k) b) (greater_prec I hI s k b hs hk) ⟨q.val, by omega⟩

/-- The score chosen at `q`. -/
theorem score_chosen (q : Fin 100) : p_values s k (ix2 b q)
    = Scalar.select (BitVec.ofBool (I.confirmed (chosen (p_v112 s k) b q).val)) (I.s (pos (chosen (p_v112 s k) b q).val)) (lit 0xCE6E6B28#32) :=
  (top_read (p_v112 s k) b q).1.trans (confirmed_image I s k b hs hk _)

end

/-- The position chosen at `q`. -/
theorem index_chosen (s : FVec Ideal S2x1000 .f32) (k : IVec S2x1000 1) (b : Fin 2) (q : Fin 100) :
    p_indices s k (ix2 b q) = BitVec.ofNat 32 (chosen (p_v112 s k) b q).val := (top_read (p_v112 s k) b q).2

/-- A position is not moved by the wrap of the negative ones. -/
theorem wrap_word (n : ℕ) (hn : n < 1000) : Scalar.select (IntOp.cmpi .slt (BitVec.ofNat 32 n) 0#32) (IntOp.addi (BitVec.ofNat 32 n) 1000#32) (BitVec.ofNat 32 n)
    = BitVec.ofNat 32 n := by
  rw [show (0#32 : BitVec 32) = BitVec.ofNat 32 0 from rfl, slt_ofNat _ _ (by omega) (by omega), decide_eq_false (by omega)]
  rfl

/-- The start index of the gather of the boxes. -/
theorem box_start (s : FVec Ideal S2x1000 .f32) (k : IVec S2x1000 1) (b : Fin 2) (q : Fin 100) :
    p_v118 s k (ix3 b q 0) = BitVec.ofNat 32 (chosen (p_v112 s k) b q).val := by
  have h := index_chosen s k b q
  rw [← wrap_word _ (chosen (p_v112 s k) b q).isLt, ← h]
  unfold p_v118 p_v117 p_v116 p_v114
  generalize p_indices s k = y
  pointwise [p_v113, p_c_20, p_v115, p_c_21]

/-- The start index of the gather of the labels. -/
theorem label_start (s : FVec Ideal S2x1000 .f32) (k : IVec S2x1000 1) (b : Fin 2) (q : Fin 100) :
    p_v125 s k (ix3 b q 0) = BitVec.ofNat 32 (chosen (p_v112 s k) b q).val := by
  have h := index_chosen s k b q
  rw [← wrap_word _ (chosen (p_v112 s k) b q).isLt, ← h]
  unfold p_v125 p_v124 p_v123 p_v121
  generalize p_indices s k = y
  pointwise [p_v120, p_c_22, p_v122, p_c_23]

/-- The box chosen at `q`. -/
theorem box_chosen (s : FVec Ideal S2x1000 .f32) (k : IVec S2x1000 1) (x : FVec Ideal S2x1000x4 .f32) (b : Fin 2) (q : Fin 100) (c : Fin 4) :
    p_v119 s k x (ix3 b q c) = x (ix3 b (chosen (p_v112 s k) b q) c) := by
  have h := box_start s k b q
  unfold p_v119
  generalize p_v118 s k = y at h
  generalize chosen (p_v112 s k) b q = j at h
  refine (gather_row_apply (by decide) Facts₀.gather_S2x1000x4_S2x100x1_S2x100x4_2_1_0_0_1_2_114_wf x y b q c).trans ?_
  have hp : (⟨min (y (ix3 b q 0)).toInt.toNat (1000 - 1), by omega⟩ : Fin 1000) = j :=
    Fin.ext (by show min _ _ = _; rw [h, cut_start _ _ (by omega) (by omega)])
  rw [hp]

/-- The label chosen at `q`. -/
theorem label_chosen (s : FVec Ideal S2x1000 .f32) (k : IVec S2x1000 1) (x : IVec S2x1000 32) (b : Fin 2) (q : Fin 100) :
    p_v126 s k x (ix2 b q) = x (ix2 b (chosen (p_v112 s k) b q)) := by
  have h := label_start s k b q
  unfold p_v126
  generalize p_v125 s k = y at h
  generalize chosen (p_v112 s k) b q = j at h
  refine (gather_one_apply (by decide) Facts₀.gather_S2x1000_S2x100x1_S2x100_n_1_0_0_1_2_11_wf x y b q).trans ?_
  have hp : (⟨min (y (ix3 b q 0)).toInt.toNat (1000 - 1), by omega⟩ : Fin 1000) = j :=
    Fin.ext (by show min _ _ = _; rw [h, cut_start _ _ (by omega) (by omega)])
  rw [hp]

end Cert.NmsRefIdeal.Hand
-- ==== Proof.NmsSame.lean ====
/-
  The kernel and the reference compute the same boxes, scores and labels under the precondition.
-/
module

public import proofs.«01_k».proof.Proof.NmsArrays
public import proofs.«01_k».proof.Proof.NmsRefLoop
public import proofs.«01_k».proof.Proof.NmsRefRead
public import proofs.«01_k».proof.Proof.NmsRefTop

@[expose] public section
set_option maxRecDepth 16384
noncomputable section
namespace Cert.Proof
open Cert.NmsRefIdeal Cert.NmsRefIdeal.Gen Cert.NmsRefIdeal.Hand Idealize.ShloMosaic Idealize.ShloMosaic.TcCoe Idealize.SL.Sem

section
variable (x0 : FVec Ideal S2x1024 .f32) (x1 x2 : IVec S2x1024 32) (x3 : FVec Ideal S2x1024x364 .f32) (x4 : FVec Ideal S2x1024x4 .f32)
  (G : Good x0 x1 x2 x3 x4) (b : Fin 2)

/-- The reference's scores are the image's. -/
theorem ref_s (i : Fin 1000) : r_v39 x0 (ix2 b i) = (imageOf x0 x1 x2 x3 x4 b).s (pos i.val) := by
  rw [pos_mk i.val (by omega)]
  show _ = x0 (ix2 b ⟨i.val, _⟩)
  pointwise [r_v39]

/-- The slot word of one of the first thousand candidates. -/
theorem ref_slot (G : Good x0 x1 x2 x3 x4) (i : Fin 1000) : x2 (ix2 b (pos i.val)) = BitVec.ofNat 32 (slotOf (x2 (ix2 b (pos i.val)))).val :=
  G.slot b (pos i.val) (by rw [pos_mk i.val (by omega)]; exact i.isLt)

include G in
/-- The reference's gathered boxes are the image's. -/
theorem ref_box (i : Fin 1000) (c : Fin 4) : r_v56 x1 x2 x3 x4 (ix3 b i c) = (imageOf x0 x1 x2 x3 x4 b).box i.val c :=
  gathered x1 x2 x3 x4 b i _ (ref_slot x0 x1 x2 x3 x4 b G i) c

include G in
/-- The reference's boxes moved apart are the image's. -/
theorem ref_apart (i : Fin 1000) (c : Fin 4) : r_v62 x1 x2 x3 x4 (ix3 b i c) = (imageOf x0 x1 x2 x3 x4 b).apart i.val c :=
  apart_read x1 x2 x3 x4 b i _ (ref_slot x0 x1 x2 x3 x4 b G i) c

include G in
/-- The reference's test of two candidates is the image's. -/
theorem ref_meets (i j : Fin 1000) : decide (lit 0x3F000000#32 < r_v107_0 x1 x2 x3 x4 (ix3 b i j)) = (imageOf x0 x1 x2 x3 x4 b).meets i.val j.val := by
  have h := ratio_read x1 x2 x3 x4 b i j
  have hi : (fun c => r_v62 x1 x2 x3 x4 (ix3 b i c)) = (imageOf x0 x1 x2 x3 x4 b).apart i.val := funext (ref_apart x0 x1 x2 x3 x4 G b i)
  have hj : (fun c => r_v62 x1 x2 x3 x4 (ix3 b j c)) = (imageOf x0 x1 x2 x3 x4 b).apart j.val := funext (ref_apart x0 x1 x2 x3 x4 G b j)
  rw [hi, hj] at h
  unfold r_v107_0 Image.meets overlaps
  rw [← h]
  rfl

include G in
/-- The reference's survivors are the candidates the greedy pass keeps. -/
theorem ref_kept (i : Fin 1000) : survivors x1 x2 x3 x4 (ix2 b i) = BitVec.ofBool (kept (imageOf x0 x1 x2 x3 x4 b).meets i.val) :=
  trips_all _ _ _ b _ (ref_meets x0 x1 x2 x3 x4 G b) (fun _ => rfl) (fun _ => rfl) i
end

variable (m : (ℓ : Loc Cert.NmsIdeal.nD Cert.NmsIdeal.τ Cert.NmsIdeal.sig) → Buf (Elt Ideal) ℓ) (c : Dev Cert.NmsIdeal.nD)

section
variable (x0 : FVec Ideal S2x1024 .f32) (x1 x2 : IVec S2x1024 32) (x3 : FVec Ideal S2x1024x364 .f32) (x4 : FVec Ideal S2x1024x4 .f32)
  (e0 : x0 = Cert.NmsIdeal.Hand.a0 m c) (e1 : x1 = Cert.NmsIdeal.Hand.a1 m c) (e2 : x2 = Cert.NmsIdeal.Hand.a2 m c)
  (e3 : x3 = Cert.NmsIdeal.Hand.a3 m c) (e4 : x4 = Cert.NmsIdeal.Hand.a4 m c) (G : Good x0 x1 x2 x3 x4)
include e0 e1 e2 e3 e4 G

/-- The scores agree. -/
theorem same_values : p_values (r_v39 x0) (survivors x1 x2 x3 x4) = Cert.NmsIdeal.Hand.scoresOut m c := by
  funext i
  obtain ⟨b, q, rfl⟩ : ∃ (b : Fin 2) (q : Fin 100), i = ix2 b q := ⟨i 0, i 1, eq_ix2 i⟩
  have hs := ref_s x0 x1 x2 x3 x4 b
  have hk := ref_kept x0 x1 x2 x3 x4 G b
  have hp := place_chosen _ (G.ord b) _ _ b hs hk q
  refine (score_chosen _ _ _ b hs hk q).trans ?_
  subst e0 e1 e2 e3 e4
  exact (Cert.NmsIdeal.Hand.scoresOut_at m c G b q _ hp).symm

/-- The labels agree. -/
theorem same_labels : p_v126 (r_v39 x0) (survivors x1 x2 x3 x4) (r_v43 x1) = Cert.NmsIdeal.Hand.labelsOut m c := by
  funext i
  obtain ⟨b, q, rfl⟩ : ∃ (b : Fin 2) (q : Fin 100), i = ix2 b q := ⟨i 0, i 1, eq_ix2 i⟩
  have hs := ref_s x0 x1 x2 x3 x4 b
  have hk := ref_kept x0 x1 x2 x3 x4 G b
  have hp := place_chosen _ (G.ord b) _ _ b hs hk q
  refine (label_chosen _ _ _ b q).trans ((cls_word x1 b _).trans ?_)
  subst e0 e1 e2 e3 e4
  exact (Cert.NmsIdeal.Hand.labelsOut_at m c G b q _ hp).symm

/-- The boxes agree. -/
theorem same_boxes : p_v119 (r_v39 x0) (survivors x1 x2 x3 x4) (r_v56 x1 x2 x3 x4) = Cert.NmsIdeal.Hand.boxesOut m c := by
  funext i
  obtain ⟨b, q, d, rfl⟩ : ∃ (b : Fin 2) (q : Fin 100) (d : Fin 4), i = ix3 b q d := ⟨i 0, i 1, i 2, eq_ix3 i⟩
  have hs := ref_s x0 x1 x2 x3 x4 b
  have hk := ref_kept x0 x1 x2 x3 x4 G b
  have hp := place_chosen _ (G.ord b) _ _ b hs hk q
  refine (box_chosen _ _ _ b q d).trans ((ref_box x0 x1 x2 x3 x4 G b _ d).trans ?_)
  subst e0 e1 e2 e3 e4
  exact (Cert.NmsIdeal.Hand.boxesOut_at m c G b q _ hp d).symm
end

end Cert.Proof
-- ==== Proof.lean ====
/- The claims about the detection post-processing.  First, the masked class scores and the best score of every
   proposal; second, the decoding, suppression and final choice over sorted candidates.  For both, the kernel and its
   reference run, leave their arguments, end with every counter at zero, and over the extended reals compute the same
   arrays; for the second the candidates are assumed sorted and to name a proposal. -/
module

public import proofs.«01_k».proof.Defs
public import proofs.«01_k».proof.Proof.Gen.Scores
public import proofs.«01_k».proof.Proof.Gen.Scores.Skeleton
public import proofs.«01_k».proof.Proof.Gen.Scores.Launch
public import proofs.«01_k».proof.Proof.Gen.Scores.Points
public import proofs.«01_k».proof.Proof.Gen.Scores.Frame
public import proofs.«01_k».proof.Proof.Gen.ScoresIdeal
public import proofs.«01_k».proof.Proof.Gen.ScoresIdeal.Skeleton
public import proofs.«01_k».proof.Proof.Gen.ScoresIdeal.Launch
public import proofs.«01_k».proof.Proof.Gen.ScoresIdeal.Points
public import proofs.«01_k».proof.Proof.Gen.ScoresIdeal.Frame
public import proofs.«01_k».proof.Proof.Gen.ScoresRefIdeal
public import proofs.«01_k».proof.Proof.Gen.ScoresIdeal.Value
public import proofs.«01_k».proof.Proof.RefScores
public import proofs.«01_k».proof.Proof.KernelScores
public import Idealize.ShloMosaic.Lib.Quiescent
public import proofs.«01_k».proof.Proof.Gen.ScoresRefIdeal.Run
public import proofs.«01_k».proof.Proof.Gen.ScoresRefIdeal.Read
public import proofs.«01_k».proof.Proof.Gen.Nms
public import proofs.«01_k».proof.Proof.Gen.Nms.Skeleton
public import proofs.«01_k».proof.Proof.Gen.Nms.Launch
public import proofs.«01_k».proof.Proof.Gen.Nms.Points
public import proofs.«01_k».proof.Proof.Gen.NmsIdeal
public import proofs.«01_k».proof.Proof.Gen.NmsIdeal.Skeleton
public import proofs.«01_k».proof.Proof.Gen.NmsIdeal.Launch
public import proofs.«01_k».proof.Proof.Gen.NmsIdeal.Points
public import proofs.«01_k».proof.Proof.Gen.NmsRefIdeal
public import proofs.«01_k».proof.Proof.Gen.NmsRefIdeal.Run
public import proofs.«01_k».proof.Proof.NmsLaunch
public import proofs.«01_k».proof.Proof.NmsIdealLaunch
public import proofs.«01_k».proof.Proof.NmsSame
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference's masked scores, as an array, are the kernel's. -/
theorem ref_masked_arr (x0 : FVec Ideal Cert.ScoresRefIdeal.S40000x91 .f32) (x1 : FVec Ideal Cert.ScoresRefIdeal.S40000x364 .f32)
    (x2 : FVec Ideal Cert.ScoresRefIdeal.S2x20000x4 .f32) :
    Cert.ScoresRefIdeal.Read.val_main_v100 (F := Ideal) x0 x1 x2 = maskedArr x0 x1 x2 := by
  funext i
  obtain ⟨b, r, k, rfl⟩ : ∃ (b : Fin 2) (r : Fin 20000) (k : Fin 90), i = ix3 b r k := ⟨i 0, i 1, i 2, eq_ix3 i⟩
  exact ref_masked x0 x1 x2 b r k

/-- The reference's best scores, as an array, are the kernel's. -/
theorem ref_best_arr (x0 : FVec Ideal Cert.ScoresRefIdeal.S40000x91 .f32) (x1 : FVec Ideal Cert.ScoresRefIdeal.S40000x364 .f32)
    (x2 : FVec Ideal Cert.ScoresRefIdeal.S2x20000x4 .f32) :
    Cert.ScoresRefIdeal.Read.val_main_v102 (F := Ideal) x0 x1 x2 = bestArr x0 x1 x2 := by
  funext i
  obtain ⟨t, u, r, rfl⟩ : ∃ (t : Fin 40) (u : Fin 1) (r : Fin 1000), i = ix3 t u r := ⟨i 0, i 1, i 2, eq_ix3 i⟩
  have e : Cert.ScoresRefIdeal.Read.idx_main_v102 (ix3 t u r)
      = ix2 (⟨t.val / 20, by omega⟩ : Fin 2) (⟨t.val % 20 * 1000 + r.val, by omega⟩ : Fin 20000) := by
    refine Shape.idx_ext₂ ?_ ?_
    · show ((t.val * 1 + u.val) * 1000 + r.val) / 20000 = t.val / 20
      omega
    · show ((t.val * 1 + u.val) * 1000 + r.val) % 20000 = t.val % 20 * 1000 + r.val
      omega
  rw [Cert.ScoresRefIdeal.Read.val_main_v102_apply, e]
  exact ref_best x0 x1 x2 _ _

/-- The reference runs, leaves its arguments and ends with every counter at zero. -/
theorem frame_ref : Cert.quiescent_ScoresRefIdeal := fun m ρ _ =>
  (θ_run Cert.ScoresRefIdeal.defs _ _).mono
    (fun r h => ⟨fun c => (h c).2.2, sem_eq_zero_of_no_sems (by decide) r.2⟩)
    (Cert.ScoresRefIdeal.Value.run (F := Ideal) m ρ)

/-- Over the extended reals the kernel and the reference compute the same masked scores and best scores. -/
theorem same_scores : Cert.algebraic_ScoresIdeal_ScoresRefIdeal := by
  intro m g m' g' _ hagree
  refine ⟨fun c => maskedArr (m ((c.tc : Thread Cert.ScoresIdeal.nD Cert.ScoresIdeal.τ).loc Cert.ScoresIdeal.main_arg0))
      (m ((c.tc : Thread Cert.ScoresIdeal.nD Cert.ScoresIdeal.τ).loc Cert.ScoresIdeal.main_arg1))
      (m ((c.tc : Thread Cert.ScoresIdeal.nD Cert.ScoresIdeal.τ).loc Cert.ScoresIdeal.main_arg2)),
    fun c => bestArr (m ((c.tc : Thread Cert.ScoresIdeal.nD Cert.ScoresIdeal.τ).loc Cert.ScoresIdeal.main_arg0))
      (m ((c.tc : Thread Cert.ScoresIdeal.nD Cert.ScoresIdeal.τ).loc Cert.ScoresIdeal.main_arg1))
      (m ((c.tc : Thread Cert.ScoresIdeal.nD Cert.ScoresIdeal.τ).loc Cert.ScoresIdeal.main_arg2)), ?_, ?_⟩
  · refine (θ_run Cert.ScoresIdeal.defs _ _).mono (fun r h c => ?_) (Cert.ScoresIdeal.Value.run_blocks m g)
    obtain ⟨h0, h1, h2⟩ := h c
    exact ⟨h0.trans (ker_masked_final m c), h1.trans (ker_best_final m c), h2⟩
  · refine (θ_run Cert.ScoresRefIdeal.defs _ _).mono (fun r h c => ?_) (Cert.ScoresRefIdeal.Value.run (F := Ideal) m' g')
    obtain ⟨h0, h1, h2⟩ := h c
    obtain ⟨a0, a1, a2⟩ := hagree c
    refine ⟨h0.trans ?_, h1.trans ?_, h2⟩
    · rw [Cert.ScoresRefIdeal.Read.val_main_v100_eq, a0, a1, a2]; exact ref_masked_arr _ _ _
    · rw [Cert.ScoresRefIdeal.Read.val_main_v102_eq, a0, a1, a2]; exact ref_best_arr _ _ _

/-- The conditions of the precondition's operations hold. -/
theorem pre_facts : Cert.Pre_sorted_candidates.Facts :=
  ⟨by decide, by decide, by decide, by decide, by decide, by decide, by decide⟩

/-- The reference of the suppression runs, leaves its arguments and ends with every counter at zero. -/
theorem nms_frame_ref : Cert.quiescent_NmsRefIdeal := fun m ρ _ =>
  (θ_run (Cert.NmsRefIdeal.defs (F := Ideal)) _ _).mono
    (fun r h => ⟨fun c => (h c).2.2.2, sem_eq_zero_of_no_sems (by decide) r.2⟩)
    (Cert.NmsRefIdeal.Hand.run m ρ)

/-- Over the extended reals, for sorted candidates, the kernel and the reference choose the same boxes, scores and labels. -/
theorem same_detections : Cert.algebraic_NmsIdeal_NmsRefIdeal_pre_sorted_candidates (hPre_sorted_candidates := pre_facts) := by
  intro m g m' g' hpre hagree
  have hgood : ∀ c, Good (Cert.NmsIdeal.Hand.a0 m c) (Cert.NmsIdeal.Hand.a1 m c) (Cert.NmsIdeal.Hand.a2 m c) (Cert.NmsIdeal.Hand.a3 m c) (Cert.NmsIdeal.Hand.a4 m c) :=
    fun c => @good pre_facts _ _ _ _ _ (hpre c)
  refine ⟨fun c => Cert.NmsIdeal.Hand.boxesOut m c, fun c => Cert.NmsIdeal.Hand.scoresOut m c, fun c => Cert.NmsIdeal.Hand.labelsOut m c,
    Cert.NmsIdeal.Hand.run m g, ?_⟩
  refine (θ_run (Cert.NmsRefIdeal.defs (F := Ideal)) _ _).mono (fun r h c => ?_) (Cert.NmsRefIdeal.Hand.run m' g')
  obtain ⟨h0, h1, h2, h3⟩ := h c
  obtain ⟨e0, e1, e2, e3, e4⟩ := hagree c
  have f0 : Cert.NmsRefIdeal.Hand.a0 m' c = Cert.NmsIdeal.Hand.a0 m c := e0
  have f1 : Cert.NmsRefIdeal.Hand.a1 m' c = Cert.NmsIdeal.Hand.a1 m c := e1
  have f2 : Cert.NmsRefIdeal.Hand.a2 m' c = Cert.NmsIdeal.Hand.a2 m c := e2
  have f3 : Cert.NmsRefIdeal.Hand.a3 m' c = Cert.NmsIdeal.Hand.a3 m c := e3
  have f4 : Cert.NmsRefIdeal.Hand.a4 m' c = Cert.NmsIdeal.Hand.a4 m c := e4
  rw [f0, f1, f2, f3, f4] at h0
  rw [f0, f1, f2, f3, f4] at h1
  rw [f0, f1, f2, f3, f4] at h2
  exact ⟨h0.trans (same_boxes m c _ _ _ _ _ rfl rfl rfl rfl rfl (hgood c)), h1.trans (same_values m c _ _ _ _ _ rfl rfl rfl rfl rfl (hgood c)),
    h2.trans (same_labels m c _ _ _ _ _ rfl rfl rfl rfl rfl (hgood c)), h3⟩

/-- All claims. -/
theorem claim : Cert.Claim :=
  ⟨Cert.Scores.Gen.facts, Cert.ScoresIdeal.Gen.facts, Cert.ScoresRefIdeal.Gen.facts,
    Cert.Nms.Gen.facts, Cert.NmsIdeal.Gen.facts, Cert.NmsRefIdeal.Gen.facts, pre_facts,
    fun m g _ => Cert.Scores.Gen.frame m g, fun m g _ => Cert.ScoresIdeal.Gen.frame m g, frame_ref,
    fun m g _ => Cert.Nms.Hand.frame m g, fun m g _ => Cert.NmsIdeal.Hand.frame m g, fun m g _ => Cert.NmsIdeal.Hand.frame m g,
    nms_frame_ref, fun m g _ => nms_frame_ref m g trivial, trivial, same_scores, trivial, same_detections⟩

end Cert.Proof

end
